-- ==== Defs.lean ====
def Pre_Kernel (m : (ℓ : Loc Cert.Kernel.nD Cert.Kernel.τ Cert.Kernel.sig) → Buf (Elt Bits) ℓ) : Prop :=
  True

def Pre_Kernel_ids_in_windows [hPre_ids_in_windows : Cert.Pre_ids_in_windows.Facts] (m : (ℓ : Loc Cert.Kernel.nD Cert.Kernel.τ Cert.Kernel.sig) → Buf (Elt Bits) ℓ) : Prop :=
  ∀ c : Dev Cert.Kernel.nD,
    (Cert.Pre_ids_in_windows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal (m : (ℓ : Loc Cert.KernelIdeal.nD Cert.KernelIdeal.τ Cert.KernelIdeal.sig) → Buf (Elt Ideal) ℓ) : Prop :=
  True

def Pre_KernelIdeal_ids_in_windows [hPre_ids_in_windows : Cert.Pre_ids_in_windows.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_windows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_windows [hPre_ids_in_windows : Cert.Pre_ids_in_windows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_windows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Reference [hPre_ids_in_windows : Cert.Pre_ids_in_windows.Facts] (m : (ℓ : Loc Cert.Reference.nD Cert.Reference.τ Cert.Reference.sig) → Buf (Elt Bits) ℓ) : Prop :=
  ∀ c : Dev Cert.Reference.nD,
    (Cert.Pre_ids_in_windows.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_Kernel_pre_ids_in_windows [hKernel : Cert.Kernel.Facts] [hPre_ids_in_windows : Cert.Pre_ids_in_windows.Facts] : Prop :=
  ∀ (m : (ℓ : Loc Cert.Kernel.nD Cert.Kernel.τ Cert.Kernel.sig) → Buf (Elt Bits) ℓ) (g : Dev Cert.Kernel.nD → PrngReg), Pre_Kernel_ids_in_windows m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_ids_in_windows [hKernelIdeal : Cert.KernelIdeal.Facts] [hPre_ids_in_windows : Cert.Pre_ids_in_windows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_in_windows m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_ids_in_windows [hReferenceIdeal : Cert.ReferenceIdeal.Facts] [hPre_ids_in_windows : Cert.Pre_ids_in_windows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_windows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Reference [hReference : Cert.Reference.Facts] [hPre_ids_in_windows : Cert.Pre_ids_in_windows.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def preserves_Kernel_KernelIdeal : Prop :=
  True

def algebraic_KernelIdeal_ReferenceIdeal_pre_ids_in_windows [hKernelIdeal : Cert.KernelIdeal.Facts] [hReferenceIdeal : Cert.ReferenceIdeal.Facts] [hPre_ids_in_windows : Cert.Pre_ids_in_windows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_in_windows m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def bitexact_Kernel_Reference_pre_ids_in_windows [hKernel : Cert.Kernel.Facts] [hReference : Cert.Reference.Facts] [hPre_ids_in_windows : Cert.Pre_ids_in_windows.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_ids_in_windows m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)) →
    ∃ (v0 : (c : Dev Cert.Kernel.nD) → Buf (Elt Bits) ((c.tc : Thread Cert.Kernel.nD Cert.Kernel.τ).loc Cert.Kernel.main_v20)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v20) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v5) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2))

def Claim : Prop :=
  ∃ (hKernel : Cert.Kernel.Facts) (hKernelIdeal : Cert.KernelIdeal.Facts) (hReferenceIdeal : Cert.ReferenceIdeal.Facts) (hReference : Cert.Reference.Facts) (hPre_ids_in_windows : Cert.Pre_ids_in_windows.Facts),
    quiescent_Kernel (hKernel := hKernel)
    ∧ quiescent_Kernel_pre_ids_in_windows (hKernel := hKernel) (hPre_ids_in_windows := hPre_ids_in_windows)
    ∧ quiescent_KernelIdeal (hKernelIdeal := hKernelIdeal)
    ∧ quiescent_KernelIdeal_pre_ids_in_windows (hKernelIdeal := hKernelIdeal) (hPre_ids_in_windows := hPre_ids_in_windows)
    ∧ quiescent_ReferenceIdeal (hReferenceIdeal := hReferenceIdeal)
    ∧ quiescent_ReferenceIdeal_pre_ids_in_windows (hReferenceIdeal := hReferenceIdeal) (hPre_ids_in_windows := hPre_ids_in_windows)
    ∧ quiescent_Reference (hReference := hReference) (hPre_ids_in_windows := hPre_ids_in_windows)
    ∧ preserves_Kernel_KernelIdeal
    ∧ algebraic_KernelIdeal_ReferenceIdeal_pre_ids_in_windows (hKernelIdeal := hKernelIdeal) (hReferenceIdeal := hReferenceIdeal) (hPre_ids_in_windows := hPre_ids_in_windows)
    ∧ bitexact_Kernel_Reference_pre_ids_in_windows (hKernel := hKernel) (hReference := hReference) (hPre_ids_in_windows := hPre_ids_in_windows)
-- ==== Pre_ids_in_windows.lean ====
abbrev S4x4096 : Shape := ⟨2, ![4, 4096]⟩
abbrev S1000000x64 : Shape := ⟨2, ![1000000, 64]⟩
abbrev S4096x64 : Shape := ⟨2, ![4096, 64]⟩
abbrev S16384 : Shape := ⟨1, ![16384]⟩
abbrev S33 : Shape := ⟨1, ![33]⟩
abbrev S_ : Shape := ⟨0, ![]⟩
abbrev S1x16384 : Shape := ⟨2, ![1, 16384]⟩
abbrev S33x1 : Shape := ⟨2, ![33, 1]⟩
abbrev S33x16384 : Shape := ⟨2, ![33, 16384]⟩
abbrev S32 : Shape := ⟨1, ![32]⟩

class Facts : Prop where
  shapeCasts_S4x4096_S16384 : S4x4096.ShapeCasts S16384
  bcast_S_S33 : S_.BroadcastsInDim S33 (![] : Fin 0 → Fin S33.rank)
  bcast_S16384_S1x16384_1 : S16384.BroadcastsInDim S1x16384 (![1] : Fin 1 → Fin S1x16384.rank)
  bcast_S33_S33x1_0 : S33.BroadcastsInDim S33x1 (![0] : Fin 1 → Fin S33x1.rank)
  bcast_S1x16384_S33x16384_0_1 : S1x16384.BroadcastsInDim S33x16384 (![0, 1] : Fin 2 → Fin S33x16384.rank)
  bcast_S33x1_S33x16384_0_1 : S33x1.BroadcastsInDim S33x16384 (![0, 1] : Fin 2 → Fin S33x16384.rank)
  natLt_1_32 : 1 < 32
  reducesTo_S33x16384_S33_d1 : S33x16384.ReducesTo [1] S33
  h_S_ : 0 < S_.numel
  bcast_S_S32 : S_.BroadcastsInDim S32 (![] : Fin 0 → Fin S32.rank)
  bcast_S_S16384 : S_.BroadcastsInDim S16384 (![] : Fin 0 → Fin S16384.rank)
  reducesTo_S16384_S_d0 : S16384.ReducesTo [0] S_
  slices_S33_S32_0 : S33.Slices ![0] S32
  reducesTo_S32_S_d0 : S32.ReducesTo [0] S_
  slices_S33_S32_1 : S33.Slices ![1] S32

variable [Facts]

def fn_clip {F : FTy → Type} [FloatOps F] (arg0 : IVec S32 32) (arg1 : IVec S_ 32) (arg2 : IVec S_ 32) : IVec S32 32 :=
  let v0 : IVec S_ 32 := id arg1
  let v1 : IVec S32 32 := broadcastInDim S32 ![] bcast_S_S32 v0
  let v2 : IVec S32 32 := maxsi v1 arg0
  let v3 : IVec S_ 32 := id arg2
  let v4 : IVec S32 32 := broadcastInDim S32 ![] bcast_S_S32 v3
  let v5 : IVec S32 32 := minsi v4 v2
  v5

def fn_part1 {F : FTy → Type} [FloatOps F] (main_v0 : IVec S16384 32) (main_v10 : IVec S33 32) (main_v16 : IVec S32 32) (main_c_5 : IVec S_ 32) : IVec S_ 1 :=
  let main_v17 : IVec S16384 32 := broadcastInDim S16384 ![] bcast_S_S16384 main_c_5
  let main_v18 : IVec S16384 1 := cmpi .sge main_v0 main_v17
  let main_c_6 : IVec S_ 32 := constantI S_ 32 1000000#32
  let main_v19 : IVec S16384 32 := broadcastInDim S16384 ![] bcast_S_S16384 main_c_6
  let main_v20 : IVec S16384 1 := cmpi .slt main_v0 main_v19
  let main_v21 : IVec S16384 1 := andi main_v18 main_v20
  let main_c_7 : IVec S_ 1 := constantI S_ 1 1#1
  let main_v22 : IVec S_ 1 := (fun x v => Host.reduce IntOp.andi x v reducesTo_S16384_S_d0 h_S_) main_v21 main_c_7
  let main_v23 : IVec S32 32 := (extractStridedSlice S32 ![0] · slices_S33_S32_0) main_v10
  let main_v24 : IVec S32 1 := cmpi .sge main_v23 main_v16
  let main_c_8 : IVec S_ 1 := constantI S_ 1 1#1
  let main_v25 : IVec S_ 1 := (fun x v => Host.reduce IntOp.andi x v reducesTo_S32_S_d0 h_S_) main_v24 main_c_8
  let main_v26 : IVec S_ 1 := andi main_v22 main_v25
  let main_v27 : IVec S32 32 := (extractStridedSlice S32 ![1] · slices_S33_S32_1) main_v10
  let main_c_9 : IVec S_ 32 := constantI S_ 32 1536#32
  let main_v28 : IVec S32 32 := broadcastInDim S32 ![] bcast_S_S32 main_c_9
  let main_v29 : IVec S32 32 := addi main_v16 main_v28
  let main_v30 : IVec S32 1 := cmpi .sle main_v27 main_v29
  let main_c_10 : IVec S_ 1 := constantI S_ 1 1#1
  let main_v31 : IVec S_ 1 := (fun x v => Host.reduce IntOp.andi x v reducesTo_S32_S_d0 h_S_) main_v30 main_c_10
  let main_v32 : IVec S_ 1 := andi main_v26 main_v31
  main_v32

def fn {F : FTy → Type} [FloatOps F] (main_arg0 : IVec S4x4096 32) (main_arg1 : FVec F S1000000x64 .f32) (main_arg2 : FVec F S4096x64 .f32) : IVec S_ 1 :=
  let main_v0 : IVec S16384 32 := shapeCast S16384 main_arg0 shapeCasts_S4x4096_S16384
  let main_v1 : IVec S33 32 := iotaInDim S33 32 0
  let main_c : IVec S_ 32 := constantI S_ 32 31360#32
  let main_v2 : IVec S33 32 := broadcastInDim S33 ![] bcast_S_S33 main_c
  let main_v3 : IVec S33 32 := muli main_v1 main_v2
  let main_v4 : IVec S1x16384 32 := broadcastInDim S1x16384 ![1] bcast_S16384_S1x16384_1 main_v0
  let main_v5 : IVec S33x1 32 := broadcastInDim S33x1 ![0] bcast_S33_S33x1_0 main_v3
  let main_v6 : IVec S33x16384 32 := broadcastInDim S33x16384 ![0, 1] bcast_S1x16384_S33x16384_0_1 main_v4
  let main_v7 : IVec S33x16384 32 := broadcastInDim S33x16384 ![0, 1] bcast_S33x1_S33x16384_0_1 main_v5
  let main_v8 : IVec S33x16384 1 := cmpi .slt main_v6 main_v7
  let main_v9 : IVec S33x16384 32 := (extui 32 · natLt_1_32) main_v8
  let main_c_0 : IVec S_ 32 := constantI S_ 32 0#32
  let main_v10 : IVec S33 32 := (fun x v => Host.reduce IntOp.addi x v reducesTo_S33x16384_S33_d1 h_S_) main_v9 main_c_0
  let main_v11 : IVec S32 32 := iotaInDim S32 32 0
  let main_c_1 : IVec S_ 32 := constantI S_ 32 512#32
  let main_v12 : IVec S32 32 := broadcastInDim S32 ![] bcast_S_S32 main_c_1
  let main_v13 : IVec S32 32 := muli main_v11 main_v12
  let main_c_2 : IVec S_ 32 := constantI S_ 32 512#32
  let main_v14 : IVec S32 32 := broadcastInDim S32 ![] bcast_S_S32 main_c_2
  let main_v15 : IVec S32 32 := subi main_v13 main_v14
  let main_c_3 : IVec S_ 32 := constantI S_ 32 0#32
  let main_c_4 : IVec S_ 32 := constantI S_ 32 14848#32
  let main_v16 : IVec S32 32 := fn_clip (F := F) main_v15 main_c_3 main_c_4
  let main_c_5 : IVec S_ 32 := constantI S_ 32 0#32
  fn_part1 (F := F) main_v0 main_v10 main_v16 main_c_5
-- ==== Kernel.lean ====
abbrev S4x4096 : Shape := ⟨2, ![4, 4096]⟩
abbrev S1000000x64 : Shape := ⟨2, ![1000000, 64]⟩
abbrev S4096x64 : Shape := ⟨2, ![4096, 64]⟩
abbrev S16384 : Shape := ⟨1, ![16384]⟩
abbrev S_ : Shape := ⟨0, ![]⟩
abbrev S16384x1 : Shape := ⟨2, ![16384, 1]⟩
abbrev S64x1000000 : Shape := ⟨2, ![64, 1000000]⟩
abbrev S64x1000064 : Shape := ⟨2, ![64, 1000064]⟩
abbrev S16392x128 : Shape := ⟨2, ![16392, 128]⟩
abbrev S1536 : Shape := ⟨1, ![1536]⟩
abbrev S248 : Shape := ⟨1, ![248]⟩
abbrev S64x128 : Shape := ⟨2, ![64, 128]⟩
abbrev S64 : Shape := ⟨1, ![64]⟩
abbrev S16 : Shape := ⟨1, ![16]⟩
abbrev S16384x64 : Shape := ⟨2, ![16384, 64]⟩
abbrev S512x128 : Shape := ⟨2, ![512, 128]⟩
abbrev S512x64 : Shape := ⟨2, ![512, 64]⟩
abbrev S4x4096x64 : Shape := ⟨3, ![4, 4096, 64]⟩

abbrev nBuf : Table → Nat
  | .hbm => 33
  | .local .tc .vmem => 6
  | .local .scVector .vmem => 10
  | _ => 0

abbrev bufTy : (tb : Table) → Fin (nBuf tb) → BufTy
  | .hbm, ⟨0, _⟩ => ⟨S4x4096, .i32⟩
  | .hbm, ⟨1, _⟩ => ⟨S1000000x64, .f32⟩
  | .hbm, ⟨2, _⟩ => ⟨S4096x64, .f32⟩
  | .hbm, ⟨3, _⟩ => ⟨S16384, .i32⟩
  | .hbm, ⟨4, _⟩ => ⟨S16384, .i32⟩
  | .hbm, ⟨5, _⟩ => ⟨S16384, .i32⟩
  | .hbm, ⟨6, _⟩ => ⟨S16384, .i32⟩
  | .hbm, ⟨7, _⟩ => ⟨S_, .i32⟩
  | .hbm, ⟨8, _⟩ => ⟨S16384, .i32⟩
  | .hbm, ⟨9, _⟩ => ⟨S16384, .i1⟩
  | .hbm, ⟨10, _⟩ => ⟨S_, .i32⟩
  | .hbm, ⟨11, _⟩ => ⟨S16384, .i32⟩
  | .hbm, ⟨12, _⟩ => ⟨S16384, .i32⟩
  | .hbm, ⟨13, _⟩ => ⟨S16384, .i32⟩
  | .hbm, ⟨14, _⟩ => ⟨S16384x1, .i32⟩
  | .hbm, ⟨15, _⟩ => ⟨S16384, .i32⟩
  | .hbm, ⟨16, _⟩ => ⟨S_, .i32⟩
  | .hbm, ⟨17, _⟩ => ⟨S16384, .i32⟩
  | .hbm, ⟨18, _⟩ => ⟨S16384, .i32⟩
  | .hbm, ⟨19, _⟩ => ⟨S_, .i32⟩
  | .hbm, ⟨20, _⟩ => ⟨S16384, .i32⟩
  | .hbm, ⟨21, _⟩ => ⟨S16384, .i32⟩
  | .hbm, ⟨22, _⟩ => ⟨S_, .i32⟩
  | .hbm, ⟨23, _⟩ => ⟨S16384, .i32⟩
  | .hbm, ⟨24, _⟩ => ⟨S16384, .i32⟩
  | .hbm, ⟨25, _⟩ => ⟨S16384, .i32⟩
  | .hbm, ⟨26, _⟩ => ⟨S64x1000000, .f32⟩
  | .hbm, ⟨27, _⟩ => ⟨S_, .i32⟩
  | .hbm, ⟨28, _⟩ => ⟨S_, .f32⟩
  | .hbm, ⟨29, _⟩ => ⟨S64x1000064, .f32⟩
  | .hbm, ⟨30, _⟩ => ⟨S16392x128, .f32⟩
  | .hbm, ⟨31, _⟩ => ⟨S16384x64, .f32⟩
  | .hbm, ⟨32, _⟩ => ⟨S4x4096x64, .f32⟩
  | .local .tc .vmem, ⟨0, _⟩ => ⟨S512x128, .f32⟩
  | .local .tc .vmem, ⟨1, _⟩ => ⟨S512x128, .f32⟩
  | .local .tc .vmem, ⟨2, _⟩ => ⟨S512x64, .f32⟩
  | .local .tc .vmem, ⟨3, _⟩ => ⟨S512x64, .f32⟩
  | .local .tc .vmem, ⟨4, _⟩ => ⟨S512x64, .f32⟩
  | .local .tc .vmem, ⟨5, _⟩ => ⟨S512x64, .f32⟩
  | .local .scVector .vmem, ⟨0, _⟩ => ⟨S1536, .i32⟩
  | .local .scVector .vmem, ⟨1, _⟩ => ⟨S1536, .i32⟩
  | .local .scVector .vmem, ⟨2, _⟩ => ⟨S248, .i32⟩
  | .local .scVector .vmem, ⟨3, _⟩ => ⟨S248, .i32⟩
  | .local .scVector .vmem, ⟨4, _⟩ => ⟨S64x128, .f32⟩
  | .local .scVector .vmem, ⟨5, _⟩ => ⟨S64, .i32⟩
  | .local .scVector .vmem, ⟨6, _⟩ => ⟨S64x128, .f32⟩
  | .local .scVector .vmem, ⟨7, _⟩ => ⟨S64x128, .f32⟩
  | .local .scVector .vmem, ⟨8, _⟩ => ⟨S64x128, .f32⟩
  | .local .scVector .vmem, ⟨9, _⟩ => ⟨S64x128, .f32⟩
  | _, _ => ⟨S4x4096, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => true
  | ⟨8, _⟩ => true
  | ⟨9, _⟩ => true
  | ⟨10, _⟩ => true
  | ⟨11, _⟩ => true
  | ⟨12, _⟩ => true
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1_0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_c_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_4 : Ref sig .tc := ⟨.hbm, 27, rfl⟩
abbrev main_call1_v0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v10_scv : Ref sig .scVector := ⟨.hbm, 18, rfl⟩
abbrev main_v15_scv : Ref sig .scVector := ⟨.hbm, 25, rfl⟩
abbrev main_v17_scv : Ref sig .scVector := ⟨.hbm, 29, rfl⟩
abbrev main_v18_scv : Ref sig .scVector := ⟨.hbm, 30, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch11 : Ref sig .scVector := ⟨.vmem, 6, rfl⟩
abbrev cc0_scratch12 : Ref sig .scVector := ⟨.vmem, 7, rfl⟩
abbrev cc0_scratch13 : Ref sig .scVector := ⟨.vmem, 8, rfl⟩
abbrev cc0_scratch14 : Ref sig .scVector := ⟨.vmem, 9, rfl⟩
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let c14848_i32 : BitVec 32 := 14848#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v5 : BitVec 32 := Scalar.muli v1 c512_i32
  let c512_i32_1 : BitVec 32 := 512#32
  let v6 : BitVec 32 := Scalar.subi v5 c512_i32_1
  let v7 : BitVec 32 := Scalar.maxsi c0_i32 v6
  let v8 : BitVec 32 := Scalar.minsi c14848_i32 v7
  v8
def k0_off1 (i : grid0.Coords) : Fin 1 → Nat :=
  let c14848_i32 : BitVec 32 := 14848#32
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v5 : BitVec 32 := Scalar.muli v1 c512_i32
  let c512_i32_1 : BitVec 32 := 512#32
  let v6 : BitVec 32 := Scalar.subi v5 c512_i32_1
  let v7 : BitVec 32 := Scalar.maxsi c0_i32 v6
  let v8 : BitVec 32 := Scalar.minsi c14848_i32 v7
  let v9 : BitVec 32 := v8
  ![v9.toNat]
@[reducible] def k0_t1_loop : Scf.Loop 32 :=
  let c0_i32_4 : BitVec 32 := 0#32
  let c96_i32 : BitVec 32 := 96#32
  let v12 : BitVec 32 := Scalar.addi c0_i32_4 c96_i32
  let c1_i32 : BitVec 32 := 1#32
  ⟨c0_i32_4, v12, c1_i32⟩

def k0_chk1 (v63 : IVec S16 32) : Prop :=
  (∀ a x, ((![v63] : Fin 1 → IVec S16 32) a x).toNat < S1536.size a)
theorem k0_idx1_inb : ∀ (v63 : IVec S16 32) (k0_hw1 : k0_chk1 v63), ∀ a x, ((![v63] : Fin 1 → IVec S16 32) a x).toNat < S1536.size a := fun v63 k0_hw1 => k0_hw1

def k0_chk2 (v68 : IVec S16 32) : Prop :=
  (∀ a x, ((![v68] : Fin 1 → IVec S16 32) a x).toNat < S1536.size a)
theorem k0_idx2_inb : ∀ (v68 : IVec S16 32) (k0_hw2 : k0_chk2 v68), ∀ a x, ((![v68] : Fin 1 → IVec S16 32) a x).toNat < S1536.size a := fun v68 k0_hw2 => k0_hw2

def k0_chk3 (v90 : IVec S16 32) : Prop :=
  (∀ a x, ((![v90] : Fin 1 → IVec S16 32) a x).toNat < S248.size a) ∧
  (∀ a x, ((![v90] : Fin 1 → IVec S16 32) a x).toNat < S248.size a)
theorem k0_idx3_inb : ∀ (v90 : IVec S16 32) (k0_hw3 : k0_chk3 v90), ∀ a x, ((![v90] : Fin 1 → IVec S16 32) a x).toNat < S248.size a := fun v90 k0_hw3 => k0_hw3.1
theorem k0_idx4_inb : ∀ (v90 : IVec S16 32) (k0_hw3 : k0_chk3 v90), ∀ a x, ((![v90] : Fin 1 → IVec S16 32) a x).toNat < S248.size a := fun v90 k0_hw3 => k0_hw3.2
@[reducible] def k0_t2_loop : Scf.Loop 32 :=
  let c0_i32_7 : BitVec 32 := 0#32
  let c96_i32_8 : BitVec 32 := 96#32
  let v14 : BitVec 32 := Scalar.addi c0_i32_7 c96_i32_8
  let c1_i32_9 : BitVec 32 := 1#32
  ⟨c0_i32_7, v14, c1_i32_9⟩

def k0_chk4 (v63 : IVec S16 32) : Prop :=
  (∀ a x, ((![v63] : Fin 1 → IVec S16 32) a x).toNat < S1536.size a)
theorem k0_idx5_inb : ∀ (v63 : IVec S16 32) (k0_hw4 : k0_chk4 v63), ∀ a x, ((![v63] : Fin 1 → IVec S16 32) a x).toNat < S1536.size a := fun v63 k0_hw4 => k0_hw4

def k0_chk5 (v17 : IVec S16 32) : Prop :=
  (∀ a x, ((![v17] : Fin 1 → IVec S16 32) a x).toNat < S248.size a)
theorem k0_idx6_inb : ∀ (v17 : IVec S16 32) (k0_hw5 : k0_chk5 v17), ∀ a x, ((![v17] : Fin 1 → IVec S16 32) a x).toNat < S248.size a := fun v17 k0_hw5 => k0_hw5
@[reducible] def k0_t3_loop (v13 : BitVec 32) : Scf.Loop 32 :=
  let c0_i32_20 : BitVec 32 := 0#32
  let c4_i32 : BitVec 32 := 4#32
  let v22 : BitVec 32 := Scalar.addi v13 c4_i32
  let c1_i32_12 : BitVec 32 := 1#32
  let v23 : BitVec 32 := Scalar.subi v22 c1_i32_12
  let c0_i32_14 : BitVec 32 := 0#32
  let v25 : BitVec 1 := Scalar.cmpi .sgt v23 c0_i32_14
  let v26 : BitVec 32 := Scalar.extui v25
  let c0_i32_15 : BitVec 32 := 0#32
  let v27 : BitVec 1 := Scalar.cmpi .slt v23 c0_i32_15
  let v28 : BitVec 32 := Scalar.extui v27
  let v29 : BitVec 32 := Scalar.subi v26 v28
  let c4_i32_13 : BitVec 32 := 4#32
  let c0_i32_16 : BitVec 32 := 0#32
  let v30 : BitVec 1 := Scalar.cmpi .sgt c4_i32_13 c0_i32_16
  let v31 : BitVec 32 := Scalar.extui v30
  let c0_i32_17 : BitVec 32 := 0#32
  let v32 : BitVec 1 := Scalar.cmpi .slt c4_i32_13 c0_i32_17
  let v33 : BitVec 32 := Scalar.extui v32
  let v34 : BitVec 32 := Scalar.subi v31 v33
  let v35 : BitVec 1 := Scalar.cmpi .ne v29 v34
  let v36 : BitVec 32 := Scalar.remsi v23 c4_i32_13
  let c0_i32_18 : BitVec 32 := 0#32
  let v37 : BitVec 1 := Scalar.cmpi .ne v36 c0_i32_18
  let v38 : BitVec 1 := Scalar.andi v35 v37
  let v24 : BitVec 32 := Scalar.divsi v23 c4_i32_13
  let c1_i32_19 : BitVec 32 := 1#32
  let v39 : BitVec 32 := Scalar.subi v24 c1_i32_19
  let v40 : BitVec 32 := Scalar.select v38 v39 v24
  let v41 : BitVec 32 := Scalar.subi v40 c0_i32_20
  let c1_i32_22 : BitVec 32 := 1#32
  let v43 : BitVec 32 := Scalar.divsi v41 c1_i32_22
  let v44 : BitVec 32 := Scalar.muli v43 c1_i32_22
  let v45 : BitVec 32 := Scalar.addi c0_i32_20 v44
  let c1_i32_23 : BitVec 32 := 1#32
  ⟨c0_i32_20, v45, c1_i32_23⟩

def k0_chk7 (v66 : IVec S16 32) : Prop :=
  (∀ a x, ((![v66] : Fin 1 → IVec S16 32) a x).toNat < S248.size a)
theorem k0_idx7_inb : ∀ (v66 : IVec S16 32) (k0_hw7 : k0_chk7 v66), ∀ a x, ((![v66] : Fin 1 → IVec S16 32) a x).toNat < S248.size a := fun v66 k0_hw7 => k0_hw7
def k0_mult2 (v73 : BitVec 32) : BitVec 32 :=
  let c128_i32 : BitVec 32 := 128#32
  let v74 : BitVec 32 := Scalar.muli v73 c128_i32
  v74

def k0_off2 (v73 : BitVec 32) : Fin 2 → Nat :=
  let c0_i32_35 : BitVec 32 := 0#32
  let c128_i32 : BitVec 32 := 128#32
  let v74 : BitVec 32 := Scalar.muli v73 c128_i32
  let v75 : BitVec 32 := v74
  ![0, v75.toNat]

def k0_chk9 (v83 : IVec S16 32) : Prop :=
  (∀ a x, ((![v83] : Fin 1 → IVec S16 32) a x).toNat < S248.size a)
theorem k0_idx8_inb : ∀ (v83 : IVec S16 32) (k0_hw9 : k0_chk9 v83), ∀ a x, ((![v83] : Fin 1 → IVec S16 32) a x).toNat < S248.size a := fun v83 k0_hw9 => k0_hw9
def k0_mult3 (v90 : BitVec 32) : BitVec 32 :=
  let c128_i32_42 : BitVec 32 := 128#32
  let v91 : BitVec 32 := Scalar.muli v90 c128_i32_42
  v91

def k0_off3 (v90 : BitVec 32) : Fin 2 → Nat :=
  let c0_i32_43 : BitVec 32 := 0#32
  let c128_i32_42 : BitVec 32 := 128#32
  let v91 : BitVec 32 := Scalar.muli v90 c128_i32_42
  let v92 : BitVec 32 := v91
  ![0, v92.toNat]

def k0_chk11 (v100 : IVec S16 32) : Prop :=
  (∀ a x, ((![v100] : Fin 1 → IVec S16 32) a x).toNat < S248.size a)
theorem k0_idx9_inb : ∀ (v100 : IVec S16 32) (k0_hw11 : k0_chk11 v100), ∀ a x, ((![v100] : Fin 1 → IVec S16 32) a x).toNat < S248.size a := fun v100 k0_hw11 => k0_hw11
def k0_mult4 (v107 : BitVec 32) : BitVec 32 :=
  let c128_i32_50 : BitVec 32 := 128#32
  let v108 : BitVec 32 := Scalar.muli v107 c128_i32_50
  v108

def k0_off4 (v107 : BitVec 32) : Fin 2 → Nat :=
  let c0_i32_51 : BitVec 32 := 0#32
  let c128_i32_50 : BitVec 32 := 128#32
  let v108 : BitVec 32 := Scalar.muli v107 c128_i32_50
  let v109 : BitVec 32 := v108
  ![0, v109.toNat]

def k0_chk13 (v117 : IVec S16 32) : Prop :=
  (∀ a x, ((![v117] : Fin 1 → IVec S16 32) a x).toNat < S248.size a)
theorem k0_idx10_inb : ∀ (v117 : IVec S16 32) (k0_hw13 : k0_chk13 v117), ∀ a x, ((![v117] : Fin 1 → IVec S16 32) a x).toNat < S248.size a := fun v117 k0_hw13 => k0_hw13
def k0_mult5 (v124 : BitVec 32) : BitVec 32 :=
  let c128_i32_57 : BitVec 32 := 128#32
  let v125 : BitVec 32 := Scalar.muli v124 c128_i32_57
  v125

def k0_off5 (v124 : BitVec 32) : Fin 2 → Nat :=
  let c0_i32_58 : BitVec 32 := 0#32
  let c128_i32_57 : BitVec 32 := 128#32
  let v125 : BitVec 32 := Scalar.muli v124 c128_i32_57
  let v126 : BitVec 32 := v125
  ![0, v126.toNat]
def k0_off6 (v73 : BitVec 32) : Fin 2 → Nat :=
  let c0_i32_62 : BitVec 32 := 0#32
  let c128_i32 : BitVec 32 := 128#32
  let v74 : BitVec 32 := Scalar.muli v73 c128_i32
  let v75 : BitVec 32 := v74
  ![0, v75.toNat]

def k0_chk8 (v73 : BitVec 32) : Prop :=
  (128 ∣ (k0_mult2 v73).toNat) ∧
  (∀ a, (k0_off2 v73) a + S64x128.size a ≤ S64x1000064.size a) ∧
  (∀ a, (k0_off6 v73) a + S64x128.size a ≤ S64x1000064.size a)
theorem k0_mult2_dvd : ∀ (v73 : BitVec 32) (k0_hw8 : k0_chk8 v73), 128 ∣ (k0_mult2 v73).toNat := fun v73 k0_hw8 => k0_hw8.1
theorem k0_off2_inb : ∀ (v73 : BitVec 32) (k0_hw8 : k0_chk8 v73), ∀ a, (k0_off2 v73) a + S64x128.size a ≤ S64x1000064.size a := fun v73 k0_hw8 => k0_hw8.2.1
theorem k0_off6_inb : ∀ (v73 : BitVec 32) (k0_hw8 : k0_chk8 v73), ∀ a, (k0_off6 v73) a + S64x128.size a ≤ S64x1000064.size a := fun v73 k0_hw8 => k0_hw8.2.2

def k0_chk15 (v136 : IVec S16 32) : Prop :=
  (∀ a x, ((![v136] : Fin 1 → IVec S16 32) a x).toNat < S248.size a)
theorem k0_idx11_inb : ∀ (v136 : IVec S16 32) (k0_hw15 : k0_chk15 v136), ∀ a x, ((![v136] : Fin 1 → IVec S16 32) a x).toNat < S248.size a := fun v136 k0_hw15 => k0_hw15

def k0_chk16 (v146 : IVec S16 32) : Prop :=
  (∀ a x, ((![v146] : Fin 1 → IVec S16 32) a x).toNat < S248.size a)
theorem k0_idx12_inb : ∀ (v146 : IVec S16 32) (k0_hw16 : k0_chk16 v146), ∀ a x, ((![v146] : Fin 1 → IVec S16 32) a x).toNat < S248.size a := fun v146 k0_hw16 => k0_hw16
@[reducible] def k0_t4_loop (v13 : BitVec 32) (k0_t3 : Fin (k0_t3_loop v13).trips) (v143 : BitVec 32) (v153 : BitVec 32) : Scf.Loop 32 :=
  let c0_i32_69 : BitVec 32 := 0#32
  let c0_i32_20 : BitVec 32 := 0#32
  let c1_i32_23 : BitVec 32 := 1#32
  let arg21 : BitVec 32 := Scf.iv c0_i32_20 c1_i32_23 k0_t3
  let c4_i32_60 : BitVec 32 := 4#32
  let v129 : BitVec 32 := Scalar.muli arg21 c4_i32_60
  let c0_i32_61 : BitVec 32 := 0#32
  let v130 : BitVec 32 := Scalar.addi v129 c0_i32_61
  let v131 : BitVec 1 := Scalar.cmpi .slt v130 v13
  let v154 : BitVec 32 := Scalar.select v131 v153 v143
  let v155 : BitVec 32 := Scalar.subi v154 v143
  let v156 : BitVec 32 := Scalar.subi v155 c0_i32_69
  let c1_i32_70 : BitVec 32 := 1#32
  let v158 : BitVec 32 := Scalar.divsi v156 c1_i32_70
  let v159 : BitVec 32 := Scalar.muli v158 c1_i32_70
  let v160 : BitVec 32 := Scalar.addi c0_i32_69 v159
  let c1_i32_71 : BitVec 32 := 1#32
  ⟨c0_i32_69, v160, c1_i32_71⟩

def k0_chk18 (v267 : IVec S16 32) : Prop :=
  (∀ a x, ((![v267] : Fin 1 → IVec S16 32) a x).toNat < S1536.size a)
theorem k0_idx13_inb : ∀ (v267 : IVec S16 32) (k0_hw18 : k0_chk18 v267), ∀ a x, ((![v267] : Fin 1 → IVec S16 32) a x).toNat < S1536.size a := fun v267 k0_hw18 => k0_hw18

def k0_chk19 (v270 : IVec S16 32) (v282 : IVec S16 32) (v284 : IVec S16 32) : Prop :=
  (∀ a x, ((![v284, v270] : Fin 2 → IVec S16 32) a x).toNat < S64x128.size a) ∧
  (∀ a x, ((![v282, v284] : Fin 2 → IVec S16 32) a x).toNat < S64x128.size a)
theorem k0_idx14_inb : ∀ (v270 : IVec S16 32) (v282 : IVec S16 32) (v284 : IVec S16 32) (k0_hw19 : k0_chk19 v270 v282 v284), ∀ a x, ((![v284, v270] : Fin 2 → IVec S16 32) a x).toNat < S64x128.size a := fun v270 v282 v284 k0_hw19 => k0_hw19.1
theorem k0_idx15_inb : ∀ (v270 : IVec S16 32) (v282 : IVec S16 32) (v284 : IVec S16 32) (k0_hw19 : k0_chk19 v270 v282 v284), ∀ a x, ((![v282, v284] : Fin 2 → IVec S16 32) a x).toNat < S64x128.size a := fun v270 v282 v284 k0_hw19 => k0_hw19.2

def k0_chk20 (v270 : IVec S16 32) (v282 : IVec S16 32) (v287 : IVec S16 32) : Prop :=
  (∀ a x, ((![v287, v270] : Fin 2 → IVec S16 32) a x).toNat < S64x128.size a) ∧
  (∀ a x, ((![v282, v287] : Fin 2 → IVec S16 32) a x).toNat < S64x128.size a)
theorem k0_idx16_inb : ∀ (v270 : IVec S16 32) (v282 : IVec S16 32) (v287 : IVec S16 32) (k0_hw20 : k0_chk20 v270 v282 v287), ∀ a x, ((![v287, v270] : Fin 2 → IVec S16 32) a x).toNat < S64x128.size a := fun v270 v282 v287 k0_hw20 => k0_hw20.1
theorem k0_idx17_inb : ∀ (v270 : IVec S16 32) (v282 : IVec S16 32) (v287 : IVec S16 32) (k0_hw20 : k0_chk20 v270 v282 v287), ∀ a x, ((![v282, v287] : Fin 2 → IVec S16 32) a x).toNat < S64x128.size a := fun v270 v282 v287 k0_hw20 => k0_hw20.2

def k0_chk21 (v270 : IVec S16 32) (v282 : IVec S16 32) (v290 : IVec S16 32) : Prop :=
  (∀ a x, ((![v290, v270] : Fin 2 → IVec S16 32) a x).toNat < S64x128.size a) ∧
  (∀ a x, ((![v282, v290] : Fin 2 → IVec S16 32) a x).toNat < S64x128.size a)
theorem k0_idx18_inb : ∀ (v270 : IVec S16 32) (v282 : IVec S16 32) (v290 : IVec S16 32) (k0_hw21 : k0_chk21 v270 v282 v290), ∀ a x, ((![v290, v270] : Fin 2 → IVec S16 32) a x).toNat < S64x128.size a := fun v270 v282 v290 k0_hw21 => k0_hw21.1
theorem k0_idx19_inb : ∀ (v270 : IVec S16 32) (v282 : IVec S16 32) (v290 : IVec S16 32) (k0_hw21 : k0_chk21 v270 v282 v290), ∀ a x, ((![v282, v290] : Fin 2 → IVec S16 32) a x).toNat < S64x128.size a := fun v270 v282 v290 k0_hw21 => k0_hw21.2

def k0_chk22 (v270 : IVec S16 32) (v282 : IVec S16 32) (v293 : IVec S16 32) : Prop :=
  (∀ a x, ((![v293, v270] : Fin 2 → IVec S16 32) a x).toNat < S64x128.size a) ∧
  (∀ a x, ((![v282, v293] : Fin 2 → IVec S16 32) a x).toNat < S64x128.size a)
theorem k0_idx20_inb : ∀ (v270 : IVec S16 32) (v282 : IVec S16 32) (v293 : IVec S16 32) (k0_hw22 : k0_chk22 v270 v282 v293), ∀ a x, ((![v293, v270] : Fin 2 → IVec S16 32) a x).toNat < S64x128.size a := fun v270 v282 v293 k0_hw22 => k0_hw22.1
theorem k0_idx21_inb : ∀ (v270 : IVec S16 32) (v282 : IVec S16 32) (v293 : IVec S16 32) (k0_hw22 : k0_chk22 v270 v282 v293), ∀ a x, ((![v282, v293] : Fin 2 → IVec S16 32) a x).toNat < S64x128.size a := fun v270 v282 v293 k0_hw22 => k0_hw22.2

def k0_chk23 (v282 : IVec S16 32) : Prop :=
  (∀ a x, ((![v282] : Fin 1 → IVec S16 32) a x).toNat < S64.size a)
theorem k0_idx22_inb : ∀ (v282 : IVec S16 32) (k0_hw23 : k0_chk23 v282), ∀ a x, ((![v282] : Fin 1 → IVec S16 32) a x).toNat < S64.size a := fun v282 k0_hw23 => k0_hw23
@[reducible] def k0_t5_loop (v13 : BitVec 32) (k0_t3 : Fin (k0_t3_loop v13).trips) (v143 : BitVec 32) (v153 : BitVec 32) : Scf.Loop 32 :=
  let c0_i32_69 : BitVec 32 := 0#32
  let c0_i32_20 : BitVec 32 := 0#32
  let c1_i32_23 : BitVec 32 := 1#32
  let arg21 : BitVec 32 := Scf.iv c0_i32_20 c1_i32_23 k0_t3
  let c4_i32_60 : BitVec 32 := 4#32
  let v129 : BitVec 32 := Scalar.muli arg21 c4_i32_60
  let c0_i32_61 : BitVec 32 := 0#32
  let v130 : BitVec 32 := Scalar.addi v129 c0_i32_61
  let v131 : BitVec 1 := Scalar.cmpi .slt v130 v13
  let v154 : BitVec 32 := Scalar.select v131 v153 v143
  let v155 : BitVec 32 := Scalar.subi v154 v143
  let v156 : BitVec 32 := Scalar.subi v155 c0_i32_69
  let c1_i32_70 : BitVec 32 := 1#32
  let v158 : BitVec 32 := Scalar.divsi v156 c1_i32_70
  let v159 : BitVec 32 := Scalar.muli v158 c1_i32_70
  let v160 : BitVec 32 := Scalar.addi c0_i32_69 v159
  let v157 : BitVec 32 := Scalar.addi c0_i32_69 v156
  let c1_i32_72 : BitVec 32 := 1#32
  ⟨v160, v157, c1_i32_72⟩

def k0_chk17 (v13 : BitVec 32) (k0_t3 : Fin (k0_t3_loop v13).trips) (v143 : BitVec 32) (v153 : BitVec 32) : Prop :=
  ((k0_t4_loop v13 k0_t3 v143 v153).OK) ∧
  ((k0_t5_loop v13 k0_t3 v143 v153).OK)
theorem k0_t4_ok : ∀ (v13 : BitVec 32) (k0_t3 : Fin (k0_t3_loop v13).trips) (v143 : BitVec 32) (v153 : BitVec 32) (k0_hw17 : k0_chk17 v13 k0_t3 v143 v153), (k0_t4_loop v13 k0_t3 v143 v153).OK := fun v13 k0_t3 v143 v153 k0_hw17 => k0_hw17.1
theorem k0_t5_ok : ∀ (v13 : BitVec 32) (k0_t3 : Fin (k0_t3_loop v13).trips) (v143 : BitVec 32) (v153 : BitVec 32) (k0_hw17 : k0_chk17 v13 k0_t3 v143 v153), (k0_t5_loop v13 k0_t3 v143 v153).OK := fun v13 k0_t3 v143 v153 k0_hw17 => k0_hw17.2

def k0_chk24 (v267 : IVec S16 32) : Prop :=
  (∀ a x, ((![v267] : Fin 1 → IVec S16 32) a x).toNat < S1536.size a)
theorem k0_idx23_inb : ∀ (v267 : IVec S16 32) (k0_hw24 : k0_chk24 v267), ∀ a x, ((![v267] : Fin 1 → IVec S16 32) a x).toNat < S1536.size a := fun v267 k0_hw24 => k0_hw24

def k0_chk25 (v270 : IVec S16 32) (v282 : IVec S16 32) (v284 : IVec S16 32) : Prop :=
  (∀ a x, ((![v284, v270] : Fin 2 → IVec S16 32) a x).toNat < S64x128.size a) ∧
  (∀ a x, ((![v282, v284] : Fin 2 → IVec S16 32) a x).toNat < S64x128.size a)
theorem k0_idx24_inb : ∀ (v270 : IVec S16 32) (v282 : IVec S16 32) (v284 : IVec S16 32) (k0_hw25 : k0_chk25 v270 v282 v284), ∀ a x, ((![v284, v270] : Fin 2 → IVec S16 32) a x).toNat < S64x128.size a := fun v270 v282 v284 k0_hw25 => k0_hw25.1
theorem k0_idx25_inb : ∀ (v270 : IVec S16 32) (v282 : IVec S16 32) (v284 : IVec S16 32) (k0_hw25 : k0_chk25 v270 v282 v284), ∀ a x, ((![v282, v284] : Fin 2 → IVec S16 32) a x).toNat < S64x128.size a := fun v270 v282 v284 k0_hw25 => k0_hw25.2

def k0_chk26 (v270 : IVec S16 32) (v282 : IVec S16 32) (v287 : IVec S16 32) : Prop :=
  (∀ a x, ((![v287, v270] : Fin 2 → IVec S16 32) a x).toNat < S64x128.size a) ∧
  (∀ a x, ((![v282, v287] : Fin 2 → IVec S16 32) a x).toNat < S64x128.size a)
theorem k0_idx26_inb : ∀ (v270 : IVec S16 32) (v282 : IVec S16 32) (v287 : IVec S16 32) (k0_hw26 : k0_chk26 v270 v282 v287), ∀ a x, ((![v287, v270] : Fin 2 → IVec S16 32) a x).toNat < S64x128.size a := fun v270 v282 v287 k0_hw26 => k0_hw26.1
theorem k0_idx27_inb : ∀ (v270 : IVec S16 32) (v282 : IVec S16 32) (v287 : IVec S16 32) (k0_hw26 : k0_chk26 v270 v282 v287), ∀ a x, ((![v282, v287] : Fin 2 → IVec S16 32) a x).toNat < S64x128.size a := fun v270 v282 v287 k0_hw26 => k0_hw26.2

def k0_chk27 (v270 : IVec S16 32) (v282 : IVec S16 32) (v290 : IVec S16 32) : Prop :=
  (∀ a x, ((![v290, v270] : Fin 2 → IVec S16 32) a x).toNat < S64x128.size a) ∧
  (∀ a x, ((![v282, v290] : Fin 2 → IVec S16 32) a x).toNat < S64x128.size a)
theorem k0_idx28_inb : ∀ (v270 : IVec S16 32) (v282 : IVec S16 32) (v290 : IVec S16 32) (k0_hw27 : k0_chk27 v270 v282 v290), ∀ a x, ((![v290, v270] : Fin 2 → IVec S16 32) a x).toNat < S64x128.size a := fun v270 v282 v290 k0_hw27 => k0_hw27.1
theorem k0_idx29_inb : ∀ (v270 : IVec S16 32) (v282 : IVec S16 32) (v290 : IVec S16 32) (k0_hw27 : k0_chk27 v270 v282 v290), ∀ a x, ((![v282, v290] : Fin 2 → IVec S16 32) a x).toNat < S64x128.size a := fun v270 v282 v290 k0_hw27 => k0_hw27.2

def k0_chk28 (v270 : IVec S16 32) (v282 : IVec S16 32) (v293 : IVec S16 32) : Prop :=
  (∀ a x, ((![v293, v270] : Fin 2 → IVec S16 32) a x).toNat < S64x128.size a) ∧
  (∀ a x, ((![v282, v293] : Fin 2 → IVec S16 32) a x).toNat < S64x128.size a)
theorem k0_idx30_inb : ∀ (v270 : IVec S16 32) (v282 : IVec S16 32) (v293 : IVec S16 32) (k0_hw28 : k0_chk28 v270 v282 v293), ∀ a x, ((![v293, v270] : Fin 2 → IVec S16 32) a x).toNat < S64x128.size a := fun v270 v282 v293 k0_hw28 => k0_hw28.1
theorem k0_idx31_inb : ∀ (v270 : IVec S16 32) (v282 : IVec S16 32) (v293 : IVec S16 32) (k0_hw28 : k0_chk28 v270 v282 v293), ∀ a x, ((![v282, v293] : Fin 2 → IVec S16 32) a x).toNat < S64x128.size a := fun v270 v282 v293 k0_hw28 => k0_hw28.2

def k0_chk29 (v282 : IVec S16 32) : Prop :=
  (∀ a x, ((![v282] : Fin 1 → IVec S16 32) a x).toNat < S64.size a)
theorem k0_idx32_inb : ∀ (v282 : IVec S16 32) (k0_hw29 : k0_chk29 v282), ∀ a x, ((![v282] : Fin 1 → IVec S16 32) a x).toNat < S64.size a := fun v282 k0_hw29 => k0_hw29
def k0_off7 (v90 : BitVec 32) : Fin 2 → Nat :=
  let c0_i32_75 : BitVec 32 := 0#32
  let c128_i32_42 : BitVec 32 := 128#32
  let v91 : BitVec 32 := Scalar.muli v90 c128_i32_42
  let v92 : BitVec 32 := v91
  ![0, v92.toNat]

def k0_chk10 (v90 : BitVec 32) : Prop :=
  (128 ∣ (k0_mult3 v90).toNat) ∧
  (∀ a, (k0_off3 v90) a + S64x128.size a ≤ S64x1000064.size a) ∧
  (∀ a, (k0_off7 v90) a + S64x128.size a ≤ S64x1000064.size a)
theorem k0_mult3_dvd : ∀ (v90 : BitVec 32) (k0_hw10 : k0_chk10 v90), 128 ∣ (k0_mult3 v90).toNat := fun v90 k0_hw10 => k0_hw10.1
theorem k0_off3_inb : ∀ (v90 : BitVec 32) (k0_hw10 : k0_chk10 v90), ∀ a, (k0_off3 v90) a + S64x128.size a ≤ S64x1000064.size a := fun v90 k0_hw10 => k0_hw10.2.1
theorem k0_off7_inb : ∀ (v90 : BitVec 32) (k0_hw10 : k0_chk10 v90), ∀ a, (k0_off7 v90) a + S64x128.size a ≤ S64x1000064.size a := fun v90 k0_hw10 => k0_hw10.2.2

def k0_chk30 (v170 : IVec S16 32) : Prop :=
  (∀ a x, ((![v170] : Fin 1 → IVec S16 32) a x).toNat < S248.size a)
theorem k0_idx33_inb : ∀ (v170 : IVec S16 32) (k0_hw30 : k0_chk30 v170), ∀ a x, ((![v170] : Fin 1 → IVec S16 32) a x).toNat < S248.size a := fun v170 k0_hw30 => k0_hw30

def k0_chk31 (v180 : IVec S16 32) : Prop :=
  (∀ a x, ((![v180] : Fin 1 → IVec S16 32) a x).toNat < S248.size a)
theorem k0_idx34_inb : ∀ (v180 : IVec S16 32) (k0_hw31 : k0_chk31 v180), ∀ a x, ((![v180] : Fin 1 → IVec S16 32) a x).toNat < S248.size a := fun v180 k0_hw31 => k0_hw31
@[reducible] def k0_t6_loop (v13 : BitVec 32) (k0_t3 : Fin (k0_t3_loop v13).trips) (v177 : BitVec 32) (v187 : BitVec 32) : Scf.Loop 32 :=
  let c0_i32_82 : BitVec 32 := 0#32
  let c0_i32_20 : BitVec 32 := 0#32
  let c1_i32_23 : BitVec 32 := 1#32
  let arg21 : BitVec 32 := Scf.iv c0_i32_20 c1_i32_23 k0_t3
  let c4_i32_73 : BitVec 32 := 4#32
  let v163 : BitVec 32 := Scalar.muli arg21 c4_i32_73
  let c1_i32_74 : BitVec 32 := 1#32
  let v164 : BitVec 32 := Scalar.addi v163 c1_i32_74
  let v165 : BitVec 1 := Scalar.cmpi .slt v164 v13
  let v188 : BitVec 32 := Scalar.select v165 v187 v177
  let v189 : BitVec 32 := Scalar.subi v188 v177
  let v190 : BitVec 32 := Scalar.subi v189 c0_i32_82
  let c1_i32_83 : BitVec 32 := 1#32
  let v192 : BitVec 32 := Scalar.divsi v190 c1_i32_83
  let v193 : BitVec 32 := Scalar.muli v192 c1_i32_83
  let v194 : BitVec 32 := Scalar.addi c0_i32_82 v193
  let c1_i32_84 : BitVec 32 := 1#32
  ⟨c0_i32_82, v194, c1_i32_84⟩

def k0_chk33 (v267 : IVec S16 32) : Prop :=
  (∀ a x, ((![v267] : Fin 1 → IVec S16 32) a x).toNat < S1536.size a)
theorem k0_idx35_inb : ∀ (v267 : IVec S16 32) (k0_hw33 : k0_chk33 v267), ∀ a x, ((![v267] : Fin 1 → IVec S16 32) a x).toNat < S1536.size a := fun v267 k0_hw33 => k0_hw33

def k0_chk34 (v270 : IVec S16 32) (v282 : IVec S16 32) (v284 : IVec S16 32) : Prop :=
  (∀ a x, ((![v284, v270] : Fin 2 → IVec S16 32) a x).toNat < S64x128.size a) ∧
  (∀ a x, ((![v282, v284] : Fin 2 → IVec S16 32) a x).toNat < S64x128.size a)
theorem k0_idx36_inb : ∀ (v270 : IVec S16 32) (v282 : IVec S16 32) (v284 : IVec S16 32) (k0_hw34 : k0_chk34 v270 v282 v284), ∀ a x, ((![v284, v270] : Fin 2 → IVec S16 32) a x).toNat < S64x128.size a := fun v270 v282 v284 k0_hw34 => k0_hw34.1
theorem k0_idx37_inb : ∀ (v270 : IVec S16 32) (v282 : IVec S16 32) (v284 : IVec S16 32) (k0_hw34 : k0_chk34 v270 v282 v284), ∀ a x, ((![v282, v284] : Fin 2 → IVec S16 32) a x).toNat < S64x128.size a := fun v270 v282 v284 k0_hw34 => k0_hw34.2

def k0_chk35 (v270 : IVec S16 32) (v282 : IVec S16 32) (v287 : IVec S16 32) : Prop :=
  (∀ a x, ((![v287, v270] : Fin 2 → IVec S16 32) a x).toNat < S64x128.size a) ∧
  (∀ a x, ((![v282, v287] : Fin 2 → IVec S16 32) a x).toNat < S64x128.size a)
theorem k0_idx38_inb : ∀ (v270 : IVec S16 32) (v282 : IVec S16 32) (v287 : IVec S16 32) (k0_hw35 : k0_chk35 v270 v282 v287), ∀ a x, ((![v287, v270] : Fin 2 → IVec S16 32) a x).toNat < S64x128.size a := fun v270 v282 v287 k0_hw35 => k0_hw35.1
theorem k0_idx39_inb : ∀ (v270 : IVec S16 32) (v282 : IVec S16 32) (v287 : IVec S16 32) (k0_hw35 : k0_chk35 v270 v282 v287), ∀ a x, ((![v282, v287] : Fin 2 → IVec S16 32) a x).toNat < S64x128.size a := fun v270 v282 v287 k0_hw35 => k0_hw35.2

def k0_chk36 (v270 : IVec S16 32) (v282 : IVec S16 32) (v290 : IVec S16 32) : Prop :=
  (∀ a x, ((![v290, v270] : Fin 2 → IVec S16 32) a x).toNat < S64x128.size a) ∧
  (∀ a x, ((![v282, v290] : Fin 2 → IVec S16 32) a x).toNat < S64x128.size a)
theorem k0_idx40_inb : ∀ (v270 : IVec S16 32) (v282 : IVec S16 32) (v290 : IVec S16 32) (k0_hw36 : k0_chk36 v270 v282 v290), ∀ a x, ((![v290, v270] : Fin 2 → IVec S16 32) a x).toNat < S64x128.size a := fun v270 v282 v290 k0_hw36 => k0_hw36.1
theorem k0_idx41_inb : ∀ (v270 : IVec S16 32) (v282 : IVec S16 32) (v290 : IVec S16 32) (k0_hw36 : k0_chk36 v270 v282 v290), ∀ a x, ((![v282, v290] : Fin 2 → IVec S16 32) a x).toNat < S64x128.size a := fun v270 v282 v290 k0_hw36 => k0_hw36.2

def k0_chk37 (v270 : IVec S16 32) (v282 : IVec S16 32) (v293 : IVec S16 32) : Prop :=
  (∀ a x, ((![v293, v270] : Fin 2 → IVec S16 32) a x).toNat < S64x128.size a) ∧
  (∀ a x, ((![v282, v293] : Fin 2 → IVec S16 32) a x).toNat < S64x128.size a)
theorem k0_idx42_inb : ∀ (v270 : IVec S16 32) (v282 : IVec S16 32) (v293 : IVec S16 32) (k0_hw37 : k0_chk37 v270 v282 v293), ∀ a x, ((![v293, v270] : Fin 2 → IVec S16 32) a x).toNat < S64x128.size a := fun v270 v282 v293 k0_hw37 => k0_hw37.1
theorem k0_idx43_inb : ∀ (v270 : IVec S16 32) (v282 : IVec S16 32) (v293 : IVec S16 32) (k0_hw37 : k0_chk37 v270 v282 v293), ∀ a x, ((![v282, v293] : Fin 2 → IVec S16 32) a x).toNat < S64x128.size a := fun v270 v282 v293 k0_hw37 => k0_hw37.2

def k0_chk38 (v282 : IVec S16 32) : Prop :=
  (∀ a x, ((![v282] : Fin 1 → IVec S16 32) a x).toNat < S64.size a)
theorem k0_idx44_inb : ∀ (v282 : IVec S16 32) (k0_hw38 : k0_chk38 v282), ∀ a x, ((![v282] : Fin 1 → IVec S16 32) a x).toNat < S64.size a := fun v282 k0_hw38 => k0_hw38
@[reducible] def k0_t7_loop (v13 : BitVec 32) (k0_t3 : Fin (k0_t3_loop v13).trips) (v177 : BitVec 32) (v187 : BitVec 32) : Scf.Loop 32 :=
  let c0_i32_82 : BitVec 32 := 0#32
  let c0_i32_20 : BitVec 32 := 0#32
  let c1_i32_23 : BitVec 32 := 1#32
  let arg21 : BitVec 32 := Scf.iv c0_i32_20 c1_i32_23 k0_t3
  let c4_i32_73 : BitVec 32 := 4#32
  let v163 : BitVec 32 := Scalar.muli arg21 c4_i32_73
  let c1_i32_74 : BitVec 32 := 1#32
  let v164 : BitVec 32 := Scalar.addi v163 c1_i32_74
  let v165 : BitVec 1 := Scalar.cmpi .slt v164 v13
  let v188 : BitVec 32 := Scalar.select v165 v187 v177
  let v189 : BitVec 32 := Scalar.subi v188 v177
  let v190 : BitVec 32 := Scalar.subi v189 c0_i32_82
  let c1_i32_83 : BitVec 32 := 1#32
  let v192 : BitVec 32 := Scalar.divsi v190 c1_i32_83
  let v193 : BitVec 32 := Scalar.muli v192 c1_i32_83
  let v194 : BitVec 32 := Scalar.addi c0_i32_82 v193
  let v191 : BitVec 32 := Scalar.addi c0_i32_82 v190
  let c1_i32_85 : BitVec 32 := 1#32
  ⟨v194, v191, c1_i32_85⟩

def k0_chk32 (v13 : BitVec 32) (k0_t3 : Fin (k0_t3_loop v13).trips) (v177 : BitVec 32) (v187 : BitVec 32) : Prop :=
  ((k0_t6_loop v13 k0_t3 v177 v187).OK) ∧
  ((k0_t7_loop v13 k0_t3 v177 v187).OK)
theorem k0_t6_ok : ∀ (v13 : BitVec 32) (k0_t3 : Fin (k0_t3_loop v13).trips) (v177 : BitVec 32) (v187 : BitVec 32) (k0_hw32 : k0_chk32 v13 k0_t3 v177 v187), (k0_t6_loop v13 k0_t3 v177 v187).OK := fun v13 k0_t3 v177 v187 k0_hw32 => k0_hw32.1
theorem k0_t7_ok : ∀ (v13 : BitVec 32) (k0_t3 : Fin (k0_t3_loop v13).trips) (v177 : BitVec 32) (v187 : BitVec 32) (k0_hw32 : k0_chk32 v13 k0_t3 v177 v187), (k0_t7_loop v13 k0_t3 v177 v187).OK := fun v13 k0_t3 v177 v187 k0_hw32 => k0_hw32.2

def k0_chk39 (v267 : IVec S16 32) : Prop :=
  (∀ a x, ((![v267] : Fin 1 → IVec S16 32) a x).toNat < S1536.size a)
theorem k0_idx45_inb : ∀ (v267 : IVec S16 32) (k0_hw39 : k0_chk39 v267), ∀ a x, ((![v267] : Fin 1 → IVec S16 32) a x).toNat < S1536.size a := fun v267 k0_hw39 => k0_hw39

def k0_chk40 (v270 : IVec S16 32) (v282 : IVec S16 32) (v284 : IVec S16 32) : Prop :=
  (∀ a x, ((![v284, v270] : Fin 2 → IVec S16 32) a x).toNat < S64x128.size a) ∧
  (∀ a x, ((![v282, v284] : Fin 2 → IVec S16 32) a x).toNat < S64x128.size a)
theorem k0_idx46_inb : ∀ (v270 : IVec S16 32) (v282 : IVec S16 32) (v284 : IVec S16 32) (k0_hw40 : k0_chk40 v270 v282 v284), ∀ a x, ((![v284, v270] : Fin 2 → IVec S16 32) a x).toNat < S64x128.size a := fun v270 v282 v284 k0_hw40 => k0_hw40.1
theorem k0_idx47_inb : ∀ (v270 : IVec S16 32) (v282 : IVec S16 32) (v284 : IVec S16 32) (k0_hw40 : k0_chk40 v270 v282 v284), ∀ a x, ((![v282, v284] : Fin 2 → IVec S16 32) a x).toNat < S64x128.size a := fun v270 v282 v284 k0_hw40 => k0_hw40.2

def k0_chk41 (v270 : IVec S16 32) (v282 : IVec S16 32) (v287 : IVec S16 32) : Prop :=
  (∀ a x, ((![v287, v270] : Fin 2 → IVec S16 32) a x).toNat < S64x128.size a) ∧
  (∀ a x, ((![v282, v287] : Fin 2 → IVec S16 32) a x).toNat < S64x128.size a)
theorem k0_idx48_inb : ∀ (v270 : IVec S16 32) (v282 : IVec S16 32) (v287 : IVec S16 32) (k0_hw41 : k0_chk41 v270 v282 v287), ∀ a x, ((![v287, v270] : Fin 2 → IVec S16 32) a x).toNat < S64x128.size a := fun v270 v282 v287 k0_hw41 => k0_hw41.1
theorem k0_idx49_inb : ∀ (v270 : IVec S16 32) (v282 : IVec S16 32) (v287 : IVec S16 32) (k0_hw41 : k0_chk41 v270 v282 v287), ∀ a x, ((![v282, v287] : Fin 2 → IVec S16 32) a x).toNat < S64x128.size a := fun v270 v282 v287 k0_hw41 => k0_hw41.2

def k0_chk42 (v270 : IVec S16 32) (v282 : IVec S16 32) (v290 : IVec S16 32) : Prop :=
  (∀ a x, ((![v290, v270] : Fin 2 → IVec S16 32) a x).toNat < S64x128.size a) ∧
  (∀ a x, ((![v282, v290] : Fin 2 → IVec S16 32) a x).toNat < S64x128.size a)
theorem k0_idx50_inb : ∀ (v270 : IVec S16 32) (v282 : IVec S16 32) (v290 : IVec S16 32) (k0_hw42 : k0_chk42 v270 v282 v290), ∀ a x, ((![v290, v270] : Fin 2 → IVec S16 32) a x).toNat < S64x128.size a := fun v270 v282 v290 k0_hw42 => k0_hw42.1
theorem k0_idx51_inb : ∀ (v270 : IVec S16 32) (v282 : IVec S16 32) (v290 : IVec S16 32) (k0_hw42 : k0_chk42 v270 v282 v290), ∀ a x, ((![v282, v290] : Fin 2 → IVec S16 32) a x).toNat < S64x128.size a := fun v270 v282 v290 k0_hw42 => k0_hw42.2

def k0_chk43 (v270 : IVec S16 32) (v282 : IVec S16 32) (v293 : IVec S16 32) : Prop :=
  (∀ a x, ((![v293, v270] : Fin 2 → IVec S16 32) a x).toNat < S64x128.size a) ∧
  (∀ a x, ((![v282, v293] : Fin 2 → IVec S16 32) a x).toNat < S64x128.size a)
theorem k0_idx52_inb : ∀ (v270 : IVec S16 32) (v282 : IVec S16 32) (v293 : IVec S16 32) (k0_hw43 : k0_chk43 v270 v282 v293), ∀ a x, ((![v293, v270] : Fin 2 → IVec S16 32) a x).toNat < S64x128.size a := fun v270 v282 v293 k0_hw43 => k0_hw43.1
theorem k0_idx53_inb : ∀ (v270 : IVec S16 32) (v282 : IVec S16 32) (v293 : IVec S16 32) (k0_hw43 : k0_chk43 v270 v282 v293), ∀ a x, ((![v282, v293] : Fin 2 → IVec S16 32) a x).toNat < S64x128.size a := fun v270 v282 v293 k0_hw43 => k0_hw43.2

def k0_chk44 (v282 : IVec S16 32) : Prop :=
  (∀ a x, ((![v282] : Fin 1 → IVec S16 32) a x).toNat < S64.size a)
theorem k0_idx54_inb : ∀ (v282 : IVec S16 32) (k0_hw44 : k0_chk44 v282), ∀ a x, ((![v282] : Fin 1 → IVec S16 32) a x).toNat < S64.size a := fun v282 k0_hw44 => k0_hw44
def k0_off8 (v107 : BitVec 32) : Fin 2 → Nat :=
  let c0_i32_88 : BitVec 32 := 0#32
  let c128_i32_50 : BitVec 32 := 128#32
  let v108 : BitVec 32 := Scalar.muli v107 c128_i32_50
  let v109 : BitVec 32 := v108
  ![0, v109.toNat]

def k0_chk12 (v107 : BitVec 32) : Prop :=
  (128 ∣ (k0_mult4 v107).toNat) ∧
  (∀ a, (k0_off4 v107) a + S64x128.size a ≤ S64x1000064.size a) ∧
  (∀ a, (k0_off8 v107) a + S64x128.size a ≤ S64x1000064.size a)
theorem k0_mult4_dvd : ∀ (v107 : BitVec 32) (k0_hw12 : k0_chk12 v107), 128 ∣ (k0_mult4 v107).toNat := fun v107 k0_hw12 => k0_hw12.1
theorem k0_off4_inb : ∀ (v107 : BitVec 32) (k0_hw12 : k0_chk12 v107), ∀ a, (k0_off4 v107) a + S64x128.size a ≤ S64x1000064.size a := fun v107 k0_hw12 => k0_hw12.2.1
theorem k0_off8_inb : ∀ (v107 : BitVec 32) (k0_hw12 : k0_chk12 v107), ∀ a, (k0_off8 v107) a + S64x128.size a ≤ S64x1000064.size a := fun v107 k0_hw12 => k0_hw12.2.2

def k0_chk45 (v204 : IVec S16 32) : Prop :=
  (∀ a x, ((![v204] : Fin 1 → IVec S16 32) a x).toNat < S248.size a)
theorem k0_idx55_inb : ∀ (v204 : IVec S16 32) (k0_hw45 : k0_chk45 v204), ∀ a x, ((![v204] : Fin 1 → IVec S16 32) a x).toNat < S248.size a := fun v204 k0_hw45 => k0_hw45

def k0_chk46 (v214 : IVec S16 32) : Prop :=
  (∀ a x, ((![v214] : Fin 1 → IVec S16 32) a x).toNat < S248.size a)
theorem k0_idx56_inb : ∀ (v214 : IVec S16 32) (k0_hw46 : k0_chk46 v214), ∀ a x, ((![v214] : Fin 1 → IVec S16 32) a x).toNat < S248.size a := fun v214 k0_hw46 => k0_hw46
@[reducible] def k0_t8_loop (v13 : BitVec 32) (k0_t3 : Fin (k0_t3_loop v13).trips) (v211 : BitVec 32) (v221 : BitVec 32) : Scf.Loop 32 :=
  let c0_i32_95 : BitVec 32 := 0#32
  let c0_i32_20 : BitVec 32 := 0#32
  let c1_i32_23 : BitVec 32 := 1#32
  let arg21 : BitVec 32 := Scf.iv c0_i32_20 c1_i32_23 k0_t3
  let c4_i32_86 : BitVec 32 := 4#32
  let v197 : BitVec 32 := Scalar.muli arg21 c4_i32_86
  let c2_i32_87 : BitVec 32 := 2#32
  let v198 : BitVec 32 := Scalar.addi v197 c2_i32_87
  let v199 : BitVec 1 := Scalar.cmpi .slt v198 v13
  let v222 : BitVec 32 := Scalar.select v199 v221 v211
  let v223 : BitVec 32 := Scalar.subi v222 v211
  let v224 : BitVec 32 := Scalar.subi v223 c0_i32_95
  let c1_i32_96 : BitVec 32 := 1#32
  let v226 : BitVec 32 := Scalar.divsi v224 c1_i32_96
  let v227 : BitVec 32 := Scalar.muli v226 c1_i32_96
  let v228 : BitVec 32 := Scalar.addi c0_i32_95 v227
  let c1_i32_97 : BitVec 32 := 1#32
  ⟨c0_i32_95, v228, c1_i32_97⟩

def k0_chk48 (v267 : IVec S16 32) : Prop :=
  (∀ a x, ((![v267] : Fin 1 → IVec S16 32) a x).toNat < S1536.size a)
theorem k0_idx57_inb : ∀ (v267 : IVec S16 32) (k0_hw48 : k0_chk48 v267), ∀ a x, ((![v267] : Fin 1 → IVec S16 32) a x).toNat < S1536.size a := fun v267 k0_hw48 => k0_hw48

def k0_chk49 (v270 : IVec S16 32) (v282 : IVec S16 32) (v284 : IVec S16 32) : Prop :=
  (∀ a x, ((![v284, v270] : Fin 2 → IVec S16 32) a x).toNat < S64x128.size a) ∧
  (∀ a x, ((![v282, v284] : Fin 2 → IVec S16 32) a x).toNat < S64x128.size a)
theorem k0_idx58_inb : ∀ (v270 : IVec S16 32) (v282 : IVec S16 32) (v284 : IVec S16 32) (k0_hw49 : k0_chk49 v270 v282 v284), ∀ a x, ((![v284, v270] : Fin 2 → IVec S16 32) a x).toNat < S64x128.size a := fun v270 v282 v284 k0_hw49 => k0_hw49.1
theorem k0_idx59_inb : ∀ (v270 : IVec S16 32) (v282 : IVec S16 32) (v284 : IVec S16 32) (k0_hw49 : k0_chk49 v270 v282 v284), ∀ a x, ((![v282, v284] : Fin 2 → IVec S16 32) a x).toNat < S64x128.size a := fun v270 v282 v284 k0_hw49 => k0_hw49.2

def k0_chk50 (v270 : IVec S16 32) (v282 : IVec S16 32) (v287 : IVec S16 32) : Prop :=
  (∀ a x, ((![v287, v270] : Fin 2 → IVec S16 32) a x).toNat < S64x128.size a) ∧
  (∀ a x, ((![v282, v287] : Fin 2 → IVec S16 32) a x).toNat < S64x128.size a)
theorem k0_idx60_inb : ∀ (v270 : IVec S16 32) (v282 : IVec S16 32) (v287 : IVec S16 32) (k0_hw50 : k0_chk50 v270 v282 v287), ∀ a x, ((![v287, v270] : Fin 2 → IVec S16 32) a x).toNat < S64x128.size a := fun v270 v282 v287 k0_hw50 => k0_hw50.1
theorem k0_idx61_inb : ∀ (v270 : IVec S16 32) (v282 : IVec S16 32) (v287 : IVec S16 32) (k0_hw50 : k0_chk50 v270 v282 v287), ∀ a x, ((![v282, v287] : Fin 2 → IVec S16 32) a x).toNat < S64x128.size a := fun v270 v282 v287 k0_hw50 => k0_hw50.2

def k0_chk51 (v270 : IVec S16 32) (v282 : IVec S16 32) (v290 : IVec S16 32) : Prop :=
  (∀ a x, ((![v290, v270] : Fin 2 → IVec S16 32) a x).toNat < S64x128.size a) ∧
  (∀ a x, ((![v282, v290] : Fin 2 → IVec S16 32) a x).toNat < S64x128.size a)
theorem k0_idx62_inb : ∀ (v270 : IVec S16 32) (v282 : IVec S16 32) (v290 : IVec S16 32) (k0_hw51 : k0_chk51 v270 v282 v290), ∀ a x, ((![v290, v270] : Fin 2 → IVec S16 32) a x).toNat < S64x128.size a := fun v270 v282 v290 k0_hw51 => k0_hw51.1
theorem k0_idx63_inb : ∀ (v270 : IVec S16 32) (v282 : IVec S16 32) (v290 : IVec S16 32) (k0_hw51 : k0_chk51 v270 v282 v290), ∀ a x, ((![v282, v290] : Fin 2 → IVec S16 32) a x).toNat < S64x128.size a := fun v270 v282 v290 k0_hw51 => k0_hw51.2

def k0_chk52 (v270 : IVec S16 32) (v282 : IVec S16 32) (v293 : IVec S16 32) : Prop :=
  (∀ a x, ((![v293, v270] : Fin 2 → IVec S16 32) a x).toNat < S64x128.size a) ∧
  (∀ a x, ((![v282, v293] : Fin 2 → IVec S16 32) a x).toNat < S64x128.size a)
theorem k0_idx64_inb : ∀ (v270 : IVec S16 32) (v282 : IVec S16 32) (v293 : IVec S16 32) (k0_hw52 : k0_chk52 v270 v282 v293), ∀ a x, ((![v293, v270] : Fin 2 → IVec S16 32) a x).toNat < S64x128.size a := fun v270 v282 v293 k0_hw52 => k0_hw52.1
theorem k0_idx65_inb : ∀ (v270 : IVec S16 32) (v282 : IVec S16 32) (v293 : IVec S16 32) (k0_hw52 : k0_chk52 v270 v282 v293), ∀ a x, ((![v282, v293] : Fin 2 → IVec S16 32) a x).toNat < S64x128.size a := fun v270 v282 v293 k0_hw52 => k0_hw52.2

def k0_chk53 (v282 : IVec S16 32) : Prop :=
  (∀ a x, ((![v282] : Fin 1 → IVec S16 32) a x).toNat < S64.size a)
theorem k0_idx66_inb : ∀ (v282 : IVec S16 32) (k0_hw53 : k0_chk53 v282), ∀ a x, ((![v282] : Fin 1 → IVec S16 32) a x).toNat < S64.size a := fun v282 k0_hw53 => k0_hw53
@[reducible] def k0_t9_loop (v13 : BitVec 32) (k0_t3 : Fin (k0_t3_loop v13).trips) (v211 : BitVec 32) (v221 : BitVec 32) : Scf.Loop 32 :=
  let c0_i32_95 : BitVec 32 := 0#32
  let c0_i32_20 : BitVec 32 := 0#32
  let c1_i32_23 : BitVec 32 := 1#32
  let arg21 : BitVec 32 := Scf.iv c0_i32_20 c1_i32_23 k0_t3
  let c4_i32_86 : BitVec 32 := 4#32
  let v197 : BitVec 32 := Scalar.muli arg21 c4_i32_86
  let c2_i32_87 : BitVec 32 := 2#32
  let v198 : BitVec 32 := Scalar.addi v197 c2_i32_87
  let v199 : BitVec 1 := Scalar.cmpi .slt v198 v13
  let v222 : BitVec 32 := Scalar.select v199 v221 v211
  let v223 : BitVec 32 := Scalar.subi v222 v211
  let v224 : BitVec 32 := Scalar.subi v223 c0_i32_95
  let c1_i32_96 : BitVec 32 := 1#32
  let v226 : BitVec 32 := Scalar.divsi v224 c1_i32_96
  let v227 : BitVec 32 := Scalar.muli v226 c1_i32_96
  let v228 : BitVec 32 := Scalar.addi c0_i32_95 v227
  let v225 : BitVec 32 := Scalar.addi c0_i32_95 v224
  let c1_i32_98 : BitVec 32 := 1#32
  ⟨v228, v225, c1_i32_98⟩

def k0_chk47 (v13 : BitVec 32) (k0_t3 : Fin (k0_t3_loop v13).trips) (v211 : BitVec 32) (v221 : BitVec 32) : Prop :=
  ((k0_t8_loop v13 k0_t3 v211 v221).OK) ∧
  ((k0_t9_loop v13 k0_t3 v211 v221).OK)
theorem k0_t8_ok : ∀ (v13 : BitVec 32) (k0_t3 : Fin (k0_t3_loop v13).trips) (v211 : BitVec 32) (v221 : BitVec 32) (k0_hw47 : k0_chk47 v13 k0_t3 v211 v221), (k0_t8_loop v13 k0_t3 v211 v221).OK := fun v13 k0_t3 v211 v221 k0_hw47 => k0_hw47.1
theorem k0_t9_ok : ∀ (v13 : BitVec 32) (k0_t3 : Fin (k0_t3_loop v13).trips) (v211 : BitVec 32) (v221 : BitVec 32) (k0_hw47 : k0_chk47 v13 k0_t3 v211 v221), (k0_t9_loop v13 k0_t3 v211 v221).OK := fun v13 k0_t3 v211 v221 k0_hw47 => k0_hw47.2

def k0_chk54 (v267 : IVec S16 32) : Prop :=
  (∀ a x, ((![v267] : Fin 1 → IVec S16 32) a x).toNat < S1536.size a)
theorem k0_idx67_inb : ∀ (v267 : IVec S16 32) (k0_hw54 : k0_chk54 v267), ∀ a x, ((![v267] : Fin 1 → IVec S16 32) a x).toNat < S1536.size a := fun v267 k0_hw54 => k0_hw54

def k0_chk55 (v270 : IVec S16 32) (v282 : IVec S16 32) (v284 : IVec S16 32) : Prop :=
  (∀ a x, ((![v284, v270] : Fin 2 → IVec S16 32) a x).toNat < S64x128.size a) ∧
  (∀ a x, ((![v282, v284] : Fin 2 → IVec S16 32) a x).toNat < S64x128.size a)
theorem k0_idx68_inb : ∀ (v270 : IVec S16 32) (v282 : IVec S16 32) (v284 : IVec S16 32) (k0_hw55 : k0_chk55 v270 v282 v284), ∀ a x, ((![v284, v270] : Fin 2 → IVec S16 32) a x).toNat < S64x128.size a := fun v270 v282 v284 k0_hw55 => k0_hw55.1
theorem k0_idx69_inb : ∀ (v270 : IVec S16 32) (v282 : IVec S16 32) (v284 : IVec S16 32) (k0_hw55 : k0_chk55 v270 v282 v284), ∀ a x, ((![v282, v284] : Fin 2 → IVec S16 32) a x).toNat < S64x128.size a := fun v270 v282 v284 k0_hw55 => k0_hw55.2

def k0_chk56 (v270 : IVec S16 32) (v282 : IVec S16 32) (v287 : IVec S16 32) : Prop :=
  (∀ a x, ((![v287, v270] : Fin 2 → IVec S16 32) a x).toNat < S64x128.size a) ∧
  (∀ a x, ((![v282, v287] : Fin 2 → IVec S16 32) a x).toNat < S64x128.size a)
theorem k0_idx70_inb : ∀ (v270 : IVec S16 32) (v282 : IVec S16 32) (v287 : IVec S16 32) (k0_hw56 : k0_chk56 v270 v282 v287), ∀ a x, ((![v287, v270] : Fin 2 → IVec S16 32) a x).toNat < S64x128.size a := fun v270 v282 v287 k0_hw56 => k0_hw56.1
theorem k0_idx71_inb : ∀ (v270 : IVec S16 32) (v282 : IVec S16 32) (v287 : IVec S16 32) (k0_hw56 : k0_chk56 v270 v282 v287), ∀ a x, ((![v282, v287] : Fin 2 → IVec S16 32) a x).toNat < S64x128.size a := fun v270 v282 v287 k0_hw56 => k0_hw56.2

def k0_chk57 (v270 : IVec S16 32) (v282 : IVec S16 32) (v290 : IVec S16 32) : Prop :=
  (∀ a x, ((![v290, v270] : Fin 2 → IVec S16 32) a x).toNat < S64x128.size a) ∧
  (∀ a x, ((![v282, v290] : Fin 2 → IVec S16 32) a x).toNat < S64x128.size a)
theorem k0_idx72_inb : ∀ (v270 : IVec S16 32) (v282 : IVec S16 32) (v290 : IVec S16 32) (k0_hw57 : k0_chk57 v270 v282 v290), ∀ a x, ((![v290, v270] : Fin 2 → IVec S16 32) a x).toNat < S64x128.size a := fun v270 v282 v290 k0_hw57 => k0_hw57.1
theorem k0_idx73_inb : ∀ (v270 : IVec S16 32) (v282 : IVec S16 32) (v290 : IVec S16 32) (k0_hw57 : k0_chk57 v270 v282 v290), ∀ a x, ((![v282, v290] : Fin 2 → IVec S16 32) a x).toNat < S64x128.size a := fun v270 v282 v290 k0_hw57 => k0_hw57.2

def k0_chk58 (v270 : IVec S16 32) (v282 : IVec S16 32) (v293 : IVec S16 32) : Prop :=
  (∀ a x, ((![v293, v270] : Fin 2 → IVec S16 32) a x).toNat < S64x128.size a) ∧
  (∀ a x, ((![v282, v293] : Fin 2 → IVec S16 32) a x).toNat < S64x128.size a)
theorem k0_idx74_inb : ∀ (v270 : IVec S16 32) (v282 : IVec S16 32) (v293 : IVec S16 32) (k0_hw58 : k0_chk58 v270 v282 v293), ∀ a x, ((![v293, v270] : Fin 2 → IVec S16 32) a x).toNat < S64x128.size a := fun v270 v282 v293 k0_hw58 => k0_hw58.1
theorem k0_idx75_inb : ∀ (v270 : IVec S16 32) (v282 : IVec S16 32) (v293 : IVec S16 32) (k0_hw58 : k0_chk58 v270 v282 v293), ∀ a x, ((![v282, v293] : Fin 2 → IVec S16 32) a x).toNat < S64x128.size a := fun v270 v282 v293 k0_hw58 => k0_hw58.2

def k0_chk59 (v282 : IVec S16 32) : Prop :=
  (∀ a x, ((![v282] : Fin 1 → IVec S16 32) a x).toNat < S64.size a)
theorem k0_idx76_inb : ∀ (v282 : IVec S16 32) (k0_hw59 : k0_chk59 v282), ∀ a x, ((![v282] : Fin 1 → IVec S16 32) a x).toNat < S64.size a := fun v282 k0_hw59 => k0_hw59
def k0_off9 (v124 : BitVec 32) : Fin 2 → Nat :=
  let c0_i32_101 : BitVec 32 := 0#32
  let c128_i32_57 : BitVec 32 := 128#32
  let v125 : BitVec 32 := Scalar.muli v124 c128_i32_57
  let v126 : BitVec 32 := v125
  ![0, v126.toNat]

def k0_chk14 (v124 : BitVec 32) : Prop :=
  (128 ∣ (k0_mult5 v124).toNat) ∧
  (∀ a, (k0_off5 v124) a + S64x128.size a ≤ S64x1000064.size a) ∧
  (∀ a, (k0_off9 v124) a + S64x128.size a ≤ S64x1000064.size a)
theorem k0_mult5_dvd : ∀ (v124 : BitVec 32) (k0_hw14 : k0_chk14 v124), 128 ∣ (k0_mult5 v124).toNat := fun v124 k0_hw14 => k0_hw14.1
theorem k0_off5_inb : ∀ (v124 : BitVec 32) (k0_hw14 : k0_chk14 v124), ∀ a, (k0_off5 v124) a + S64x128.size a ≤ S64x1000064.size a := fun v124 k0_hw14 => k0_hw14.2.1
theorem k0_off9_inb : ∀ (v124 : BitVec 32) (k0_hw14 : k0_chk14 v124), ∀ a, (k0_off9 v124) a + S64x128.size a ≤ S64x1000064.size a := fun v124 k0_hw14 => k0_hw14.2.2

def k0_chk60 (v238 : IVec S16 32) : Prop :=
  (∀ a x, ((![v238] : Fin 1 → IVec S16 32) a x).toNat < S248.size a)
theorem k0_idx77_inb : ∀ (v238 : IVec S16 32) (k0_hw60 : k0_chk60 v238), ∀ a x, ((![v238] : Fin 1 → IVec S16 32) a x).toNat < S248.size a := fun v238 k0_hw60 => k0_hw60

def k0_chk61 (v248 : IVec S16 32) : Prop :=
  (∀ a x, ((![v248] : Fin 1 → IVec S16 32) a x).toNat < S248.size a)
theorem k0_idx78_inb : ∀ (v248 : IVec S16 32) (k0_hw61 : k0_chk61 v248), ∀ a x, ((![v248] : Fin 1 → IVec S16 32) a x).toNat < S248.size a := fun v248 k0_hw61 => k0_hw61
@[reducible] def k0_t10_loop (v13 : BitVec 32) (k0_t3 : Fin (k0_t3_loop v13).trips) (v245 : BitVec 32) (v255 : BitVec 32) : Scf.Loop 32 :=
  let c0_i32_108 : BitVec 32 := 0#32
  let c0_i32_20 : BitVec 32 := 0#32
  let c1_i32_23 : BitVec 32 := 1#32
  let arg21 : BitVec 32 := Scf.iv c0_i32_20 c1_i32_23 k0_t3
  let c4_i32_99 : BitVec 32 := 4#32
  let v231 : BitVec 32 := Scalar.muli arg21 c4_i32_99
  let c3_i32_100 : BitVec 32 := 3#32
  let v232 : BitVec 32 := Scalar.addi v231 c3_i32_100
  let v233 : BitVec 1 := Scalar.cmpi .slt v232 v13
  let v256 : BitVec 32 := Scalar.select v233 v255 v245
  let v257 : BitVec 32 := Scalar.subi v256 v245
  let v258 : BitVec 32 := Scalar.subi v257 c0_i32_108
  let c1_i32_109 : BitVec 32 := 1#32
  let v260 : BitVec 32 := Scalar.divsi v258 c1_i32_109
  let v261 : BitVec 32 := Scalar.muli v260 c1_i32_109
  let v262 : BitVec 32 := Scalar.addi c0_i32_108 v261
  let c1_i32_110 : BitVec 32 := 1#32
  ⟨c0_i32_108, v262, c1_i32_110⟩

def k0_chk63 (v267 : IVec S16 32) : Prop :=
  (∀ a x, ((![v267] : Fin 1 → IVec S16 32) a x).toNat < S1536.size a)
theorem k0_idx79_inb : ∀ (v267 : IVec S16 32) (k0_hw63 : k0_chk63 v267), ∀ a x, ((![v267] : Fin 1 → IVec S16 32) a x).toNat < S1536.size a := fun v267 k0_hw63 => k0_hw63

def k0_chk64 (v270 : IVec S16 32) (v282 : IVec S16 32) (v284 : IVec S16 32) : Prop :=
  (∀ a x, ((![v284, v270] : Fin 2 → IVec S16 32) a x).toNat < S64x128.size a) ∧
  (∀ a x, ((![v282, v284] : Fin 2 → IVec S16 32) a x).toNat < S64x128.size a)
theorem k0_idx80_inb : ∀ (v270 : IVec S16 32) (v282 : IVec S16 32) (v284 : IVec S16 32) (k0_hw64 : k0_chk64 v270 v282 v284), ∀ a x, ((![v284, v270] : Fin 2 → IVec S16 32) a x).toNat < S64x128.size a := fun v270 v282 v284 k0_hw64 => k0_hw64.1
theorem k0_idx81_inb : ∀ (v270 : IVec S16 32) (v282 : IVec S16 32) (v284 : IVec S16 32) (k0_hw64 : k0_chk64 v270 v282 v284), ∀ a x, ((![v282, v284] : Fin 2 → IVec S16 32) a x).toNat < S64x128.size a := fun v270 v282 v284 k0_hw64 => k0_hw64.2

def k0_chk65 (v270 : IVec S16 32) (v282 : IVec S16 32) (v287 : IVec S16 32) : Prop :=
  (∀ a x, ((![v287, v270] : Fin 2 → IVec S16 32) a x).toNat < S64x128.size a) ∧
  (∀ a x, ((![v282, v287] : Fin 2 → IVec S16 32) a x).toNat < S64x128.size a)
theorem k0_idx82_inb : ∀ (v270 : IVec S16 32) (v282 : IVec S16 32) (v287 : IVec S16 32) (k0_hw65 : k0_chk65 v270 v282 v287), ∀ a x, ((![v287, v270] : Fin 2 → IVec S16 32) a x).toNat < S64x128.size a := fun v270 v282 v287 k0_hw65 => k0_hw65.1
theorem k0_idx83_inb : ∀ (v270 : IVec S16 32) (v282 : IVec S16 32) (v287 : IVec S16 32) (k0_hw65 : k0_chk65 v270 v282 v287), ∀ a x, ((![v282, v287] : Fin 2 → IVec S16 32) a x).toNat < S64x128.size a := fun v270 v282 v287 k0_hw65 => k0_hw65.2

def k0_chk66 (v270 : IVec S16 32) (v282 : IVec S16 32) (v290 : IVec S16 32) : Prop :=
  (∀ a x, ((![v290, v270] : Fin 2 → IVec S16 32) a x).toNat < S64x128.size a) ∧
  (∀ a x, ((![v282, v290] : Fin 2 → IVec S16 32) a x).toNat < S64x128.size a)
theorem k0_idx84_inb : ∀ (v270 : IVec S16 32) (v282 : IVec S16 32) (v290 : IVec S16 32) (k0_hw66 : k0_chk66 v270 v282 v290), ∀ a x, ((![v290, v270] : Fin 2 → IVec S16 32) a x).toNat < S64x128.size a := fun v270 v282 v290 k0_hw66 => k0_hw66.1
theorem k0_idx85_inb : ∀ (v270 : IVec S16 32) (v282 : IVec S16 32) (v290 : IVec S16 32) (k0_hw66 : k0_chk66 v270 v282 v290), ∀ a x, ((![v282, v290] : Fin 2 → IVec S16 32) a x).toNat < S64x128.size a := fun v270 v282 v290 k0_hw66 => k0_hw66.2

def k0_chk67 (v270 : IVec S16 32) (v282 : IVec S16 32) (v293 : IVec S16 32) : Prop :=
  (∀ a x, ((![v293, v270] : Fin 2 → IVec S16 32) a x).toNat < S64x128.size a) ∧
  (∀ a x, ((![v282, v293] : Fin 2 → IVec S16 32) a x).toNat < S64x128.size a)
theorem k0_idx86_inb : ∀ (v270 : IVec S16 32) (v282 : IVec S16 32) (v293 : IVec S16 32) (k0_hw67 : k0_chk67 v270 v282 v293), ∀ a x, ((![v293, v270] : Fin 2 → IVec S16 32) a x).toNat < S64x128.size a := fun v270 v282 v293 k0_hw67 => k0_hw67.1
theorem k0_idx87_inb : ∀ (v270 : IVec S16 32) (v282 : IVec S16 32) (v293 : IVec S16 32) (k0_hw67 : k0_chk67 v270 v282 v293), ∀ a x, ((![v282, v293] : Fin 2 → IVec S16 32) a x).toNat < S64x128.size a := fun v270 v282 v293 k0_hw67 => k0_hw67.2

def k0_chk68 (v282 : IVec S16 32) : Prop :=
  (∀ a x, ((![v282] : Fin 1 → IVec S16 32) a x).toNat < S64.size a)
theorem k0_idx88_inb : ∀ (v282 : IVec S16 32) (k0_hw68 : k0_chk68 v282), ∀ a x, ((![v282] : Fin 1 → IVec S16 32) a x).toNat < S64.size a := fun v282 k0_hw68 => k0_hw68
@[reducible] def k0_t11_loop (v13 : BitVec 32) (k0_t3 : Fin (k0_t3_loop v13).trips) (v245 : BitVec 32) (v255 : BitVec 32) : Scf.Loop 32 :=
  let c0_i32_108 : BitVec 32 := 0#32
  let c0_i32_20 : BitVec 32 := 0#32
  let c1_i32_23 : BitVec 32 := 1#32
  let arg21 : BitVec 32 := Scf.iv c0_i32_20 c1_i32_23 k0_t3
  let c4_i32_99 : BitVec 32 := 4#32
  let v231 : BitVec 32 := Scalar.muli arg21 c4_i32_99
  let c3_i32_100 : BitVec 32 := 3#32
  let v232 : BitVec 32 := Scalar.addi v231 c3_i32_100
  let v233 : BitVec 1 := Scalar.cmpi .slt v232 v13
  let v256 : BitVec 32 := Scalar.select v233 v255 v245
  let v257 : BitVec 32 := Scalar.subi v256 v245
  let v258 : BitVec 32 := Scalar.subi v257 c0_i32_108
  let c1_i32_109 : BitVec 32 := 1#32
  let v260 : BitVec 32 := Scalar.divsi v258 c1_i32_109
  let v261 : BitVec 32 := Scalar.muli v260 c1_i32_109
  let v262 : BitVec 32 := Scalar.addi c0_i32_108 v261
  let v259 : BitVec 32 := Scalar.addi c0_i32_108 v258
  let c1_i32_111 : BitVec 32 := 1#32
  ⟨v262, v259, c1_i32_111⟩

def k0_chk62 (v13 : BitVec 32) (k0_t3 : Fin (k0_t3_loop v13).trips) (v245 : BitVec 32) (v255 : BitVec 32) : Prop :=
  ((k0_t10_loop v13 k0_t3 v245 v255).OK) ∧
  ((k0_t11_loop v13 k0_t3 v245 v255).OK)
theorem k0_t10_ok : ∀ (v13 : BitVec 32) (k0_t3 : Fin (k0_t3_loop v13).trips) (v245 : BitVec 32) (v255 : BitVec 32) (k0_hw62 : k0_chk62 v13 k0_t3 v245 v255), (k0_t10_loop v13 k0_t3 v245 v255).OK := fun v13 k0_t3 v245 v255 k0_hw62 => k0_hw62.1
theorem k0_t11_ok : ∀ (v13 : BitVec 32) (k0_t3 : Fin (k0_t3_loop v13).trips) (v245 : BitVec 32) (v255 : BitVec 32) (k0_hw62 : k0_chk62 v13 k0_t3 v245 v255), (k0_t11_loop v13 k0_t3 v245 v255).OK := fun v13 k0_t3 v245 v255 k0_hw62 => k0_hw62.2

def k0_chk69 (v267 : IVec S16 32) : Prop :=
  (∀ a x, ((![v267] : Fin 1 → IVec S16 32) a x).toNat < S1536.size a)
theorem k0_idx89_inb : ∀ (v267 : IVec S16 32) (k0_hw69 : k0_chk69 v267), ∀ a x, ((![v267] : Fin 1 → IVec S16 32) a x).toNat < S1536.size a := fun v267 k0_hw69 => k0_hw69

def k0_chk70 (v270 : IVec S16 32) (v282 : IVec S16 32) (v284 : IVec S16 32) : Prop :=
  (∀ a x, ((![v284, v270] : Fin 2 → IVec S16 32) a x).toNat < S64x128.size a) ∧
  (∀ a x, ((![v282, v284] : Fin 2 → IVec S16 32) a x).toNat < S64x128.size a)
theorem k0_idx90_inb : ∀ (v270 : IVec S16 32) (v282 : IVec S16 32) (v284 : IVec S16 32) (k0_hw70 : k0_chk70 v270 v282 v284), ∀ a x, ((![v284, v270] : Fin 2 → IVec S16 32) a x).toNat < S64x128.size a := fun v270 v282 v284 k0_hw70 => k0_hw70.1
theorem k0_idx91_inb : ∀ (v270 : IVec S16 32) (v282 : IVec S16 32) (v284 : IVec S16 32) (k0_hw70 : k0_chk70 v270 v282 v284), ∀ a x, ((![v282, v284] : Fin 2 → IVec S16 32) a x).toNat < S64x128.size a := fun v270 v282 v284 k0_hw70 => k0_hw70.2

def k0_chk71 (v270 : IVec S16 32) (v282 : IVec S16 32) (v287 : IVec S16 32) : Prop :=
  (∀ a x, ((![v287, v270] : Fin 2 → IVec S16 32) a x).toNat < S64x128.size a) ∧
  (∀ a x, ((![v282, v287] : Fin 2 → IVec S16 32) a x).toNat < S64x128.size a)
theorem k0_idx92_inb : ∀ (v270 : IVec S16 32) (v282 : IVec S16 32) (v287 : IVec S16 32) (k0_hw71 : k0_chk71 v270 v282 v287), ∀ a x, ((![v287, v270] : Fin 2 → IVec S16 32) a x).toNat < S64x128.size a := fun v270 v282 v287 k0_hw71 => k0_hw71.1
theorem k0_idx93_inb : ∀ (v270 : IVec S16 32) (v282 : IVec S16 32) (v287 : IVec S16 32) (k0_hw71 : k0_chk71 v270 v282 v287), ∀ a x, ((![v282, v287] : Fin 2 → IVec S16 32) a x).toNat < S64x128.size a := fun v270 v282 v287 k0_hw71 => k0_hw71.2

def k0_chk72 (v270 : IVec S16 32) (v282 : IVec S16 32) (v290 : IVec S16 32) : Prop :=
  (∀ a x, ((![v290, v270] : Fin 2 → IVec S16 32) a x).toNat < S64x128.size a) ∧
  (∀ a x, ((![v282, v290] : Fin 2 → IVec S16 32) a x).toNat < S64x128.size a)
theorem k0_idx94_inb : ∀ (v270 : IVec S16 32) (v282 : IVec S16 32) (v290 : IVec S16 32) (k0_hw72 : k0_chk72 v270 v282 v290), ∀ a x, ((![v290, v270] : Fin 2 → IVec S16 32) a x).toNat < S64x128.size a := fun v270 v282 v290 k0_hw72 => k0_hw72.1
theorem k0_idx95_inb : ∀ (v270 : IVec S16 32) (v282 : IVec S16 32) (v290 : IVec S16 32) (k0_hw72 : k0_chk72 v270 v282 v290), ∀ a x, ((![v282, v290] : Fin 2 → IVec S16 32) a x).toNat < S64x128.size a := fun v270 v282 v290 k0_hw72 => k0_hw72.2

def k0_chk73 (v270 : IVec S16 32) (v282 : IVec S16 32) (v293 : IVec S16 32) : Prop :=
  (∀ a x, ((![v293, v270] : Fin 2 → IVec S16 32) a x).toNat < S64x128.size a) ∧
  (∀ a x, ((![v282, v293] : Fin 2 → IVec S16 32) a x).toNat < S64x128.size a)
theorem k0_idx96_inb : ∀ (v270 : IVec S16 32) (v282 : IVec S16 32) (v293 : IVec S16 32) (k0_hw73 : k0_chk73 v270 v282 v293), ∀ a x, ((![v293, v270] : Fin 2 → IVec S16 32) a x).toNat < S64x128.size a := fun v270 v282 v293 k0_hw73 => k0_hw73.1
theorem k0_idx97_inb : ∀ (v270 : IVec S16 32) (v282 : IVec S16 32) (v293 : IVec S16 32) (k0_hw73 : k0_chk73 v270 v282 v293), ∀ a x, ((![v282, v293] : Fin 2 → IVec S16 32) a x).toNat < S64x128.size a := fun v270 v282 v293 k0_hw73 => k0_hw73.2

def k0_chk74 (v282 : IVec S16 32) : Prop :=
  (∀ a x, ((![v282] : Fin 1 → IVec S16 32) a x).toNat < S64.size a)
theorem k0_idx98_inb : ∀ (v282 : IVec S16 32) (k0_hw74 : k0_chk74 v282), ∀ a x, ((![v282] : Fin 1 → IVec S16 32) a x).toNat < S64.size a := fun v282 k0_hw74 => k0_hw74
@[reducible] def k0_t12_loop (v13 : BitVec 32) : Scf.Loop 32 :=
  let c0_i32_20 : BitVec 32 := 0#32
  let c4_i32 : BitVec 32 := 4#32
  let v22 : BitVec 32 := Scalar.addi v13 c4_i32
  let c1_i32_12 : BitVec 32 := 1#32
  let v23 : BitVec 32 := Scalar.subi v22 c1_i32_12
  let c0_i32_14 : BitVec 32 := 0#32
  let v25 : BitVec 1 := Scalar.cmpi .sgt v23 c0_i32_14
  let v26 : BitVec 32 := Scalar.extui v25
  let c0_i32_15 : BitVec 32 := 0#32
  let v27 : BitVec 1 := Scalar.cmpi .slt v23 c0_i32_15
  let v28 : BitVec 32 := Scalar.extui v27
  let v29 : BitVec 32 := Scalar.subi v26 v28
  let c4_i32_13 : BitVec 32 := 4#32
  let c0_i32_16 : BitVec 32 := 0#32
  let v30 : BitVec 1 := Scalar.cmpi .sgt c4_i32_13 c0_i32_16
  let v31 : BitVec 32 := Scalar.extui v30
  let c0_i32_17 : BitVec 32 := 0#32
  let v32 : BitVec 1 := Scalar.cmpi .slt c4_i32_13 c0_i32_17
  let v33 : BitVec 32 := Scalar.extui v32
  let v34 : BitVec 32 := Scalar.subi v31 v33
  let v35 : BitVec 1 := Scalar.cmpi .ne v29 v34
  let v36 : BitVec 32 := Scalar.remsi v23 c4_i32_13
  let c0_i32_18 : BitVec 32 := 0#32
  let v37 : BitVec 1 := Scalar.cmpi .ne v36 c0_i32_18
  let v38 : BitVec 1 := Scalar.andi v35 v37
  let v24 : BitVec 32 := Scalar.divsi v23 c4_i32_13
  let c1_i32_19 : BitVec 32 := 1#32
  let v39 : BitVec 32 := Scalar.subi v24 c1_i32_19
  let v40 : BitVec 32 := Scalar.select v38 v39 v24
  let v41 : BitVec 32 := Scalar.subi v40 c0_i32_20
  let c1_i32_22 : BitVec 32 := 1#32
  let v43 : BitVec 32 := Scalar.divsi v41 c1_i32_22
  let v44 : BitVec 32 := Scalar.muli v43 c1_i32_22
  let v45 : BitVec 32 := Scalar.addi c0_i32_20 v44
  let v42 : BitVec 32 := Scalar.addi c0_i32_20 v41
  let c1_i32_24 : BitVec 32 := 1#32
  ⟨v45, v42, c1_i32_24⟩

def k0_chk6 (v13 : BitVec 32) : Prop :=
  ((k0_t3_loop v13).OK) ∧
  ((k0_t12_loop v13).OK)
theorem k0_t3_ok : ∀ (v13 : BitVec 32) (k0_hw6 : k0_chk6 v13), (k0_t3_loop v13).OK := fun v13 k0_hw6 => k0_hw6.1
theorem k0_t12_ok : ∀ (v13 : BitVec 32) (k0_hw6 : k0_chk6 v13), (k0_t12_loop v13).OK := fun v13 k0_hw6 => k0_hw6.2

def k0_chk75 (v66 : IVec S16 32) : Prop :=
  (∀ a x, ((![v66] : Fin 1 → IVec S16 32) a x).toNat < S248.size a)
theorem k0_idx99_inb : ∀ (v66 : IVec S16 32) (k0_hw75 : k0_chk75 v66), ∀ a x, ((![v66] : Fin 1 → IVec S16 32) a x).toNat < S248.size a := fun v66 k0_hw75 => k0_hw75
def k0_mult6 (v73 : BitVec 32) : BitVec 32 :=
  let c128_i32 : BitVec 32 := 128#32
  let v74 : BitVec 32 := Scalar.muli v73 c128_i32
  v74

def k0_off10 (v73 : BitVec 32) : Fin 2 → Nat :=
  let c0_i32_35 : BitVec 32 := 0#32
  let c128_i32 : BitVec 32 := 128#32
  let v74 : BitVec 32 := Scalar.muli v73 c128_i32
  let v75 : BitVec 32 := v74
  ![0, v75.toNat]

def k0_chk77 (v83 : IVec S16 32) : Prop :=
  (∀ a x, ((![v83] : Fin 1 → IVec S16 32) a x).toNat < S248.size a)
theorem k0_idx100_inb : ∀ (v83 : IVec S16 32) (k0_hw77 : k0_chk77 v83), ∀ a x, ((![v83] : Fin 1 → IVec S16 32) a x).toNat < S248.size a := fun v83 k0_hw77 => k0_hw77
def k0_mult7 (v90 : BitVec 32) : BitVec 32 :=
  let c128_i32_42 : BitVec 32 := 128#32
  let v91 : BitVec 32 := Scalar.muli v90 c128_i32_42
  v91

def k0_off11 (v90 : BitVec 32) : Fin 2 → Nat :=
  let c0_i32_43 : BitVec 32 := 0#32
  let c128_i32_42 : BitVec 32 := 128#32
  let v91 : BitVec 32 := Scalar.muli v90 c128_i32_42
  let v92 : BitVec 32 := v91
  ![0, v92.toNat]

def k0_chk79 (v100 : IVec S16 32) : Prop :=
  (∀ a x, ((![v100] : Fin 1 → IVec S16 32) a x).toNat < S248.size a)
theorem k0_idx101_inb : ∀ (v100 : IVec S16 32) (k0_hw79 : k0_chk79 v100), ∀ a x, ((![v100] : Fin 1 → IVec S16 32) a x).toNat < S248.size a := fun v100 k0_hw79 => k0_hw79
def k0_mult8 (v107 : BitVec 32) : BitVec 32 :=
  let c128_i32_50 : BitVec 32 := 128#32
  let v108 : BitVec 32 := Scalar.muli v107 c128_i32_50
  v108

def k0_off12 (v107 : BitVec 32) : Fin 2 → Nat :=
  let c0_i32_51 : BitVec 32 := 0#32
  let c128_i32_50 : BitVec 32 := 128#32
  let v108 : BitVec 32 := Scalar.muli v107 c128_i32_50
  let v109 : BitVec 32 := v108
  ![0, v109.toNat]

def k0_chk81 (v117 : IVec S16 32) : Prop :=
  (∀ a x, ((![v117] : Fin 1 → IVec S16 32) a x).toNat < S248.size a)
theorem k0_idx102_inb : ∀ (v117 : IVec S16 32) (k0_hw81 : k0_chk81 v117), ∀ a x, ((![v117] : Fin 1 → IVec S16 32) a x).toNat < S248.size a := fun v117 k0_hw81 => k0_hw81
def k0_mult9 (v124 : BitVec 32) : BitVec 32 :=
  let c128_i32_57 : BitVec 32 := 128#32
  let v125 : BitVec 32 := Scalar.muli v124 c128_i32_57
  v125

def k0_off13 (v124 : BitVec 32) : Fin 2 → Nat :=
  let c0_i32_58 : BitVec 32 := 0#32
  let c128_i32_57 : BitVec 32 := 128#32
  let v125 : BitVec 32 := Scalar.muli v124 c128_i32_57
  let v126 : BitVec 32 := v125
  ![0, v126.toNat]
def k0_off14 (v73 : BitVec 32) : Fin 2 → Nat :=
  let c0_i32_62 : BitVec 32 := 0#32
  let c128_i32 : BitVec 32 := 128#32
  let v74 : BitVec 32 := Scalar.muli v73 c128_i32
  let v75 : BitVec 32 := v74
  ![0, v75.toNat]

def k0_chk76 (v73 : BitVec 32) : Prop :=
  (128 ∣ (k0_mult6 v73).toNat) ∧
  (∀ a, (k0_off10 v73) a + S64x128.size a ≤ S64x1000064.size a) ∧
  (∀ a, (k0_off14 v73) a + S64x128.size a ≤ S64x1000064.size a)
theorem k0_mult6_dvd : ∀ (v73 : BitVec 32) (k0_hw76 : k0_chk76 v73), 128 ∣ (k0_mult6 v73).toNat := fun v73 k0_hw76 => k0_hw76.1
theorem k0_off10_inb : ∀ (v73 : BitVec 32) (k0_hw76 : k0_chk76 v73), ∀ a, (k0_off10 v73) a + S64x128.size a ≤ S64x1000064.size a := fun v73 k0_hw76 => k0_hw76.2.1
theorem k0_off14_inb : ∀ (v73 : BitVec 32) (k0_hw76 : k0_chk76 v73), ∀ a, (k0_off14 v73) a + S64x128.size a ≤ S64x1000064.size a := fun v73 k0_hw76 => k0_hw76.2.2

def k0_chk83 (v136 : IVec S16 32) : Prop :=
  (∀ a x, ((![v136] : Fin 1 → IVec S16 32) a x).toNat < S248.size a)
theorem k0_idx103_inb : ∀ (v136 : IVec S16 32) (k0_hw83 : k0_chk83 v136), ∀ a x, ((![v136] : Fin 1 → IVec S16 32) a x).toNat < S248.size a := fun v136 k0_hw83 => k0_hw83

def k0_chk84 (v146 : IVec S16 32) : Prop :=
  (∀ a x, ((![v146] : Fin 1 → IVec S16 32) a x).toNat < S248.size a)
theorem k0_idx104_inb : ∀ (v146 : IVec S16 32) (k0_hw84 : k0_chk84 v146), ∀ a x, ((![v146] : Fin 1 → IVec S16 32) a x).toNat < S248.size a := fun v146 k0_hw84 => k0_hw84
@[reducible] def k0_t13_loop (v13 : BitVec 32) (k0_t12 : Fin (k0_t12_loop v13).trips) (v143 : BitVec 32) (v153 : BitVec 32) : Scf.Loop 32 :=
  let c0_i32_69 : BitVec 32 := 0#32
  let c0_i32_20 : BitVec 32 := 0#32
  let c4_i32 : BitVec 32 := 4#32
  let v22 : BitVec 32 := Scalar.addi v13 c4_i32
  let c1_i32_12 : BitVec 32 := 1#32
  let v23 : BitVec 32 := Scalar.subi v22 c1_i32_12
  let c0_i32_14 : BitVec 32 := 0#32
  let v25 : BitVec 1 := Scalar.cmpi .sgt v23 c0_i32_14
  let v26 : BitVec 32 := Scalar.extui v25
  let c0_i32_15 : BitVec 32 := 0#32
  let v27 : BitVec 1 := Scalar.cmpi .slt v23 c0_i32_15
  let v28 : BitVec 32 := Scalar.extui v27
  let v29 : BitVec 32 := Scalar.subi v26 v28
  let c4_i32_13 : BitVec 32 := 4#32
  let c0_i32_16 : BitVec 32 := 0#32
  let v30 : BitVec 1 := Scalar.cmpi .sgt c4_i32_13 c0_i32_16
  let v31 : BitVec 32 := Scalar.extui v30
  let c0_i32_17 : BitVec 32 := 0#32
  let v32 : BitVec 1 := Scalar.cmpi .slt c4_i32_13 c0_i32_17
  let v33 : BitVec 32 := Scalar.extui v32
  let v34 : BitVec 32 := Scalar.subi v31 v33
  let v35 : BitVec 1 := Scalar.cmpi .ne v29 v34
  let v36 : BitVec 32 := Scalar.remsi v23 c4_i32_13
  let c0_i32_18 : BitVec 32 := 0#32
  let v37 : BitVec 1 := Scalar.cmpi .ne v36 c0_i32_18
  let v38 : BitVec 1 := Scalar.andi v35 v37
  let v24 : BitVec 32 := Scalar.divsi v23 c4_i32_13
  let c1_i32_19 : BitVec 32 := 1#32
  let v39 : BitVec 32 := Scalar.subi v24 c1_i32_19
  let v40 : BitVec 32 := Scalar.select v38 v39 v24
  let v41 : BitVec 32 := Scalar.subi v40 c0_i32_20
  let c1_i32_22 : BitVec 32 := 1#32
  let v43 : BitVec 32 := Scalar.divsi v41 c1_i32_22
  let v44 : BitVec 32 := Scalar.muli v43 c1_i32_22
  let v45 : BitVec 32 := Scalar.addi c0_i32_20 v44
  let c1_i32_24 : BitVec 32 := 1#32
  let arg21 : BitVec 32 := Scf.iv v45 c1_i32_24 k0_t12
  let c4_i32_60 : BitVec 32 := 4#32
  let v129 : BitVec 32 := Scalar.muli arg21 c4_i32_60
  let c0_i32_61 : BitVec 32 := 0#32
  let v130 : BitVec 32 := Scalar.addi v129 c0_i32_61
  let v131 : BitVec 1 := Scalar.cmpi .slt v130 v13
  let v154 : BitVec 32 := Scalar.select v131 v153 v143
  let v155 : BitVec 32 := Scalar.subi v154 v143
  let v156 : BitVec 32 := Scalar.subi v155 c0_i32_69
  let c1_i32_70 : BitVec 32 := 1#32
  let v158 : BitVec 32 := Scalar.divsi v156 c1_i32_70
  let v159 : BitVec 32 := Scalar.muli v158 c1_i32_70
  let v160 : BitVec 32 := Scalar.addi c0_i32_69 v159
  let c1_i32_71 : BitVec 32 := 1#32
  ⟨c0_i32_69, v160, c1_i32_71⟩

def k0_chk86 (v267 : IVec S16 32) : Prop :=
  (∀ a x, ((![v267] : Fin 1 → IVec S16 32) a x).toNat < S1536.size a)
theorem k0_idx105_inb : ∀ (v267 : IVec S16 32) (k0_hw86 : k0_chk86 v267), ∀ a x, ((![v267] : Fin 1 → IVec S16 32) a x).toNat < S1536.size a := fun v267 k0_hw86 => k0_hw86

def k0_chk87 (v270 : IVec S16 32) (v282 : IVec S16 32) (v284 : IVec S16 32) : Prop :=
  (∀ a x, ((![v284, v270] : Fin 2 → IVec S16 32) a x).toNat < S64x128.size a) ∧
  (∀ a x, ((![v282, v284] : Fin 2 → IVec S16 32) a x).toNat < S64x128.size a)
theorem k0_idx106_inb : ∀ (v270 : IVec S16 32) (v282 : IVec S16 32) (v284 : IVec S16 32) (k0_hw87 : k0_chk87 v270 v282 v284), ∀ a x, ((![v284, v270] : Fin 2 → IVec S16 32) a x).toNat < S64x128.size a := fun v270 v282 v284 k0_hw87 => k0_hw87.1
theorem k0_idx107_inb : ∀ (v270 : IVec S16 32) (v282 : IVec S16 32) (v284 : IVec S16 32) (k0_hw87 : k0_chk87 v270 v282 v284), ∀ a x, ((![v282, v284] : Fin 2 → IVec S16 32) a x).toNat < S64x128.size a := fun v270 v282 v284 k0_hw87 => k0_hw87.2

def k0_chk88 (v270 : IVec S16 32) (v282 : IVec S16 32) (v287 : IVec S16 32) : Prop :=
  (∀ a x, ((![v287, v270] : Fin 2 → IVec S16 32) a x).toNat < S64x128.size a) ∧
  (∀ a x, ((![v282, v287] : Fin 2 → IVec S16 32) a x).toNat < S64x128.size a)
theorem k0_idx108_inb : ∀ (v270 : IVec S16 32) (v282 : IVec S16 32) (v287 : IVec S16 32) (k0_hw88 : k0_chk88 v270 v282 v287), ∀ a x, ((![v287, v270] : Fin 2 → IVec S16 32) a x).toNat < S64x128.size a := fun v270 v282 v287 k0_hw88 => k0_hw88.1
theorem k0_idx109_inb : ∀ (v270 : IVec S16 32) (v282 : IVec S16 32) (v287 : IVec S16 32) (k0_hw88 : k0_chk88 v270 v282 v287), ∀ a x, ((![v282, v287] : Fin 2 → IVec S16 32) a x).toNat < S64x128.size a := fun v270 v282 v287 k0_hw88 => k0_hw88.2

def k0_chk89 (v270 : IVec S16 32) (v282 : IVec S16 32) (v290 : IVec S16 32) : Prop :=
  (∀ a x, ((![v290, v270] : Fin 2 → IVec S16 32) a x).toNat < S64x128.size a) ∧
  (∀ a x, ((![v282, v290] : Fin 2 → IVec S16 32) a x).toNat < S64x128.size a)
theorem k0_idx110_inb : ∀ (v270 : IVec S16 32) (v282 : IVec S16 32) (v290 : IVec S16 32) (k0_hw89 : k0_chk89 v270 v282 v290), ∀ a x, ((![v290, v270] : Fin 2 → IVec S16 32) a x).toNat < S64x128.size a := fun v270 v282 v290 k0_hw89 => k0_hw89.1
theorem k0_idx111_inb : ∀ (v270 : IVec S16 32) (v282 : IVec S16 32) (v290 : IVec S16 32) (k0_hw89 : k0_chk89 v270 v282 v290), ∀ a x, ((![v282, v290] : Fin 2 → IVec S16 32) a x).toNat < S64x128.size a := fun v270 v282 v290 k0_hw89 => k0_hw89.2

def k0_chk90 (v270 : IVec S16 32) (v282 : IVec S16 32) (v293 : IVec S16 32) : Prop :=
  (∀ a x, ((![v293, v270] : Fin 2 → IVec S16 32) a x).toNat < S64x128.size a) ∧
  (∀ a x, ((![v282, v293] : Fin 2 → IVec S16 32) a x).toNat < S64x128.size a)
theorem k0_idx112_inb : ∀ (v270 : IVec S16 32) (v282 : IVec S16 32) (v293 : IVec S16 32) (k0_hw90 : k0_chk90 v270 v282 v293), ∀ a x, ((![v293, v270] : Fin 2 → IVec S16 32) a x).toNat < S64x128.size a := fun v270 v282 v293 k0_hw90 => k0_hw90.1
theorem k0_idx113_inb : ∀ (v270 : IVec S16 32) (v282 : IVec S16 32) (v293 : IVec S16 32) (k0_hw90 : k0_chk90 v270 v282 v293), ∀ a x, ((![v282, v293] : Fin 2 → IVec S16 32) a x).toNat < S64x128.size a := fun v270 v282 v293 k0_hw90 => k0_hw90.2

def k0_chk91 (v282 : IVec S16 32) : Prop :=
  (∀ a x, ((![v282] : Fin 1 → IVec S16 32) a x).toNat < S64.size a)
theorem k0_idx114_inb : ∀ (v282 : IVec S16 32) (k0_hw91 : k0_chk91 v282), ∀ a x, ((![v282] : Fin 1 → IVec S16 32) a x).toNat < S64.size a := fun v282 k0_hw91 => k0_hw91
@[reducible] def k0_t14_loop (v13 : BitVec 32) (k0_t12 : Fin (k0_t12_loop v13).trips) (v143 : BitVec 32) (v153 : BitVec 32) : Scf.Loop 32 :=
  let c0_i32_69 : BitVec 32 := 0#32
  let c0_i32_20 : BitVec 32 := 0#32
  let c4_i32 : BitVec 32 := 4#32
  let v22 : BitVec 32 := Scalar.addi v13 c4_i32
  let c1_i32_12 : BitVec 32 := 1#32
  let v23 : BitVec 32 := Scalar.subi v22 c1_i32_12
  let c0_i32_14 : BitVec 32 := 0#32
  let v25 : BitVec 1 := Scalar.cmpi .sgt v23 c0_i32_14
  let v26 : BitVec 32 := Scalar.extui v25
  let c0_i32_15 : BitVec 32 := 0#32
  let v27 : BitVec 1 := Scalar.cmpi .slt v23 c0_i32_15
  let v28 : BitVec 32 := Scalar.extui v27
  let v29 : BitVec 32 := Scalar.subi v26 v28
  let c4_i32_13 : BitVec 32 := 4#32
  let c0_i32_16 : BitVec 32 := 0#32
  let v30 : BitVec 1 := Scalar.cmpi .sgt c4_i32_13 c0_i32_16
  let v31 : BitVec 32 := Scalar.extui v30
  let c0_i32_17 : BitVec 32 := 0#32
  let v32 : BitVec 1 := Scalar.cmpi .slt c4_i32_13 c0_i32_17
  let v33 : BitVec 32 := Scalar.extui v32
  let v34 : BitVec 32 := Scalar.subi v31 v33
  let v35 : BitVec 1 := Scalar.cmpi .ne v29 v34
  let v36 : BitVec 32 := Scalar.remsi v23 c4_i32_13
  let c0_i32_18 : BitVec 32 := 0#32
  let v37 : BitVec 1 := Scalar.cmpi .ne v36 c0_i32_18
  let v38 : BitVec 1 := Scalar.andi v35 v37
  let v24 : BitVec 32 := Scalar.divsi v23 c4_i32_13
  let c1_i32_19 : BitVec 32 := 1#32
  let v39 : BitVec 32 := Scalar.subi v24 c1_i32_19
  let v40 : BitVec 32 := Scalar.select v38 v39 v24
  let v41 : BitVec 32 := Scalar.subi v40 c0_i32_20
  let c1_i32_22 : BitVec 32 := 1#32
  let v43 : BitVec 32 := Scalar.divsi v41 c1_i32_22
  let v44 : BitVec 32 := Scalar.muli v43 c1_i32_22
  let v45 : BitVec 32 := Scalar.addi c0_i32_20 v44
  let c1_i32_24 : BitVec 32 := 1#32
  let arg21 : BitVec 32 := Scf.iv v45 c1_i32_24 k0_t12
  let c4_i32_60 : BitVec 32 := 4#32
  let v129 : BitVec 32 := Scalar.muli arg21 c4_i32_60
  let c0_i32_61 : BitVec 32 := 0#32
  let v130 : BitVec 32 := Scalar.addi v129 c0_i32_61
  let v131 : BitVec 1 := Scalar.cmpi .slt v130 v13
  let v154 : BitVec 32 := Scalar.select v131 v153 v143
  let v155 : BitVec 32 := Scalar.subi v154 v143
  let v156 : BitVec 32 := Scalar.subi v155 c0_i32_69
  let c1_i32_70 : BitVec 32 := 1#32
  let v158 : BitVec 32 := Scalar.divsi v156 c1_i32_70
  let v159 : BitVec 32 := Scalar.muli v158 c1_i32_70
  let v160 : BitVec 32 := Scalar.addi c0_i32_69 v159
  let v157 : BitVec 32 := Scalar.addi c0_i32_69 v156
  let c1_i32_72 : BitVec 32 := 1#32
  ⟨v160, v157, c1_i32_72⟩

def k0_chk85 (v13 : BitVec 32) (k0_t12 : Fin (k0_t12_loop v13).trips) (v143 : BitVec 32) (v153 : BitVec 32) : Prop :=
  ((k0_t13_loop v13 k0_t12 v143 v153).OK) ∧
  ((k0_t14_loop v13 k0_t12 v143 v153).OK)
theorem k0_t13_ok : ∀ (v13 : BitVec 32) (k0_t12 : Fin (k0_t12_loop v13).trips) (v143 : BitVec 32) (v153 : BitVec 32) (k0_hw85 : k0_chk85 v13 k0_t12 v143 v153), (k0_t13_loop v13 k0_t12 v143 v153).OK := fun v13 k0_t12 v143 v153 k0_hw85 => k0_hw85.1
theorem k0_t14_ok : ∀ (v13 : BitVec 32) (k0_t12 : Fin (k0_t12_loop v13).trips) (v143 : BitVec 32) (v153 : BitVec 32) (k0_hw85 : k0_chk85 v13 k0_t12 v143 v153), (k0_t14_loop v13 k0_t12 v143 v153).OK := fun v13 k0_t12 v143 v153 k0_hw85 => k0_hw85.2

def k0_chk92 (v267 : IVec S16 32) : Prop :=
  (∀ a x, ((![v267] : Fin 1 → IVec S16 32) a x).toNat < S1536.size a)
theorem k0_idx115_inb : ∀ (v267 : IVec S16 32) (k0_hw92 : k0_chk92 v267), ∀ a x, ((![v267] : Fin 1 → IVec S16 32) a x).toNat < S1536.size a := fun v267 k0_hw92 => k0_hw92

def k0_chk93 (v270 : IVec S16 32) (v282 : IVec S16 32) (v284 : IVec S16 32) : Prop :=
  (∀ a x, ((![v284, v270] : Fin 2 → IVec S16 32) a x).toNat < S64x128.size a) ∧
  (∀ a x, ((![v282, v284] : Fin 2 → IVec S16 32) a x).toNat < S64x128.size a)
theorem k0_idx116_inb : ∀ (v270 : IVec S16 32) (v282 : IVec S16 32) (v284 : IVec S16 32) (k0_hw93 : k0_chk93 v270 v282 v284), ∀ a x, ((![v284, v270] : Fin 2 → IVec S16 32) a x).toNat < S64x128.size a := fun v270 v282 v284 k0_hw93 => k0_hw93.1
theorem k0_idx117_inb : ∀ (v270 : IVec S16 32) (v282 : IVec S16 32) (v284 : IVec S16 32) (k0_hw93 : k0_chk93 v270 v282 v284), ∀ a x, ((![v282, v284] : Fin 2 → IVec S16 32) a x).toNat < S64x128.size a := fun v270 v282 v284 k0_hw93 => k0_hw93.2

def k0_chk94 (v270 : IVec S16 32) (v282 : IVec S16 32) (v287 : IVec S16 32) : Prop :=
  (∀ a x, ((![v287, v270] : Fin 2 → IVec S16 32) a x).toNat < S64x128.size a) ∧
  (∀ a x, ((![v282, v287] : Fin 2 → IVec S16 32) a x).toNat < S64x128.size a)
theorem k0_idx118_inb : ∀ (v270 : IVec S16 32) (v282 : IVec S16 32) (v287 : IVec S16 32) (k0_hw94 : k0_chk94 v270 v282 v287), ∀ a x, ((![v287, v270] : Fin 2 → IVec S16 32) a x).toNat < S64x128.size a := fun v270 v282 v287 k0_hw94 => k0_hw94.1
theorem k0_idx119_inb : ∀ (v270 : IVec S16 32) (v282 : IVec S16 32) (v287 : IVec S16 32) (k0_hw94 : k0_chk94 v270 v282 v287), ∀ a x, ((![v282, v287] : Fin 2 → IVec S16 32) a x).toNat < S64x128.size a := fun v270 v282 v287 k0_hw94 => k0_hw94.2

def k0_chk95 (v270 : IVec S16 32) (v282 : IVec S16 32) (v290 : IVec S16 32) : Prop :=
  (∀ a x, ((![v290, v270] : Fin 2 → IVec S16 32) a x).toNat < S64x128.size a) ∧
  (∀ a x, ((![v282, v290] : Fin 2 → IVec S16 32) a x).toNat < S64x128.size a)
theorem k0_idx120_inb : ∀ (v270 : IVec S16 32) (v282 : IVec S16 32) (v290 : IVec S16 32) (k0_hw95 : k0_chk95 v270 v282 v290), ∀ a x, ((![v290, v270] : Fin 2 → IVec S16 32) a x).toNat < S64x128.size a := fun v270 v282 v290 k0_hw95 => k0_hw95.1
theorem k0_idx121_inb : ∀ (v270 : IVec S16 32) (v282 : IVec S16 32) (v290 : IVec S16 32) (k0_hw95 : k0_chk95 v270 v282 v290), ∀ a x, ((![v282, v290] : Fin 2 → IVec S16 32) a x).toNat < S64x128.size a := fun v270 v282 v290 k0_hw95 => k0_hw95.2

def k0_chk96 (v270 : IVec S16 32) (v282 : IVec S16 32) (v293 : IVec S16 32) : Prop :=
  (∀ a x, ((![v293, v270] : Fin 2 → IVec S16 32) a x).toNat < S64x128.size a) ∧
  (∀ a x, ((![v282, v293] : Fin 2 → IVec S16 32) a x).toNat < S64x128.size a)
theorem k0_idx122_inb : ∀ (v270 : IVec S16 32) (v282 : IVec S16 32) (v293 : IVec S16 32) (k0_hw96 : k0_chk96 v270 v282 v293), ∀ a x, ((![v293, v270] : Fin 2 → IVec S16 32) a x).toNat < S64x128.size a := fun v270 v282 v293 k0_hw96 => k0_hw96.1
theorem k0_idx123_inb : ∀ (v270 : IVec S16 32) (v282 : IVec S16 32) (v293 : IVec S16 32) (k0_hw96 : k0_chk96 v270 v282 v293), ∀ a x, ((![v282, v293] : Fin 2 → IVec S16 32) a x).toNat < S64x128.size a := fun v270 v282 v293 k0_hw96 => k0_hw96.2

def k0_chk97 (v282 : IVec S16 32) : Prop :=
  (∀ a x, ((![v282] : Fin 1 → IVec S16 32) a x).toNat < S64.size a)
theorem k0_idx124_inb : ∀ (v282 : IVec S16 32) (k0_hw97 : k0_chk97 v282), ∀ a x, ((![v282] : Fin 1 → IVec S16 32) a x).toNat < S64.size a := fun v282 k0_hw97 => k0_hw97
def k0_off15 (v90 : BitVec 32) : Fin 2 → Nat :=
  let c0_i32_75 : BitVec 32 := 0#32
  let c128_i32_42 : BitVec 32 := 128#32
  let v91 : BitVec 32 := Scalar.muli v90 c128_i32_42
  let v92 : BitVec 32 := v91
  ![0, v92.toNat]

def k0_chk78 (v90 : BitVec 32) : Prop :=
  (128 ∣ (k0_mult7 v90).toNat) ∧
  (∀ a, (k0_off11 v90) a + S64x128.size a ≤ S64x1000064.size a) ∧
  (∀ a, (k0_off15 v90) a + S64x128.size a ≤ S64x1000064.size a)
theorem k0_mult7_dvd : ∀ (v90 : BitVec 32) (k0_hw78 : k0_chk78 v90), 128 ∣ (k0_mult7 v90).toNat := fun v90 k0_hw78 => k0_hw78.1
theorem k0_off11_inb : ∀ (v90 : BitVec 32) (k0_hw78 : k0_chk78 v90), ∀ a, (k0_off11 v90) a + S64x128.size a ≤ S64x1000064.size a := fun v90 k0_hw78 => k0_hw78.2.1
theorem k0_off15_inb : ∀ (v90 : BitVec 32) (k0_hw78 : k0_chk78 v90), ∀ a, (k0_off15 v90) a + S64x128.size a ≤ S64x1000064.size a := fun v90 k0_hw78 => k0_hw78.2.2

def k0_chk98 (v170 : IVec S16 32) : Prop :=
  (∀ a x, ((![v170] : Fin 1 → IVec S16 32) a x).toNat < S248.size a)
theorem k0_idx125_inb : ∀ (v170 : IVec S16 32) (k0_hw98 : k0_chk98 v170), ∀ a x, ((![v170] : Fin 1 → IVec S16 32) a x).toNat < S248.size a := fun v170 k0_hw98 => k0_hw98

def k0_chk99 (v180 : IVec S16 32) : Prop :=
  (∀ a x, ((![v180] : Fin 1 → IVec S16 32) a x).toNat < S248.size a)
theorem k0_idx126_inb : ∀ (v180 : IVec S16 32) (k0_hw99 : k0_chk99 v180), ∀ a x, ((![v180] : Fin 1 → IVec S16 32) a x).toNat < S248.size a := fun v180 k0_hw99 => k0_hw99
@[reducible] def k0_t15_loop (v13 : BitVec 32) (k0_t12 : Fin (k0_t12_loop v13).trips) (v177 : BitVec 32) (v187 : BitVec 32) : Scf.Loop 32 :=
  let c0_i32_82 : BitVec 32 := 0#32
  let c0_i32_20 : BitVec 32 := 0#32
  let c4_i32 : BitVec 32 := 4#32
  let v22 : BitVec 32 := Scalar.addi v13 c4_i32
  let c1_i32_12 : BitVec 32 := 1#32
  let v23 : BitVec 32 := Scalar.subi v22 c1_i32_12
  let c0_i32_14 : BitVec 32 := 0#32
  let v25 : BitVec 1 := Scalar.cmpi .sgt v23 c0_i32_14
  let v26 : BitVec 32 := Scalar.extui v25
  let c0_i32_15 : BitVec 32 := 0#32
  let v27 : BitVec 1 := Scalar.cmpi .slt v23 c0_i32_15
  let v28 : BitVec 32 := Scalar.extui v27
  let v29 : BitVec 32 := Scalar.subi v26 v28
  let c4_i32_13 : BitVec 32 := 4#32
  let c0_i32_16 : BitVec 32 := 0#32
  let v30 : BitVec 1 := Scalar.cmpi .sgt c4_i32_13 c0_i32_16
  let v31 : BitVec 32 := Scalar.extui v30
  let c0_i32_17 : BitVec 32 := 0#32
  let v32 : BitVec 1 := Scalar.cmpi .slt c4_i32_13 c0_i32_17
  let v33 : BitVec 32 := Scalar.extui v32
  let v34 : BitVec 32 := Scalar.subi v31 v33
  let v35 : BitVec 1 := Scalar.cmpi .ne v29 v34
  let v36 : BitVec 32 := Scalar.remsi v23 c4_i32_13
  let c0_i32_18 : BitVec 32 := 0#32
  let v37 : BitVec 1 := Scalar.cmpi .ne v36 c0_i32_18
  let v38 : BitVec 1 := Scalar.andi v35 v37
  let v24 : BitVec 32 := Scalar.divsi v23 c4_i32_13
  let c1_i32_19 : BitVec 32 := 1#32
  let v39 : BitVec 32 := Scalar.subi v24 c1_i32_19
  let v40 : BitVec 32 := Scalar.select v38 v39 v24
  let v41 : BitVec 32 := Scalar.subi v40 c0_i32_20
  let c1_i32_22 : BitVec 32 := 1#32
  let v43 : BitVec 32 := Scalar.divsi v41 c1_i32_22
  let v44 : BitVec 32 := Scalar.muli v43 c1_i32_22
  let v45 : BitVec 32 := Scalar.addi c0_i32_20 v44
  let c1_i32_24 : BitVec 32 := 1#32
  let arg21 : BitVec 32 := Scf.iv v45 c1_i32_24 k0_t12
  let c4_i32_73 : BitVec 32 := 4#32
  let v163 : BitVec 32 := Scalar.muli arg21 c4_i32_73
  let c1_i32_74 : BitVec 32 := 1#32
  let v164 : BitVec 32 := Scalar.addi v163 c1_i32_74
  let v165 : BitVec 1 := Scalar.cmpi .slt v164 v13
  let v188 : BitVec 32 := Scalar.select v165 v187 v177
  let v189 : BitVec 32 := Scalar.subi v188 v177
  let v190 : BitVec 32 := Scalar.subi v189 c0_i32_82
  let c1_i32_83 : BitVec 32 := 1#32
  let v192 : BitVec 32 := Scalar.divsi v190 c1_i32_83
  let v193 : BitVec 32 := Scalar.muli v192 c1_i32_83
  let v194 : BitVec 32 := Scalar.addi c0_i32_82 v193
  let c1_i32_84 : BitVec 32 := 1#32
  ⟨c0_i32_82, v194, c1_i32_84⟩

def k0_chk101 (v267 : IVec S16 32) : Prop :=
  (∀ a x, ((![v267] : Fin 1 → IVec S16 32) a x).toNat < S1536.size a)
theorem k0_idx127_inb : ∀ (v267 : IVec S16 32) (k0_hw101 : k0_chk101 v267), ∀ a x, ((![v267] : Fin 1 → IVec S16 32) a x).toNat < S1536.size a := fun v267 k0_hw101 => k0_hw101

def k0_chk102 (v270 : IVec S16 32) (v282 : IVec S16 32) (v284 : IVec S16 32) : Prop :=
  (∀ a x, ((![v284, v270] : Fin 2 → IVec S16 32) a x).toNat < S64x128.size a) ∧
  (∀ a x, ((![v282, v284] : Fin 2 → IVec S16 32) a x).toNat < S64x128.size a)
theorem k0_idx128_inb : ∀ (v270 : IVec S16 32) (v282 : IVec S16 32) (v284 : IVec S16 32) (k0_hw102 : k0_chk102 v270 v282 v284), ∀ a x, ((![v284, v270] : Fin 2 → IVec S16 32) a x).toNat < S64x128.size a := fun v270 v282 v284 k0_hw102 => k0_hw102.1
theorem k0_idx129_inb : ∀ (v270 : IVec S16 32) (v282 : IVec S16 32) (v284 : IVec S16 32) (k0_hw102 : k0_chk102 v270 v282 v284), ∀ a x, ((![v282, v284] : Fin 2 → IVec S16 32) a x).toNat < S64x128.size a := fun v270 v282 v284 k0_hw102 => k0_hw102.2

def k0_chk103 (v270 : IVec S16 32) (v282 : IVec S16 32) (v287 : IVec S16 32) : Prop :=
  (∀ a x, ((![v287, v270] : Fin 2 → IVec S16 32) a x).toNat < S64x128.size a) ∧
  (∀ a x, ((![v282, v287] : Fin 2 → IVec S16 32) a x).toNat < S64x128.size a)
theorem k0_idx130_inb : ∀ (v270 : IVec S16 32) (v282 : IVec S16 32) (v287 : IVec S16 32) (k0_hw103 : k0_chk103 v270 v282 v287), ∀ a x, ((![v287, v270] : Fin 2 → IVec S16 32) a x).toNat < S64x128.size a := fun v270 v282 v287 k0_hw103 => k0_hw103.1
theorem k0_idx131_inb : ∀ (v270 : IVec S16 32) (v282 : IVec S16 32) (v287 : IVec S16 32) (k0_hw103 : k0_chk103 v270 v282 v287), ∀ a x, ((![v282, v287] : Fin 2 → IVec S16 32) a x).toNat < S64x128.size a := fun v270 v282 v287 k0_hw103 => k0_hw103.2

def k0_chk104 (v270 : IVec S16 32) (v282 : IVec S16 32) (v290 : IVec S16 32) : Prop :=
  (∀ a x, ((![v290, v270] : Fin 2 → IVec S16 32) a x).toNat < S64x128.size a) ∧
  (∀ a x, ((![v282, v290] : Fin 2 → IVec S16 32) a x).toNat < S64x128.size a)
theorem k0_idx132_inb : ∀ (v270 : IVec S16 32) (v282 : IVec S16 32) (v290 : IVec S16 32) (k0_hw104 : k0_chk104 v270 v282 v290), ∀ a x, ((![v290, v270] : Fin 2 → IVec S16 32) a x).toNat < S64x128.size a := fun v270 v282 v290 k0_hw104 => k0_hw104.1
theorem k0_idx133_inb : ∀ (v270 : IVec S16 32) (v282 : IVec S16 32) (v290 : IVec S16 32) (k0_hw104 : k0_chk104 v270 v282 v290), ∀ a x, ((![v282, v290] : Fin 2 → IVec S16 32) a x).toNat < S64x128.size a := fun v270 v282 v290 k0_hw104 => k0_hw104.2

def k0_chk105 (v270 : IVec S16 32) (v282 : IVec S16 32) (v293 : IVec S16 32) : Prop :=
  (∀ a x, ((![v293, v270] : Fin 2 → IVec S16 32) a x).toNat < S64x128.size a) ∧
  (∀ a x, ((![v282, v293] : Fin 2 → IVec S16 32) a x).toNat < S64x128.size a)
theorem k0_idx134_inb : ∀ (v270 : IVec S16 32) (v282 : IVec S16 32) (v293 : IVec S16 32) (k0_hw105 : k0_chk105 v270 v282 v293), ∀ a x, ((![v293, v270] : Fin 2 → IVec S16 32) a x).toNat < S64x128.size a := fun v270 v282 v293 k0_hw105 => k0_hw105.1
theorem k0_idx135_inb : ∀ (v270 : IVec S16 32) (v282 : IVec S16 32) (v293 : IVec S16 32) (k0_hw105 : k0_chk105 v270 v282 v293), ∀ a x, ((![v282, v293] : Fin 2 → IVec S16 32) a x).toNat < S64x128.size a := fun v270 v282 v293 k0_hw105 => k0_hw105.2

def k0_chk106 (v282 : IVec S16 32) : Prop :=
  (∀ a x, ((![v282] : Fin 1 → IVec S16 32) a x).toNat < S64.size a)
theorem k0_idx136_inb : ∀ (v282 : IVec S16 32) (k0_hw106 : k0_chk106 v282), ∀ a x, ((![v282] : Fin 1 → IVec S16 32) a x).toNat < S64.size a := fun v282 k0_hw106 => k0_hw106
@[reducible] def k0_t16_loop (v13 : BitVec 32) (k0_t12 : Fin (k0_t12_loop v13).trips) (v177 : BitVec 32) (v187 : BitVec 32) : Scf.Loop 32 :=
  let c0_i32_82 : BitVec 32 := 0#32
  let c0_i32_20 : BitVec 32 := 0#32
  let c4_i32 : BitVec 32 := 4#32
  let v22 : BitVec 32 := Scalar.addi v13 c4_i32
  let c1_i32_12 : BitVec 32 := 1#32
  let v23 : BitVec 32 := Scalar.subi v22 c1_i32_12
  let c0_i32_14 : BitVec 32 := 0#32
  let v25 : BitVec 1 := Scalar.cmpi .sgt v23 c0_i32_14
  let v26 : BitVec 32 := Scalar.extui v25
  let c0_i32_15 : BitVec 32 := 0#32
  let v27 : BitVec 1 := Scalar.cmpi .slt v23 c0_i32_15
  let v28 : BitVec 32 := Scalar.extui v27
  let v29 : BitVec 32 := Scalar.subi v26 v28
  let c4_i32_13 : BitVec 32 := 4#32
  let c0_i32_16 : BitVec 32 := 0#32
  let v30 : BitVec 1 := Scalar.cmpi .sgt c4_i32_13 c0_i32_16
  let v31 : BitVec 32 := Scalar.extui v30
  let c0_i32_17 : BitVec 32 := 0#32
  let v32 : BitVec 1 := Scalar.cmpi .slt c4_i32_13 c0_i32_17
  let v33 : BitVec 32 := Scalar.extui v32
  let v34 : BitVec 32 := Scalar.subi v31 v33
  let v35 : BitVec 1 := Scalar.cmpi .ne v29 v34
  let v36 : BitVec 32 := Scalar.remsi v23 c4_i32_13
  let c0_i32_18 : BitVec 32 := 0#32
  let v37 : BitVec 1 := Scalar.cmpi .ne v36 c0_i32_18
  let v38 : BitVec 1 := Scalar.andi v35 v37
  let v24 : BitVec 32 := Scalar.divsi v23 c4_i32_13
  let c1_i32_19 : BitVec 32 := 1#32
  let v39 : BitVec 32 := Scalar.subi v24 c1_i32_19
  let v40 : BitVec 32 := Scalar.select v38 v39 v24
  let v41 : BitVec 32 := Scalar.subi v40 c0_i32_20
  let c1_i32_22 : BitVec 32 := 1#32
  let v43 : BitVec 32 := Scalar.divsi v41 c1_i32_22
  let v44 : BitVec 32 := Scalar.muli v43 c1_i32_22
  let v45 : BitVec 32 := Scalar.addi c0_i32_20 v44
  let c1_i32_24 : BitVec 32 := 1#32
  let arg21 : BitVec 32 := Scf.iv v45 c1_i32_24 k0_t12
  let c4_i32_73 : BitVec 32 := 4#32
  let v163 : BitVec 32 := Scalar.muli arg21 c4_i32_73
  let c1_i32_74 : BitVec 32 := 1#32
  let v164 : BitVec 32 := Scalar.addi v163 c1_i32_74
  let v165 : BitVec 1 := Scalar.cmpi .slt v164 v13
  let v188 : BitVec 32 := Scalar.select v165 v187 v177
  let v189 : BitVec 32 := Scalar.subi v188 v177
  let v190 : BitVec 32 := Scalar.subi v189 c0_i32_82
  let c1_i32_83 : BitVec 32 := 1#32
  let v192 : BitVec 32 := Scalar.divsi v190 c1_i32_83
  let v193 : BitVec 32 := Scalar.muli v192 c1_i32_83
  let v194 : BitVec 32 := Scalar.addi c0_i32_82 v193
  let v191 : BitVec 32 := Scalar.addi c0_i32_82 v190
  let c1_i32_85 : BitVec 32 := 1#32
  ⟨v194, v191, c1_i32_85⟩

def k0_chk100 (v13 : BitVec 32) (k0_t12 : Fin (k0_t12_loop v13).trips) (v177 : BitVec 32) (v187 : BitVec 32) : Prop :=
  ((k0_t15_loop v13 k0_t12 v177 v187).OK) ∧
  ((k0_t16_loop v13 k0_t12 v177 v187).OK)
theorem k0_t15_ok : ∀ (v13 : BitVec 32) (k0_t12 : Fin (k0_t12_loop v13).trips) (v177 : BitVec 32) (v187 : BitVec 32) (k0_hw100 : k0_chk100 v13 k0_t12 v177 v187), (k0_t15_loop v13 k0_t12 v177 v187).OK := fun v13 k0_t12 v177 v187 k0_hw100 => k0_hw100.1
theorem k0_t16_ok : ∀ (v13 : BitVec 32) (k0_t12 : Fin (k0_t12_loop v13).trips) (v177 : BitVec 32) (v187 : BitVec 32) (k0_hw100 : k0_chk100 v13 k0_t12 v177 v187), (k0_t16_loop v13 k0_t12 v177 v187).OK := fun v13 k0_t12 v177 v187 k0_hw100 => k0_hw100.2

def k0_chk107 (v267 : IVec S16 32) : Prop :=
  (∀ a x, ((![v267] : Fin 1 → IVec S16 32) a x).toNat < S1536.size a)
theorem k0_idx137_inb : ∀ (v267 : IVec S16 32) (k0_hw107 : k0_chk107 v267), ∀ a x, ((![v267] : Fin 1 → IVec S16 32) a x).toNat < S1536.size a := fun v267 k0_hw107 => k0_hw107

def k0_chk108 (v270 : IVec S16 32) (v282 : IVec S16 32) (v284 : IVec S16 32) : Prop :=
  (∀ a x, ((![v284, v270] : Fin 2 → IVec S16 32) a x).toNat < S64x128.size a) ∧
  (∀ a x, ((![v282, v284] : Fin 2 → IVec S16 32) a x).toNat < S64x128.size a)
theorem k0_idx138_inb : ∀ (v270 : IVec S16 32) (v282 : IVec S16 32) (v284 : IVec S16 32) (k0_hw108 : k0_chk108 v270 v282 v284), ∀ a x, ((![v284, v270] : Fin 2 → IVec S16 32) a x).toNat < S64x128.size a := fun v270 v282 v284 k0_hw108 => k0_hw108.1
theorem k0_idx139_inb : ∀ (v270 : IVec S16 32) (v282 : IVec S16 32) (v284 : IVec S16 32) (k0_hw108 : k0_chk108 v270 v282 v284), ∀ a x, ((![v282, v284] : Fin 2 → IVec S16 32) a x).toNat < S64x128.size a := fun v270 v282 v284 k0_hw108 => k0_hw108.2

def k0_chk109 (v270 : IVec S16 32) (v282 : IVec S16 32) (v287 : IVec S16 32) : Prop :=
  (∀ a x, ((![v287, v270] : Fin 2 → IVec S16 32) a x).toNat < S64x128.size a) ∧
  (∀ a x, ((![v282, v287] : Fin 2 → IVec S16 32) a x).toNat < S64x128.size a)
theorem k0_idx140_inb : ∀ (v270 : IVec S16 32) (v282 : IVec S16 32) (v287 : IVec S16 32) (k0_hw109 : k0_chk109 v270 v282 v287), ∀ a x, ((![v287, v270] : Fin 2 → IVec S16 32) a x).toNat < S64x128.size a := fun v270 v282 v287 k0_hw109 => k0_hw109.1
theorem k0_idx141_inb : ∀ (v270 : IVec S16 32) (v282 : IVec S16 32) (v287 : IVec S16 32) (k0_hw109 : k0_chk109 v270 v282 v287), ∀ a x, ((![v282, v287] : Fin 2 → IVec S16 32) a x).toNat < S64x128.size a := fun v270 v282 v287 k0_hw109 => k0_hw109.2

def k0_chk110 (v270 : IVec S16 32) (v282 : IVec S16 32) (v290 : IVec S16 32) : Prop :=
  (∀ a x, ((![v290, v270] : Fin 2 → IVec S16 32) a x).toNat < S64x128.size a) ∧
  (∀ a x, ((![v282, v290] : Fin 2 → IVec S16 32) a x).toNat < S64x128.size a)
theorem k0_idx142_inb : ∀ (v270 : IVec S16 32) (v282 : IVec S16 32) (v290 : IVec S16 32) (k0_hw110 : k0_chk110 v270 v282 v290), ∀ a x, ((![v290, v270] : Fin 2 → IVec S16 32) a x).toNat < S64x128.size a := fun v270 v282 v290 k0_hw110 => k0_hw110.1
theorem k0_idx143_inb : ∀ (v270 : IVec S16 32) (v282 : IVec S16 32) (v290 : IVec S16 32) (k0_hw110 : k0_chk110 v270 v282 v290), ∀ a x, ((![v282, v290] : Fin 2 → IVec S16 32) a x).toNat < S64x128.size a := fun v270 v282 v290 k0_hw110 => k0_hw110.2

def k0_chk111 (v270 : IVec S16 32) (v282 : IVec S16 32) (v293 : IVec S16 32) : Prop :=
  (∀ a x, ((![v293, v270] : Fin 2 → IVec S16 32) a x).toNat < S64x128.size a) ∧
  (∀ a x, ((![v282, v293] : Fin 2 → IVec S16 32) a x).toNat < S64x128.size a)
theorem k0_idx144_inb : ∀ (v270 : IVec S16 32) (v282 : IVec S16 32) (v293 : IVec S16 32) (k0_hw111 : k0_chk111 v270 v282 v293), ∀ a x, ((![v293, v270] : Fin 2 → IVec S16 32) a x).toNat < S64x128.size a := fun v270 v282 v293 k0_hw111 => k0_hw111.1
theorem k0_idx145_inb : ∀ (v270 : IVec S16 32) (v282 : IVec S16 32) (v293 : IVec S16 32) (k0_hw111 : k0_chk111 v270 v282 v293), ∀ a x, ((![v282, v293] : Fin 2 → IVec S16 32) a x).toNat < S64x128.size a := fun v270 v282 v293 k0_hw111 => k0_hw111.2

def k0_chk112 (v282 : IVec S16 32) : Prop :=
  (∀ a x, ((![v282] : Fin 1 → IVec S16 32) a x).toNat < S64.size a)
theorem k0_idx146_inb : ∀ (v282 : IVec S16 32) (k0_hw112 : k0_chk112 v282), ∀ a x, ((![v282] : Fin 1 → IVec S16 32) a x).toNat < S64.size a := fun v282 k0_hw112 => k0_hw112
def k0_off16 (v107 : BitVec 32) : Fin 2 → Nat :=
  let c0_i32_88 : BitVec 32 := 0#32
  let c128_i32_50 : BitVec 32 := 128#32
  let v108 : BitVec 32 := Scalar.muli v107 c128_i32_50
  let v109 : BitVec 32 := v108
  ![0, v109.toNat]

def k0_chk80 (v107 : BitVec 32) : Prop :=
  (128 ∣ (k0_mult8 v107).toNat) ∧
  (∀ a, (k0_off12 v107) a + S64x128.size a ≤ S64x1000064.size a) ∧
  (∀ a, (k0_off16 v107) a + S64x128.size a ≤ S64x1000064.size a)
theorem k0_mult8_dvd : ∀ (v107 : BitVec 32) (k0_hw80 : k0_chk80 v107), 128 ∣ (k0_mult8 v107).toNat := fun v107 k0_hw80 => k0_hw80.1
theorem k0_off12_inb : ∀ (v107 : BitVec 32) (k0_hw80 : k0_chk80 v107), ∀ a, (k0_off12 v107) a + S64x128.size a ≤ S64x1000064.size a := fun v107 k0_hw80 => k0_hw80.2.1
theorem k0_off16_inb : ∀ (v107 : BitVec 32) (k0_hw80 : k0_chk80 v107), ∀ a, (k0_off16 v107) a + S64x128.size a ≤ S64x1000064.size a := fun v107 k0_hw80 => k0_hw80.2.2

def k0_chk113 (v204 : IVec S16 32) : Prop :=
  (∀ a x, ((![v204] : Fin 1 → IVec S16 32) a x).toNat < S248.size a)
theorem k0_idx147_inb : ∀ (v204 : IVec S16 32) (k0_hw113 : k0_chk113 v204), ∀ a x, ((![v204] : Fin 1 → IVec S16 32) a x).toNat < S248.size a := fun v204 k0_hw113 => k0_hw113

def k0_chk114 (v214 : IVec S16 32) : Prop :=
  (∀ a x, ((![v214] : Fin 1 → IVec S16 32) a x).toNat < S248.size a)
theorem k0_idx148_inb : ∀ (v214 : IVec S16 32) (k0_hw114 : k0_chk114 v214), ∀ a x, ((![v214] : Fin 1 → IVec S16 32) a x).toNat < S248.size a := fun v214 k0_hw114 => k0_hw114
@[reducible] def k0_t17_loop (v13 : BitVec 32) (k0_t12 : Fin (k0_t12_loop v13).trips) (v211 : BitVec 32) (v221 : BitVec 32) : Scf.Loop 32 :=
  let c0_i32_95 : BitVec 32 := 0#32
  let c0_i32_20 : BitVec 32 := 0#32
  let c4_i32 : BitVec 32 := 4#32
  let v22 : BitVec 32 := Scalar.addi v13 c4_i32
  let c1_i32_12 : BitVec 32 := 1#32
  let v23 : BitVec 32 := Scalar.subi v22 c1_i32_12
  let c0_i32_14 : BitVec 32 := 0#32
  let v25 : BitVec 1 := Scalar.cmpi .sgt v23 c0_i32_14
  let v26 : BitVec 32 := Scalar.extui v25
  let c0_i32_15 : BitVec 32 := 0#32
  let v27 : BitVec 1 := Scalar.cmpi .slt v23 c0_i32_15
  let v28 : BitVec 32 := Scalar.extui v27
  let v29 : BitVec 32 := Scalar.subi v26 v28
  let c4_i32_13 : BitVec 32 := 4#32
  let c0_i32_16 : BitVec 32 := 0#32
  let v30 : BitVec 1 := Scalar.cmpi .sgt c4_i32_13 c0_i32_16
  let v31 : BitVec 32 := Scalar.extui v30
  let c0_i32_17 : BitVec 32 := 0#32
  let v32 : BitVec 1 := Scalar.cmpi .slt c4_i32_13 c0_i32_17
  let v33 : BitVec 32 := Scalar.extui v32
  let v34 : BitVec 32 := Scalar.subi v31 v33
  let v35 : BitVec 1 := Scalar.cmpi .ne v29 v34
  let v36 : BitVec 32 := Scalar.remsi v23 c4_i32_13
  let c0_i32_18 : BitVec 32 := 0#32
  let v37 : BitVec 1 := Scalar.cmpi .ne v36 c0_i32_18
  let v38 : BitVec 1 := Scalar.andi v35 v37
  let v24 : BitVec 32 := Scalar.divsi v23 c4_i32_13
  let c1_i32_19 : BitVec 32 := 1#32
  let v39 : BitVec 32 := Scalar.subi v24 c1_i32_19
  let v40 : BitVec 32 := Scalar.select v38 v39 v24
  let v41 : BitVec 32 := Scalar.subi v40 c0_i32_20
  let c1_i32_22 : BitVec 32 := 1#32
  let v43 : BitVec 32 := Scalar.divsi v41 c1_i32_22
  let v44 : BitVec 32 := Scalar.muli v43 c1_i32_22
  let v45 : BitVec 32 := Scalar.addi c0_i32_20 v44
  let c1_i32_24 : BitVec 32 := 1#32
  let arg21 : BitVec 32 := Scf.iv v45 c1_i32_24 k0_t12
  let c4_i32_86 : BitVec 32 := 4#32
  let v197 : BitVec 32 := Scalar.muli arg21 c4_i32_86
  let c2_i32_87 : BitVec 32 := 2#32
  let v198 : BitVec 32 := Scalar.addi v197 c2_i32_87
  let v199 : BitVec 1 := Scalar.cmpi .slt v198 v13
  let v222 : BitVec 32 := Scalar.select v199 v221 v211
  let v223 : BitVec 32 := Scalar.subi v222 v211
  let v224 : BitVec 32 := Scalar.subi v223 c0_i32_95
  let c1_i32_96 : BitVec 32 := 1#32
  let v226 : BitVec 32 := Scalar.divsi v224 c1_i32_96
  let v227 : BitVec 32 := Scalar.muli v226 c1_i32_96
  let v228 : BitVec 32 := Scalar.addi c0_i32_95 v227
  let c1_i32_97 : BitVec 32 := 1#32
  ⟨c0_i32_95, v228, c1_i32_97⟩

def k0_chk116 (v267 : IVec S16 32) : Prop :=
  (∀ a x, ((![v267] : Fin 1 → IVec S16 32) a x).toNat < S1536.size a)
theorem k0_idx149_inb : ∀ (v267 : IVec S16 32) (k0_hw116 : k0_chk116 v267), ∀ a x, ((![v267] : Fin 1 → IVec S16 32) a x).toNat < S1536.size a := fun v267 k0_hw116 => k0_hw116

def k0_chk117 (v270 : IVec S16 32) (v282 : IVec S16 32) (v284 : IVec S16 32) : Prop :=
  (∀ a x, ((![v284, v270] : Fin 2 → IVec S16 32) a x).toNat < S64x128.size a) ∧
  (∀ a x, ((![v282, v284] : Fin 2 → IVec S16 32) a x).toNat < S64x128.size a)
theorem k0_idx150_inb : ∀ (v270 : IVec S16 32) (v282 : IVec S16 32) (v284 : IVec S16 32) (k0_hw117 : k0_chk117 v270 v282 v284), ∀ a x, ((![v284, v270] : Fin 2 → IVec S16 32) a x).toNat < S64x128.size a := fun v270 v282 v284 k0_hw117 => k0_hw117.1
theorem k0_idx151_inb : ∀ (v270 : IVec S16 32) (v282 : IVec S16 32) (v284 : IVec S16 32) (k0_hw117 : k0_chk117 v270 v282 v284), ∀ a x, ((![v282, v284] : Fin 2 → IVec S16 32) a x).toNat < S64x128.size a := fun v270 v282 v284 k0_hw117 => k0_hw117.2

def k0_chk118 (v270 : IVec S16 32) (v282 : IVec S16 32) (v287 : IVec S16 32) : Prop :=
  (∀ a x, ((![v287, v270] : Fin 2 → IVec S16 32) a x).toNat < S64x128.size a) ∧
  (∀ a x, ((![v282, v287] : Fin 2 → IVec S16 32) a x).toNat < S64x128.size a)
theorem k0_idx152_inb : ∀ (v270 : IVec S16 32) (v282 : IVec S16 32) (v287 : IVec S16 32) (k0_hw118 : k0_chk118 v270 v282 v287), ∀ a x, ((![v287, v270] : Fin 2 → IVec S16 32) a x).toNat < S64x128.size a := fun v270 v282 v287 k0_hw118 => k0_hw118.1
theorem k0_idx153_inb : ∀ (v270 : IVec S16 32) (v282 : IVec S16 32) (v287 : IVec S16 32) (k0_hw118 : k0_chk118 v270 v282 v287), ∀ a x, ((![v282, v287] : Fin 2 → IVec S16 32) a x).toNat < S64x128.size a := fun v270 v282 v287 k0_hw118 => k0_hw118.2

def k0_chk119 (v270 : IVec S16 32) (v282 : IVec S16 32) (v290 : IVec S16 32) : Prop :=
  (∀ a x, ((![v290, v270] : Fin 2 → IVec S16 32) a x).toNat < S64x128.size a) ∧
  (∀ a x, ((![v282, v290] : Fin 2 → IVec S16 32) a x).toNat < S64x128.size a)
theorem k0_idx154_inb : ∀ (v270 : IVec S16 32) (v282 : IVec S16 32) (v290 : IVec S16 32) (k0_hw119 : k0_chk119 v270 v282 v290), ∀ a x, ((![v290, v270] : Fin 2 → IVec S16 32) a x).toNat < S64x128.size a := fun v270 v282 v290 k0_hw119 => k0_hw119.1
theorem k0_idx155_inb : ∀ (v270 : IVec S16 32) (v282 : IVec S16 32) (v290 : IVec S16 32) (k0_hw119 : k0_chk119 v270 v282 v290), ∀ a x, ((![v282, v290] : Fin 2 → IVec S16 32) a x).toNat < S64x128.size a := fun v270 v282 v290 k0_hw119 => k0_hw119.2

def k0_chk120 (v270 : IVec S16 32) (v282 : IVec S16 32) (v293 : IVec S16 32) : Prop :=
  (∀ a x, ((![v293, v270] : Fin 2 → IVec S16 32) a x).toNat < S64x128.size a) ∧
  (∀ a x, ((![v282, v293] : Fin 2 → IVec S16 32) a x).toNat < S64x128.size a)
theorem k0_idx156_inb : ∀ (v270 : IVec S16 32) (v282 : IVec S16 32) (v293 : IVec S16 32) (k0_hw120 : k0_chk120 v270 v282 v293), ∀ a x, ((![v293, v270] : Fin 2 → IVec S16 32) a x).toNat < S64x128.size a := fun v270 v282 v293 k0_hw120 => k0_hw120.1
theorem k0_idx157_inb : ∀ (v270 : IVec S16 32) (v282 : IVec S16 32) (v293 : IVec S16 32) (k0_hw120 : k0_chk120 v270 v282 v293), ∀ a x, ((![v282, v293] : Fin 2 → IVec S16 32) a x).toNat < S64x128.size a := fun v270 v282 v293 k0_hw120 => k0_hw120.2

def k0_chk121 (v282 : IVec S16 32) : Prop :=
  (∀ a x, ((![v282] : Fin 1 → IVec S16 32) a x).toNat < S64.size a)
theorem k0_idx158_inb : ∀ (v282 : IVec S16 32) (k0_hw121 : k0_chk121 v282), ∀ a x, ((![v282] : Fin 1 → IVec S16 32) a x).toNat < S64.size a := fun v282 k0_hw121 => k0_hw121
@[reducible] def k0_t18_loop (v13 : BitVec 32) (k0_t12 : Fin (k0_t12_loop v13).trips) (v211 : BitVec 32) (v221 : BitVec 32) : Scf.Loop 32 :=
  let c0_i32_95 : BitVec 32 := 0#32
  let c0_i32_20 : BitVec 32 := 0#32
  let c4_i32 : BitVec 32 := 4#32
  let v22 : BitVec 32 := Scalar.addi v13 c4_i32
  let c1_i32_12 : BitVec 32 := 1#32
  let v23 : BitVec 32 := Scalar.subi v22 c1_i32_12
  let c0_i32_14 : BitVec 32 := 0#32
  let v25 : BitVec 1 := Scalar.cmpi .sgt v23 c0_i32_14
  let v26 : BitVec 32 := Scalar.extui v25
  let c0_i32_15 : BitVec 32 := 0#32
  let v27 : BitVec 1 := Scalar.cmpi .slt v23 c0_i32_15
  let v28 : BitVec 32 := Scalar.extui v27
  let v29 : BitVec 32 := Scalar.subi v26 v28
  let c4_i32_13 : BitVec 32 := 4#32
  let c0_i32_16 : BitVec 32 := 0#32
  let v30 : BitVec 1 := Scalar.cmpi .sgt c4_i32_13 c0_i32_16
  let v31 : BitVec 32 := Scalar.extui v30
  let c0_i32_17 : BitVec 32 := 0#32
  let v32 : BitVec 1 := Scalar.cmpi .slt c4_i32_13 c0_i32_17
  let v33 : BitVec 32 := Scalar.extui v32
  let v34 : BitVec 32 := Scalar.subi v31 v33
  let v35 : BitVec 1 := Scalar.cmpi .ne v29 v34
  let v36 : BitVec 32 := Scalar.remsi v23 c4_i32_13
  let c0_i32_18 : BitVec 32 := 0#32
  let v37 : BitVec 1 := Scalar.cmpi .ne v36 c0_i32_18
  let v38 : BitVec 1 := Scalar.andi v35 v37
  let v24 : BitVec 32 := Scalar.divsi v23 c4_i32_13
  let c1_i32_19 : BitVec 32 := 1#32
  let v39 : BitVec 32 := Scalar.subi v24 c1_i32_19
  let v40 : BitVec 32 := Scalar.select v38 v39 v24
  let v41 : BitVec 32 := Scalar.subi v40 c0_i32_20
  let c1_i32_22 : BitVec 32 := 1#32
  let v43 : BitVec 32 := Scalar.divsi v41 c1_i32_22
  let v44 : BitVec 32 := Scalar.muli v43 c1_i32_22
  let v45 : BitVec 32 := Scalar.addi c0_i32_20 v44
  let c1_i32_24 : BitVec 32 := 1#32
  let arg21 : BitVec 32 := Scf.iv v45 c1_i32_24 k0_t12
  let c4_i32_86 : BitVec 32 := 4#32
  let v197 : BitVec 32 := Scalar.muli arg21 c4_i32_86
  let c2_i32_87 : BitVec 32 := 2#32
  let v198 : BitVec 32 := Scalar.addi v197 c2_i32_87
  let v199 : BitVec 1 := Scalar.cmpi .slt v198 v13
  let v222 : BitVec 32 := Scalar.select v199 v221 v211
  let v223 : BitVec 32 := Scalar.subi v222 v211
  let v224 : BitVec 32 := Scalar.subi v223 c0_i32_95
  let c1_i32_96 : BitVec 32 := 1#32
  let v226 : BitVec 32 := Scalar.divsi v224 c1_i32_96
  let v227 : BitVec 32 := Scalar.muli v226 c1_i32_96
  let v228 : BitVec 32 := Scalar.addi c0_i32_95 v227
  let v225 : BitVec 32 := Scalar.addi c0_i32_95 v224
  let c1_i32_98 : BitVec 32 := 1#32
  ⟨v228, v225, c1_i32_98⟩

def k0_chk115 (v13 : BitVec 32) (k0_t12 : Fin (k0_t12_loop v13).trips) (v211 : BitVec 32) (v221 : BitVec 32) : Prop :=
  ((k0_t17_loop v13 k0_t12 v211 v221).OK) ∧
  ((k0_t18_loop v13 k0_t12 v211 v221).OK)
theorem k0_t17_ok : ∀ (v13 : BitVec 32) (k0_t12 : Fin (k0_t12_loop v13).trips) (v211 : BitVec 32) (v221 : BitVec 32) (k0_hw115 : k0_chk115 v13 k0_t12 v211 v221), (k0_t17_loop v13 k0_t12 v211 v221).OK := fun v13 k0_t12 v211 v221 k0_hw115 => k0_hw115.1
theorem k0_t18_ok : ∀ (v13 : BitVec 32) (k0_t12 : Fin (k0_t12_loop v13).trips) (v211 : BitVec 32) (v221 : BitVec 32) (k0_hw115 : k0_chk115 v13 k0_t12 v211 v221), (k0_t18_loop v13 k0_t12 v211 v221).OK := fun v13 k0_t12 v211 v221 k0_hw115 => k0_hw115.2

def k0_chk122 (v267 : IVec S16 32) : Prop :=
  (∀ a x, ((![v267] : Fin 1 → IVec S16 32) a x).toNat < S1536.size a)
theorem k0_idx159_inb : ∀ (v267 : IVec S16 32) (k0_hw122 : k0_chk122 v267), ∀ a x, ((![v267] : Fin 1 → IVec S16 32) a x).toNat < S1536.size a := fun v267 k0_hw122 => k0_hw122

def k0_chk123 (v270 : IVec S16 32) (v282 : IVec S16 32) (v284 : IVec S16 32) : Prop :=
  (∀ a x, ((![v284, v270] : Fin 2 → IVec S16 32) a x).toNat < S64x128.size a) ∧
  (∀ a x, ((![v282, v284] : Fin 2 → IVec S16 32) a x).toNat < S64x128.size a)
theorem k0_idx160_inb : ∀ (v270 : IVec S16 32) (v282 : IVec S16 32) (v284 : IVec S16 32) (k0_hw123 : k0_chk123 v270 v282 v284), ∀ a x, ((![v284, v270] : Fin 2 → IVec S16 32) a x).toNat < S64x128.size a := fun v270 v282 v284 k0_hw123 => k0_hw123.1
theorem k0_idx161_inb : ∀ (v270 : IVec S16 32) (v282 : IVec S16 32) (v284 : IVec S16 32) (k0_hw123 : k0_chk123 v270 v282 v284), ∀ a x, ((![v282, v284] : Fin 2 → IVec S16 32) a x).toNat < S64x128.size a := fun v270 v282 v284 k0_hw123 => k0_hw123.2

def k0_chk124 (v270 : IVec S16 32) (v282 : IVec S16 32) (v287 : IVec S16 32) : Prop :=
  (∀ a x, ((![v287, v270] : Fin 2 → IVec S16 32) a x).toNat < S64x128.size a) ∧
  (∀ a x, ((![v282, v287] : Fin 2 → IVec S16 32) a x).toNat < S64x128.size a)
theorem k0_idx162_inb : ∀ (v270 : IVec S16 32) (v282 : IVec S16 32) (v287 : IVec S16 32) (k0_hw124 : k0_chk124 v270 v282 v287), ∀ a x, ((![v287, v270] : Fin 2 → IVec S16 32) a x).toNat < S64x128.size a := fun v270 v282 v287 k0_hw124 => k0_hw124.1
theorem k0_idx163_inb : ∀ (v270 : IVec S16 32) (v282 : IVec S16 32) (v287 : IVec S16 32) (k0_hw124 : k0_chk124 v270 v282 v287), ∀ a x, ((![v282, v287] : Fin 2 → IVec S16 32) a x).toNat < S64x128.size a := fun v270 v282 v287 k0_hw124 => k0_hw124.2

def k0_chk125 (v270 : IVec S16 32) (v282 : IVec S16 32) (v290 : IVec S16 32) : Prop :=
  (∀ a x, ((![v290, v270] : Fin 2 → IVec S16 32) a x).toNat < S64x128.size a) ∧
  (∀ a x, ((![v282, v290] : Fin 2 → IVec S16 32) a x).toNat < S64x128.size a)
theorem k0_idx164_inb : ∀ (v270 : IVec S16 32) (v282 : IVec S16 32) (v290 : IVec S16 32) (k0_hw125 : k0_chk125 v270 v282 v290), ∀ a x, ((![v290, v270] : Fin 2 → IVec S16 32) a x).toNat < S64x128.size a := fun v270 v282 v290 k0_hw125 => k0_hw125.1
theorem k0_idx165_inb : ∀ (v270 : IVec S16 32) (v282 : IVec S16 32) (v290 : IVec S16 32) (k0_hw125 : k0_chk125 v270 v282 v290), ∀ a x, ((![v282, v290] : Fin 2 → IVec S16 32) a x).toNat < S64x128.size a := fun v270 v282 v290 k0_hw125 => k0_hw125.2

def k0_chk126 (v270 : IVec S16 32) (v282 : IVec S16 32) (v293 : IVec S16 32) : Prop :=
  (∀ a x, ((![v293, v270] : Fin 2 → IVec S16 32) a x).toNat < S64x128.size a) ∧
  (∀ a x, ((![v282, v293] : Fin 2 → IVec S16 32) a x).toNat < S64x128.size a)
theorem k0_idx166_inb : ∀ (v270 : IVec S16 32) (v282 : IVec S16 32) (v293 : IVec S16 32) (k0_hw126 : k0_chk126 v270 v282 v293), ∀ a x, ((![v293, v270] : Fin 2 → IVec S16 32) a x).toNat < S64x128.size a := fun v270 v282 v293 k0_hw126 => k0_hw126.1
theorem k0_idx167_inb : ∀ (v270 : IVec S16 32) (v282 : IVec S16 32) (v293 : IVec S16 32) (k0_hw126 : k0_chk126 v270 v282 v293), ∀ a x, ((![v282, v293] : Fin 2 → IVec S16 32) a x).toNat < S64x128.size a := fun v270 v282 v293 k0_hw126 => k0_hw126.2

def k0_chk127 (v282 : IVec S16 32) : Prop :=
  (∀ a x, ((![v282] : Fin 1 → IVec S16 32) a x).toNat < S64.size a)
theorem k0_idx168_inb : ∀ (v282 : IVec S16 32) (k0_hw127 : k0_chk127 v282), ∀ a x, ((![v282] : Fin 1 → IVec S16 32) a x).toNat < S64.size a := fun v282 k0_hw127 => k0_hw127
def k0_off17 (v124 : BitVec 32) : Fin 2 → Nat :=
  let c0_i32_101 : BitVec 32 := 0#32
  let c128_i32_57 : BitVec 32 := 128#32
  let v125 : BitVec 32 := Scalar.muli v124 c128_i32_57
  let v126 : BitVec 32 := v125
  ![0, v126.toNat]

def k0_chk82 (v124 : BitVec 32) : Prop :=
  (128 ∣ (k0_mult9 v124).toNat) ∧
  (∀ a, (k0_off13 v124) a + S64x128.size a ≤ S64x1000064.size a) ∧
  (∀ a, (k0_off17 v124) a + S64x128.size a ≤ S64x1000064.size a)
theorem k0_mult9_dvd : ∀ (v124 : BitVec 32) (k0_hw82 : k0_chk82 v124), 128 ∣ (k0_mult9 v124).toNat := fun v124 k0_hw82 => k0_hw82.1
theorem k0_off13_inb : ∀ (v124 : BitVec 32) (k0_hw82 : k0_chk82 v124), ∀ a, (k0_off13 v124) a + S64x128.size a ≤ S64x1000064.size a := fun v124 k0_hw82 => k0_hw82.2.1
theorem k0_off17_inb : ∀ (v124 : BitVec 32) (k0_hw82 : k0_chk82 v124), ∀ a, (k0_off17 v124) a + S64x128.size a ≤ S64x1000064.size a := fun v124 k0_hw82 => k0_hw82.2.2

def k0_chk128 (v238 : IVec S16 32) : Prop :=
  (∀ a x, ((![v238] : Fin 1 → IVec S16 32) a x).toNat < S248.size a)
theorem k0_idx169_inb : ∀ (v238 : IVec S16 32) (k0_hw128 : k0_chk128 v238), ∀ a x, ((![v238] : Fin 1 → IVec S16 32) a x).toNat < S248.size a := fun v238 k0_hw128 => k0_hw128

def k0_chk129 (v248 : IVec S16 32) : Prop :=
  (∀ a x, ((![v248] : Fin 1 → IVec S16 32) a x).toNat < S248.size a)
theorem k0_idx170_inb : ∀ (v248 : IVec S16 32) (k0_hw129 : k0_chk129 v248), ∀ a x, ((![v248] : Fin 1 → IVec S16 32) a x).toNat < S248.size a := fun v248 k0_hw129 => k0_hw129
@[reducible] def k0_t19_loop (v13 : BitVec 32) (k0_t12 : Fin (k0_t12_loop v13).trips) (v245 : BitVec 32) (v255 : BitVec 32) : Scf.Loop 32 :=
  let c0_i32_108 : BitVec 32 := 0#32
  let c0_i32_20 : BitVec 32 := 0#32
  let c4_i32 : BitVec 32 := 4#32
  let v22 : BitVec 32 := Scalar.addi v13 c4_i32
  let c1_i32_12 : BitVec 32 := 1#32
  let v23 : BitVec 32 := Scalar.subi v22 c1_i32_12
  let c0_i32_14 : BitVec 32 := 0#32
  let v25 : BitVec 1 := Scalar.cmpi .sgt v23 c0_i32_14
  let v26 : BitVec 32 := Scalar.extui v25
  let c0_i32_15 : BitVec 32 := 0#32
  let v27 : BitVec 1 := Scalar.cmpi .slt v23 c0_i32_15
  let v28 : BitVec 32 := Scalar.extui v27
  let v29 : BitVec 32 := Scalar.subi v26 v28
  let c4_i32_13 : BitVec 32 := 4#32
  let c0_i32_16 : BitVec 32 := 0#32
  let v30 : BitVec 1 := Scalar.cmpi .sgt c4_i32_13 c0_i32_16
  let v31 : BitVec 32 := Scalar.extui v30
  let c0_i32_17 : BitVec 32 := 0#32
  let v32 : BitVec 1 := Scalar.cmpi .slt c4_i32_13 c0_i32_17
  let v33 : BitVec 32 := Scalar.extui v32
  let v34 : BitVec 32 := Scalar.subi v31 v33
  let v35 : BitVec 1 := Scalar.cmpi .ne v29 v34
  let v36 : BitVec 32 := Scalar.remsi v23 c4_i32_13
  let c0_i32_18 : BitVec 32 := 0#32
  let v37 : BitVec 1 := Scalar.cmpi .ne v36 c0_i32_18
  let v38 : BitVec 1 := Scalar.andi v35 v37
  let v24 : BitVec 32 := Scalar.divsi v23 c4_i32_13
  let c1_i32_19 : BitVec 32 := 1#32
  let v39 : BitVec 32 := Scalar.subi v24 c1_i32_19
  let v40 : BitVec 32 := Scalar.select v38 v39 v24
  let v41 : BitVec 32 := Scalar.subi v40 c0_i32_20
  let c1_i32_22 : BitVec 32 := 1#32
  let v43 : BitVec 32 := Scalar.divsi v41 c1_i32_22
  let v44 : BitVec 32 := Scalar.muli v43 c1_i32_22
  let v45 : BitVec 32 := Scalar.addi c0_i32_20 v44
  let c1_i32_24 : BitVec 32 := 1#32
  let arg21 : BitVec 32 := Scf.iv v45 c1_i32_24 k0_t12
  let c4_i32_99 : BitVec 32 := 4#32
  let v231 : BitVec 32 := Scalar.muli arg21 c4_i32_99
  let c3_i32_100 : BitVec 32 := 3#32
  let v232 : BitVec 32 := Scalar.addi v231 c3_i32_100
  let v233 : BitVec 1 := Scalar.cmpi .slt v232 v13
  let v256 : BitVec 32 := Scalar.select v233 v255 v245
  let v257 : BitVec 32 := Scalar.subi v256 v245
  let v258 : BitVec 32 := Scalar.subi v257 c0_i32_108
  let c1_i32_109 : BitVec 32 := 1#32
  let v260 : BitVec 32 := Scalar.divsi v258 c1_i32_109
  let v261 : BitVec 32 := Scalar.muli v260 c1_i32_109
  let v262 : BitVec 32 := Scalar.addi c0_i32_108 v261
  let c1_i32_110 : BitVec 32 := 1#32
  ⟨c0_i32_108, v262, c1_i32_110⟩

def k0_chk131 (v267 : IVec S16 32) : Prop :=
  (∀ a x, ((![v267] : Fin 1 → IVec S16 32) a x).toNat < S1536.size a)
theorem k0_idx171_inb : ∀ (v267 : IVec S16 32) (k0_hw131 : k0_chk131 v267), ∀ a x, ((![v267] : Fin 1 → IVec S16 32) a x).toNat < S1536.size a := fun v267 k0_hw131 => k0_hw131

def k0_chk132 (v270 : IVec S16 32) (v282 : IVec S16 32) (v284 : IVec S16 32) : Prop :=
  (∀ a x, ((![v284, v270] : Fin 2 → IVec S16 32) a x).toNat < S64x128.size a) ∧
  (∀ a x, ((![v282, v284] : Fin 2 → IVec S16 32) a x).toNat < S64x128.size a)
theorem k0_idx172_inb : ∀ (v270 : IVec S16 32) (v282 : IVec S16 32) (v284 : IVec S16 32) (k0_hw132 : k0_chk132 v270 v282 v284), ∀ a x, ((![v284, v270] : Fin 2 → IVec S16 32) a x).toNat < S64x128.size a := fun v270 v282 v284 k0_hw132 => k0_hw132.1
theorem k0_idx173_inb : ∀ (v270 : IVec S16 32) (v282 : IVec S16 32) (v284 : IVec S16 32) (k0_hw132 : k0_chk132 v270 v282 v284), ∀ a x, ((![v282, v284] : Fin 2 → IVec S16 32) a x).toNat < S64x128.size a := fun v270 v282 v284 k0_hw132 => k0_hw132.2

def k0_chk133 (v270 : IVec S16 32) (v282 : IVec S16 32) (v287 : IVec S16 32) : Prop :=
  (∀ a x, ((![v287, v270] : Fin 2 → IVec S16 32) a x).toNat < S64x128.size a) ∧
  (∀ a x, ((![v282, v287] : Fin 2 → IVec S16 32) a x).toNat < S64x128.size a)
theorem k0_idx174_inb : ∀ (v270 : IVec S16 32) (v282 : IVec S16 32) (v287 : IVec S16 32) (k0_hw133 : k0_chk133 v270 v282 v287), ∀ a x, ((![v287, v270] : Fin 2 → IVec S16 32) a x).toNat < S64x128.size a := fun v270 v282 v287 k0_hw133 => k0_hw133.1
theorem k0_idx175_inb : ∀ (v270 : IVec S16 32) (v282 : IVec S16 32) (v287 : IVec S16 32) (k0_hw133 : k0_chk133 v270 v282 v287), ∀ a x, ((![v282, v287] : Fin 2 → IVec S16 32) a x).toNat < S64x128.size a := fun v270 v282 v287 k0_hw133 => k0_hw133.2

def k0_chk134 (v270 : IVec S16 32) (v282 : IVec S16 32) (v290 : IVec S16 32) : Prop :=
  (∀ a x, ((![v290, v270] : Fin 2 → IVec S16 32) a x).toNat < S64x128.size a) ∧
  (∀ a x, ((![v282, v290] : Fin 2 → IVec S16 32) a x).toNat < S64x128.size a)
theorem k0_idx176_inb : ∀ (v270 : IVec S16 32) (v282 : IVec S16 32) (v290 : IVec S16 32) (k0_hw134 : k0_chk134 v270 v282 v290), ∀ a x, ((![v290, v270] : Fin 2 → IVec S16 32) a x).toNat < S64x128.size a := fun v270 v282 v290 k0_hw134 => k0_hw134.1
theorem k0_idx177_inb : ∀ (v270 : IVec S16 32) (v282 : IVec S16 32) (v290 : IVec S16 32) (k0_hw134 : k0_chk134 v270 v282 v290), ∀ a x, ((![v282, v290] : Fin 2 → IVec S16 32) a x).toNat < S64x128.size a := fun v270 v282 v290 k0_hw134 => k0_hw134.2

def k0_chk135 (v270 : IVec S16 32) (v282 : IVec S16 32) (v293 : IVec S16 32) : Prop :=
  (∀ a x, ((![v293, v270] : Fin 2 → IVec S16 32) a x).toNat < S64x128.size a) ∧
  (∀ a x, ((![v282, v293] : Fin 2 → IVec S16 32) a x).toNat < S64x128.size a)
theorem k0_idx178_inb : ∀ (v270 : IVec S16 32) (v282 : IVec S16 32) (v293 : IVec S16 32) (k0_hw135 : k0_chk135 v270 v282 v293), ∀ a x, ((![v293, v270] : Fin 2 → IVec S16 32) a x).toNat < S64x128.size a := fun v270 v282 v293 k0_hw135 => k0_hw135.1
theorem k0_idx179_inb : ∀ (v270 : IVec S16 32) (v282 : IVec S16 32) (v293 : IVec S16 32) (k0_hw135 : k0_chk135 v270 v282 v293), ∀ a x, ((![v282, v293] : Fin 2 → IVec S16 32) a x).toNat < S64x128.size a := fun v270 v282 v293 k0_hw135 => k0_hw135.2

def k0_chk136 (v282 : IVec S16 32) : Prop :=
  (∀ a x, ((![v282] : Fin 1 → IVec S16 32) a x).toNat < S64.size a)
theorem k0_idx180_inb : ∀ (v282 : IVec S16 32) (k0_hw136 : k0_chk136 v282), ∀ a x, ((![v282] : Fin 1 → IVec S16 32) a x).toNat < S64.size a := fun v282 k0_hw136 => k0_hw136
@[reducible] def k0_t20_loop (v13 : BitVec 32) (k0_t12 : Fin (k0_t12_loop v13).trips) (v245 : BitVec 32) (v255 : BitVec 32) : Scf.Loop 32 :=
  let c0_i32_108 : BitVec 32 := 0#32
  let c0_i32_20 : BitVec 32 := 0#32
  let c4_i32 : BitVec 32 := 4#32
  let v22 : BitVec 32 := Scalar.addi v13 c4_i32
  let c1_i32_12 : BitVec 32 := 1#32
  let v23 : BitVec 32 := Scalar.subi v22 c1_i32_12
  let c0_i32_14 : BitVec 32 := 0#32
  let v25 : BitVec 1 := Scalar.cmpi .sgt v23 c0_i32_14
  let v26 : BitVec 32 := Scalar.extui v25
  let c0_i32_15 : BitVec 32 := 0#32
  let v27 : BitVec 1 := Scalar.cmpi .slt v23 c0_i32_15
  let v28 : BitVec 32 := Scalar.extui v27
  let v29 : BitVec 32 := Scalar.subi v26 v28
  let c4_i32_13 : BitVec 32 := 4#32
  let c0_i32_16 : BitVec 32 := 0#32
  let v30 : BitVec 1 := Scalar.cmpi .sgt c4_i32_13 c0_i32_16
  let v31 : BitVec 32 := Scalar.extui v30
  let c0_i32_17 : BitVec 32 := 0#32
  let v32 : BitVec 1 := Scalar.cmpi .slt c4_i32_13 c0_i32_17
  let v33 : BitVec 32 := Scalar.extui v32
  let v34 : BitVec 32 := Scalar.subi v31 v33
  let v35 : BitVec 1 := Scalar.cmpi .ne v29 v34
  let v36 : BitVec 32 := Scalar.remsi v23 c4_i32_13
  let c0_i32_18 : BitVec 32 := 0#32
  let v37 : BitVec 1 := Scalar.cmpi .ne v36 c0_i32_18
  let v38 : BitVec 1 := Scalar.andi v35 v37
  let v24 : BitVec 32 := Scalar.divsi v23 c4_i32_13
  let c1_i32_19 : BitVec 32 := 1#32
  let v39 : BitVec 32 := Scalar.subi v24 c1_i32_19
  let v40 : BitVec 32 := Scalar.select v38 v39 v24
  let v41 : BitVec 32 := Scalar.subi v40 c0_i32_20
  let c1_i32_22 : BitVec 32 := 1#32
  let v43 : BitVec 32 := Scalar.divsi v41 c1_i32_22
  let v44 : BitVec 32 := Scalar.muli v43 c1_i32_22
  let v45 : BitVec 32 := Scalar.addi c0_i32_20 v44
  let c1_i32_24 : BitVec 32 := 1#32
  let arg21 : BitVec 32 := Scf.iv v45 c1_i32_24 k0_t12
  let c4_i32_99 : BitVec 32 := 4#32
  let v231 : BitVec 32 := Scalar.muli arg21 c4_i32_99
  let c3_i32_100 : BitVec 32 := 3#32
  let v232 : BitVec 32 := Scalar.addi v231 c3_i32_100
  let v233 : BitVec 1 := Scalar.cmpi .slt v232 v13
  let v256 : BitVec 32 := Scalar.select v233 v255 v245
  let v257 : BitVec 32 := Scalar.subi v256 v245
  let v258 : BitVec 32 := Scalar.subi v257 c0_i32_108
  let c1_i32_109 : BitVec 32 := 1#32
  let v260 : BitVec 32 := Scalar.divsi v258 c1_i32_109
  let v261 : BitVec 32 := Scalar.muli v260 c1_i32_109
  let v262 : BitVec 32 := Scalar.addi c0_i32_108 v261
  let v259 : BitVec 32 := Scalar.addi c0_i32_108 v258
  let c1_i32_111 : BitVec 32 := 1#32
  ⟨v262, v259, c1_i32_111⟩

def k0_chk130 (v13 : BitVec 32) (k0_t12 : Fin (k0_t12_loop v13).trips) (v245 : BitVec 32) (v255 : BitVec 32) : Prop :=
  ((k0_t19_loop v13 k0_t12 v245 v255).OK) ∧
  ((k0_t20_loop v13 k0_t12 v245 v255).OK)
theorem k0_t19_ok : ∀ (v13 : BitVec 32) (k0_t12 : Fin (k0_t12_loop v13).trips) (v245 : BitVec 32) (v255 : BitVec 32) (k0_hw130 : k0_chk130 v13 k0_t12 v245 v255), (k0_t19_loop v13 k0_t12 v245 v255).OK := fun v13 k0_t12 v245 v255 k0_hw130 => k0_hw130.1
theorem k0_t20_ok : ∀ (v13 : BitVec 32) (k0_t12 : Fin (k0_t12_loop v13).trips) (v245 : BitVec 32) (v255 : BitVec 32) (k0_hw130 : k0_chk130 v13 k0_t12 v245 v255), (k0_t20_loop v13 k0_t12 v245 v255).OK := fun v13 k0_t12 v245 v255 k0_hw130 => k0_hw130.2

def k0_chk137 (v267 : IVec S16 32) : Prop :=
  (∀ a x, ((![v267] : Fin 1 → IVec S16 32) a x).toNat < S1536.size a)
theorem k0_idx181_inb : ∀ (v267 : IVec S16 32) (k0_hw137 : k0_chk137 v267), ∀ a x, ((![v267] : Fin 1 → IVec S16 32) a x).toNat < S1536.size a := fun v267 k0_hw137 => k0_hw137

def k0_chk138 (v270 : IVec S16 32) (v282 : IVec S16 32) (v284 : IVec S16 32) : Prop :=
  (∀ a x, ((![v284, v270] : Fin 2 → IVec S16 32) a x).toNat < S64x128.size a) ∧
  (∀ a x, ((![v282, v284] : Fin 2 → IVec S16 32) a x).toNat < S64x128.size a)
theorem k0_idx182_inb : ∀ (v270 : IVec S16 32) (v282 : IVec S16 32) (v284 : IVec S16 32) (k0_hw138 : k0_chk138 v270 v282 v284), ∀ a x, ((![v284, v270] : Fin 2 → IVec S16 32) a x).toNat < S64x128.size a := fun v270 v282 v284 k0_hw138 => k0_hw138.1
theorem k0_idx183_inb : ∀ (v270 : IVec S16 32) (v282 : IVec S16 32) (v284 : IVec S16 32) (k0_hw138 : k0_chk138 v270 v282 v284), ∀ a x, ((![v282, v284] : Fin 2 → IVec S16 32) a x).toNat < S64x128.size a := fun v270 v282 v284 k0_hw138 => k0_hw138.2

def k0_chk139 (v270 : IVec S16 32) (v282 : IVec S16 32) (v287 : IVec S16 32) : Prop :=
  (∀ a x, ((![v287, v270] : Fin 2 → IVec S16 32) a x).toNat < S64x128.size a) ∧
  (∀ a x, ((![v282, v287] : Fin 2 → IVec S16 32) a x).toNat < S64x128.size a)
theorem k0_idx184_inb : ∀ (v270 : IVec S16 32) (v282 : IVec S16 32) (v287 : IVec S16 32) (k0_hw139 : k0_chk139 v270 v282 v287), ∀ a x, ((![v287, v270] : Fin 2 → IVec S16 32) a x).toNat < S64x128.size a := fun v270 v282 v287 k0_hw139 => k0_hw139.1
theorem k0_idx185_inb : ∀ (v270 : IVec S16 32) (v282 : IVec S16 32) (v287 : IVec S16 32) (k0_hw139 : k0_chk139 v270 v282 v287), ∀ a x, ((![v282, v287] : Fin 2 → IVec S16 32) a x).toNat < S64x128.size a := fun v270 v282 v287 k0_hw139 => k0_hw139.2

def k0_chk140 (v270 : IVec S16 32) (v282 : IVec S16 32) (v290 : IVec S16 32) : Prop :=
  (∀ a x, ((![v290, v270] : Fin 2 → IVec S16 32) a x).toNat < S64x128.size a) ∧
  (∀ a x, ((![v282, v290] : Fin 2 → IVec S16 32) a x).toNat < S64x128.size a)
theorem k0_idx186_inb : ∀ (v270 : IVec S16 32) (v282 : IVec S16 32) (v290 : IVec S16 32) (k0_hw140 : k0_chk140 v270 v282 v290), ∀ a x, ((![v290, v270] : Fin 2 → IVec S16 32) a x).toNat < S64x128.size a := fun v270 v282 v290 k0_hw140 => k0_hw140.1
theorem k0_idx187_inb : ∀ (v270 : IVec S16 32) (v282 : IVec S16 32) (v290 : IVec S16 32) (k0_hw140 : k0_chk140 v270 v282 v290), ∀ a x, ((![v282, v290] : Fin 2 → IVec S16 32) a x).toNat < S64x128.size a := fun v270 v282 v290 k0_hw140 => k0_hw140.2

def k0_chk141 (v270 : IVec S16 32) (v282 : IVec S16 32) (v293 : IVec S16 32) : Prop :=
  (∀ a x, ((![v293, v270] : Fin 2 → IVec S16 32) a x).toNat < S64x128.size a) ∧
  (∀ a x, ((![v282, v293] : Fin 2 → IVec S16 32) a x).toNat < S64x128.size a)
theorem k0_idx188_inb : ∀ (v270 : IVec S16 32) (v282 : IVec S16 32) (v293 : IVec S16 32) (k0_hw141 : k0_chk141 v270 v282 v293), ∀ a x, ((![v293, v270] : Fin 2 → IVec S16 32) a x).toNat < S64x128.size a := fun v270 v282 v293 k0_hw141 => k0_hw141.1
theorem k0_idx189_inb : ∀ (v270 : IVec S16 32) (v282 : IVec S16 32) (v293 : IVec S16 32) (k0_hw141 : k0_chk141 v270 v282 v293), ∀ a x, ((![v282, v293] : Fin 2 → IVec S16 32) a x).toNat < S64x128.size a := fun v270 v282 v293 k0_hw141 => k0_hw141.2

def k0_chk142 (v282 : IVec S16 32) : Prop :=
  (∀ a x, ((![v282] : Fin 1 → IVec S16 32) a x).toNat < S64.size a)
theorem k0_idx190_inb : ∀ (v282 : IVec S16 32) (k0_hw142 : k0_chk142 v282), ∀ a x, ((![v282] : Fin 1 → IVec S16 32) a x).toNat < S64.size a := fun v282 k0_hw142 => k0_hw142
@[reducible] def k0_t21_loop : Scf.Loop 32 :=
  let c0_i32_33 : BitVec 32 := 0#32
  let c4_i32_34 : BitVec 32 := 4#32
  let v61 : BitVec 32 := Scalar.addi c0_i32_33 c4_i32_34
  let c1_i32_35 : BitVec 32 := 1#32
  ⟨c0_i32_33, v61, c1_i32_35⟩
def k0_cond17 (v47 : BitVec 32) : BitVec 1 :=
  let c64_i32 : BitVec 32 := 64#32
  let c0_i32_25 : BitVec 32 := 0#32
  let v48 : BitVec 1 := Scalar.cmpi .eq c64_i32 c0_i32_25
  let c1_i32_26 : BitVec 32 := 1#32
  let v49 : BitVec 32 := Scalar.select v48 c1_i32_26 c64_i32
  let v50 : BitVec 32 := Scalar.remsi v47 v49
  let c0_i32_28 : BitVec 32 := 0#32
  let v52 : BitVec 1 := Scalar.cmpi .slt v50 c0_i32_28
  let c0_i32_29 : BitVec 32 := 0#32
  let v53 : BitVec 1 := Scalar.cmpi .slt v49 c0_i32_29
  let v54 : BitVec 1 := Scalar.xori v52 v53
  let c0_i32_27 : BitVec 32 := 0#32
  let v51 : BitVec 1 := Scalar.cmpi .ne v50 c0_i32_27
  let v55 : BitVec 1 := Scalar.andi v54 v51
  let v56 : BitVec 32 := Scalar.addi v50 v49
  let v57 : BitVec 32 := Scalar.select v55 v56 v50
  let c0_i32_30 : BitVec 32 := 0#32
  let v58 : BitVec 1 := Scalar.cmpi .sgt v57 c0_i32_30
  let v59 : BitVec 32 := Scalar.extui v58
  let c0_i32_31 : BitVec 32 := 0#32
  let v60 : BitVec 1 := Scalar.cmpi .ne v59 c0_i32_31
  v60

def k0_chk143 (v47 : BitVec 32) (v66 : IVec S16 32) : Prop :=
  (∀ (k0_h17 : k0_cond17 v47 = 1#1), ∀ a x, ((![v66] : Fin 1 → IVec S16 32) a x).toNat < S64.size a)
theorem k0_idx191_inb : ∀ (v47 : BitVec 32) (v66 : IVec S16 32) (k0_hw143 : k0_chk143 v47 v66), ∀ (k0_h17 : k0_cond17 v47 = 1#1), ∀ a x, ((![v66] : Fin 1 → IVec S16 32) a x).toNat < S64.size a := fun v47 v66 k0_hw143 k0_h17 => k0_hw143 k0_h17
abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S4x4096 : Shape := ⟨2, ![4, 4096]⟩
abbrev S1000000x64 : Shape := ⟨2, ![1000000, 64]⟩
abbrev S4096x64 : Shape := ⟨2, ![4096, 64]⟩
abbrev S_ : Shape := ⟨0, ![]⟩
abbrev S4x4096x1 : Shape := ⟨3, ![4, 4096, 1]⟩
abbrev S1 : Shape := ⟨1, ![1]⟩
abbrev S1x1x1 : Shape := ⟨3, ![1, 1, 1]⟩
abbrev S4x4096x64 : Shape := ⟨3, ![4, 4096, 64]⟩
abbrev S4096 : Shape := ⟨1, ![4096]⟩
abbrev S4096x1 : Shape := ⟨2, ![4096, 1]⟩
abbrev S1x1 : Shape := ⟨2, ![1, 1]⟩
abbrev S1x4096x64 : Shape := ⟨3, ![1, 4096, 64]⟩

abbrev nBuf : Space → Nat
  | .hbm => 53
  | .vmem => 0
  | .smem => 0
  | _ => 0

abbrev bufTy : (tb : Table) → Fin (tcTables nBuf tb) → BufTy
  | .hbm, ⟨0, _⟩ => ⟨S4x4096, .i32⟩
  | .hbm, ⟨1, _⟩ => ⟨S1000000x64, .f32⟩
  | .hbm, ⟨2, _⟩ => ⟨S4096x64, .f32⟩
  | .hbm, ⟨3, _⟩ => ⟨S_, .i32⟩
  | .hbm, ⟨4, _⟩ => ⟨S4x4096, .i32⟩
  | .hbm, ⟨5, _⟩ => ⟨S4x4096, .i1⟩
  | .hbm, ⟨6, _⟩ => ⟨S_, .i32⟩
  | .hbm, ⟨7, _⟩ => ⟨S4x4096, .i32⟩
  | .hbm, ⟨8, _⟩ => ⟨S4x4096, .i32⟩
  | .hbm, ⟨9, _⟩ => ⟨S4x4096, .i32⟩
  | .hbm, ⟨10, _⟩ => ⟨S4x4096x1, .i32⟩
  | .hbm, ⟨11, _⟩ => ⟨S1, .i32⟩
  | .hbm, ⟨12, _⟩ => ⟨S_, .i32⟩
  | .hbm, ⟨13, _⟩ => ⟨S4x4096x1, .i32⟩
  | .hbm, ⟨14, _⟩ => ⟨S4x4096x1, .i1⟩
  | .hbm, ⟨15, _⟩ => ⟨S1x1x1, .i32⟩
  | .hbm, ⟨16, _⟩ => ⟨S4x4096x1, .i32⟩
  | .hbm, ⟨17, _⟩ => ⟨S4x4096x1, .i1⟩
  | .hbm, ⟨18, _⟩ => ⟨S4x4096x1, .i1⟩
  | .hbm, ⟨19, _⟩ => ⟨S_, .i1⟩
  | .hbm, ⟨20, _⟩ => ⟨S4x4096, .i1⟩
  | .hbm, ⟨21, _⟩ => ⟨S4x4096x64, .f32⟩
  | .hbm, ⟨22, _⟩ => ⟨S4x4096x64, .i1⟩
  | .hbm, ⟨23, _⟩ => ⟨S_, .f32⟩
  | .hbm, ⟨24, _⟩ => ⟨S4x4096x64, .f32⟩
  | .hbm, ⟨25, _⟩ => ⟨S4x4096x64, .f32⟩
  | .hbm, ⟨26, _⟩ => ⟨S4096, .i32⟩
  | .hbm, ⟨27, _⟩ => ⟨S_, .i32⟩
  | .hbm, ⟨28, _⟩ => ⟨S4096, .i32⟩
  | .hbm, ⟨29, _⟩ => ⟨S4096, .i1⟩
  | .hbm, ⟨30, _⟩ => ⟨S_, .i32⟩
  | .hbm, ⟨31, _⟩ => ⟨S4096, .i32⟩
  | .hbm, ⟨32, _⟩ => ⟨S4096, .i32⟩
  | .hbm, ⟨33, _⟩ => ⟨S4096, .i32⟩
  | .hbm, ⟨34, _⟩ => ⟨S4096x1, .i32⟩
  | .hbm, ⟨35, _⟩ => ⟨S1, .i32⟩
  | .hbm, ⟨36, _⟩ => ⟨S_, .i32⟩
  | .hbm, ⟨37, _⟩ => ⟨S4096x1, .i32⟩
  | .hbm, ⟨38, _⟩ => ⟨S4096x1, .i1⟩
  | .hbm, ⟨39, _⟩ => ⟨S1x1, .i32⟩
  | .hbm, ⟨40, _⟩ => ⟨S4096x1, .i32⟩
  | .hbm, ⟨41, _⟩ => ⟨S4096x1, .i1⟩
  | .hbm, ⟨42, _⟩ => ⟨S4096x1, .i1⟩
  | .hbm, ⟨43, _⟩ => ⟨S_, .i1⟩
  | .hbm, ⟨44, _⟩ => ⟨S4096, .i1⟩
  | .hbm, ⟨45, _⟩ => ⟨S4096x64, .f32⟩
  | .hbm, ⟨46, _⟩ => ⟨S4096x64, .i1⟩
  | .hbm, ⟨47, _⟩ => ⟨S_, .f32⟩
  | .hbm, ⟨48, _⟩ => ⟨S4096x64, .f32⟩
  | .hbm, ⟨49, _⟩ => ⟨S4096x64, .f32⟩
  | .hbm, ⟨50, _⟩ => ⟨S1x4096x64, .f32⟩
  | .hbm, ⟨51, _⟩ => ⟨S4x4096x64, .f32⟩
  | .hbm, ⟨52, _⟩ => ⟨S4x4096x64, .f32⟩
  | _, _ => ⟨S4x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v2 : Ref sig .tc := ⟨.hbm, 49, rfl⟩
abbrev main_v3 : Ref sig .tc := ⟨.hbm, 50, rfl⟩
abbrev main_v4 : Ref sig .tc := ⟨.hbm, 51, rfl⟩
abbrev main_v5 : Ref sig .tc := ⟨.hbm, 52, rfl⟩

abbrev nD : Nat := 1
abbrev τ : Topo := Topo.v7x

variable {F : FTy → Type} [FloatOps F]
-- ==== Proof.Setup.lean ====
/-
  The program of the embedding kernel as the launch theorem sees it, the resource algebra of its proof, and the buffers the
  proof names: the two host-sorted lists, the padded transposed table and the intermediate rows.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.SparseCore.Scatter
public import Idealize.ShloMosaic.Lib.StableHlo.Run
public import Idealize.ShloMosaic.Lib.Pipeline.Kit
public import Idealize.ShloMosaic.Lib.ShareLeaves
public import Idealize.ShloMosaic.Lib.LoopRemainder
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Emb

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the grid pipeline's rounds, the junk row's tokens, the transfers' counters -/

abbrev UH : Type := URounds (GSem nD τ sig) ℕ
abbrev UP : Type := URounds (GSem nD τ sig) Unit
abbrev UT : Type := URounds (Dev nD) ℕ
abbrev UU : Type := UH × (UP × (UT × Counters))

local notation "𝕄" => MT nD τ sig (HIx 1) (Elt F) ℕ UU ℕ

abbrev EH : Emb UH (MT nD τ sig (HIx 1) (Elt F) ℕ UU ℕ) := embL
/-- The grid pipeline's rounds: the left half of the right factor. -/
def EP : Emb UP (MT nD τ sig (HIx 1) (Elt F) ℕ UU ℕ) :=
  ((Emb.inl : Emb UP (UP × (UT × Counters))).trans (Emb.inr : Emb (UP × (UT × Counters)) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance
/-- The junk row's tokens: the left half of the right half of the right factor. -/
def ET : Emb UT (MT nD τ sig (HIx 1) (Elt F) ℕ UU ℕ) :=
  (((Emb.inl : Emb UT (UT × Counters)).trans (Emb.inr : Emb (UT × Counters) (UP × (UT × Counters)))).trans
    (Emb.inr : Emb (UP × (UT × Counters)) UU)).trans
    (uEmb (nD := nD) (sig := sig) (Ix := HIx 1) (Val := Elt F) (Name := ℕ) (U := UU) (Lvl := ℕ)).toEmb
instance ET_landsIn : (ET : Emb UT 𝕄).LandsIn (upEmb : UEmb _ 𝕄) := by unfold ET; infer_instance

abbrev EC : UEmb Counters (MT nD τ sig (HIx 1) (Elt F) ℕ UU ℕ) := countersEmb
instance EC_landsIn : (EC : UEmb Counters 𝕄).LandsIn (upEmb : UEmb _ 𝕄) := by unfold EC; infer_instance

/-! ## The buffers -/

abbrev tLoc (d : Dev nD) : Loc nD τ sig := (SparseCore.T d).loc main_v10
abbrev pLoc (d : Dev nD) : Loc nD τ sig := (SparseCore.T d).loc main_v15
abbrev wLoc (d : Dev nD) : Loc nD τ sig := (SparseCore.T d).loc main_v17
abbrev oLoc (d : Dev nD) : Loc nD τ sig := (SparseCore.T d).loc main_v18

abbrev tV : Memref sig .scVector .hbm S16384 .i32 := Memref.whole main_v10_scv
abbrev pV : Memref sig .scVector .hbm S16384 .i32 := Memref.whole main_v15_scv
abbrev wV : Memref sig .scVector .hbm S64x1000064 .f32 := Memref.whole main_v17_scv
abbrev oV : Memref sig .scVector .hbm S16392x128 .f32 := Memref.whole main_v18_scv
abbrev twV : Memref sig .scVector .vmem S1536 .i32 := Memref.whole cc0_scratch0
abbrev pwV : Memref sig .scVector .vmem S1536 .i32 := Memref.whole cc0_scratch1
abbrev dlV : Memref sig .scVector .vmem S248 .i32 := Memref.whole cc0_scratch2
abbrev dsV : Memref sig .scVector .vmem S248 .i32 := Memref.whole cc0_scratch3
abbrev rbV : Memref sig .scVector .vmem S64x128 .f32 := Memref.whole cc0_scratch4
abbrev riV : Memref sig .scVector .vmem S64 .i32 := Memref.whole cc0_scratch5
abbrev tc0V : Memref sig .scVector .vmem S64x128 .f32 := Memref.whole cc0_scratch11
abbrev tc1V : Memref sig .scVector .vmem S64x128 .f32 := Memref.whole cc0_scratch12
abbrev tc2V : Memref sig .scVector .vmem S64x128 .f32 := Memref.whole cc0_scratch13
abbrev tc3V : Memref sig .scVector .vmem S64x128 .f32 := Memref.whole cc0_scratch14

/-- The elements of row `n` of the intermediate. -/
def rowSet (n : ℕ) : Finset S16392x128.Idx := Finset.univ.filter fun x => (x 0).val = n

theorem mem_rowSet (n : ℕ) (x : S16392x128.Idx) : x ∈ rowSet n ↔ (x 0).val = n := by simp [rowSet]

/-! ## The junk row: the flushes' padding all lands in row 16384 -/

/-- Worker `w`'s token for entry `j` of a flush. -/
def tok (d : Dev nD) (w j : ℕ) : sProp 𝕄 := dutyTok (ET (F := F)) d w j
/-- Worker `w`'s tokens. -/
def toks (d : Dev nD) (w : ℕ) : sProp 𝕄 := bigSep Finset.univ fun j : Fin 64 => tok (F := F) d w j.val
/-- Every worker's. -/
def allToks (d : Dev nD) : sProp 𝕄 := bigSep Finset.univ fun w : Fin 32 => toks (F := F) d w.val
/-- The junk row at some contents. -/
def junkRow (d : Dev nD) : sProp 𝕄 := iprop(∃ f, oLoc d ↦[rowSet 16384]{fullShare} f)
/-- The junk row's invariant: the row, for as long as the workers have their tokens; before and after, the tokens. -/
def junk (d : Dev nD) : sProp 𝕄 := iprop(junkRow (F := F) d ∨ allToks (F := F) d)

instance tok_storable (d : Dev nD) (w j : ℕ) : BI.Storable (upEmb : UEmb _ 𝕄) (tok (F := F) d w j) := by unfold tok; infer_instance
instance toks_storable (d : Dev nD) (w : ℕ) : BI.Storable (upEmb : UEmb _ 𝕄) (toks (F := F) d w) := by unfold toks; infer_instance
instance allToks_storable (d : Dev nD) : BI.Storable (upEmb : UEmb _ 𝕄) (allToks (F := F) d) := by unfold allToks; infer_instance
instance junkRow_storable (d : Dev nD) : BI.Storable (upEmb : UEmb _ 𝕄) (junkRow (F := F) d) := by unfold junkRow; infer_instance
instance junk_storable (d : Dev nD) : BI.Storable (upEmb : UEmb _ 𝕄) (junk (F := F) d) := by unfold junk; infer_instance

/-- A worker holding a token knows the junk row is in the invariant. -/
theorem junk_tok (d : Dev nD) (w : Fin 32) (j : Fin 64) :
    iprop(junk (F := F) d ∗ tok (F := F) d w.val j.val) ⊢ iprop(junkRow (F := F) d ∗ tok (F := F) d w.val j.val) := by
  unfold junk
  iintro ⟨H, Ht⟩
  icases H with (H | H)
  · isplitl [H]; · iexact H
    iexact Ht
  · iexfalso
    ihave H' := (show allToks (F := F) d ⊢ iprop(tok (F := F) d w.val j.val ∗ True) from by
      unfold allToks toks
      rw [SparseCore.bigSep_erase' (Finset.mem_univ w), SparseCore.bigSep_erase' (Finset.mem_univ j)]
      iintro ⟨⟨H, -⟩, -⟩
      isplitl [H]; · iexact H
      ipureintro; trivial) $$ H
    icases H' with ⟨H', -⟩
    unfold tok
    iapply (dutyTok_dutyTok_false (E := ET (F := F)) (g := d) (r := w.val) (d := j.val))
    isplitl [H']; · iexact H'
    iexact Ht

end Cert.Proof.Emb

end
-- ==== Proof.Vec.lean ====
/-
  Pointwise readings of the subcores' vector operations: scatters into tile memory, prefix sums and maxima, and the lane
  arithmetic of the window scan.
-/
module

public import proofs.«01_k».proof.Proof.Setup

@[expose] public section

noncomputable section

namespace Cert.Proof.Emb

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Scatters into tile memory -/

section Store

variable {s : Shape} {e : EltTy} {d : Fin 1 → ℕ} [FloatOps F]

theorem fold_miss {α ι β : Type} (stp : (ι → β) → α → ι → β) (hit : α → Prop) (j : ι)
    (hs : ∀ g k, ¬hit k → stp g k j = g j) (l : List α) (f : ι → β) (hm : ∀ k ∈ l, ¬hit k) : l.foldl stp f j = f j := by
  induction l generalizing f with
  | nil => rfl
  | cons k l ih =>
    rw [List.foldl_cons, ih _ fun k' hk' => hm k' (List.mem_cons_of_mem _ hk'), hs _ _ (hm k List.mem_cons_self)]

theorem fold_hit {α ι β : Type} (stp : (ι → β) → α → ι → β) (hit : α → Prop) (j : ι) (y : β)
    (hs : ∀ g k, ¬hit k → stp g k j = g j) (l : List α) (f : ι → β) (hy : ∀ g, ∀ k ∈ l, hit k → stp g k j = y)
    (hm : f j = y ∨ ∃ k ∈ l, hit k) : l.foldl stp f j = y := by
  induction l generalizing f with
  | nil =>
    rcases hm with hm | ⟨k, hk, -⟩
    · exact hm
    · exact absurd hk List.not_mem_nil
  | cons k l ih =>
    rw [List.foldl_cons]
    refine ih _ (fun g k' hk' => hy g k' (List.mem_cons_of_mem _ hk')) ?_
    by_cases hk : hit k
    · exact .inl (hy _ k List.mem_cons_self hk)
    · rcases hm with hm | ⟨k', hk', hm'⟩
      · exact .inl ((hs _ _ hk).trans hm)
      · rcases List.mem_cons.mp hk' with rfl | hk'
        · exact absurd hm' hk
        · exact .inr ⟨k', hk', hm'⟩

theorem storeIdx_miss (f : Vec F s e) (idxs : Fin s.rank → IVec ⟨1, d⟩ 32) (v : Vec F ⟨1, d⟩ e) (mask : IVec ⟨1, d⟩ 1)
    (h : ∀ a x, (idxs a x).toNat < s.size a) (j : s.Idx)
    (hm : ∀ x, mask x = 1 → ¬∀ a, (j a).val = (idxs a x).toNat) : storeIdx f idxs v mask false h j = f j := by
  unfold storeIdx
  refine fold_miss _ (fun k => mask (Shape.ofLane k) = 1 ∧ ∀ a, (j a).val = (idxs a (Shape.ofLane k)).toNat) j ?_ _ f
    fun k _ hk => hm _ hk.1 hk.2
  intro g k hk
  by_cases h1 : mask (Shape.ofLane k) = 1
  · exact (congrFun (if_pos h1) j).trans (if_neg fun h2 => hk ⟨h1, h2⟩)
  · exact congrFun (if_neg h1) j

theorem ofLane_eq (x : (⟨1, d⟩ : Shape).Idx) : Shape.ofLane (x 0) = x := by
  funext a
  obtain rfl : a = 0 := Fin.eq_zero a
  rfl

theorem storeIdx_hit (f : Vec F s e) (idxs : Fin s.rank → IVec ⟨1, d⟩ 32) (v : Vec F ⟨1, d⟩ e) (mask : IVec ⟨1, d⟩ 1)
    (h : ∀ a x, (idxs a x).toNat < s.size a) (j : s.Idx) (x : (⟨1, d⟩ : Shape).Idx) (hx : mask x = 1)
    (hj : ∀ a, (j a).val = (idxs a x).toNat)
    (hv : ∀ x', mask x' = 1 → (∀ a, (j a).val = (idxs a x').toNat) → v x' = v x) :
    storeIdx f idxs v mask false h j = v x := by
  unfold storeIdx
  refine fold_hit _ (fun k => mask (Shape.ofLane k) = 1 ∧ ∀ a, (j a).val = (idxs a (Shape.ofLane k)).toNat) j _ ?_ _ f ?_
    (.inr ⟨x 0, List.mem_finRange _, by rw [ofLane_eq]; exact ⟨hx, hj⟩⟩)
  · intro g k hk
    by_cases h1 : mask (Shape.ofLane k) = 1
    · exact (congrFun (if_pos h1) j).trans (if_neg fun h2 => hk ⟨h1, h2⟩)
    · exact congrFun (if_neg h1) j
  · rintro g k - ⟨h1, h2⟩
    exact ((congrFun (if_pos h1) j).trans (if_pos h2)).trans (hv _ h1 h2)

end Store

/-! ## Prefix sums and maxima of a register of sixteen lanes -/

theorem fold_addi {α : Type} (g : α → BitVec 32) (l : List α) (r : BitVec 32) :
    (l.foldl (fun r k => ScanKind.sum.step r (g k)) r).toNat = (r.toNat + (l.map fun k => (g k).toNat).sum) % 2 ^ 32 := by
  induction l generalizing r with
  | nil => simp [Nat.mod_eq_of_lt r.isLt]
  | cons k l ih =>
    rw [List.foldl_cons, ih, List.map_cons, List.sum_cons]
    show ((r + g k).toNat + _) % _ = _
    rw [BitVec.toNat_add]
    omega

theorem fold_maxui {α : Type} (g : α → BitVec 32) (l : List α) (r : BitVec 32) (n : ℕ) :
    n < (l.foldl (fun r k => ScanKind.max.step r (g k)) r).toNat ↔ n < r.toNat ∨ ∃ k ∈ l, n < (g k).toNat := by
  induction l generalizing r with
  | nil => simp
  | cons k l ih =>
    rw [List.foldl_cons, ih]
    have : (ScanKind.max.step r (g k)).toNat = max r.toNat (g k).toNat := by
      show (IntOp.maxui r (g k)).toNat = _
      unfold IntOp.maxui
      split
      · rename_i h
        have := BitVec.ult_iff_lt.mp h
        exact (max_eq_left (le_of_lt (BitVec.lt_def.mp this))).symm
      · rename_i h
        have h' : ¬(g k) < r := fun h' => h (BitVec.ult_iff_lt.mpr h')
        rw [BitVec.lt_def] at h'
        exact (max_eq_right (by omega)).symm
    rw [this, lt_max_iff]
    constructor
    · rintro ((h | h) | ⟨k', hk', h⟩)
      · exact .inl h
      · exact .inr ⟨k, List.mem_cons_self, h⟩
      · exact .inr ⟨k', List.mem_cons_of_mem _ hk', h⟩
    · rintro (h | ⟨k', hk', h⟩)
      · exact .inl (.inl h)
      · rcases List.mem_cons.mp hk' with rfl | hk'
        · exact .inl (.inr h)
        · exact .inr ⟨k', hk', h⟩

/-- Lane `k` of a register of sixteen lanes. -/
abbrev ln (k : Fin 16) : S16.Idx := Shape.ofLane (d := ![16]) k

theorem scan_sum_count (v : IVec S16 32) (m : ℕ → Prop) [DecidablePred m]
    (hv : ∀ x : S16.Idx, (v x).toNat = if m (x 0).val then 1 else 0) (x : S16.Idx) :
    (scan .sum v x).toNat = Nat.count m ((x 0).val + 1) := by
  have h : ∀ j : Fin 16, ∀ r : BitVec 32, r.toNat = (if m 0 then 1 else 0) →
      (((List.finRange 16).filter fun k => decide (0 < k.val ∧ k.val ≤ j.val)).foldl
        (fun r k => ScanKind.sum.step r (v (ln k))) r).toNat = Nat.count m (j.val + 1) := by
    intro j r hr
    rw [fold_addi (fun k : Fin 16 => v (ln k)), hr]
    have hv' : (fun k : Fin 16 => (v (ln k)).toNat) = fun k => if m k.val then 1 else 0 := funext fun k => hv _
    rw [hv']
    have hle : Nat.count m (j.val + 1) ≤ j.val + 1 := Nat.count_le _
    have hj := j.isLt
    refine Eq.trans (congrArg (· % 2 ^ 32) ?_) (Nat.mod_eq_of_lt (by omega))
    fin_cases j <;> simp [List.finRange_succ, Nat.count_succ, List.filter] <;> omega
  exact h (x 0) _ (hv _)

theorem scan_max_lt (v : IVec S16 32) (x : S16.Idx) (hx : (x 0).val = 15) (n : ℕ) :
    n < (scan .max v x).toNat ↔ ∃ y : S16.Idx, n < (v y).toNat := by
  have h : ∀ r : BitVec 32, n < (((List.finRange 16).filter fun k => decide (0 < k.val ∧ k.val ≤ (x 0).val)).foldl
      (fun r k => ScanKind.max.step r (v (ln k))) r).toNat ↔ n < r.toNat ∨ ∃ k : Fin 16, 0 < k.val ∧ n < (v (ln k)).toNat := by
    intro r
    rw [fold_maxui (fun k : Fin 16 => v (ln k))]
    refine or_congr Iff.rfl ⟨?_, ?_⟩
    · rintro ⟨k, hk, hn⟩
      exact ⟨k, (by simpa using (List.mem_filter.mp hk).2 : 0 < k.val ∧ _).1, hn⟩
    · rintro ⟨k, hk, hn⟩
      exact ⟨k, List.mem_filter.mpr ⟨List.mem_finRange _, by have := k.isLt; simpa [hx] using ⟨hk, by omega⟩⟩, hn⟩
  refine (h _).trans ⟨?_, ?_⟩
  · rintro (h | ⟨k, -, h⟩)
    · exact ⟨_, h⟩
    · exact ⟨_, h⟩
  · rintro ⟨y, hy⟩
    have hy' : y = ln (y 0) := (ofLane_eq y).symm
    by_cases h0 : 0 < (y 0 : Fin 16).val
    · exact .inr ⟨y 0, h0, hy' ▸ hy⟩
    · left
      have h1 : (y 0 : Fin 16) = (0 : Fin 16) := Fin.ext (Nat.eq_zero_of_not_pos h0)
      have h2 : y = ln 0 := hy'.trans (congrArg ln h1)
      rw [h2] at hy
      exact hy

/-! ## Words that are small naturals -/

section Words

theorem slt_nat {x y : BitVec 32} (hx : x.toNat < 2 ^ 31) (hy : y.toNat < 2 ^ 31) : x.slt y = decide (x.toNat < y.toNat) := by
  rw [BitVec.slt_eq_decide, BitVec.toInt_eq_toNat_of_lt (by omega), BitVec.toInt_eq_toNat_of_lt (by omega)]
  simp

theorem sle_nat {x y : BitVec 32} (hx : x.toNat < 2 ^ 31) (hy : y.toNat < 2 ^ 31) : x.sle y = decide (x.toNat ≤ y.toNat) := by
  rw [BitVec.sle_eq_decide, BitVec.toInt_eq_toNat_of_lt (by omega), BitVec.toInt_eq_toNat_of_lt (by omega)]
  simp

theorem maxsi_nat {x y : BitVec 32} (hx : x.toNat < 2 ^ 31) (hy : y.toNat < 2 ^ 31) :
    (IntOp.maxsi x y).toNat = max x.toNat y.toNat := by
  unfold IntOp.maxsi
  rw [slt_nat hy hx]
  split <;> rename_i h <;> simp at h <;> omega

theorem minsi_nat {x y : BitVec 32} (hx : x.toNat < 2 ^ 31) (hy : y.toNat < 2 ^ 31) :
    (IntOp.minsi x y).toNat = min x.toNat y.toNat := by
  unfold IntOp.minsi
  rw [slt_nat hx hy]
  split <;> rename_i h <;> simp at h <;> omega

theorem pred_max_nat {x : BitVec 32} (hx : x.toNat < 2 ^ 31) : (IntOp.maxsi (IntOp.subi x 1#32) 0#32).toNat = x.toNat - 1 := by
  by_cases h : x = 0#32
  · subst h; decide
  · have h0 : x.toNat ≠ 0 := fun h0 => h (BitVec.eq_of_toNat_eq (by simpa using h0))
    have h1 : (IntOp.subi x 1#32).toNat = x.toNat - 1 := by
      show (x - 1#32).toNat = _
      rw [BitVec.toNat_sub]; simp; omega
    rw [maxsi_nat (by omega) (by decide), h1]
    simp

theorem ofBool_one (b : Bool) : BitVec.ofBool b = 1#1 ↔ b = true := by cases b <;> decide

theorem slt_one {x y : BitVec 32} (hx : x.toNat < 2 ^ 31) (hy : y.toNat < 2 ^ 31) : IntOp.cmpi .slt x y = 1#1 ↔ x.toNat < y.toNat := by
  show BitVec.ofBool (x.slt y) = 1#1 ↔ _
  rw [ofBool_one, slt_nat hx hy, decide_eq_true_iff]

theorem sge_one {x y : BitVec 32} (hx : x.toNat < 2 ^ 31) (hy : y.toNat < 2 ^ 31) : IntOp.cmpi .sge x y = 1#1 ↔ y.toNat ≤ x.toNat := by
  show BitVec.ofBool (y.sle x) = 1#1 ↔ _
  rw [ofBool_one, sle_nat hy hx, decide_eq_true_iff]

theorem eq_one {x y : BitVec 32} : IntOp.cmpi .eq x y = 1#1 ↔ x.toNat = y.toNat := by
  show BitVec.ofBool (x == y) = 1#1 ↔ _
  rw [ofBool_one, beq_iff_eq]
  exact ⟨congrArg _, BitVec.eq_of_toNat_eq⟩

theorem ne_one {x y : BitVec 32} : IntOp.cmpi .ne x y = 1#1 ↔ x.toNat ≠ y.toNat := by
  show BitVec.ofBool (x != y) = 1#1 ↔ _
  rw [ofBool_one, bne_iff_ne]
  exact not_congr ⟨congrArg _, BitVec.eq_of_toNat_eq⟩

theorem and_one {a b : BitVec 1} : IntOp.andi a b = 1#1 ↔ a = 1#1 ∧ b = 1#1 := by revert a b; decide
theorem or_one {a b : BitVec 1} : IntOp.ori a b = 1#1 ↔ a = 1#1 ∨ b = 1#1 := by revert a b; decide

theorem add_nat {x y : BitVec 32} (h : x.toNat + y.toNat < 2 ^ 32) : (IntOp.addi x y).toNat = x.toNat + y.toNat := by
  show (x + y).toNat = _
  rw [BitVec.toNat_add]; omega

theorem mul_nat {x y : BitVec 32} (h : x.toNat * y.toNat < 2 ^ 32) : (IntOp.muli x y).toNat = x.toNat * y.toNat := by
  show (x * y).toNat = _
  rw [BitVec.toNat_mul]; exact Nat.mod_eq_of_lt h

theorem sub_nat {x y : BitVec 32} (h : y.toNat ≤ x.toNat) : (IntOp.subi x y).toNat = x.toNat - y.toNat := by
  show (x - y).toNat = _
  have := x.isLt
  rw [BitVec.toNat_sub]; omega

theorem ofNat_nat {n : ℕ} (h : n < 2 ^ 32) : (BitVec.ofNat 32 n).toNat = n := by
  rw [BitVec.toNat_ofNat]; exact Nat.mod_eq_of_lt h

theorem sel_pos {α : Type} {c : BitVec 1} (h : c = 1#1) (a b : α) : Scalar.select c a b = a := if_pos h
theorem sel_neg {α : Type} {c : BitVec 1} (h : c ≠ 1#1) (a b : α) : Scalar.select c a b = b := if_neg h

theorem iv_nat {k : ℕ} (h : k < 2 ^ 32) : (Scf.iv 0#32 1#32 k).toNat = k := by
  show (0#32 + BitVec.ofNat 32 k * 1#32).toNat = k
  rw [BitVec.zero_add, BitVec.mul_one, ofNat_nat h]

theorem xor_top_lt {x : BitVec 32} (hx : x.toNat < 2 ^ 31) : (x ^^^ 2147483648#32).toNat = x.toNat + 2 ^ 31 := by
  rw [BitVec.toNat_xor]
  show x.toNat ^^^ 2 ^ 31 = _
  rw [Nat.add_comm]
  apply Nat.eq_of_testBit_eq
  intro i
  rw [Nat.testBit_xor, Nat.testBit_two_pow]
  rcases lt_trichotomy i 31 with h | rfl | h
  · rw [Nat.testBit_two_pow_add_gt h, decide_eq_false (by omega), Bool.xor_false]
  · rw [Nat.testBit_two_pow_add_eq, decide_eq_true rfl, Bool.xor_true]
  · have h1 : 2 ^ 32 ≤ 2 ^ i := Nat.pow_le_pow_right (by decide) (by omega)
    rw [Nat.testBit_lt_two_pow (by omega), Nat.testBit_lt_two_pow (by omega), decide_eq_false (by omega)]
    rfl

theorem xor_top_ge {x : BitVec 32} (hx : 2 ^ 31 ≤ x.toNat) : (x ^^^ 2147483648#32).toNat = x.toNat - 2 ^ 31 := by
  have h1 : (BitVec.ofNat 32 (x.toNat - 2 ^ 31)).toNat = x.toNat - 2 ^ 31 := ofNat_nat (by omega)
  have h2 : x = BitVec.ofNat 32 (x.toNat - 2 ^ 31) ^^^ 2147483648#32 := by
    apply BitVec.eq_of_toNat_eq
    rw [xor_top_lt (by omega), h1]
    omega
  have h3 : x ^^^ 2147483648#32 = BitVec.ofNat 32 (x.toNat - 2 ^ 31) := by
    conv_lhs => rw [h2]
    rw [BitVec.xor_assoc, BitVec.xor_self, BitVec.xor_zero]
  rw [h3, h1]

theorem smax_aux (v : IVec S16 32) (hv : ∀ x, (v x).toNat < 2 ^ 31) (r : BitVec 32)
    (h : ∀ n, n < r.toNat ↔ ∃ y : S16.Idx, n < (v y ^^^ 2147483648#32).toNat) (n : ℕ) :
    n < (r ^^^ 2147483648#32).toNat ↔ ∃ y : S16.Idx, n < (v y).toNat := by
  have h0 : 2 ^ 31 ≤ r.toNat := by
    have := (h (2 ^ 31 - 1)).mpr ⟨ln 0, by rw [xor_top_lt (hv _)]; omega⟩
    omega
  rw [xor_top_ge h0]
  constructor
  · intro hn
    obtain ⟨y, hy⟩ := (h (n + 2 ^ 31)).mp (by omega)
    rw [xor_top_lt (hv _)] at hy
    exact ⟨y, by omega⟩
  · rintro ⟨y, hy⟩
    have := (h (n + 2 ^ 31)).mpr ⟨y, by rw [xor_top_lt (hv _)]; omega⟩
    omega

/-- The last lane of a signed running maximum, of lanes that are small naturals. -/
theorem smax_lt (v : IVec S16 32) (hv : ∀ x, (v x).toNat < 2 ^ 31) (x : S16.Idx) (hx : (x 0).val = 15) (n : ℕ) :
    n < (scan .max (fun y => v y ^^^ 2147483648#32) x ^^^ 2147483648#32).toNat ↔ ∃ y : S16.Idx, n < (v y).toNat :=
  smax_aux v hv _ (scan_max_lt (fun y => v y ^^^ 2147483648#32) x hx) n

theorem iota_nat (x : S16.Idx) : (iota .scVector S16 32 [0] iota_S16_d0_w32_scVector x).toNat = (x 0).val := by
  show (BitVec.ofNat 32 _).toNat = _
  have h1 : (x 0).val < 16 := (x 0).isLt
  have h2 : ([0] : List (Fin 1)).foldl (fun n a => n * S16.size a + (x a).val) 0 = (x 0).val := by
    show 0 * 16 + (x 0).val = _
    omega
  exact (congrArg (fun n => (BitVec.ofNat 32 n).toNat) h2).trans (ofNat_nat (by omega))

end Words

/-! ## A tile's whole scratch buffers -/

section Mem

variable (d : Dev nD) (c' : Fin τ.nSC) (s' : Fin τ.nSub)

/-- The scratch buffer `m` of the tile, held outright with contents `X`. -/
def mem {s : Shape} {e : EltTy} (m : Memref sig .scVector .vmem s e) (X : Vec F s e) : sProp 𝕄 :=
  iprop(∃ f : Buf (Elt F) ((m.access (.whole s)).loc (V d c' s')),
    ((m.access (.whole s)).loc (V d c' s') ↦[(m.access (.whole s)).set]{fullShare} f) ∗ ⌜(m.access (.whole s)).read (Elt F) f = X⌝)

variable {d c' s'} {Λ : Labels} [FloatOps F] {defs : Defs nD τ sig (Elt F) Λ} (bd : Option 𝒱₀.V)
variable {s t : Shape} {e : EltTy} {m : Memref sig .scVector .vmem s e}

theorem wp_ld {α : Type} {Q : α → sProp 𝕄} {idxs : Fin s.rank → IVec t 32} {h : ∀ a x, (idxs a x).toNat < s.size a} {hl : m.view.Loads}
    {k : Vec F t e → Prog (TpuEff nD τ sig (Elt F) Λ (V d c' s').2) α} {X : Vec F s e} :
    mem d c' s' m X ⊢ iprop((mem d c' s' m X -∗ wp frame (wpE defs 𝒱₀ (V d c' s') bd) Set.univ (k (loadIdx X idxs h)) Q)
      -∗ wp frame (wpE defs 𝒱₀ (V d c' s') bd) Set.univ (SparseCore.vectorLoadIdx m idxs h hl >>= k) Q) := by
  unfold mem
  iintro ⟨%f, H, %hf⟩ Hk
  subst hf
  iapply (SparseCore.wp_vectorLoadIdx (defs := defs) 𝒱₀ (V d c' s') bd Set.univ (base := m) (idxs := idxs) (h := h) (hl := hl) (k := k)
    (S := (m.access (.whole s)).set) (q := fullShare) (f := f) subset_rfl) $$ H
  iintro H
  iapply Hk
  iexists f
  isplitl [H]; · iexact H
  ipureintro; rfl

theorem wp_st {α : Type} {Q : α → sProp 𝕄} {n : Fin 1 → ℕ} {idxs : Fin s.rank → IVec ⟨1, n⟩ 32} {v : Vec F ⟨1, n⟩ e} {mask : IVec ⟨1, n⟩ 1}
    {h : ∀ a x, (idxs a x).toNat < s.size a} {hs : (m.access (.whole s)).Stores Finset.univ}
    {k : PUnit → Prog (TpuEff nD τ sig (Elt F) Λ (V d c' s').2) α} {X : Vec F s e} :
    mem d c' s' m X ⊢ iprop((mem d c' s' m (storeIdx X idxs v mask false h)
        -∗ wp frame (wpE defs 𝒱₀ (V d c' s') bd) Set.univ (k ⟨⟩) Q)
      -∗ wp frame (wpE defs 𝒱₀ (V d c' s') bd) Set.univ (SparseCore.vectorStoreIdx m idxs v mask false h hs >>= k) Q) := by
  unfold mem
  iintro ⟨%f, H, %hf⟩ Hk
  subst hf
  iapply (SparseCore.wp_vectorStoreIdx (defs := defs) 𝒱₀ (V d c' s') bd Set.univ (base := m) (idxs := idxs) (v := v) (mask := mask) (h := h) (hs := hs) (k := k)
    (f := f)) $$ H
  iintro H
  iapply Hk
  iexists _
  isplitl [H]; · iexact H
  ipureintro
  exact View.read_write_univ _ _

theorem wp_as {α : Type} {Q : α → sProp 𝕄} {P : Prop} {dec : Decidable P} (h : P)
    {k : PLift P → Prog (TpuEff nD τ sig (Elt F) Λ (V d c' s').2) α} :
    wp frame (wpE defs 𝒱₀ (V d c' s') bd) Set.univ (k ⟨h⟩) Q
      ⊢ wp frame (wpE defs 𝒱₀ (V d c' s') bd) Set.univ (Prog.lift (TpuEff.assume P dec) >>= k) Q :=
  wp_assume 𝒱₀ (V d c' s') bd Set.univ h (k := k)

theorem wp_rt {α : Type} {Q : α → sProp 𝕄} {a : α} :
    Q a ⊢ wp frame (wpE defs 𝒱₀ (V d c' s') bd) Set.univ (pure a : Prog (TpuEff nD τ sig (Elt F) Λ (V d c' s').2) α) Q :=
  (fupd_intro).trans (Entails.of_eq (wp_ret _ _ _ _ _).symm)

theorem wp_bd {α β : Type} {Q : β → sProp 𝕄} {p : Prog (TpuEff nD τ sig (Elt F) Λ (V d c' s').2) α} {k : α → Prog (TpuEff nD τ sig (Elt F) Λ (V d c' s').2) β} :
    wp frame (wpE defs 𝒱₀ (V d c' s') bd) Set.univ p (fun a => wp frame (wpE defs 𝒱₀ (V d c' s') bd) Set.univ (k a) Q)
      ⊢ wp frame (wpE defs 𝒱₀ (V d c' s') bd) Set.univ (p >>= k) Q :=
  Entails.of_eq (wp_bind _ _ _ _ _ _).symm

end Mem

/-- A subcore's SparseCore, of its grid coordinates. -/
abbrev cV (L : grid0.Coords) : Fin τ.nSC := (L 0).castLE hcore0
/-- A subcore's index in its SparseCore, of its grid coordinates. -/
abbrev jV (L : grid0.Coords) : Fin τ.nSub := (L 1).castLE hsub0

end Cert.Proof.Emb

end
-- ==== Proof.Spec.lean ====
/-
  What a tile's scan finds in its window: the vocabulary tiles it owns that occur, each with the stretch of positions of
  the window holding it.
-/
module

public import proofs.«01_k».proof.Proof.Vec

@[expose] public section

noncomputable section

namespace Cert.Proof.Emb

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The vocabulary tiles a subcore owns -/

/-- The subcore's first vocabulary tile. -/
def lo (i : grid0.Coords) : ℕ := ((i 1).val * 2 + (i 0).val) * 245
/-- One past the subcore's last vocabulary tile. -/
def hi (i : grid0.Coords) : ℕ := min (lo i + 245) 7813

theorem lo_le (i : grid0.Coords) : lo i ≤ 7595 := by
  have h0 : (i 0).val < 2 := (i 0).isLt
  have h1 : (i 1).val < 16 := (i 1).isLt
  unfold lo; omega

/-- Position `q` of the window holds a vocabulary tile the subcore owns. -/
def MM (i : grid0.Coords) (tw : ℕ → ℕ) (q : ℕ) : Prop := lo i ≤ tw q ∧ tw q < hi i
/-- Position `q` starts a stretch of one vocabulary tile. -/
def ST (i : grid0.Coords) (tw : ℕ → ℕ) (q : ℕ) : Prop := MM i tw q ∧ (tw q ≠ tw (q - 1) ∨ q = 0)

instance (i : grid0.Coords) (tw : ℕ → ℕ) : DecidablePred (MM i tw) := fun q => inferInstanceAs (Decidable (_ ∧ _))
instance (i : grid0.Coords) (tw : ℕ → ℕ) : DecidablePred (ST i tw) := fun q => inferInstanceAs (Decidable (_ ∧ _))

/-- The window is in order between any two positions with tiles of the table. -/
def Sorted (tw : ℕ → ℕ) : Prop := ∀ a b c, a ≤ b → b ≤ c → c < 1536 → tw a < 7813 → tw c < 7813 → tw a ≤ tw b ∧ tw b ≤ tw c

variable {i : grid0.Coords} {tw : ℕ → ℕ}

theorem hi_le : hi i ≤ 7813 := min_le_right _ _

theorem MM_between (hs : Sorted tw) {a b c : ℕ} (hab : a ≤ b) (hbc : b ≤ c) (hc : c < 1536) (ha : MM i tw a) (hc' : MM i tw c) :
    MM i tw b := by
  have h := hs a b c hab hbc hc (lt_of_lt_of_le ha.2 hi_le) (lt_of_lt_of_le hc'.2 hi_le)
  exact ⟨le_trans ha.1 h.1, lt_of_le_of_lt h.2 hc'.2⟩

theorem ST_lt (hs : Sorted tw) {a c : ℕ} (hac : a < c) (hc : c < 1536) (ha : ST i tw a) (hc' : ST i tw c) : tw a < tw c := by
  have h := hs a (c - 1) c (by omega) (by omega) hc (lt_of_lt_of_le ha.1.2 hi_le) (lt_of_lt_of_le hc'.1.2 hi_le)
  have h1 : tw c ≠ tw (c - 1) := hc'.2.resolve_right (by omega)
  omega

theorem count_ST_le (hs : Sorted tw) {n : ℕ} (hn : n ≤ 1536) : Nat.count (ST i tw) n ≤ 245 := by
  rw [Nat.count_eq_card_filter_range]
  have h1 : ((Finset.range n).filter (ST i tw)).card ≤ (Finset.Ico (lo i) (hi i)).card := by
    refine Finset.card_le_card_of_injOn tw (fun q hq => ?_) (fun a ha b hb hab => ?_)
    · have := (Finset.mem_filter.mp hq).2
      exact Finset.mem_coe.mpr (Finset.mem_Ico.mpr this.1)
    · have ha' := Finset.mem_filter.mp ha
      have hb' := Finset.mem_filter.mp hb
      have ha1 := Finset.mem_range.mp ha'.1
      have hb1 := Finset.mem_range.mp hb'.1
      rcases lt_trichotomy a b with h | h | h
      · have := ST_lt hs h (by omega) ha'.2 hb'.2
        omega
      · exact h
      · have := ST_lt hs h (by omega) hb'.2 ha'.2
        omega
  rw [Nat.card_Ico] at h1
  refine le_trans (le_of_eq ?_) (le_trans h1 ?_)
  · congr
  have : hi i ≤ lo i + 245 := min_le_left _ _
  omega

/-- What the rest of the subcore's program asks of the scan's result: `nd` stretches, the `g`-th of vocabulary tile `dl g`
    at the positions from `ds g` up to `ds (g + 1)`, covering every owned position. -/
structure RingOK (i : grid0.Coords) (tw : ℕ → ℕ) (nd : ℕ) (dl ds : ℕ → ℕ) : Prop where
  nd_le : nd ≤ 245
  own : ∀ g < nd, lo i ≤ dl g ∧ dl g < hi i
  mono : ∀ g < nd, ds g ≤ ds (g + 1)
  le : ∀ g ≤ nd, ds g ≤ 1536
  tile : ∀ g < nd, ∀ q, ds g ≤ q → q < ds (g + 1) → tw q = dl g
  cov : ∀ q < 1536, MM i tw q → ds 0 ≤ q ∧ q < ds nd

theorem exists_of_lt_count (p : ℕ → Prop) [DecidablePred p] {n g : ℕ} (h : g < Nat.count p n) :
    ∃ q < n, p q ∧ Nat.count p q = g := by
  induction n with
  | zero => simp at h
  | succ n ih =>
    rw [Nat.count_succ] at h
    by_cases hp : p n
    · rw [if_pos hp] at h
      rcases Nat.lt_or_ge g (Nat.count p n) with h1 | h1
      · obtain ⟨q, hq, h2⟩ := ih h1
        exact ⟨q, by omega, h2⟩
      · exact ⟨n, by omega, hp, by omega⟩
    · rw [if_neg hp] at h
      obtain ⟨q, hq, h2⟩ := ih (by omega)
      exact ⟨q, by omega, h2⟩

theorem ringOK_of_scan (hs : Sorted tw) {nd : ℕ} (hnd : nd = Nat.count (ST i tw) 1536) {dl ds : ℕ → ℕ}
    (hg : ∀ q < 1536, ST i tw q → dl (Nat.count (ST i tw) q) = tw q ∧ ds (Nat.count (ST i tw) q) = q)
    (he : ∀ n, n < ds nd ↔ ∃ q < 1536, MM i tw q ∧ n ≤ q) : RingOK i tw nd dl ds := by
  have hST : ∀ g < nd, ∃ q < 1536, ST i tw q ∧ Nat.count (ST i tw) q = g ∧ dl g = tw q ∧ ds g = q := fun g h => by
    obtain ⟨q, hq, h1, h2⟩ := exists_of_lt_count (ST i tw) (hnd ▸ h)
    have := hg q hq h1
    rw [h2] at this
    exact ⟨q, hq, h1, h2, this⟩
  have he1 : ds nd ≤ 1536 := by
    by_contra h
    obtain ⟨q, hq, -, h'⟩ := (he 1536).mp (by omega)
    omega
  have hend : ∀ g < nd, ds g < ds nd := fun g h => by
    obtain ⟨q, hq, h1, h2, h3, h4⟩ := hST g h
    rw [h4]
    exact (he _).mpr ⟨_, hq, h1.1, le_rfl⟩
  have hmono : ∀ g < nd, ds g < ds (g + 1) := fun g h => by
    by_cases hn : g + 1 < nd
    · obtain ⟨q, hq, h1, h2, h3, h4⟩ := hST g h
      obtain ⟨q', hq', h1', h2', h3', h4'⟩ := hST _ hn
      rw [h4, h4']
      by_contra hc
      have := Nat.count_monotone (ST i tw) (show q' ≤ q by omega)
      omega
    · have : g + 1 = nd := by omega
      rw [this]; exact hend g h
  -- between two starts nothing starts
  have hno : ∀ g < nd, ∀ q, ds g < q → q < ds (g + 1) → ¬ST i tw q := fun g h q h1 h2 hq => by
    obtain ⟨p, hp, g1, g2, g3, g4⟩ := hST g h
    have hq1 : q < 1536 := by
      by_cases h3 : g + 1 < nd
      · obtain ⟨q', hq', h1', h2', h3', h4'⟩ := hST _ h3
        omega
      · have : g + 1 = nd := by omega
        rw [this] at h2; omega
    have h4 : g < Nat.count (ST i tw) q := by
      have := Nat.count_strict_mono (p := ST i tw) g1 (n := q) (by omega)
      omega
    have h5 : Nat.count (ST i tw) q < nd := by
      rw [hnd]; exact Nat.count_strict_mono hq hq1
    have h7 : g + 1 < nd := by omega
    obtain ⟨q', hq', h1', h2', h3', h4'⟩ := hST _ h7
    have h8 := Nat.count_strict_mono (p := ST i tw) hq (n := q') (by omega)
    omega
  have hMM : ∀ g < nd, ∀ q, ds g ≤ q → q < ds (g + 1) → MM i tw q := fun g h q h1 h2 => by
    have h3 : q < ds nd := by
      by_cases h4 : g + 1 < nd
      · exact lt_trans h2 (hend _ h4)
      · have : g + 1 = nd := by omega
        rwa [this] at h2
    obtain ⟨q', hq', hm, hle⟩ := (he q).mp h3
    obtain ⟨p, hp, g1, g2, g3, g4⟩ := hST g h
    exact MM_between hs (by omega) hle hq' g1.1 hm
  refine ⟨hnd ▸ count_ST_le hs le_rfl, fun g h => ?_, fun g h => le_of_lt (hmono g h), fun g h => ?_, fun g h => ?_, fun q hq hm => ?_⟩
  · obtain ⟨p, hp, g1, g2, g3, g4⟩ := hST g h
    rw [g3]; exact g1.1
  · rcases Nat.lt_or_ge g nd with h1 | h1
    · exact le_trans (le_of_lt (hend g h1)) he1
    · have : g = nd := by omega
      rw [this]; exact he1
  · obtain ⟨p, hp, g1, g2, g3, g4⟩ := hST g h
    intro q
    rw [g3]
    induction q with
    | zero =>
      intro h1 h2
      have : p = 0 := by omega
      rw [this]
    | succ q ih =>
      intro h1 h2
      rcases Nat.lt_or_ge (ds g) (q + 1) with h3 | h3
      · have h4 := hno g h (q + 1) h3 h2
        have h5 := hMM g h (q + 1) h1 h2
        have h6 : tw (q + 1) = tw q := by
          by_contra h7
          exact h4 ⟨h5, .inl h7⟩
        rw [h6]
        exact ih (by omega) (by omega)
      · have : p = q + 1 := by omega
        rw [this]
  · refine ⟨?_, (he q).mpr ⟨q, hq, hm, le_rfl⟩⟩
    have hex : ∃ q, MM i tw q := ⟨q, hm⟩
    have hf := Nat.find_spec hex
    have hf' : Nat.find hex ≤ q := Nat.find_min' hex hm
    have hst : ST i tw (Nat.find hex) := by
      refine ⟨hf, ?_⟩
      by_cases h0 : Nat.find hex = 0
      · exact .inr h0
      · left
        intro h1
        have : MM i tw (Nat.find hex - 1) := ⟨h1 ▸ hf.1, h1 ▸ hf.2⟩
        exact Nat.find_min hex (by omega) this
    have hc : Nat.count (ST i tw) (Nat.find hex) < nd := by
      rw [hnd]; exact Nat.count_strict_mono hst (by omega)
    obtain ⟨p, hp, g1, g2, g3, g4⟩ := hST 0 (by omega)
    rw [g4]
    by_contra hcon
    have := Nat.count_strict_mono (p := ST i tw) hst (n := p) (by omega)
    omega

end Cert.Proof.Emb

end
-- ==== Proof.Copy.lean ====
/-
  Copies into a tile's scratch buffers, and their waits.
-/
module

public import proofs.«01_k».proof.Proof.Vec

@[expose] public section

noncomputable section

namespace Cert.Proof.Emb

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Copy

variable {d : Dev nD} {c' : Fin τ.nSC} {s' : Fin τ.nSub} {s : Shape} {e : EltTy}

theorem access_emb {κ : Kind} {sp : Space} (m : Memref sig κ sp s e) (x : s.Idx) : (m.access (.whole s)).emb x = m.view.emb x := by
  show m.view.emb ((Rect.whole s).emb x) = m.view.emb x
  rw [Rect.emb_whole_apply]

theorem access_set {κ : Kind} {sp : Space} (m : Memref sig κ sp s e) : (m.access (.whole s)).set = m.view.set := by
  unfold View.set
  ext x
  simp only [Finset.mem_map, Finset.mem_univ, true_and]
  constructor
  · rintro ⟨y, rfl⟩; exact ⟨y, (access_emb m y).symm⟩
  · rintro ⟨y, rfl⟩; exact ⟨y, access_emb m y⟩

theorem access_read {κ : Kind} {sp : Space} (m : Memref sig κ sp s e) (f : m.view.ty.Contents (Elt F)) :
    (m.access (.whole s)).read (Elt F) f = m.view.read (Elt F) f := by
  funext x
  rw [View.read_apply, View.read_apply]
  congr 1
  exact congrArg f (access_emb m x)

theorem mem_eq (m : Memref sig .scVector .vmem s e) (X : Vec F s e) :
    mem d c' s' m X = (iprop(∃ f : Buf (Elt F) (m.view.loc (V d c' s')), (m.view.loc (V d c' s') ↦[m.view.set]{fullShare} f) ∗ ⌜m.view.read (Elt F) f = X⌝) : sProp 𝕄) := by
  unfold mem
  simp only [access_set, access_read]

/-- Issuing a copy from main memory into a scratch buffer. -/
theorem wp_cp {Λ : Labels} [FloatOps F] {defs : Defs nD τ sig (Elt F) Λ} (bd : Option 𝒱₀.V) {α : Type} {Q : α → sProp 𝕄}
    {sp : Space} {src : Memref sig .scVector sp s e} {m : Memref sig .scVector .vmem s e} {sem : DmaSem sig}
    {hsrc : src.view.WordExact} {hdst : m.view.WordExact} {hsem : DmaTarget.Typed (nD := nD) (p := (V d c' s').2) sp (SemLoc.dma sem) (.here m)}
    {k : PUnit → Prog (TpuEff nD τ sig (Elt F) Λ (V d c' s').2) α} {q : PosShare TreeShare} {fs : Buf (Elt F) (src.view.loc (V d c' s'))}
    {X : Vec F s e} (h0 : 0 < m.view.dmaCredit) :
    iprop((src.view.loc (V d c' s') ↦[src.view.set]{q} fs) ∗ mem d c' s' m X ∗ semVal ((V d c' s'), SemLoc.dma sem) 0)
      ⊢ iprop((Transfers.Flight EC (V d c' s') (SemLoc.dma sem) (default : HIx 1) m.view.dmaCredit
            iprop(mem d c' s' m (src.view.read (Elt F) fs) ∗ (src.view.loc (V d c' s') ↦[src.view.set]{q} fs))
          -∗ wp frame (wpE defs 𝒱₀ (V d c' s') bd) Set.univ (k ⟨⟩) Q)
        -∗ wp frame (wpE defs 𝒱₀ (V d c' s') bd) Set.univ
            (Prog.lift (TpuEff.enqueueDma (p := (V d c' s').2) src (.here m) (SemLoc.dma sem) hsrc hdst hsem) >>= k) Q) := by
  rw [mem_eq]
  iintro ⟨Hs, ⟨%f, Hm, %hf⟩, Hv⟩ Hk
  iapply (Transfers.wp_dmaLocal EC 𝒱₀ (V d c' s') bd (defs := defs) (src := src) (dst := m) (sm := SemLoc.dma sem) (fs := fs) (q := q) (fd := f)
    (Sd := m.view.set) (default : HIx 1) m.view.dmaCredit rfl h0 subset_rfl) $$ [Hs Hm Hv]
  · isplitl [Hs]; · iexact Hs
    isplitl [Hm]; · iexact Hm
    iexact Hv
  iintro Hfl
  iapply Hk
  iapply (Transfers.Flight_mono EC (V d c' s') ?_) $$ Hfl
  rw [mem_eq]
  iintro ⟨Hm, Hs⟩
  isplitl [Hm]
  · iexists _
    isplitl [Hm]; · iexact Hm
    ipureintro
    exact View.read_write_univ _ _
  · iexact Hs

/-- Waiting for it. -/
theorem wp_cpw {Λ : Labels} [FloatOps F] {defs : Defs nD τ sig (Elt F) Λ} (bd : Option 𝒱₀.V) {α : Type} {Q : α → sProp 𝕄}
    {sp sp' : Space} {s₂ : Shape} {e₂ : EltTy} {src : Memref sig .scVector sp' s₂ e₂} {m : Memref sig .scVector sp s e} {sem : DmaSem sig}
    {hsrc : src.view.WordExact} {hdst : m.view.WordExact}
    {k : PUnit → Prog (TpuEff nD τ sig (Elt F) Λ (V d c' s').2) α} {D : sProp 𝕄} {O : CellTallies nD τ sig (HIx 1)} {W : Waits sig (HIx 1)} :
    iprop(Transfers.Flight EC (V d c' s') (SemLoc.dma sem) (default : HIx 1) m.view.dmaCredit D ∗ owes (V d c' s') O W
        ∗ Transfers.MayWaits (V d c' s') (default : HIx 1) O)
      ⊢ iprop((iprop(D ∗ semVal ((V d c' s'), SemLoc.dma sem) 0 ∗ owes (V d c' s') O (insert (SemLoc.dma sem, default) W))
          -∗ wp frame (wpE defs 𝒱₀ (V d c' s') bd) Set.univ (k ⟨⟩) Q)
        -∗ wp frame (wpE defs 𝒱₀ (V d c' s') bd) Set.univ (Prog.lift (TpuEff.waitDma2 (p := (V d c' s').2) sem src m hsrc hdst) >>= k) Q) := by
  iintro ⟨Hfl, HO, Hmw⟩ Hk
  iapply (Transfers.wp_waitLocalO EC 𝒱₀ (V d c' s') bd (defs := defs) (srcw := src) (dstw := m) (default : HIx 1) rfl) $$ [Hfl HO Hmw]
  · isplitl [Hfl]; · iexact Hfl
    isplitl [HO]; · iexact HO
    iapply (Transfers.MayWaits.elim (SemLoc.dma sem)) $$ Hmw
  iexact Hk

end Copy

end Cert.Proof.Emb

end
-- ==== Proof.Scan.lean ====
/-
  The scan of a tile's window: the loop that lists the stretches, the loop that finds where the last one ends, and what
  they leave in tile memory.
-/
module

public import proofs.«01_k».proof.Proof.Spec
public import proofs.«01_k».proof.Proof.Copy

@[expose] public section

noncomputable section

namespace Cert.Proof.Emb

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Registers of a buffer, as functions of a position -/

/-- The naturals a one-dimensional buffer of words holds, zero past its end. -/
def rd {n : ℕ} (f : (⟨1, ![n]⟩ : Shape).Idx → BitVec 32) (p : ℕ) : ℕ :=
  if h : p < n then (f (Shape.ofLane (d := ![n]) ⟨p, h⟩)).toNat else 0

theorem rd_eq {n : ℕ} (f : (⟨1, ![n]⟩ : Shape).Idx → BitVec 32) (x : (⟨1, ![n]⟩ : Shape).Idx) : (f x).toNat = rd f (x 0).val := by
  have h : (x 0).val < n := (x 0).isLt
  unfold rd
  rw [dif_pos h]
  exact congrArg (fun y => (f y).toNat) (ofLane_eq x).symm

theorem rd_load {n : ℕ} [FloatOps F] (f : Vec F ⟨1, ![n]⟩ .i32) (ix : IVec S16 32)
    (h : ∀ a x, ((![ix] : Fin 1 → IVec S16 32) a x).toNat < (⟨1, ![n]⟩ : Shape).size a) (x : S16.Idx) :
    (loadIdx (F := F) f ![ix] h x : BitVec 32).toNat = rd f (ix x).toNat := rd_eq f _

theorem rd_store_miss {n : ℕ} [FloatOps F] (f : Vec F ⟨1, ![n]⟩ .i32) (ix : IVec S16 32) (v : Vec F S16 .i32) (mask : IVec S16 1)
    (h : ∀ a x, ((![ix] : Fin 1 → IVec S16 32) a x).toNat < (⟨1, ![n]⟩ : Shape).size a) (p : ℕ)
    (hm : ∀ x, mask x = 1 → (ix x).toNat ≠ p) : rd (storeIdx (F := F) f ![ix] v mask false h) p = rd f p := by
  unfold rd
  by_cases hp : p < n
  · rw [dif_pos hp, dif_pos hp]
    refine congrArg BitVec.toNat (storeIdx_miss (F := F) f ![ix] v mask h _ fun x hx hj => hm x hx ?_)
    exact (hj 0).symm
  · rw [dif_neg hp, dif_neg hp]

theorem rd_store_hit {n : ℕ} [FloatOps F] (f : Vec F ⟨1, ![n]⟩ .i32) (ix : IVec S16 32) (v : Vec F S16 .i32) (mask : IVec S16 1)
    (h : ∀ a x, ((![ix] : Fin 1 → IVec S16 32) a x).toNat < (⟨1, ![n]⟩ : Shape).size a) (p : ℕ) (x : S16.Idx) (hx : mask x = 1)
    (hp : (ix x).toNat = p) (hv : ∀ x', mask x' = 1 → (ix x').toNat = p → v x' = v x) :
    rd (storeIdx (F := F) f ![ix] v mask false h) p = (v x : BitVec 32).toNat := by
  have hpn : p < n := hp ▸ h 0 x
  unfold rd
  rw [dif_pos hpn]
  refine congrArg BitVec.toNat (storeIdx_hit (F := F) f ![ix] v mask h _ x hx (fun a => ?_) fun x' hx' hj => hv x' hx' ?_)
  · obtain rfl : a = 0 := Fin.eq_zero a
    exact hp.symm
  · exact (hj 0).symm

/-! ## The scan's lane arithmetic -/

section Pay

variable {i : grid0.Coords}

theorem lane_lt (x : S16.Idx) : (x 0).val < 16 := (x 0).isLt

theorem coords_lt (i : grid0.Coords) : (i 0).val < 2 ∧ (i 1).val < 16 := ⟨(i 0).isLt, (i 1).isLt⟩

/-- The subcore's first tile, as the words compute it. -/
theorem lo_word (i : grid0.Coords) :
    (IntOp.muli (IntOp.addi (IntOp.muli (BitVec.ofNat 32 (i 1).val) 2#32) (BitVec.ofNat 32 (i 0).val)) 245#32).toNat = lo i := by
  obtain ⟨h0, h1⟩ := coords_lt i
  have e1 : (BitVec.ofNat 32 (i 1).val).toNat = (i 1).val := ofNat_nat (by omega)
  have e0 : (BitVec.ofNat 32 (i 0).val).toNat = (i 0).val := ofNat_nat (by omega)
  have e2 : (IntOp.muli (BitVec.ofNat 32 (i 1).val) 2#32).toNat = (i 1).val * 2 := by
    rw [mul_nat (by rw [e1]; show _ * 2 < _; omega), e1]; rfl
  have e3 : (IntOp.addi (IntOp.muli (BitVec.ofNat 32 (i 1).val) 2#32) (BitVec.ofNat 32 (i 0).val)).toNat = (i 1).val * 2 + (i 0).val := by
    rw [add_nat (by rw [e2, e0]; omega), e2, e0]
  rw [mul_nat (by rw [e3]; show _ * 245 < _; omega), e3]; rfl

theorem hi_word (i : grid0.Coords) :
    (IntOp.minsi (IntOp.addi (IntOp.muli (IntOp.addi (IntOp.muli (BitVec.ofNat 32 (i 1).val) 2#32) (BitVec.ofNat 32 (i 0).val)) 245#32) 245#32) 7813#32).toNat = hi i := by
  have h := lo_le i
  have h1 := lo_word i
  generalize IntOp.muli (IntOp.addi (IntOp.muli (BitVec.ofNat 32 (i 1).val) 2#32) (BitVec.ofNat 32 (i 0).val)) 245#32 = w at h1 ⊢
  have h2 : (IntOp.addi w 245#32).toNat = lo i + 245 := by
    rw [add_nat (by rw [h1]; show _ + 245 < _; omega), h1]; rfl
  rw [minsi_nat (by omega) (by decide), h2]; rfl

theorem trips_t1 : k0_t1_loop.trips = 96 := by decide
theorem trips_t2 : k0_t2_loop.trips = 96 := by decide

theorem chunk_word {k : ℕ} (hk : k < 96) (x : S16.Idx) :
    (IntOp.addi (IntOp.muli (Scf.iv 0#32 1#32 k) 16#32) (iota .scVector S16 32 [0] iota_S16_d0_w32_scVector x)).toNat = 16 * k + (x 0).val := by
  have h := lane_lt x
  have e1 : (Scf.iv 0#32 1#32 k).toNat = k := iv_nat (by omega)
  have e2 : (IntOp.muli (Scf.iv 0#32 1#32 k) 16#32).toNat = k * 16 := by
    rw [mul_nat (by rw [e1]; show _ * 16 < _; omega), e1]; rfl
  have e3 := iota_nat x
  rw [add_nat (by rw [e2, e3]; omega), e2, e3]
  omega

theorem pay199_nat (k : Fin k0_t1_loop.trips) (x : S16.Idx) : (k0_pay199 k x).toNat = 16 * k.val + (x 0).val :=
  chunk_word (trips_t1 ▸ k.isLt) x

theorem pay205_nat (k : Fin k0_t2_loop.trips) (x : S16.Idx) : (k0_pay205 k x).toNat = 16 * k.val + (x 0).val :=
  chunk_word (trips_t2 ▸ k.isLt) x

theorem pay200_nat (v : IVec S16 32) (x : S16.Idx) (h : (v x).toNat < 2 ^ 31) : (k0_pay200 v x).toNat = (v x).toNat - 1 :=
  pred_max_nat h

theorem pay201_one [FloatOps F] (v63 : IVec S16 32) (v64 v69 : Vec F S16 .i32) (x : S16.Idx) (h : (v64 x : BitVec 32).toNat < 2 ^ 31) :
    k0_pay201 i v63 v64 v69 x = 1#1 ↔ (lo i ≤ (v64 x : BitVec 32).toNat ∧ (v64 x : BitVec 32).toNat < hi i)
      ∧ ((v64 x : BitVec 32).toNat ≠ (v69 x : BitVec 32).toNat ∨ (v63 x).toNat = 0) := by
  have h1 := lo_word i
  have h2 := hi_word i
  have h3 := lo_le i
  have h4 : hi i ≤ 7813 := hi_le
  have e : k0_pay201 i v63 v64 v69 x = IntOp.andi (IntOp.andi (IntOp.cmpi .sge (v64 x : BitVec 32)
      (IntOp.muli (IntOp.addi (IntOp.muli (BitVec.ofNat 32 (i 1).val) 2#32) (BitVec.ofNat 32 (i 0).val)) 245#32))
      (IntOp.cmpi .slt (v64 x : BitVec 32)
      (IntOp.minsi (IntOp.addi (IntOp.muli (IntOp.addi (IntOp.muli (BitVec.ofNat 32 (i 1).val) 2#32) (BitVec.ofNat 32 (i 0).val)) 245#32) 245#32) 7813#32)))
      (IntOp.ori (IntOp.cmpi .ne (v64 x : BitVec 32) (v69 x : BitVec 32)) (IntOp.cmpi .eq (v63 x) 0#32)) := rfl
  rw [e, and_one, and_one, or_one, sge_one h (by omega), slt_one h (by omega), ne_one, eq_one, h1, h2]
  rfl

theorem pay202_nat [FloatOps F] (v63 : IVec S16 32) (v64 v69 : Vec F S16 .i32) (x : S16.Idx) (p : Prop) [Decidable p]
    (h : k0_pay201 i v63 v64 v69 x = 1#1 ↔ p) : (k0_pay202 i v63 v64 v69 x).toNat = if p then 1 else 0 := by
  show (Scalar.select (k0_pay201 i v63 v64 v69 x) 1#32 0#32).toNat = _
  by_cases hp : p
  · rw [sel_pos (h.mpr hp), if_pos hp]; rfl
  · rw [sel_neg fun h' => hp (h.mp h'), if_neg hp]; rfl

theorem pay203_nat [FloatOps F] (acc : BitVec 32) (v63 : IVec S16 32) (v64 v69 : Vec F S16 .i32) (m : ℕ → Prop) [DecidablePred m]
    (h : ∀ x : S16.Idx, k0_pay201 i v63 v64 v69 x = 1#1 ↔ m (x 0).val) (hacc : acc.toNat < 2000) (x : S16.Idx) :
    (k0_pay203 i acc v63 v64 v69 x).toNat = acc.toNat + Nat.count m ((x 0).val + 1) - 1 := by
  have h1 := scan_sum_count (k0_pay202 i v63 v64 v69) m (fun y => pay202_nat v63 v64 v69 y _ (h y)) x
  have h2 : Nat.count m ((x 0).val + 1) ≤ (x 0).val + 1 := Nat.count_le _
  have h3 := lane_lt x
  show (IntOp.maxsi (IntOp.subi (IntOp.addi acc (scan .sum (k0_pay202 i v63 v64 v69) x)) 1#32) 0#32).toNat = _
  have h4 : (IntOp.addi acc (scan .sum (k0_pay202 i v63 v64 v69) x)).toNat = acc.toNat + Nat.count m ((x 0).val + 1) := by
    rw [add_nat (by rw [h1]; omega), h1]
  rw [pred_max_nat (by omega), h4]

theorem pay204_nat [FloatOps F] (v63 : IVec S16 32) (v64 v69 : Vec F S16 .i32) (m : ℕ → Prop) [DecidablePred m]
    (h : ∀ x : S16.Idx, k0_pay201 i v63 v64 v69 x = 1#1 ↔ m (x 0).val) :
    (extractAt ![15] (k0_pay204 i v63 v64 v69) inpos_S16_p15).toNat = Nat.count m 16 :=
  scan_sum_count (k0_pay202 i v63 v64 v69) m (fun y => pay202_nat v63 v64 v69 y _ (h y)) (ln 15)

theorem pay206_lt [FloatOps F] (v63 : IVec S16 32) (v64 : Vec F S16 .i32) (h64 : ∀ x, (v64 x : BitVec 32).toNat < 2 ^ 31)
    (h63 : ∀ x, (v63 x).toNat < 2000) (n : ℕ) :
    n < (extractAt ![15] (k0_pay206 i v63 v64) inpos_S16_p15).toNat
      ↔ ∃ y : S16.Idx, (lo i ≤ (v64 y : BitVec 32).toNat ∧ (v64 y : BitVec 32).toNat < hi i) ∧ n ≤ (v63 y).toNat := by
  have h1 := lo_word i
  have h2 := hi_word i
  have h3 := lo_le i
  have h4 : hi i ≤ 7813 := hi_le
  let c : IVec S16 1 := fun x => IntOp.andi (IntOp.cmpi .sge (v64 x : BitVec 32)
      (IntOp.muli (IntOp.addi (IntOp.muli (BitVec.ofNat 32 (i 1).val) 2#32) (BitVec.ofNat 32 (i 0).val)) 245#32))
      (IntOp.cmpi .slt (v64 x : BitVec 32)
      (IntOp.minsi (IntOp.addi (IntOp.muli (IntOp.addi (IntOp.muli (BitVec.ofNat 32 (i 1).val) 2#32) (BitVec.ofNat 32 (i 0).val)) 245#32) 245#32) 7813#32))
  have hc : ∀ x, c x = 1#1 ↔ (lo i ≤ (v64 x : BitVec 32).toNat ∧ (v64 x : BitVec 32).toNat < hi i) := fun x => by
    show IntOp.andi _ _ = 1#1 ↔ _
    rw [and_one, sge_one (h64 x) (by omega), slt_one (h64 x) (by omega), h1, h2]
  let v : IVec S16 32 := fun x => Scalar.select (c x) (IntOp.addi (v63 x) 1#32) 0#32
  have hv1 : ∀ x, c x = 1#1 → (v x).toNat = (v63 x).toNat + 1 := fun x hx => by
    show (Scalar.select (c x) (IntOp.addi (v63 x) 1#32) 0#32).toNat = _
    have := h63 x
    rw [sel_pos hx, add_nat (by show _ + 1 < _; omega)]; rfl
  have hv0 : ∀ x, c x ≠ 1#1 → (v x).toNat = 0 := fun x hx => by
    show (Scalar.select (c x) (IntOp.addi (v63 x) 1#32) 0#32).toNat = _
    rw [sel_neg hx]; rfl
  have hlt : ∀ x, (v x).toNat < 2 ^ 31 := fun x => by
    have := h63 x
    by_cases hx : c x = 1#1
    · rw [hv1 x hx]; omega
    · rw [hv0 x hx]; decide
  refine Iff.trans (smax_lt v hlt (fun a => ⟨(![15] : Fin 1 → ℕ) a, inpos_S16_p15 a⟩) rfl n) ?_
  constructor
  · rintro ⟨y, hy⟩
    by_cases hx : c y = 1#1
    · rw [hv1 y hx] at hy
      exact ⟨y, (hc y).mp hx, by omega⟩
    · rw [hv0 y hx] at hy; omega
  · rintro ⟨y, hy, hn⟩
    exact ⟨y, by rw [hv1 y ((hc y).mpr hy)]; omega⟩

end Pay

/-! ## The first loop: the stretches, listed -/

section Loops

variable [FloatOps F] (d : Dev nD) (L : grid0.Coords) (X : Vec F S1536 .i32)

/-- The first loop's invariant after `k` chunks: how many stretches start in them, each listed with its tile and start. -/
def I1 (k : ℕ) (acc : BitVec 32) : sProp 𝕄 :=
  iprop(mem d (cV L) (jV L) twV X ∗ ∃ DL : Vec F S248 .i32, ∃ DS : Vec F S248 .i32, mem d (cV L) (jV L) dlV DL ∗ mem d (cV L) (jV L) dsV DS
    ∗ ⌜acc.toNat = Nat.count (ST L (rd X)) (16 * k) ∧ ∀ q < 16 * k, ST L (rd X) q →
        rd DL (Nat.count (ST L (rd X)) q) = rd X q ∧ rd DS (Nat.count (ST L (rd X)) q) = q⌝)

theorem t1_step (hs : Sorted (rd X)) (hX : ∀ p, rd X p < 2 ^ 31) (k : Fin k0_t1_loop.trips) (acc : BitVec 32) :
    I1 d L X k.val acc ⊢ wp frame (wpE (defs₀ (F := F)) 𝒱₀ (V d (cV L) (jV L)) none) Set.univ
      (k0_t1_body L tV (Memref.isWhole_whole _) pV (Memref.isWhole_whole _) wV (Memref.isWhole_whole _) oV (Memref.isWhole_whole _) twV (Memref.isWhole_whole _) pwV (Memref.isWhole_whole _) dlV (Memref.isWhole_whole _) dsV (Memref.isWhole_whole _) rbV (Memref.isWhole_whole _) riV (Memref.isWhole_whole _) cc0_scratch6 cc0_scratch7 cc0_scratch8 cc0_scratch9 cc0_scratch10 tc0V (Memref.isWhole_whole _) tc1V (Memref.isWhole_whole _) tc2V (Memref.isWhole_whole _) tc3V (Memref.isWhole_whole _) cc0_scoped0 cc0_scoped1 k acc) (I1 d L X (k.val + 1)) := by
  have hk : k.val < 96 := trips_t1 ▸ k.isLt
  have e63 := pay199_nat k
  have h63 : k0_chk1 (k0_pay199 k) := fun a x => by
    obtain rfl : a = 0 := Fin.eq_zero a
    have := lane_lt x
    show (k0_pay199 k x).toNat < 1536
    rw [e63]; omega
  have e68 : ∀ x, (k0_pay200 (k0_pay199 k) x).toNat = 16 * k.val + (x 0).val - 1 := fun x => by
    have := lane_lt x
    rw [pay200_nat _ _ (by rw [e63]; omega), e63]
  have h68 : k0_chk2 (k0_pay200 (k0_pay199 k)) := fun a x => by
    obtain rfl : a = 0 := Fin.eq_zero a
    have := lane_lt x
    show (k0_pay200 (k0_pay199 k) x).toNat < 1536
    rw [e68]; omega
  unfold k0_t1_body I1
  iintro ⟨Hx, %DL, %DS, Hl, Hd, %hp⟩
  obtain ⟨hacc, hq⟩ := hp
  iapply (wp_as none h63)
  iapply (wp_ld none) $$ Hx
  iintro Hx
  iapply (wp_as none h68)
  iapply (wp_ld none) $$ Hx
  iintro Hx
  have e64 := fun x => (rd_load (F := F) X _ (k0_idx1_inb (k0_pay199 k) h63) x).trans (congrArg (rd X) (e63 x))
  have e69 := fun x => (rd_load (F := F) X _ (k0_idx2_inb (k0_pay200 (k0_pay199 k)) h68) x).trans (congrArg (rd X) (e68 x))
  generalize loadIdx (F := F) X ![k0_pay199 k] (k0_idx1_inb (k0_pay199 k) h63) = v64 at e64 ⊢
  generalize loadIdx (F := F) X ![k0_pay200 (k0_pay199 k)] (k0_idx2_inb (k0_pay200 (k0_pay199 k)) h68) = v69 at e69 ⊢
  have hc : ∀ n, Nat.count (ST L (rd X)) (16 * k.val + n) = Nat.count (ST L (rd X)) (16 * k.val) + Nat.count (fun l => ST L (rd X) (16 * k.val + l)) n :=
    fun n => Nat.count_add _ _ _
  have hmask : ∀ x : S16.Idx, k0_pay201 L (k0_pay199 k) v64 v69 x = 1#1 ↔ (fun l => ST L (rd X) (16 * k.val + l)) (x 0).val := fun x => by
    rw [pay201_one _ _ _ x (by rw [e64]; exact hX _), e64, e69, e63]
    exact Iff.rfl
  have hb : ∀ n, 16 * k.val + n ≤ 1536 → Nat.count (ST L (rd X)) (16 * k.val + n) ≤ 245 := fun n h => count_ST_le hs h
  have e90 : ∀ x : S16.Idx, (k0_pay203 L acc (k0_pay199 k) v64 v69 x).toNat = Nat.count (ST L (rd X)) (16 * k.val + ((x 0).val + 1)) - 1 := fun x => by
    rw [pay203_nat acc (k0_pay199 k) v64 v69 (fun l => ST L (rd X) (16 * k.val + l)) hmask (by have := hb 0 (by omega); rw [hacc]; simp at this; omega), hacc, hc]
  have h90 : k0_chk3 (k0_pay203 L acc (k0_pay199 k) v64 v69) := by
    have hh : ∀ a x, ((![k0_pay203 L acc (k0_pay199 k) v64 v69] : Fin 1 → IVec S16 32) a x).toNat < S248.size a := fun a x => by
      obtain rfl : a = 0 := Fin.eq_zero a
      have := lane_lt x
      have h1 := hb ((x 0).val + 1) (by omega)
      show (k0_pay203 L acc (k0_pay199 k) v64 v69 x).toNat < 248
      rw [e90]; omega
    exact ⟨hh, hh⟩
  have ehit : ∀ x : S16.Idx, k0_pay201 L (k0_pay199 k) v64 v69 x = 1#1 →
      (k0_pay203 L acc (k0_pay199 k) v64 v69 x).toNat = Nat.count (ST L (rd X)) (16 * k.val + (x 0).val) := fun x hx => by
    rw [e90, ← Nat.add_assoc, Nat.count_succ, if_pos ((hmask x).mp hx)]
    omega
  iapply (wp_as none h90)
  iapply (wp_st none) $$ Hl
  iintro Hl
  iapply (wp_st none) $$ Hd
  iintro Hd
  iapply (wp_rt none)
  isplitl [Hx]; · iexact Hx
  iexists _; iexists _
  isplitl [Hl]; · iexact Hl
  isplitl [Hd]; · iexact Hd
  ipureintro
  have hinj : ∀ x x' : S16.Idx, k0_pay201 L (k0_pay199 k) v64 v69 x = 1#1 → k0_pay201 L (k0_pay199 k) v64 v69 x' = 1#1 →
      (k0_pay203 L acc (k0_pay199 k) v64 v69 x').toNat = (k0_pay203 L acc (k0_pay199 k) v64 v69 x).toNat → x' = x := fun x x' hx hx' he => by
    rw [ehit x hx, ehit x' hx'] at he
    have h1 : (x' 0).val = (x 0).val := by
      rcases Nat.lt_trichotomy (x' 0).val (x 0).val with h | h | h
      · have := Nat.count_strict_mono (p := ST L (rd X)) ((hmask x').mp hx') (n := 16 * k.val + (x 0).val) (by omega)
        omega
      · exact h
      · have := Nat.count_strict_mono (p := ST L (rd X)) ((hmask x).mp hx) (n := 16 * k.val + (x' 0).val) (by omega)
        omega
    rw [← ofLane_eq x, ← ofLane_eq x']
    exact congrArg (Shape.ofLane (d := ![16])) (Fin.ext h1)
  constructor
  · show (IntOp.addi acc _).toNat = _
    have h1 := pay204_nat (k0_pay199 k) v64 v69 (fun l => ST L (rd X) (16 * k.val + l)) hmask
    have h2 := hb 16 (by omega)
    have h3 := hc 16
    rw [add_nat (by rw [h1, hacc]; omega), h1, hacc, Nat.mul_succ, h3]
  · intro q hq1 hst
    by_cases hq2 : q < 16 * k.val
    · have h1 := hq q hq2 hst
      have hne : ∀ x, k0_pay201 L (k0_pay199 k) v64 v69 x = 1 →
          (k0_pay203 L acc (k0_pay199 k) v64 v69 x).toNat ≠ Nat.count (ST L (rd X)) q := fun x hx he => by
        rw [ehit x hx] at he
        have := Nat.count_strict_mono (p := ST L (rd X)) hst (n := 16 * k.val + (x 0).val) (by omega)
        omega
      rw [rd_store_miss (F := F) DL _ _ _ _ _ hne, rd_store_miss (F := F) DS _ _ _ _ _ hne]
      exact h1
    · obtain ⟨l, hl⟩ : ∃ l, q = 16 * k.val + l := ⟨q - 16 * k.val, by omega⟩
      have hl16 : l < 16 := by omega
      subst hl
      have hx : k0_pay201 L (k0_pay199 k) v64 v69 (ln ⟨l, hl16⟩) = 1#1 := (hmask (ln ⟨l, hl16⟩)).mpr hst
      have he := ehit _ hx
      constructor
      · exact (rd_store_hit (F := F) DL _ v64 _ h90.1 _ (ln ⟨l, hl16⟩) hx he fun x' hx' he' => by rw [hinj _ _ hx hx' (he'.trans he.symm)]).trans
          (e64 (ln ⟨l, hl16⟩))
      · exact (rd_store_hit (F := F) DS _ (k0_pay199 k) _ h90.2 _ (ln ⟨l, hl16⟩) hx he fun x' hx' he' => by rw [hinj _ _ hx hx' (he'.trans he.symm)]).trans
          (e63 (ln ⟨l, hl16⟩))

/-! ## The second loop: where the last stretch ends -/

/-- The second loop's invariant after `k` chunks: one past the last owned position in them. -/
def I2 (k : ℕ) (acc : BitVec 32) : sProp 𝕄 :=
  iprop(mem d (cV L) (jV L) twV X ∗ ⌜∀ n, n < acc.toNat ↔ ∃ q < 16 * k, MM L (rd X) q ∧ n ≤ q⌝)

theorem t2_step (hX : ∀ p, rd X p < 2 ^ 31) (k : Fin k0_t2_loop.trips) (acc : BitVec 32) :
    I2 d L X k.val acc ⊢ wp frame (wpE (defs₀ (F := F)) 𝒱₀ (V d (cV L) (jV L)) none) Set.univ
      (k0_t2_body L tV (Memref.isWhole_whole _) pV (Memref.isWhole_whole _) wV (Memref.isWhole_whole _) oV (Memref.isWhole_whole _) twV (Memref.isWhole_whole _) pwV (Memref.isWhole_whole _) dlV (Memref.isWhole_whole _) dsV (Memref.isWhole_whole _) rbV (Memref.isWhole_whole _) riV (Memref.isWhole_whole _) cc0_scratch6 cc0_scratch7 cc0_scratch8 cc0_scratch9 cc0_scratch10 tc0V (Memref.isWhole_whole _) tc1V (Memref.isWhole_whole _) tc2V (Memref.isWhole_whole _) tc3V (Memref.isWhole_whole _) cc0_scoped0 cc0_scoped1 k acc) (I2 d L X (k.val + 1)) := by
  have hk : k.val < 96 := trips_t2 ▸ k.isLt
  have e63 := pay205_nat k
  have h63 : k0_chk4 (k0_pay205 k) := fun a x => by
    obtain rfl : a = 0 := Fin.eq_zero a
    have := lane_lt x
    show (k0_pay205 k x).toNat < 1536
    rw [e63]; omega
  unfold k0_t2_body I2
  iintro ⟨Hx, %hp⟩
  iapply (wp_as none h63)
  iapply (wp_ld none) $$ Hx
  iintro Hx
  have e64 := fun x => (rd_load (F := F) X _ (k0_idx5_inb (k0_pay205 k) h63) x).trans (congrArg (rd X) (e63 x))
  generalize loadIdx (F := F) X ![k0_pay205 k] (k0_idx5_inb (k0_pay205 k) h63) = v64 at e64 ⊢
  iapply (wp_rt none)
  isplitl [Hx]; · iexact Hx
  ipureintro
  have h79 := pay206_lt (i := L) (k0_pay205 k) v64 (fun x => by rw [e64]; exact hX _) (fun x => by have := lane_lt x; rw [e63]; omega)
  have hacc : acc.toNat ≤ 1536 := by
    by_contra h
    obtain ⟨q, hq, -, h'⟩ := (hp 1536).mp (by omega)
    omega
  have h79' : (extractAt ![15] (k0_pay206 L (k0_pay205 k) v64) inpos_S16_p15).toNat ≤ 1536 := by
    by_contra h
    obtain ⟨y, -, h'⟩ := (h79 1536).mp (by omega)
    have := lane_lt y
    rw [e63] at h'
    omega
  intro n
  show n < (IntOp.maxsi acc (extractAt ![15] (k0_pay206 L (k0_pay205 k) v64) inpos_S16_p15)).toNat ↔ _
  rw [maxsi_nat (by omega) (by omega), lt_max_iff, hp n, h79 n]
  constructor
  · rintro (⟨q, hq, h1, h2⟩ | ⟨y, h1, h2⟩)
    · exact ⟨q, by omega, h1, h2⟩
    · have := lane_lt y
      rw [e64] at h1
      rw [e63] at h2
      exact ⟨_, by omega, h1, h2⟩
  · rintro ⟨q, hq, h1, h2⟩
    by_cases hq2 : q < 16 * k.val
    · exact .inl ⟨q, hq2, h1, h2⟩
    · right
      have hl16 : q - 16 * k.val < 16 := by omega
      refine ⟨ln ⟨q - 16 * k.val, hl16⟩, ?_, ?_⟩
      · rw [e64]
        have e : 16 * k.val + ((ln ⟨q - 16 * k.val, hl16⟩) 0).val = q := by
          show 16 * k.val + (q - 16 * k.val) = q
          omega
        rw [e]; exact h1
      · rw [e63]
        show n ≤ 16 * k.val + (q - 16 * k.val)
        omega

/-! ## The window -/

/-- The first of the sorted positions the subcore's window holds. -/
def base : ℕ := k0_off1 L 0

theorem base_le : base L + 1536 ≤ 16384 := k0_off1_inb L 0

/-- The window of `tV`. -/
abbrev tW : Memref sig .scVector .hbm S1536 .i32 := tV.slice (Rect.unit (s := S16384) (k0_off1 L) S1536.size (k0_off1_inb L)) (fun _ => rfl)
/-- The window of `pV`. -/
abbrev pW : Memref sig .scVector .hbm S1536 .i32 := pV.slice (Rect.unit (s := S16384) (k0_off1 L) S1536.size (k0_off1_inb L)) (fun _ => rfl)

theorem tW_rd (f : Buf (Elt F) (tLoc d)) (p : ℕ) (hp : p < 1536) :
    rd ((tW L).view.read (Elt F) f : S1536.Idx → BitVec 32) p = rd (f : S16384.Idx → BitVec 32) (base L + p) := by
  have h := base_le L
  unfold rd
  rw [dif_pos hp, dif_pos (show base L + p < 16384 by omega)]
  refine congrArg BitVec.toNat ?_
  rw [View.read_apply, cast_eq]
  refine congrArg f ?_
  funext a
  obtain rfl : a = 0 := Fin.eq_zero a
  refine Fin.ext ?_
  show k0_off1 L 0 + 1 * p = base L + p
  unfold base
  omega

theorem pW_rd (f : Buf (Elt F) (pLoc d)) (p : ℕ) (hp : p < 1536) :
    rd ((pW L).view.read (Elt F) f : S1536.Idx → BitVec 32) p = rd (f : S16384.Idx → BitVec 32) (base L + p) := tW_rd d L f p hp

theorem ok_trips (v : BitVec 32) (h : v.toNat ≤ 245) : k0_chk6 v := by
  have : ∀ n : Fin 246, k0_chk6 (BitVec.ofNat 32 n.val) := by decide +kernel
  have h1 := this ⟨v.toNat, by omega⟩
  have e : BitVec.ofNat 32 v.toNat = v := BitVec.eq_of_toNat_eq (by rw [BitVec.toNat_ofNat, Nat.mod_eq_of_lt v.isLt])
  exact e ▸ h1

/-- What the scan leaves: the window in tile memory, and the stretches, listed. -/
def ScanPost (tA : Buf (Elt F) (tLoc d)) (pA : Buf (Elt F) (pLoc d)) (nd : ℕ) : sProp 𝕄 :=
  iprop(∃ TW : Vec F S1536 .i32, ∃ PW : Vec F S1536 .i32, ∃ DL : Vec F S248 .i32, ∃ DS : Vec F S248 .i32,
    mem d (cV L) (jV L) twV TW ∗ mem d (cV L) (jV L) pwV PW ∗ mem d (cV L) (jV L) dlV DL ∗ mem d (cV L) (jV L) dsV DS
    ∗ ⌜(∀ p < 1536, rd TW p = rd (tA : S16384.Idx → BitVec 32) (base L + p) ∧ rd PW p = rd (pA : S16384.Idx → BitVec 32) (base L + p))
        ∧ RingOK L (rd TW) nd (rd DL) (rd DS)⌝)

theorem part27 (tA : Buf (Elt F) (tLoc d)) (pA : Buf (Elt F) (pLoc d)) (qt qp : PosShare TreeShare)
    (hT : ∀ p, rd (tA : S16384.Idx → BitVec 32) p < 2 ^ 31)
    (hS : ∀ a b c, a ≤ b → b ≤ c → c < 16384 → rd (tA : S16384.Idx → BitVec 32) a < 7813 → rd (tA : S16384.Idx → BitVec 32) c < 7813 →
      rd (tA : S16384.Idx → BitVec 32) a ≤ rd (tA : S16384.Idx → BitVec 32) b ∧ rd (tA : S16384.Idx → BitVec 32) b ≤ rd (tA : S16384.Idx → BitVec 32) c)
    {X0 X1 : Vec F S1536 .i32} {Y0 Y1 : Vec F S248 .i32} {O : CellTallies nD τ sig (HIx 1)} {W : Waits sig (HIx 1)}
    {β : Type} {Q : β → sProp 𝕄} {kk : (Σ' (_ : IVec S16 32) (_ : IVec S16 32) (v13 : BitVec 32) (_ : k0_chk6 v13), BitVec 32) → Prog (TpuEff nD τ sig (Elt F) Λ₀ (V d (cV L) (jV L)).2) β} :
    iprop(Transfers.MayWaits (V d (cV L) (jV L)) (default : HIx 1) O ∗ (tLoc d ↦{qt} tA) ∗ (pLoc d ↦{qp} pA)
        ∗ mem d (cV L) (jV L) twV X0 ∗ mem d (cV L) (jV L) pwV X1 ∗ mem d (cV L) (jV L) dlV Y0 ∗ mem d (cV L) (jV L) dsV Y1
        ∗ semVal ((V d (cV L) (jV L)), SemLoc.dma cc0_scoped0.sem) 0 ∗ semVal ((V d (cV L) (jV L)), SemLoc.dma cc0_scoped1.sem) 0
        ∗ owes (V d (cV L) (jV L)) O W)
      ⊢ iprop((∀ v13 : BitVec 32, ∀ h6 : k0_chk6 v13, iprop((tLoc d ↦{qt} tA) ∗ (pLoc d ↦{qp} pA) ∗ ScanPost d L tA pA v13.toNat
            ∗ semVal ((V d (cV L) (jV L)), SemLoc.dma cc0_scoped0.sem) 0 ∗ semVal ((V d (cV L) (jV L)), SemLoc.dma cc0_scoped1.sem) 0
            ∗ owes (V d (cV L) (jV L)) O (insert (SemLoc.dma cc0_scoped1.sem, default) (insert (SemLoc.dma cc0_scoped0.sem, default) W)))
            -∗ wp frame (wpE (defs₀ (F := F)) 𝒱₀ (V d (cV L) (jV L)) none) Set.univ
              (kk ⟨iota .scVector S16 32 [0] iota_S16_d0_w32_scVector, k0_pay198, v13, h6, 4#32⟩) Q)
        -∗ wp frame (wpE (defs₀ (F := F)) 𝒱₀ (V d (cV L) (jV L)) none) Set.univ
          (k0_part27_skel L tV (Memref.isWhole_whole _) pV (Memref.isWhole_whole _) wV (Memref.isWhole_whole _) oV (Memref.isWhole_whole _) twV (Memref.isWhole_whole _) pwV (Memref.isWhole_whole _) dlV (Memref.isWhole_whole _) dsV (Memref.isWhole_whole _) rbV (Memref.isWhole_whole _) riV (Memref.isWhole_whole _) cc0_scratch6 cc0_scratch7 cc0_scratch8 cc0_scratch9 cc0_scratch10 tc0V (Memref.isWhole_whole _) tc1V (Memref.isWhole_whole _) tc2V (Memref.isWhole_whole _) tc3V (Memref.isWhole_whole _) cc0_scoped0 cc0_scoped1 >>= kk) Q) := by
  unfold k0_part27_skel
  iintro ⟨#Hmw, Ht, Hp, Hx0, Hx1, Hl, Hd, Hs0, Hs1, HO⟩ Hk
  iapply (wp_bd none)
  ihave Ht' := (pointsTo_split_subset (q := qt) (f := tA) (S := Finset.univ) (Finset.subset_univ (tW L).view.set)).1 $$ Ht
  icases Ht' with ⟨Ht, Htr⟩
  ihave Hp' := (pointsTo_split_subset (q := qp) (f := pA) (S := Finset.univ) (Finset.subset_univ (pW L).view.set)).1 $$ Hp
  icases Hp' with ⟨Hp, Hpr⟩
  iapply (wp_cp none (src := tW L) (m := twV) (fs := tA) (q := qt) (by decide)) $$ [Ht Hx0 Hs0]
  · isplitl [Ht]; · iexact Ht
    isplitl [Hx0]; · iexact Hx0
    iexact Hs0
  iintro Hfl
  iapply (wp_cpw none) $$ [Hfl HO]
  · isplitl [Hfl]; · iexact Hfl
    isplitl [HO]; · iexact HO
    iexact Hmw
  iintro ⟨⟨Hx0, Ht⟩, Hs0, HO⟩
  iapply (wp_cp none (src := pW L) (m := pwV) (fs := pA) (q := qp) (by decide)) $$ [Hp Hx1 Hs1]
  · isplitl [Hp]; · iexact Hp
    isplitl [Hx1]; · iexact Hx1
    iexact Hs1
  iintro Hfl
  iapply (wp_cpw none) $$ [Hfl HO]
  · isplitl [Hfl]; · iexact Hfl
    isplitl [HO]; · iexact HO
    iexact Hmw
  iintro ⟨⟨Hx1, Hp⟩, Hs1, HO⟩
  ihave Ht := (pointsTo_split_subset (q := qt) (f := tA) (S := Finset.univ) (Finset.subset_univ (tW L).view.set)).2 $$ [Ht Htr]
  · isplitl [Ht]; · iexact Ht
    iexact Htr
  ihave Hp := (pointsTo_split_subset (q := qp) (f := pA) (S := Finset.univ) (Finset.subset_univ (pW L).view.set)).2 $$ [Hp Hpr]
  · isplitl [Hp]; · iexact Hp
    iexact Hpr
  generalize hTW : ((tW L).view.read (Elt F) tA : Vec F S1536 .i32) = TW
  generalize hPW : ((pW L).view.read (Elt F) pA : Vec F S1536 .i32) = PW
  have hb := base_le L
  have rT : ∀ p < 1536, rd TW p = rd (tA : S16384.Idx → BitVec 32) (base L + p) := fun p hp => hTW ▸ tW_rd d L tA p hp
  have rP : ∀ p < 1536, rd PW p = rd (pA : S16384.Idx → BitVec 32) (base L + p) := fun p hp => hPW ▸ pW_rd d L pA p hp
  have sT : Sorted (rd TW) := fun a b c hab hbc hc ha hc' => by
    rw [rT a (by omega)] at ha ⊢
    rw [rT c hc] at hc' ⊢
    rw [rT b (by omega)]
    exact hS _ _ _ (by omega) (by omega) (by omega) ha hc'
  have lT : ∀ p, rd TW p < 2 ^ 31 := fun p => by
    by_cases hp : p < 1536
    · rw [rT p hp]; exact hT _
    · unfold rd; rw [dif_neg hp]; decide
  iapply (Scf.wp_for_bind frame _ _ _ _ _ _ _ _ (I1 d L TW) (fun k acc => t1_step d L TW sT lT k acc)) $$ [Hx0 Hl Hd]
  · unfold I1
    isplitl [Hx0]; · iexact Hx0
    iexists Y0, Y1
    isplitl [Hl]; · iexact Hl
    isplitl [Hd]; · iexact Hd
    ipureintro
    exact ⟨rfl, fun q hq => absurd hq (by omega)⟩
  iintro %v13 HI
  unfold I1
  icases HI with ⟨Hx0, %DL, %DS, Hl, Hd, %h1⟩
  obtain ⟨hnd, hg⟩ := h1
  rw [show Scf.trips k0_t1_loop.lb k0_t1_loop.ub k0_t1_loop.st = 96 from trips_t1] at hnd hg
  have n245 : v13.toNat ≤ 245 := hnd ▸ count_ST_le sT (by omega)
  iapply (wp_as none (ok_trips v13 n245))
  iapply (Scf.wp_for_bind frame _ _ _ _ _ _ _ _ (I2 d L TW) (fun k acc => t2_step d L TW lT k acc)) $$ [Hx0]
  · unfold I2
    isplitl [Hx0]; · iexact Hx0
    ipureintro
    intro n
    exact ⟨fun h => absurd h (Nat.not_lt_zero n), fun ⟨q, hq, _⟩ => absurd hq (by omega)⟩
  iintro %v15 HI
  unfold I2
  icases HI with ⟨Hx0, %he⟩
  rw [show Scf.trips k0_t2_loop.lb k0_t2_loop.ub k0_t2_loop.st = 96 from trips_t2] at he
  have e17 : ∀ x : S16.Idx, (k0_pay207 v13 x).toNat = v13.toNat := fun _ => congrArg BitVec.toNat (BitVec.add_zero v13)
  have h5 : k0_chk5 (k0_pay207 v13) := by
    intro a x
    obtain rfl : a = 0 := Fin.eq_zero a
    have := e17 x
    show (k0_pay207 v13 x).toNat < 248
    omega
  iapply (wp_as none h5)
  iapply (wp_st none) $$ Hd
  iintro Hd
  iapply (wp_rt none)
  iapply Hk
  isplitl [Ht]; · iexact Ht
  isplitl [Hp]; · iexact Hp
  isplitl [Hx0 Hx1 Hl Hd]
  · unfold ScanPost
    iexists TW, PW, DL, _
    isplitl [Hx0]; · iexact Hx0
    isplitl [Hx1]; · iexact Hx1
    isplitl [Hl]; · iexact Hl
    isplitl [Hd]; · iexact Hd
    ipureintro
    refine ⟨fun p hp => ⟨rT p hp, rP p hp⟩, ringOK_of_scan sT hnd (fun q hq hst => ?_) fun n => ?_⟩
    · refine ⟨(hg q hq hst).1, (rd_store_miss _ _ _ _ _ _ fun x _ => ?_).trans (hg q hq hst).2⟩
      rw [e17 x, hnd]
      have h1 := Nat.count_strict_mono (p := ST L (rd TW)) hst hq
      exact fun h => absurd (h ▸ h1) (lt_irrefl _)
    · rw [rd_store_hit _ _ _ _ _ _ (ln 0) (by decide) (e17 _) fun x' _ _ => rfl]
      have e15 : (k0_pay208 v15 (ln 0) : BitVec 32).toNat = v15.toNat := congrArg BitVec.toNat (BitVec.add_zero v15)
      rw [e15]
      exact he n
  isplitl [Hs0]; · iexact Hs0
  isplitl [Hs1]; · iexact Hs1
  iexact HO

end Loops

end Cert.Proof.Emb

end
-- ==== Proof.Scatter.lean ====
/-
  A scatter of rows whose target rows need not be distinct: each entry's row may be reached through any write update,
  one the issuer owns outright or one that opens an invariant.
-/
module

public import proofs.«01_k».proof.Proof.Setup

@[expose] public section

noncomputable section

namespace Cert.Proof.Emb

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Generic

variable {Λ : Labels} {defs : Defs nD τ sig (Elt F) Λ} (𝒱 : Variants) (c : Thread nD τ) (bd : Option 𝒱.V)
variable {sp : Space} {s₀ s si : Shape} {e : EltTy} {a : Nat} {α : Type} {Q : α → sProp (MT nD τ sig (HIx 1) (Elt F) ℕ UU ℕ)}

/-- The issue of a scatter, each entry's target row reached through a write update made of `A j` and the persistent
    fact `I`, yielding `B j`; the wait delivers every `B j`, the source and the list. -/
theorem wp_scatterBy
    {src : Memref sig c.2.kind .vmem s e} {dst : Memref sig c.2.kind sp s₀ e} {hg : s₀.Gathers a s}
    {offs : Memref sig c.2.kind .vmem si .i32} {hn : si.numel = s.size hg.axis'} {sem : DmaSem sig}
    {hp : c.2.kind = .scVector} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fo : Buf (Elt F) (offs.view.loc c)}
    (ι : HIx 1) (N : ℕ) (hs : 0 < s.numel) (hin : ∀ x, (offs.view.read (Elt F) fo x).toNat < s₀.size hg.axis)
    (hN : ∑ j, (dst.slice (s₀.rowRect hg.axis (SparseCore.rows (offs.view.read (Elt F) fo) hn hin j)) (s₀.stride_rowRect hg.axis _)).view.dmaCredit = N)
    (I : sProp (MT nD τ sig (HIx 1) (Elt F) ℕ UU ℕ)) [BI.Persistent I]
    (A B : Fin (s.size hg.axis') → sProp (MT nD τ sig (HIx 1) (Elt F) ℕ UU ℕ)) [∀ j, BI.Storable (upEmb : UEmb _ 𝕄) (B j)]
    (hupd : ∀ j, iprop(I ∗ A j) ⊢ writeUpdate c (dst.view.slice (s₀.rowRect hg.axis (SparseCore.rows (offs.view.read (Elt F) fo) hn hin j)))
      (SparseCore.scatterRowPayload c src hg fs j) (B j)) :
    iprop(I ∗ (src.view.loc c ↦[src.view.set]{q} fs) ∗ bigSep Finset.univ A
        ∗ (offs.view.loc c ↦[offs.view.set]{qo} fo) ∗ semVal (c, SemLoc.dma sem) 0)
      ⊢ iprop((Transfers.Flight EC c (.dma sem) ι N
                iprop(bigSep Finset.univ B ∗ (src.view.loc c ↦[src.view.set]{q} fs) ∗ (offs.view.loc c ↦[offs.view.set]{qo} fo))
              -∗ wp frame (wpE defs 𝒱 c bd) Set.univ (k ⟨⟩) Q)
          -∗ wp frame (wpE defs 𝒱 c bd) Set.univ (SparseCore.enqueueIndirectScatter hp src dst hg offs hn sem he hsp hr >>= k) Q) := by
  classical
  rw [SparseCore.enqueueIndirectScatter_bind]
  let St : Stream nD τ sig (Elt F) :=
    Stream.issued c offs.view hn sem (fun j w => (SparseCore.rowOf (s₀.size hg.axis) w).map (SparseCore.scatterRow c src dst hg sem he hsp hr j)) 0
  let r : Fin (s.size hg.axis') → Fin (s₀.size hg.axis) := SparseCore.rows (offs.view.read (Elt F) fo) hn hin
  let rd : Fin (s.size hg.axis') → RowDma τ sig (Elt F) c.2 sem := fun j => SparseCore.scatterRow c src dst hg sem he hsp hr j (r j)
  let am : Fin (s.size hg.axis') → ℕ := fun j => (dst.slice (s₀.rowRect hg.axis (r j)) (s₀.stride_rowRect hg.axis _)).view.dmaCredit
  have hrow0 : 0 < (s₀.rowShape hg.axis).numel := by rw [← hg.rowShape_eq]; exact SparseCore.rowShape_numel_pos hs _
  have ham : ∀ j, 0 < am j := fun j => View.dmaCredit_pos _ hrow0
  let Dl : Fin (s.size hg.axis') → sProp 𝕄 := fun j =>
    iprop((B j ∗ St.heldEntry qo fo j) ∗ (src.view.loc c ↦[(src.view.slice (s.rowRect hg.axis' j)).set]{q} fs))
  have hA : St.RowsAgree := by
    intro j x x' ρ ρ' h h'
    obtain ⟨_, _, rfl⟩ := Option.map_eq_some_iff.mp h
    obtain ⟨_, _, rfl⟩ := Option.map_eq_some_iff.mp h'
    rfl
  have hrd : ∀ j, St.row j (St.word fo j) = some (rd j) := fun j => by
    change (SparseCore.rowOf (s₀.size hg.axis) (offs.view.read (Elt F) fo (St.entry j))).map _ = _
    rw [SparseCore.rowOf_of_lt (hin _)]; rfl
  have hen : Function.Bijective St.entry :=
    (si.rowMajor.symm.bijective.comp (finCongr hn.symm).bijective)
  have hsrcset : ∀ j, (src.view.slice (s.rowRect hg.axis' j)).set = (rd j).src.view.set := fun j =>
    (View.set_cast (v := src.view.slice (s.rowRect hg.axis' j)) _ _).symm
  iintro ⟨#HI, Hs, HA, Ho, Hv⟩ Hk
  imod (Transfers.stream_alloc EC ham Dl (g := (c, SemLoc.dma sem))) $$ Hv with ⟨%γ, %δ, %κ, #Hinv, Hγ, Hδ⟩
  ihave Ho' := (Entails.of_eq (pointsTo_entries c offs.view St.entry hen qo fo)) $$ Ho
  ihave Hs' := (Entails.of_eq (pointsTo_rows c src.view hg.axis' q fs)) $$ Hs
  iapply (wp_enqueueIndirectDma 𝒱 c bd Set.univ (qo := qo) (fo := fo) (rd := rd) ι N hA hrd hN) $$ [HA Ho' Hs' Hγ]
  · have hrow : ∀ j, iprop((I ∗ inv κ (Transfers.streamBody EC (c, SemLoc.dma sem) am Dl γ δ))
          ∗ (((A j ∗ St.heldEntry qo fo j)
          ∗ (src.view.loc c ↦[(src.view.slice (s.rowRect hg.axis' j)).set]{q} fs)) ∗ count EC (γ j) 0))
        ⊢ iprop(St.heldEntry qo fo j ∗ (St.heldEntry qo fo j -∗ rowRes c (rd j))) := fun j => by
      iintro ⟨⟨#HI, #Hinv⟩, ⟨⟨Hr, He⟩, Hsq⟩, Hγj⟩
      isplitl [He]; · iexact He
      iintro He
      unfold rowRes
      iexists q, fs, iprop(B j ∗ St.heldEntry qo fo j)
      isplitl [Hsq]; · iapply (Entails.of_eq (congrArg (fun I => (src.view.loc c ↦[I]{q} fs : sProp 𝕄)) (hsrcset j))) $$ Hsq
      isplitl [Hr He]
      · iapply writeUpdate_frame
        isplitl [Hr]
        · iapply (hupd j)
          isplitr; · iexact HI
          iexact Hr
        · iexact He
      · iapply (Entails.of_eq (show (creditUpdate (c, SemLoc.dma sem) ((rd j).dst.view.amount (.dma sem)) 0
            iprop((B j ∗ St.heldEntry qo fo j)
              ∗ (src.view.loc c ↦[(src.view.slice (s.rowRect hg.axis' j)).set]{q} fs)) : sProp 𝕄)
            = creditUpdate (c, SemLoc.dma sem) ((rd j).dst.view.amount (.dma sem)) 0
            iprop((B j ∗ St.heldEntry qo fo j)
              ∗ ((rd j).src.view.loc c ↦[(rd j).src.view.set]{q} fs)) from by rw [hsrcset j]))
        iapply (Transfers.stream_creditUpdate EC (a := am) (D := Dl) (δ := δ) j)
        isplitr; · iexact Hinv
        iexact Hγj
    unfold Stream.res
    ihave H1 := Transfers.bigSep_sep_in _ _ _ $$ [HA Ho']; · isplitl [HA] <;> iassumption
    ihave H2 := Transfers.bigSep_sep_in _ _ _ $$ [H1 Hs']; · isplitl [H1] <;> iassumption
    ihave H3 := Transfers.bigSep_sep_in _ _ _ $$ [H2 Hγ]; · isplitl [H2] <;> iassumption
    iapply (Transfers.bigSep_mono_pers Finset.univ _ _ _ fun j _ => hrow j)
    isplitr
    · isplitr; · iexact HI
      iexact Hinv
    iexact H3
  · have hjoin : bigSep Finset.univ Dl
        ⊢ (iprop(bigSep Finset.univ B ∗ (src.view.loc c ↦[src.view.set]{q} fs) ∗ (offs.view.loc c ↦[offs.view.set]{qo} fo)) : sProp 𝕄) := by
      iintro HD
      ihave H1 := Transfers.bigSep_sep_out _ _ _ $$ HD
      icases H1 with ⟨H2, Hsrc⟩
      ihave H3 := Transfers.bigSep_sep_out _ _ _ $$ H2
      icases H3 with ⟨Hrows, Hoffs⟩
      isplitl [Hrows]; · iexact Hrows
      isplitl [Hsrc]
      · iapply (Entails.of_eq (pointsTo_rows c src.view hg.axis' q fs).symm) $$ Hsrc
      · iapply (Entails.of_eq (pointsTo_entries c offs.view St.entry hen qo fo).symm) $$ Hoffs
    iintro Hcred
    iapply Hk
    iapply (Transfers.Flight_mono EC c hjoin)
    iapply (Transfers.stream_flight EC (a := am) hN)
    isplitr; · iexact Hinv
    isplitl [Hδ] <;> iassumption

end Generic

/-- A row whose elements lie in the junk row is reached through the junk row's invariant, a token in hand. -/
theorem junk_writeUpdate (c : Thread nD τ) (d : Dev nD) (κ : ℕ) (w : Fin 32) (j : Fin 64) {sp : Space} {s : Shape} {e : EltTy}
    (v : View sig c.2.kind sp s e) (hv : v.loc c = oLoc d) (pay : s.Idx → Elt F e)
    (hset : ∀ (f : Buf (Elt F) (oLoc d)), ∃ (S' : Finset (Idx (v.loc c))) (f' : Buf (Elt F) (v.loc c)),
      (oLoc d ↦[rowSet 16384]{fullShare} f : sProp 𝕄) = (v.loc c ↦[S']{fullShare} f') ∧ v.set ⊆ S'
        ∧ ∀ g' : Buf (Elt F) (v.loc c), (v.loc c ↦[S']{fullShare} g' : sProp 𝕄) ⊢ junkRow (F := F) d) :
    iprop(inv κ (junk (F := F) d) ∗ tok (F := F) d w.val j.val) ⊢ writeUpdate c v pay (tok (F := F) d w.val j.val) := by
  rw [writeUpdate, writeUpdateFrom_def]
  iintro ⟨#Hinv, Ht⟩
  iexists (fun _ => tok (F := F) d w.val j.val)
  isplitl [Ht]; · iexact Ht
  isplitr
  · rw [writeSteps_def]
    iintro
    imodintro
    iintro %M %M' Ht
    iapply (atomically_intro_at frame Set.univ (Set.univ \ {κ}) (storeSpec c v pay M') _)
    imod (inv_acc (Set.mem_univ κ)) $$ Hinv with ⟨HJ, Hcl⟩
    imodintro
    ihave HJ' := (junk_tok d w j) $$ [HJ Ht]
    · isplitl [HJ] <;> iassumption
    unfold junkRow
    icases HJ' with ⟨⟨%f, HJ⟩, Ht⟩
    obtain ⟨S', f', he, hsub, hback⟩ := hset f
    ihave HJ := (Entails.of_eq he) $$ HJ
    iapply (Entails.of_eq (storeSpec_apply c v pay M' _).symm)
    iexists S', f'
    isplitl [HJ]; · iexact HJ
    isplitr; · ipureintro; exact fun i hi => hsub (v.setOn_subset_set _ hi)
    iintro HJ
    imod Hcl $$ [HJ] with -
    · unfold junk
      ileft
      iapply (hback _) $$ HJ
    imodintro
    iexact Ht
  · iintro H; iexact H

end Cert.Proof.Emb

end
-- ==== Proof.Flush.lean ====
/-
  The flush: one scatter of the 64 buffered rows, its first `rem` entries naming rows the subcore owns, the others the junk
  row, which is shared by every subcore.
-/
module

public import proofs.«01_k».proof.Proof.Scatter

@[expose] public section

noncomputable section

namespace Cert.Proof.Emb

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- All of the intermediate rows, as a flush addresses them. -/
abbrev oS : Memref sig .scVector .hbm S16392x128 .f32 :=
  oV.slice (Rect.unit (s := S16392x128) ![0, 0] S16392x128.size inb_S16392x128_S16392x128_0_0) (fun _ => rfl)

abbrev gth := gathers_S16392x128_S64x128

theorem gth_axis : (gth.axis : Fin 2) = 0 := rfl
theorem gth_axis' : (gth.axis' : Fin 2) = 0 := rfl

/-- Row `k` of the intermediate as the scatter addresses it. -/
abbrev oRow (k : Fin (S16392x128.size gth.axis)) := oS.view.slice (S16392x128.rowRect gth.axis k)

theorem oRow_emb (k : Fin (S16392x128.size gth.axis)) (z : (S16392x128.rowShape gth.axis).Idx) :
    (((oRow k).emb z : S16392x128.Idx) 0).val = k.val ∧ (((oRow k).emb z : S16392x128.Idx) 1).val = (z (1 : Fin 2)).val := by
  constructor
  · have h0 : (z (0 : Fin 2)).val = 0 := Nat.lt_one_iff.mp (z (0 : Fin 2)).isLt
    show 0 + 1 * ((k : ℕ) + 1 * (z (0 : Fin 2)).val) = _
    rw [h0]; omega
  · show 0 + 1 * (0 + 1 * (z (1 : Fin 2)).val) = _
    omega

theorem oRow_set (k : Fin (S16392x128.size gth.axis)) : ((oRow k).set : Finset S16392x128.Idx) = rowSet k.val := by
  ext x
  rw [mem_rowSet]
  constructor
  · intro h
    obtain ⟨z, -, rfl⟩ := Finset.mem_map.mp h
    exact (oRow_emb k z).1
  · intro h
    refine Finset.mem_map.mpr ⟨fun b => ⟨if b = (0 : Fin 2) then 0 else (x b).val, ?_⟩, Finset.mem_univ _, ?_⟩
    · match b with
      | 0 => exact Nat.one_pos
      | 1 => exact (x 1).isLt
    · funext b
      match b with
      | 0 => exact Fin.ext ((oRow_emb k _).1.trans h.symm)
      | 1 => exact Fin.ext ((oRow_emb k _).2.trans rfl)

theorem idxEquiv_symm_val {n : ℕ} {f g : Fin n → ℕ} (h : (⟨n, f⟩ : Shape) = ⟨n, g⟩) (z : Shape.Idx ⟨n, g⟩) (b : Fin n) :
    ((Shape.idxEquiv h).symm z b).val = (z b).val := by
  have hfg : f = g := by injection h
  subst hfg
  rfl

/-- What a flush's entry `j` leaves in its row: row `j` of the buffer. -/
theorem oRow_write (c : Thread nD τ) (hc : c.2.kind = .scVector) (d : Dev nD) (c' : Fin τ.nSC) (s' : Fin τ.nSub) (j : Fin (S64x128.size gth.axis'))
    (k : Fin (S16392x128.size gth.axis)) (fd : Buf (Elt F) (oLoc d)) (rb : Buf (Elt F) (rbV.view.loc (V d c' s'))) (x : S16392x128.Idx)
    (hx : (x 0).val = k.val) (y : S64x128.Idx) (hy0 : (y 0).val = j.val) (hy1 : (y 1).val = (x 1).val) :
    ((oRow k).write (Elt F) fd (SparseCore.scatterRowPayload (V d c' s') rbV gth rb j) Finset.univ : S16392x128.Idx → Elt F .f32) x = rb y := by
  have hm : x ∈ ((oRow k).set : Finset S16392x128.Idx) := by rw [oRow_set, mem_rowSet]; exact hx
  obtain ⟨z, -, rfl⟩ := Finset.mem_map.mp hm
  refine (View.write_emb_of_mem _ _ (Finset.mem_univ z)).trans ?_
  refine (cast_eq _ _).trans ?_
  refine (View.read_apply _ _).trans ((cast_eq _ _).trans ?_)
  congr 1
  have h1 := (oRow_emb k z).2
  funext b
  match b with
  | 0 =>
    have h0 : (z (0 : Fin 2)).val = 0 := Nat.lt_one_iff.mp (z (0 : Fin 2)).isLt
    refine Fin.ext (Eq.trans (b := (j : ℕ) + 1 * (z (0 : Fin 2)).val) ?_ ?_)
    · exact congrArg (fun t => (j : ℕ) + 1 * t) (idxEquiv_symm_val (n := 2) gth.rowShape_eq z 0)
    rw [h0]; omega
  | 1 =>
    refine Fin.ext (Eq.trans (b := 0 + 1 * (z (1 : Fin 2)).val) ?_ ?_)
    · exact congrArg (fun t => 0 + 1 * t) (idxEquiv_symm_val (n := 2) gth.rowShape_eq z 1)
    omega

theorem symm_rowMajor_one {n : ℕ} (k : Fin (Shape.numel ⟨1, ![n]⟩)) : ((Shape.rowMajor ⟨1, ![n]⟩).symm k (0 : Fin 1)).val = k.val := by
  have h := Shape.rowMajor_val_one (d := ![n]) ((Shape.rowMajor ⟨1, ![n]⟩).symm k)
  rw [Equiv.apply_symm_apply] at h
  exact h.symm

section Flush

variable [FloatOps F]

/-- The junk row's write update, at the row view a flush uses. -/
theorem junk_oRow (d : Dev nD) (c' : Fin τ.nSC) (s' : Fin τ.nSub) (κ : ℕ) (w : Fin 32) (j : Fin 64) (k : Fin (S16392x128.size gth.axis))
    (hk : k.val = 16384) (pay : (S16392x128.rowShape gth.axis).Idx → Elt F .f32) :
    iprop(inv κ (junk (F := F) d) ∗ tok (F := F) d w.val j.val)
      ⊢ writeUpdate (V d c' s') (oRow k) pay (tok (F := F) d w.val j.val) := by
  refine junk_writeUpdate (V d c' s') d κ w j (oRow k) rfl pay fun f => ?_
  refine ⟨(oRow k).set, f, ?_, subset_rfl, fun g' => ?_⟩
  · have h := oRow_set k
    rw [hk] at h
    show (oLoc d ↦[rowSet 16384]{fullShare} f : sProp 𝕄) = (oLoc d ↦[(oRow k).set]{fullShare} f)
    rw [← h]
  · have h := oRow_set k
    rw [hk] at h
    unfold junkRow
    iintro H
    iexists g'
    iapply (Entails.of_eq (show (oLoc d ↦[(oRow k).set]{fullShare} g' : sProp 𝕄) = (oLoc d ↦[rowSet 16384]{fullShare} g') by rw [h])) $$ H

theorem ownRow_oRow (d : Dev nD) (c' : Fin τ.nSC) (s' : Fin τ.nSub) (k : Fin (S16392x128.size gth.axis))
    (pay : (S16392x128.rowShape gth.axis).Idx → Elt F .f32) (fd : Buf (Elt F) (oLoc d)) :
    (oLoc d ↦[rowSet k.val]{fullShare} fd : sProp 𝕄)
      ⊢ writeUpdate (V d c' s') (oRow k) pay (oLoc d ↦[rowSet k.val]{fullShare} ((oRow k).write (Elt F) fd pay Finset.univ)) := by
  have h := oRow_set k
  rw [← h]
  exact pointsTo_writeUpdate (V d c' s') (v := oRow k) subset_rfl

variable (d : Dev nD) (c' : Fin τ.nSC) (s' : Fin τ.nSub) (κ : ℕ) (w : Fin 32)

/-- One flush: the scatter of the row buffer by the row numbers `rr`, and its wait. -/
theorem wp_flush {Λ : Labels} {defs : Defs nD τ sig (Elt F) Λ} {α : Type} {Q : α → sProp 𝕄} (bd : Option 𝒱₀.V)
    {k : PUnit → Prog (TpuEff nD τ sig (Elt F) Λ (V d c' s').2) α}
    (sem : DmaSem sig) {hp : (V d c' s').2.kind = .scVector} {he : EltTy.f32.bits = 32} {hsp : Space.hbm = .hbm ∨ Space.hbm = .shared} {hr : S16392x128.StreamRows 0}
    {hn : S64.numel = S64x128.size gth.axis'} {hsrc : rbV.view.WordExact} {hdst : oS.view.WordExact}
    (rem : ℕ) (rb : Buf (Elt F) (rbV.view.loc (V d c' s'))) (ri : Buf (Elt F) (riV.view.loc (V d c' s')))
    (I : Finset S16392x128.Idx) (fd : Buf (Elt F) (oLoc d)) (rr : ℕ → ℕ)
    (hri : ∀ x : S64.Idx, ((ri x : BitVec 32)).toNat = rr (x 0).val) (hlt : ∀ j < 64, rr j < 16392)
    (hpad : ∀ j, rem ≤ j → j < 64 → rr j = 16384) (hown : ∀ j < rem, rowSet (rr j) ⊆ I)
    (hinj : ∀ i < rem, ∀ j < rem, rr i = rr j → i = j) (hrem : rem ≤ 64)
    {O : CellTallies nD τ sig (HIx 1)} {W : Waits sig (HIx 1)} :
    iprop((inv κ (junk (F := F) d) ∗ Transfers.MayWaits (V d c' s') (default : HIx 1) O)
        ∗ (rbV.view.loc (V d c' s') ↦{fullShare} rb) ∗ (riV.view.loc (V d c' s') ↦{fullShare} ri) ∗ (oLoc d ↦[I]{fullShare} fd)
        ∗ toks (F := F) d w.val ∗ semVal ((V d c' s'), SemLoc.dma sem) 0 ∗ owes (V d c' s') O W)
      ⊢ iprop((∀ fd' : Buf (Elt F) (oLoc d), iprop(⌜(∀ j < rem, ∀ x : S16392x128.Idx, ∀ y : S64x128.Idx, (x 0).val = rr j → (y 0).val = j → (y 1).val = (x 1).val → fd' x = rb y)
              ∧ (∀ x : S16392x128.Idx, (∀ j < rem, (x 0).val ≠ rr j) → fd' x = fd x)⌝
            ∗ (rbV.view.loc (V d c' s') ↦{fullShare} rb) ∗ (riV.view.loc (V d c' s') ↦{fullShare} ri) ∗ (oLoc d ↦[I]{fullShare} fd')
            ∗ toks (F := F) d w.val ∗ semVal ((V d c' s'), SemLoc.dma sem) 0 ∗ owes (V d c' s') O (insert (SemLoc.dma sem, default) W))
            -∗ wp frame (wpE defs 𝒱₀ (V d c' s') bd) Set.univ (k ⟨⟩) Q)
          -∗ wp frame (wpE defs 𝒱₀ (V d c' s') bd) Set.univ
            (SparseCore.enqueueIndirectScatter hp rbV oS gth riV hn sem he hsp hr >>= fun _ =>
              SparseCore.waitIndirectScatter sem rbV oS hsrc hdst >>= k) Q) := by
  classical
  have hread : ∀ x, (riV.view.read (Elt F) ri x : BitVec 32) = ri x := fun x => by
    exact congrFun (View.read_whole (Val := Elt F) (b := cc0_scratch5) ri) x
  have hin : ∀ x, (riV.view.read (Elt F) ri x : BitVec 32).toNat < S16392x128.size gth.axis := fun x => by
    rw [hread, hri]; exact hlt _ (x 0).isLt
  let R : Fin (S64x128.size gth.axis') → Fin (S16392x128.size gth.axis) := SparseCore.rows (riV.view.read (Elt F) ri) hn hin
  have hR : ∀ j, (R j).val = rr j.val := fun j => by
    show (riV.view.read (Elt F) ri _ : BitVec 32).toNat = _
    rw [hread, hri]
    congr 1
    exact symm_rowMajor_one (n := 64) _
  let g : Fin (S64x128.size gth.axis') → Buf (Elt F) (oLoc d) := fun j =>
    (oRow (R j)).write (Elt F) fd (SparseCore.scatterRowPayload (V d c' s') rbV gth rb j) Finset.univ
  let A : Fin (S64x128.size gth.axis') → sProp 𝕄 := fun j =>
    iprop((if j.val < rem then (oLoc d ↦[rowSet (rr j.val)]{fullShare} fd) else emp) ∗ tok (F := F) d w.val j.val)
  let B : Fin (S64x128.size gth.axis') → sProp 𝕄 := fun j =>
    iprop((if j.val < rem then (oLoc d ↦[rowSet (rr j.val)]{fullShare} (g j)) else emp) ∗ tok (F := F) d w.val j.val)
  haveI hB : ∀ j, BI.Storable (upEmb : UEmb _ 𝕄) (B j) := fun j => by
    show BI.Storable (upEmb : UEmb _ 𝕄) iprop((if j.val < rem then (oLoc d ↦[rowSet (rr j.val)]{fullShare} (g j)) else emp) ∗ tok (F := F) d w.val j.val)
    by_cases h : j.val < rem
    · rw [if_pos h]; infer_instance
    · rw [if_neg h]; infer_instance
  have hupd : ∀ j, iprop(inv κ (junk (F := F) d) ∗ A j) ⊢ writeUpdate (V d c' s') (oRow (R j))
      (SparseCore.scatterRowPayload (V d c' s') rbV gth rb j) (B j) := fun j => by
    show iprop(inv κ (junk (F := F) d) ∗ ((if j.val < rem then (oLoc d ↦[rowSet (rr j.val)]{fullShare} fd) else emp) ∗ tok (F := F) d w.val j.val))
      ⊢ writeUpdate (V d c' s') (oRow (R j)) (SparseCore.scatterRowPayload (V d c' s') rbV gth rb j)
        iprop((if j.val < rem then (oLoc d ↦[rowSet (rr j.val)]{fullShare} (g j)) else emp) ∗ tok (F := F) d w.val j.val)
    by_cases h : j.val < rem
    · rw [if_pos h, if_pos h]
      iintro ⟨-, H, Ht⟩
      iapply writeUpdate_frame
      isplitl [H]
      · rw [← hR j]
        iapply (ownRow_oRow d c' s' (R j) _ fd) $$ H
      · iexact Ht
    · rw [if_neg h, if_neg h]
      have hj64 : j.val < 64 := j.isLt
      iintro ⟨#Hinv, -, Ht⟩
      ihave H := (junk_oRow (F := F) d c' s' κ w ⟨j.val, hj64⟩ (R j) ((hR j).trans (hpad _ (Nat.le_of_not_lt h) hj64))
        (SparseCore.scatterRowPayload (V d c' s') rbV gth rb j)) $$ [Ht]
      · isplitr; · iexact Hinv
        iexact Ht
      iapply (Entails.of_eq (congrArg (writeUpdate (V d c' s') (oRow (R j)) (SparseCore.scatterRowPayload (V d c' s') rbV gth rb j))
        (equiv_iff.mp (BI.emp_sep (P := tok (F := F) d w.val j.val))).symm)) $$ H
  have hN : ∑ j, (oS.slice (S16392x128.rowRect gth.axis (R j)) (S16392x128.stride_rowRect gth.axis _)).view.dmaCredit = rbV.view.dmaCredit :=
    SparseCore.sum_scatterCredit_eq_srcCredit (V d c' s') rbV oS gth rfl R (fun _ => rfl) (fun _ => rfl)
  -- the owned rows named, one per entry
  let T : Finset (Fin (S64x128.size gth.axis')) := Finset.univ.filter fun j => j.val < rem
  have hdis : ∀ t ∈ T, ∀ t' ∈ T, t ≠ t' → Disjoint (rowSet (rr t.val)) (rowSet (rr t'.val)) := fun t ht t' ht' hne => by
    rw [Finset.disjoint_left]
    intro x hx hx'
    rw [mem_rowSet] at hx hx'
    exact hne (Fin.ext (hinj _ (Finset.mem_filter.mp ht).2 _ (Finset.mem_filter.mp ht').2 (hx.symm.trans hx')))
  have hsub : (T.biUnion fun t => rowSet (rr t.val)) ⊆ I := fun x hx => by
    obtain ⟨t, ht, hx⟩ := Finset.mem_biUnion.mp hx
    exact hown _ (Finset.mem_filter.mp ht).2 hx
  have hrbs : rbV.view.set = Finset.univ := View.set_whole _
  have hris : riV.view.set = Finset.univ := View.set_whole _
  iintro ⟨⟨#Hinv, #Hmw⟩, Hrb, Hri, HI, Htok, Hv, HO⟩ Hk
  ihave HI' := (pointsTo_split_subset (ℓ := oLoc d) (q := fullShare) (f := fd) hsub).1 $$ HI
  icases HI' with ⟨Hrows, Hrest⟩
  ihave Hrows' := (Entails.of_eq ((pointsTo_biUnion (ℓ := oLoc d) (q := fullShare) (f := fd) T (fun t => rowSet (rr t.val)) hdis).trans
    (bigSep_filter Finset.univ (fun j : Fin (S64x128.size gth.axis') => j.val < rem) (fun t => (oLoc d ↦[rowSet (rr t.val)]{fullShare} fd : sProp 𝕄))))) $$ Hrows
  ihave Htok' := (show toks (F := F) d w.val ⊢ bigSep (Finset.univ : Finset (Fin (S64x128.size gth.axis'))) fun j => tok (F := F) d w.val j.val from Entails.refl _) $$ Htok
  ihave HA := Transfers.bigSep_sep_in _ _ _ $$ [Hrows' Htok']; · isplitl [Hrows'] <;> iassumption
  ihave Hrb' := (Entails.of_eq (show (rbV.view.loc (V d c' s') ↦{fullShare} rb : sProp 𝕄) = (rbV.view.loc (V d c' s') ↦[rbV.view.set]{fullShare} rb) by rw [hrbs])) $$ Hrb
  ihave Hri' := (Entails.of_eq (show (riV.view.loc (V d c' s') ↦{fullShare} ri : sProp 𝕄) = (riV.view.loc (V d c' s') ↦[riV.view.set]{fullShare} ri) by rw [hris])) $$ Hri
  iapply (wp_scatterBy 𝒱₀ (V d c' s') bd (hg := gth) (default : HIx 1) rbV.view.dmaCredit (by decide) hin hN
    (inv κ (junk (F := F) d)) A B hupd) $$ [HA Hrb' Hri' Hv]
  · isplitr; · iexact Hinv
    isplitl [Hrb']; · iexact Hrb'
    isplitl [HA]; · iexact HA
    isplitl [Hri']; · iexact Hri'
    iexact Hv
  iintro Hfl
  iapply (Entails.of_eq (show wp frame (wpE defs 𝒱₀ (V d c' s') bd) Set.univ (.op (.waitDma2 sem oS rbV hdst hsrc) k) Q
    = wp frame (wpE defs 𝒱₀ (V d c' s') bd) Set.univ (SparseCore.waitIndirectScatter sem rbV oS hsrc hdst >>= k) Q from rfl))
  iapply (Transfers.wp_waitLocalO EC 𝒱₀ (V d c' s') bd (default : HIx 1) (rfl : rbV.view.dmaCredit = _)) $$ [Hfl HO]
  · isplitl [Hfl]; · iexact Hfl
    isplitl [HO]; · iexact HO
    iapply (Transfers.MayWaits.elim (SemLoc.dma sem)) $$ Hmw
  iintro ⟨⟨HB, Hrb', Hri'⟩, Hv, HO⟩
  ihave HB' := Transfers.bigSep_sep_out _ _ _ $$ HB
  icases HB' with ⟨Hrows, Htok⟩
  ihave Hrows' := (Entails.of_eq (bigSep_filter Finset.univ (fun j : Fin (S64x128.size gth.axis') => j.val < rem)
    (fun t => (oLoc d ↦[rowSet (rr t.val)]{fullShare} g t : sProp 𝕄))).symm) $$ Hrows
  ihave Hj := (pointsTo_biUnion_join (ℓ := oLoc d) (q := fullShare) T (fun t => rowSet (rr t.val)) g fd hdis) $$ Hrows'
  icases Hj with ⟨%gg, %hgg, Hj⟩
  let fd' : Buf (Elt F) (oLoc d) := fun x => if x ∈ (T.biUnion fun t => rowSet (rr t.val)) then gg x else fd x
  ihave Hj' := (Entails.of_eq (pointsTo_congr (ℓ := oLoc d) (q := fullShare) (f := gg) (g := fd') fun x hx => (if_pos hx).symm)) $$ Hj
  ihave Hrest' := (Entails.of_eq (pointsTo_congr (ℓ := oLoc d) (q := fullShare) (f := fd) (g := fd') fun x hx => (if_neg (Finset.mem_sdiff.mp hx).2).symm)) $$ Hrest
  ihave HI := (pointsTo_split_subset (ℓ := oLoc d) (q := fullShare) (f := fd') hsub).2 $$ [Hj' Hrest']
  · isplitl [Hj'] <;> iassumption
  iapply Hk $$ %fd'
  isplitr
  · ipureintro
    constructor
    · intro j hj x y hx hy0 hy1
      have hjT : (⟨j, lt_of_lt_of_le hj hrem⟩ : Fin (S64x128.size gth.axis')) ∈ T := Finset.mem_filter.mpr ⟨Finset.mem_univ _, hj⟩
      have hxm : x ∈ rowSet (rr j) := (mem_rowSet _ _).mpr hx
      have h1 : fd' x = gg x := if_pos (Finset.mem_biUnion.mpr ⟨_, hjT, hxm⟩)
      rw [h1, hgg _ hjT x hxm]
      exact oRow_write (V d c' s') rfl d c' s' _ _ fd rb x (hx.trans (hR ⟨j, lt_of_lt_of_le hj hrem⟩).symm) y hy0 hy1
    · intro x hx
      refine if_neg fun hm => ?_
      obtain ⟨t, ht, hxt⟩ := Finset.mem_biUnion.mp hm
      exact hx _ (Finset.mem_filter.mp ht).2 ((mem_rowSet _ _).mp hxt)
  isplitl [Hrb']
  · iapply (Entails.of_eq (show (rbV.view.loc (V d c' s') ↦{fullShare} rb : sProp 𝕄) = (rbV.view.loc (V d c' s') ↦[rbV.view.set]{fullShare} rb) by rw [hrbs]).symm) $$ Hrb'
  isplitl [Hri']
  · iapply (Entails.of_eq (show (riV.view.loc (V d c' s') ↦{fullShare} ri : sProp 𝕄) = (riV.view.loc (V d c' s') ↦[riV.view.set]{fullShare} ri) by rw [hris]).symm) $$ Hri'
  isplitl [HI]; · iexact HI
  isplitl [Htok]
  · iapply (show (bigSep (Finset.univ : Finset (Fin (S64x128.size gth.axis'))) fun j => tok (F := F) d w.val j.val) ⊢ toks (F := F) d w.val from Entails.refl _) $$ Htok
  isplitl [Hv]; · iexact Hv
  iexact HO

end Flush

end Cert.Proof.Emb

end
-- ==== Proof.Match.lean ====
/- One matched entry of a table tile: its row gathered into the row buffer. -/
module
public import proofs.«01_k».proof.Proof.Scan
public import proofs.«01_k».proof.Proof.Flush

@[expose] public section

noncomputable section

namespace Cert.Proof.Emb

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The slot of a match -/

/-- The kernel's slot word: the count of matches, wrapped at sixty-four. -/
def slotW (a : BitVec 32) : BitVec 32 :=
  let v272 : BitVec 32 := Scalar.select (Scalar.cmpi .eq 64#32 0#32) 1#32 64#32
  let v273 : BitVec 32 := Scalar.remsi a v272
  Scalar.select (Scalar.andi (Scalar.xori (Scalar.cmpi .slt v273 0#32) (Scalar.cmpi .slt v272 0#32)) (Scalar.cmpi .ne v273 0#32)) (Scalar.addi v273 v272) v273

theorem slotW_nat {a : BitVec 32} (h : a.toNat < 2 ^ 31) : (slotW a).toNat = a.toNat % 64 := by
  have h1 : Scalar.select (Scalar.cmpi .eq 64#32 0#32) 1#32 64#32 = 64#32 := by decide
  have h2 : (Scalar.remsi a 64#32).toNat = a.toNat % 64 := IntOp.toNat_remsi .scalar (by omega) 64 (by decide) (by decide)
  unfold slotW
  simp only [h1]
  generalize hr : Scalar.remsi a 64#32 = r at h2
  have h3 : Scalar.cmpi .slt r 0#32 = 0#1 := by
    have : ¬ Scalar.cmpi .slt r 0#32 = 1#1 := by
      rw [show Scalar.cmpi .slt r 0#32 = IntOp.cmpi .slt r 0#32 from rfl, slt_one (by omega) (by decide)]
      exact Nat.not_lt_zero _
    generalize Scalar.cmpi .slt r 0#32 = b at this
    revert this; revert b; decide
  have h4 : Scalar.andi (Scalar.xori (Scalar.cmpi .slt r 0#32) (Scalar.cmpi .slt 64#32 0#32)) (Scalar.cmpi .ne r 0#32) = 0#1 := by
    rw [h3]
    generalize Scalar.cmpi .ne r 0#32 = b
    revert b; decide
  rw [h4]
  exact h2

/-! ## A quarter of a row -/

theorem quarter_miss [FloatOps F] (RB TC : Vec F S64x128 .f32) (ri ci li : IVec S16 32) (h1 h2) (slot c : ℕ)
    (hr : ∀ y, (ri y).toNat = slot) (hc : ∀ y, (ci y).toNat = c + (y 0).val) (x : S64x128.Idx)
    (hx : (x 0).val ≠ slot ∨ (x 1).val < c ∨ c + 16 ≤ (x 1).val) :
    storeIdx (F := F) RB ![ri, ci] (loadIdx TC ![ci, li] h1 : Vec F S16 .f32) (fun _ => 1#1) false h2 x = RB x := by
  refine storeIdx_miss (F := F) RB ![ri, ci] _ _ h2 x fun y _ hj => ?_
  have e0 : (x 0).val = (ri y).toNat := hj 0
  have e1 : (x 1).val = (ci y).toNat := hj 1
  rw [hr] at e0
  rw [hc] at e1
  have := lane_lt y
  omega

theorem quarter_hit [FloatOps F] (RB TC : Vec F S64x128 .f32) (ri ci li : IVec S16 32) (h1 h2) (slot c lane : ℕ)
    (hr : ∀ y, (ri y).toNat = slot) (hc : ∀ y, (ci y).toNat = c + (y 0).val) (hl : ∀ y, (li y).toNat = lane) (x z : S64x128.Idx)
    (h0 : (x 0).val = slot) (hx : c ≤ (x 1).val ∧ (x 1).val < c + 16) (z0 : (z 0).val = (x 1).val) (z1 : (z 1).val = lane) :
    storeIdx (F := F) RB ![ri, ci] (loadIdx TC ![ci, li] h1 : Vec F S16 .f32) (fun _ => 1#1) false h2 x = TC z := by
  have key : ∀ y : S16.Idx, (ci y).toNat = (x 1).val → (loadIdx TC ![ci, li] h1 : Vec F S16 .f32) y = TC z := fun y hy => by
    refine congrArg TC ?_
    funext a
    refine Fin.ext ?_
    fin_cases a
    · exact hy.trans z0.symm
    · exact (hl y).trans z1.symm
  have hy : (ci (ln ⟨(x 1).val - c, by omega⟩)).toNat = (x 1).val := by
    rw [hc]; show c + ((x 1).val - c) = _; omega
  refine (storeIdx_hit (F := F) RB ![ri, ci] _ _ h2 x (ln ⟨(x 1).val - c, by omega⟩) rfl (fun a => ?_) fun y _ hj => ?_).trans (key _ hy)
  · fin_cases a
    · exact h0.trans (hr _).symm
    · exact hy.symm
  · rw [key _ hy, key y (hj 1).symm]

/-! ## The program of one match -/

section Prog

variable [FloatOps F] (L : grid0.Coords)

/-- One match: the entry at `v267` of the packed window, its row gathered out of `tc`. -/
def matchP (tc : Memref sig .scVector .vmem S64x128 .f32) (v10 v11 : IVec S16 32) (v267 : IVec S16 32) (arg24 : BitVec 32) :
    Prog (TpuEff nD τ sig (Elt F) Λ₀ (.scVector ((L 0).castLE hcore0) ((L 1).castLE hsub0))) (BitVec 32) := do
  have h18 : k0_chk18 v267 := (← Prog.lift (TpuEff.assume (k0_chk18 v267) (k0_chk18.dec v267))).down
  let v268 : Vec F S16 .i32 ← SparseCore.vectorLoadIdx pwV ![v267] h18 (View.loads_vmem h_S1536)
  have h23 : k0_chk23 (k0_pay6 v11 arg24) := (← Prog.lift (TpuEff.assume (k0_chk23 (k0_pay6 v11 arg24)) (k0_chk23.dec (k0_pay6 v11 arg24)))).down
  have h19 : k0_chk19 (k0_pay5 v268) (k0_pay6 v11 arg24) (k0_pay7 v10) := (← Prog.lift (TpuEff.assume (k0_chk19 (k0_pay5 v268) (k0_pay6 v11 arg24) (k0_pay7 v10)) (k0_chk19.dec (k0_pay5 v268) (k0_pay6 v11 arg24) (k0_pay7 v10)))).down
  let v285 : Vec F S16 .f32 ← SparseCore.vectorLoadIdx tc ![k0_pay7 v10, k0_pay5 v268] h19.1 (View.loads_vmem h_S64x128)
  SparseCore.vectorStoreIdx rbV ![k0_pay6 v11 arg24, k0_pay7 v10] v285 (fun _ => 1#1) false h19.2 (View.stores_vmem_bits_univ h_S64x128 rfl)
  have h20 : k0_chk19 (k0_pay5 v268) (k0_pay6 v11 arg24) (k0_pay8 v10) := (← Prog.lift (TpuEff.assume (k0_chk19 (k0_pay5 v268) (k0_pay6 v11 arg24) (k0_pay8 v10)) (k0_chk19.dec (k0_pay5 v268) (k0_pay6 v11 arg24) (k0_pay8 v10)))).down
  let v288 : Vec F S16 .f32 ← SparseCore.vectorLoadIdx tc ![k0_pay8 v10, k0_pay5 v268] h20.1 (View.loads_vmem h_S64x128)
  SparseCore.vectorStoreIdx rbV ![k0_pay6 v11 arg24, k0_pay8 v10] v288 (fun _ => 1#1) false h20.2 (View.stores_vmem_bits_univ h_S64x128 rfl)
  have h21 : k0_chk19 (k0_pay5 v268) (k0_pay6 v11 arg24) (k0_pay9 v10) := (← Prog.lift (TpuEff.assume (k0_chk19 (k0_pay5 v268) (k0_pay6 v11 arg24) (k0_pay9 v10)) (k0_chk19.dec (k0_pay5 v268) (k0_pay6 v11 arg24) (k0_pay9 v10)))).down
  let v291 : Vec F S16 .f32 ← SparseCore.vectorLoadIdx tc ![k0_pay9 v10, k0_pay5 v268] h21.1 (View.loads_vmem h_S64x128)
  SparseCore.vectorStoreIdx rbV ![k0_pay6 v11 arg24, k0_pay9 v10] v291 (fun _ => 1#1) false h21.2 (View.stores_vmem_bits_univ h_S64x128 rfl)
  have h22 : k0_chk19 (k0_pay5 v268) (k0_pay6 v11 arg24) (k0_pay10 v10) := (← Prog.lift (TpuEff.assume (k0_chk19 (k0_pay5 v268) (k0_pay6 v11 arg24) (k0_pay10 v10)) (k0_chk19.dec (k0_pay5 v268) (k0_pay6 v11 arg24) (k0_pay10 v10)))).down
  let v294 : Vec F S16 .f32 ← SparseCore.vectorLoadIdx tc ![k0_pay10 v10, k0_pay5 v268] h22.1 (View.loads_vmem h_S64x128)
  SparseCore.vectorStoreIdx rbV ![k0_pay6 v11 arg24, k0_pay10 v10] v294 (fun _ => 1#1) false h22.2 (View.stores_vmem_bits_univ h_S64x128 rfl)
  SparseCore.vectorStoreIdx riV ![k0_pay6 v11 arg24] (k0_pay11 v268) (k0_pay12 v10) false h23 (View.stores_vmem_bits_univ h_S64 rfl)
  pure 64#32

/-- The match and, where it fills the row buffer, the flush. -/
def tripP (core : Prog (TpuEff nD τ sig (Elt F) Λ₀ (.scVector ((L 0).castLE hcore0) ((L 1).castLE hsub0))) (BitVec 32)) (arg24 : BitVec 32) :
    Prog (TpuEff nD τ sig (Elt F) Λ₀ (.scVector ((L 0).castLE hcore0) ((L 1).castLE hsub0))) (BitVec 32) := do
  let c : BitVec 32 ← core
  let v300 : BitVec 32 := Scalar.select (Scalar.cmpi .eq c 0#32) 1#32 c
  let v301 : BitVec 32 := Scalar.remsi arg24 v300
  let v308 : BitVec 32 := Scalar.select (Scalar.andi (Scalar.xori (Scalar.cmpi .slt v301 0#32) (Scalar.cmpi .slt v300 0#32)) (Scalar.cmpi .ne v301 0#32)) (Scalar.addi v301 v300) v301
  if Scalar.cmpi .ne (Scalar.extui (Scalar.cmpi .eq v308 63#32) : BitVec 32) 0#32 = 1#1 then do
    SparseCore.enqueueIndirectScatter rfl rbV oS gathers_S16392x128_S64x128 riV rfl cc0_scratch10.sem rfl (Or.inl rfl)
    SparseCore.waitIndirectScatter cc0_scratch10.sem rbV oS (Memref.isWhole_whole _).wordExact (View.wordExact_bits rfl)
    pure ⟨⟩
  else do
    pure ⟨⟩
  pure (Scalar.addi arg24 1#32)

variable (v10 v11 : IVec S16 32) (v13 : BitVec 32) (t : Fin (k0_t3_loop v13).trips) (v143 v153 : BitVec 32) (acc : BitVec 32)

theorem part1_matchP (c0 c1 : BitVec 32) (k : Fin (k0_t4_loop v13 t v143 v153).trips) :
    k0_part1 (F := F) L tV (Memref.isWhole_whole _) pV (Memref.isWhole_whole _) wV (Memref.isWhole_whole _) oV (Memref.isWhole_whole _) twV (Memref.isWhole_whole _) pwV (Memref.isWhole_whole _) dlV (Memref.isWhole_whole _) dsV (Memref.isWhole_whole _) rbV (Memref.isWhole_whole _) riV (Memref.isWhole_whole _) cc0_scratch6 cc0_scratch7 cc0_scratch8 cc0_scratch9 cc0_scratch10 tc0V (Memref.isWhole_whole _) tc1V (Memref.isWhole_whole _) tc2V (Memref.isWhole_whole _) tc3V (Memref.isWhole_whole _) cc0_scoped0 cc0_scoped1 v10 v11 v13 t v143 v153 c0 c1 k acc = matchP L tc0V v10 v11 (k0_pay4 v11 v13 t v143 v153 c0 c1 k) acc := by
  rw [k0_part1_eq_skeleton]; rfl

theorem part3_matchP (c0 c1 : BitVec 32) (k : Fin (k0_t6_loop v13 t v143 v153).trips) :
    k0_part3 (F := F) L tV (Memref.isWhole_whole _) pV (Memref.isWhole_whole _) wV (Memref.isWhole_whole _) oV (Memref.isWhole_whole _) twV (Memref.isWhole_whole _) pwV (Memref.isWhole_whole _) dlV (Memref.isWhole_whole _) dsV (Memref.isWhole_whole _) rbV (Memref.isWhole_whole _) riV (Memref.isWhole_whole _) cc0_scratch6 cc0_scratch7 cc0_scratch8 cc0_scratch9 cc0_scratch10 tc0V (Memref.isWhole_whole _) tc1V (Memref.isWhole_whole _) tc2V (Memref.isWhole_whole _) tc3V (Memref.isWhole_whole _) cc0_scoped0 cc0_scoped1 v10 v11 v13 t v143 v153 c0 c1 k acc = matchP L tc1V v10 v11 (k0_pay22 v11 v13 t v143 v153 c0 c1 k) acc := by
  rw [k0_part3_eq_skeleton]; rfl

theorem part5_matchP (c0 c1 : BitVec 32) (k : Fin (k0_t8_loop v13 t v143 v153).trips) :
    k0_part5 (F := F) L tV (Memref.isWhole_whole _) pV (Memref.isWhole_whole _) wV (Memref.isWhole_whole _) oV (Memref.isWhole_whole _) twV (Memref.isWhole_whole _) pwV (Memref.isWhole_whole _) dlV (Memref.isWhole_whole _) dsV (Memref.isWhole_whole _) rbV (Memref.isWhole_whole _) riV (Memref.isWhole_whole _) cc0_scratch6 cc0_scratch7 cc0_scratch8 cc0_scratch9 cc0_scratch10 tc0V (Memref.isWhole_whole _) tc1V (Memref.isWhole_whole _) tc2V (Memref.isWhole_whole _) tc3V (Memref.isWhole_whole _) cc0_scoped0 cc0_scoped1 v10 v11 v13 t v143 v153 c0 c1 k acc = matchP L tc2V v10 v11 (k0_pay40 v11 v13 t v143 v153 c0 c1 k) acc := by
  rw [k0_part5_eq_skeleton]; rfl

theorem part7_matchP (c0 c1 : BitVec 32) (k : Fin (k0_t10_loop v13 t v143 v153).trips) :
    k0_part7 (F := F) L tV (Memref.isWhole_whole _) pV (Memref.isWhole_whole _) wV (Memref.isWhole_whole _) oV (Memref.isWhole_whole _) twV (Memref.isWhole_whole _) pwV (Memref.isWhole_whole _) dlV (Memref.isWhole_whole _) dsV (Memref.isWhole_whole _) rbV (Memref.isWhole_whole _) riV (Memref.isWhole_whole _) cc0_scratch6 cc0_scratch7 cc0_scratch8 cc0_scratch9 cc0_scratch10 tc0V (Memref.isWhole_whole _) tc1V (Memref.isWhole_whole _) tc2V (Memref.isWhole_whole _) tc3V (Memref.isWhole_whole _) cc0_scoped0 cc0_scoped1 v10 v11 v13 t v143 v153 c0 c1 k acc = matchP L tc3V v10 v11 (k0_pay58 v11 v13 t v143 v153 c0 c1 k) acc := by
  rw [k0_part7_eq_skeleton]; rfl

end Prog

/-! ## What one match does -/

section Step

variable [FloatOps F] {d : Dev nD} {L : grid0.Coords}

/-- The lane numbers. -/
abbrev lanes : IVec S16 32 := iota .scVector S16 32 [0] iota_S16_d0_w32_scVector

theorem pay5_nat (v : Vec F S16 .i32) (y : S16.Idx) : (k0_pay5 v y).toNat = (v y : BitVec 32).toNat % 128 := by
  show ((v y : BitVec 32) &&& 127#32).toNat = _
  rw [BitVec.toNat_and]
  exact Nat.and_two_pow_sub_one_eq_mod _ 7

theorem pay11_nat (v : Vec F S16 .i32) (y : S16.Idx) : (k0_pay11 v y).toNat = (v y : BitVec 32).toNat / 128 := by
  show (IntOp.shrui .vector (v y : BitVec 32) 7#32).toNat = _
  unfold IntOp.shrui
  rw [if_pos (by decide)]
  show ((v y : BitVec 32) >>> 7).toNat = _
  rw [BitVec.toNat_ushiftRight, Nat.shiftRight_eq_div_pow]

theorem pay6_nat (a : BitVec 32) (h : a.toNat < 2 ^ 31) (y : S16.Idx) : (k0_pay6 k0_pay198 a y).toNat = a.toNat % 64 :=
  (congrArg BitVec.toNat (BitVec.add_zero (slotW a))).trans (slotW_nat h)

theorem col_nat (c : ℕ) (hc : c < 64) (y : S16.Idx) : (IntOp.addi (BitVec.ofNat 32 c) (lanes y)).toNat = c + (y 0).val := by
  have h1 := lane_lt y
  have h2 : (BitVec.ofNat 32 c).toNat = c := ofNat_nat (by omega)
  rw [add_nat (by rw [h2, iota_nat]; omega), h2, iota_nat]

/-- What a match leaves in the row buffer and the list of rows. -/
def Hit (PW : Vec F S1536 .i32) (TC RB RB' : Vec F S64x128 .f32) (RI RI' : Vec F S64 .i32) (slot p : ℕ) : Prop :=
  (∀ x z : S64x128.Idx, (x 0).val = slot → (x 1).val < 64 → (z 0).val = (x 1).val → (z 1).val = rd PW p % 128 → RB' x = TC z)
    ∧ (∀ x : S64x128.Idx, (x 0).val ≠ slot → RB' x = RB x) ∧ rd RI' slot = rd PW p / 128 ∧ ∀ j, j ≠ slot → rd RI' j = rd RI j

theorem wp_match (tc : Memref sig .scVector .vmem S64x128 .f32) {PW : Vec F S1536 .i32} {TC RB : Vec F S64x128 .f32} {RI : Vec F S64 .i32}
    (v267 : IVec S16 32) (acc : BitVec 32) (p : ℕ) (hp : ∀ y, (v267 y).toNat = p) (hp' : p < 1536) (ha : acc.toNat < 2 ^ 31)
    {Q : BitVec 32 → sProp 𝕄} :
    iprop(mem d (cV L) (jV L) pwV PW ∗ mem d (cV L) (jV L) tc TC ∗ mem d (cV L) (jV L) rbV RB ∗ mem d (cV L) (jV L) riV RI)
      ⊢ iprop((∀ RB' : Vec F S64x128 .f32, ∀ RI' : Vec F S64 .i32, iprop(mem d (cV L) (jV L) pwV PW ∗ mem d (cV L) (jV L) tc TC
            ∗ mem d (cV L) (jV L) rbV RB' ∗ mem d (cV L) (jV L) riV RI' ∗ ⌜Hit PW TC RB RB' RI RI' (acc.toNat % 64) p⌝) -∗ Q 64#32)
        -∗ wp frame (wpE (defs₀ (F := F)) 𝒱₀ (V d (cV L) (jV L)) none) Set.univ (matchP L tc lanes k0_pay198 v267 acc) Q) := by
  have hslot : acc.toNat % 64 < 64 := Nat.mod_lt _ (by decide)
  have e6 : ∀ y, (k0_pay6 k0_pay198 acc y).toNat = acc.toNat % 64 := pay6_nat acc ha
  have e7 : ∀ y, (k0_pay7 lanes y).toNat = 0 + (y 0).val := col_nat 0 (by decide)
  have e8 : ∀ y, (k0_pay8 lanes y).toNat = 16 + (y 0).val := col_nat 16 (by decide)
  have e9 : ∀ y, (k0_pay9 lanes y).toNat = 32 + (y 0).val := col_nat 32 (by decide)
  have e10 : ∀ y, (k0_pay10 lanes y).toNat = 48 + (y 0).val := col_nat 48 (by decide)
  have h18 : k0_chk18 v267 := fun a x => by
    obtain rfl : a = 0 := Fin.eq_zero a
    show (v267 x).toNat < 1536
    rw [hp]; exact hp'
  have h23 : k0_chk23 (k0_pay6 k0_pay198 acc) := fun a x => by
    obtain rfl : a = 0 := Fin.eq_zero a
    show (k0_pay6 k0_pay198 acc x).toNat < 64
    rw [e6]; exact hslot
  have two : ∀ v ci : IVec S16 32, (∀ y, (v y).toNat < 128) → (∀ y, (ci y).toNat < 64) → k0_chk19 v (k0_pay6 k0_pay198 acc) ci :=
    fun v ci hv hc => ⟨fun a x => by
      fin_cases a
      · exact hc x
      · exact hv x, fun a x => by
      fin_cases a
      · show (k0_pay6 k0_pay198 acc x).toNat < 64
        rw [e6]; exact hslot
      · show (ci x).toNat < 128
        exact lt_trans (hc x) (by decide)⟩
  unfold matchP
  iintro ⟨Hp, Ht, Hr, Hi⟩ Hk
  iapply (wp_as none h18)
  iapply (wp_ld none) $$ Hp
  iintro Hp
  have e268 : ∀ y, (loadIdx (F := F) PW ![v267] h18 y : BitVec 32).toNat = rd PW p := fun y =>
    (rd_load PW v267 h18 y).trans (congrArg (rd PW) (hp y))
  generalize (loadIdx (F := F) PW ![v267] h18 : Vec F S16 .i32) = v268 at e268
  have e5 : ∀ y, (k0_pay5 v268 y).toNat = rd PW p % 128 := fun y => by rw [pay5_nat, e268]
  have e11 : ∀ y, (k0_pay11 v268 y).toNat = rd PW p / 128 := fun y => by rw [pay11_nat, e268]
  have l5 : ∀ y, (k0_pay5 v268 y).toNat < 128 := fun y => by rw [e5]; exact Nat.mod_lt _ (by decide)
  have lc : ∀ (c : ℕ) (ci : IVec S16 32), c ≤ 48 → (∀ y, (ci y).toNat = c + (y 0).val) → ∀ y, (ci y).toNat < 64 := fun c ci hc h y => by
    have := lane_lt y
    rw [h]; omega
  iapply (wp_as none h23)
  iapply (wp_as none (two _ _ l5 (lc 0 _ (by decide) e7)))
  iapply (wp_ld none) $$ Ht
  iintro Ht
  iapply (wp_st none) $$ Hr
  iintro Hr
  iapply (wp_as none (two _ _ l5 (lc 16 _ (by decide) e8)))
  iapply (wp_ld none) $$ Ht
  iintro Ht
  iapply (wp_st none) $$ Hr
  iintro Hr
  iapply (wp_as none (two _ _ l5 (lc 32 _ (by decide) e9)))
  iapply (wp_ld none) $$ Ht
  iintro Ht
  iapply (wp_st none) $$ Hr
  iintro Hr
  iapply (wp_as none (two _ _ l5 (lc 48 _ (by decide) e10)))
  iapply (wp_ld none) $$ Ht
  iintro Ht
  iapply (wp_st none) $$ Hr
  iintro Hr
  iapply (wp_st none) $$ Hi
  iintro Hi
  iapply (wp_rt none)
  iapply Hk
  isplitl [Hp]; · iexact Hp
  isplitl [Ht]; · iexact Ht
  isplitl [Hr]; · iexact Hr
  isplitl [Hi]; · iexact Hi
  ipureintro
  refine ⟨fun x z h0 hx z0 z1 => ?_, fun x hx => ?_, ?_, fun j hj => ?_⟩
  · rcases (by omega : (x 1).val < 16 ∨ (16 ≤ (x 1).val ∧ (x 1).val < 32) ∨ (32 ≤ (x 1).val ∧ (x 1).val < 48) ∨ (48 ≤ (x 1).val ∧ (x 1).val < 64)) with h | h | h | h
    · rw [quarter_miss _ _ _ _ _ _ _ _ 48 e6 e10 x (by omega), quarter_miss _ _ _ _ _ _ _ _ 32 e6 e9 x (by omega), quarter_miss _ _ _ _ _ _ _ _ 16 e6 e8 x (by omega)]
      exact quarter_hit _ _ _ _ _ _ _ _ 0 _ e6 e7 e5 x z h0 (by omega) z0 z1
    · rw [quarter_miss _ _ _ _ _ _ _ _ 48 e6 e10 x (by omega), quarter_miss _ _ _ _ _ _ _ _ 32 e6 e9 x (by omega)]
      exact quarter_hit _ _ _ _ _ _ _ _ 16 _ e6 e8 e5 x z h0 (by omega) z0 z1
    · rw [quarter_miss _ _ _ _ _ _ _ _ 48 e6 e10 x (by omega)]
      exact quarter_hit _ _ _ _ _ _ _ _ 32 _ e6 e9 e5 x z h0 (by omega) z0 z1
    · exact quarter_hit _ _ _ _ _ _ _ _ 48 _ e6 e10 e5 x z h0 (by omega) z0 z1
  · rw [quarter_miss _ _ _ _ _ _ _ _ 48 e6 e10 x (.inl hx), quarter_miss _ _ _ _ _ _ _ _ 32 e6 e9 x (.inl hx), quarter_miss _ _ _ _ _ _ _ _ 16 e6 e8 x (.inl hx),
      quarter_miss _ _ _ _ _ _ _ _ 0 e6 e7 x (.inl hx)]
  · exact (rd_store_hit _ _ _ _ _ _ (ln 0) (by decide) (e6 _) fun x' _ _ =>
      BitVec.eq_of_toNat_eq ((e11 x').trans (e11 _).symm)).trans (e11 _)
  · exact rd_store_miss _ _ _ _ _ _ fun x _ h => hj (h.symm.trans (e6 x))

end Step

end Cert.Proof.Emb

end
-- ==== Proof.Trip.lean ====
/-
  The row buffer's state through the matches: how many rows it holds, which rows have been flushed, and one trip of the
  match loop with its flush.
-/
module

public import proofs.«01_k».proof.Proof.Match

@[expose] public section

noncomputable section

namespace Cert.Proof.Emb

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Whole

variable {d : Dev nD} {c' : Fin τ.nSC} {s' : Fin τ.nSub}

theorem rb_open (X : Vec F S64x128 .f32) : mem d c' s' rbV X ⊢ (iprop(rbV.view.loc (V d c' s') ↦{fullShare} (X : Buf (Elt F) (rbV.view.loc (V d c' s')))) : sProp 𝕄) := by
  rw [mem_eq]
  iintro ⟨%f, H, %hf⟩
  have e : f = X := (View.read_whole (Val := Elt F) (b := cc0_scratch4) f).symm.trans hf
  subst e
  iapply (Entails.of_eq (show (iprop(rbV.view.loc (V d c' s') ↦[rbV.view.set]{fullShare} f) : sProp 𝕄) = iprop(rbV.view.loc (V d c' s') ↦{fullShare} f) by
    rw [View.set_whole])) $$ H

theorem rb_close (X : Vec F S64x128 .f32) : (iprop(rbV.view.loc (V d c' s') ↦{fullShare} (X : Buf (Elt F) (rbV.view.loc (V d c' s')))) : sProp 𝕄) ⊢ mem d c' s' rbV X := by
  rw [mem_eq]
  iintro H
  iexists X
  isplitl [H]
  · iapply (Entails.of_eq (show (iprop(rbV.view.loc (V d c' s') ↦{fullShare} X) : sProp 𝕄) = iprop(rbV.view.loc (V d c' s') ↦[rbV.view.set]{fullShare} X) by
      rw [View.set_whole])) $$ H
  · ipureintro
    exact View.read_whole (Val := Elt F) (b := cc0_scratch4) X

theorem ri_open (X : Vec F S64 .i32) : mem d c' s' riV X ⊢ (iprop(riV.view.loc (V d c' s') ↦{fullShare} (X : Buf (Elt F) (riV.view.loc (V d c' s')))) : sProp 𝕄) := by
  rw [mem_eq]
  iintro ⟨%f, H, %hf⟩
  have e : f = X := (View.read_whole (Val := Elt F) (b := cc0_scratch5) f).symm.trans hf
  subst e
  iapply (Entails.of_eq (show (iprop(riV.view.loc (V d c' s') ↦[riV.view.set]{fullShare} f) : sProp 𝕄) = iprop(riV.view.loc (V d c' s') ↦{fullShare} f) by
    rw [View.set_whole])) $$ H

theorem ri_close (X : Vec F S64 .i32) : (iprop(riV.view.loc (V d c' s') ↦{fullShare} (X : Buf (Elt F) (riV.view.loc (V d c' s')))) : sProp 𝕄) ⊢ mem d c' s' riV X := by
  rw [mem_eq]
  iintro H
  iexists X
  isplitl [H]
  · iapply (Entails.of_eq (show (iprop(riV.view.loc (V d c' s') ↦{fullShare} X) : sProp 𝕄) = iprop(riV.view.loc (V d c' s') ↦[riV.view.set]{fullShare} X) by
      rw [View.set_whole])) $$ H
  · ipureintro
    exact View.read_whole (Val := Elt F) (b := cc0_scratch5) X

end Whole

/-! ## The state -/

section State

variable [FloatOps F] (d : Dev nD) (L : grid0.Coords) (κ : ℕ) (w : Fin 32) (I : Finset S16392x128.Idx) (vv : ℕ → ℕ → Elt F .f32) (rr : ℕ → ℕ)
  (O : CellTallies nD τ sig (HIx 1)) (W₀ : Waits sig (HIx 1)) (a B : ℕ)

/-- The rows of the window's positions from `a` to `B`: the worker's own, all different. -/
structure Rows : Prop where
  lt : ∀ q, a ≤ q → q < B → rr q < 16384
  own : ∀ q, a ≤ q → q < B → rowSet (rr q) ⊆ I
  inj : ∀ p, a ≤ p → p < B → ∀ q, a ≤ q → q < B → rr p = rr q → p = q

/-- Rows filled and flushed. -/
structure StOK (RB : Vec F S64x128 .f32) (RI : Vec F S64 .i32) (fd : Buf (Elt F) (oLoc d)) (W' : Waits sig (HIx 1)) (n b : ℕ) : Prop where
  rb : ∀ j < n, ∀ x : S64x128.Idx, (x 0).val = j → (x 1).val < 64 → RB x = vv (a + (64 * b + j)) (x 1).val
  ri : ∀ j < n, rd RI j = rr (a + (64 * b + j))
  done : ∀ m < 64 * b, ∀ x : S16392x128.Idx, (x 0).val = rr (a + m) → (x 1).val < 64 → fd x = vv (a + m) (x 1).val
  waits : ∀ p ∈ W', p ∈ W₀ ∨ p.2 = none

/-- The row buffer with `n` rows of batch `b`, every earlier batch flushed. -/
def St (n b : ℕ) : sProp 𝕄 :=
  iprop(∃ RB : Vec F S64x128 .f32, ∃ RI : Vec F S64 .i32, ∃ fd : Buf (Elt F) (oLoc d), ∃ W' : Waits sig (HIx 1),
    mem d (cV L) (jV L) rbV RB ∗ mem d (cV L) (jV L) riV RI ∗ (oLoc d ↦[I]{fullShare} fd) ∗ toks (F := F) d w.val
      ∗ semVal ((V d (cV L) (jV L)), SemLoc.dma cc0_scratch10.sem) 0 ∗ owes (V d (cV L) (jV L)) O W' ∗ ⌜StOK d vv rr W₀ a RB RI fd W' n b⌝)

variable {d L κ w I vv rr O W₀ a B}

/-- A flush of `n` rows. -/
theorem wp_drain (hR : Rows I rr a B) {n b : ℕ} (hn : n ≤ 64) (hB : a + (64 * b + n) ≤ B)
    {RB : Vec F S64x128 .f32} {RI : Vec F S64 .i32} {fd : Buf (Elt F) (oLoc d)} {W' : Waits sig (HIx 1)} (hOK : StOK d vv rr W₀ a RB RI fd W' n b)
    (hpad : ∀ j, n ≤ j → j < 64 → rd RI j = 16384)
    {hp : (V d (cV L) (jV L)).2.kind = .scVector} {he : EltTy.f32.bits = 32} {hsp : Space.hbm = .hbm ∨ Space.hbm = .shared} {hr : S16392x128.StreamRows 0}
    {hn' : S64.numel = S64x128.size gth.axis'} {hsrc : rbV.view.WordExact} {hdst : oS.view.WordExact}
    {β : Type} {Q : β → sProp 𝕄} {k : PUnit → Prog (TpuEff nD τ sig (Elt F) Λ₀ (V d (cV L) (jV L)).2) β} :
    iprop((inv κ (junk (F := F) d) ∗ Transfers.MayWaits (V d (cV L) (jV L)) (default : HIx 1) O)
        ∗ mem d (cV L) (jV L) rbV RB ∗ mem d (cV L) (jV L) riV RI ∗ (oLoc d ↦[I]{fullShare} fd) ∗ toks (F := F) d w.val
        ∗ semVal ((V d (cV L) (jV L)), SemLoc.dma cc0_scratch10.sem) 0 ∗ owes (V d (cV L) (jV L)) O W')
      ⊢ iprop((∀ fd' : Buf (Elt F) (oLoc d), ∀ W'' : Waits sig (HIx 1), iprop(mem d (cV L) (jV L) rbV RB ∗ mem d (cV L) (jV L) riV RI ∗ (oLoc d ↦[I]{fullShare} fd') ∗ toks (F := F) d w.val
            ∗ semVal ((V d (cV L) (jV L)), SemLoc.dma cc0_scratch10.sem) 0 ∗ owes (V d (cV L) (jV L)) O W''
            ∗ ⌜(∀ m < 64 * b + n, ∀ x : S16392x128.Idx, (x 0).val = rr (a + m) → (x 1).val < 64 → fd' x = vv (a + m) (x 1).val) ∧ ∀ p ∈ W'', p ∈ W₀ ∨ p.2 = none⌝)
          -∗ wp frame (wpE (defs₀ (F := F)) 𝒱₀ (V d (cV L) (jV L)) none) Set.univ (k ⟨⟩) Q)
        -∗ wp frame (wpE (defs₀ (F := F)) 𝒱₀ (V d (cV L) (jV L)) none) Set.univ
          (SparseCore.enqueueIndirectScatter hp rbV oS gth riV hn' cc0_scratch10.sem he hsp hr >>= fun _ =>
            SparseCore.waitIndirectScatter cc0_scratch10.sem rbV oS hsrc hdst >>= k) Q) := by
  have hri := hOK.ri
  iintro ⟨#Hc, Hr, Hi, Hf, Ht, Hs, HO⟩ Hk
  ihave Hr := (rb_open RB) $$ Hr
  ihave Hi := (ri_open RI) $$ Hi
  iapply (wp_flush d (cV L) (jV L) κ w none cc0_scratch10.sem n RB RI I fd (rd RI) (fun x => rd_eq RI x)
    (fun j hj => by
      rcases Nat.lt_or_ge j n with h | h
      · rw [hri j h]; exact lt_trans (hR.lt _ (by omega) (by omega)) (by decide)
      · rw [hpad j h hj]; decide)
    hpad (fun j hj => by rw [hri j hj]; exact hR.own _ (by omega) (by omega))
    (fun i hi j hj h => by
      rw [hri i hi, hri j hj] at h
      have := hR.inj _ (by omega) (by omega) _ (by omega) (by omega) h
      omega) hn) $$ [Hr Hi Hf Ht Hs HO]
  · isplitr; · iexact Hc
    isplitl [Hr]; · iexact Hr
    isplitl [Hi]; · iexact Hi
    isplitl [Hf]; · iexact Hf
    isplitl [Ht]; · iexact Ht
    isplitl [Hs]; · iexact Hs
    iexact HO
  iintro %fd' ⟨%hfd, Hr, Hi, Hf, Ht, Hs, HO⟩
  ihave Hr := (rb_close RB) $$ Hr
  ihave Hi := (ri_close RI) $$ Hi
  iapply Hk
  isplitl [Hr]; · iexact Hr
  isplitl [Hi]; · iexact Hi
  isplitl [Hf]; · iexact Hf
  isplitl [Ht]; · iexact Ht
  isplitl [Hs]; · iexact Hs
  isplitl [HO]; · iexact HO
  ipureintro
  refine ⟨fun m hm x hx h64 => ?_, fun p hp => ?_⟩
  · rcases Nat.lt_or_ge m (64 * b) with h | h
    · rw [hfd.2 x fun j hj he => ?_, hOK.done m h x hx h64]
      rw [hx, hri j hj] at he
      have := hR.inj _ (by omega) (by omega) _ (by omega) (by omega) he
      omega
    · obtain ⟨j, rfl⟩ := Nat.exists_eq_add_of_le h
      have hj : j < n := by omega
      let y : S64x128.Idx := Fin.cons ⟨j, show j < 64 by omega⟩ (Fin.cons ⟨(x 1).val, (x 1).isLt⟩ finZeroElim)
      rw [hfd.1 j hj x y (by rw [hri j hj, hx]) rfl rfl]
      exact hOK.rb j hj y rfl h64
  · rcases Finset.mem_insert.mp hp with rfl | h
    · exact .inr rfl
    · exact hOK.waits p h

theorem full_iff {a : BitVec 32} (h : a.toNat < 2 ^ 31) :
    Scalar.cmpi .ne (Scalar.extui (Scalar.cmpi .eq (slotW a) 63#32) : BitVec 32) 0#32 = 1#1 ↔ a.toNat % 64 = 63 := by
  have e : ∀ b : BitVec 1, Scalar.cmpi .ne (Scalar.extui b : BitVec 32) 0#32 = 1#1 ↔ b = 1#1 := by decide
  have h1 : Scalar.cmpi .eq (slotW a) 63#32 = 1#1 ↔ (slotW a).toNat = 63 := eq_one
  rw [e, h1, slotW_nat h]

theorem wp_yes {β : Type} {Q : β → sProp 𝕄} {c : Prop} {dc : Decidable c} (h : c) {p q : Prog (TpuEff nD τ sig (Elt F) Λ₀ (V d (cV L) (jV L)).2) β} :
    wp frame (wpE (defs₀ (F := F)) 𝒱₀ (V d (cV L) (jV L)) none) Set.univ p Q
      ⊢ wp frame (wpE (defs₀ (F := F)) 𝒱₀ (V d (cV L) (jV L)) none) Set.univ (if c then p else q) Q := by
  rw [if_pos h]

theorem wp_no {β : Type} {Q : β → sProp 𝕄} {c : Prop} {dc : Decidable c} (h : ¬c) {p q : Prog (TpuEff nD τ sig (Elt F) Λ₀ (V d (cV L) (jV L)).2) β} :
    wp frame (wpE (defs₀ (F := F)) 𝒱₀ (V d (cV L) (jV L)) none) Set.univ q Q
      ⊢ wp frame (wpE (defs₀ (F := F)) 𝒱₀ (V d (cV L) (jV L)) none) Set.univ (if c then p else q) Q := by
  rw [if_neg h]

/-- One trip of the match loop: the match at window position `q`, the flush where it fills the row buffer. -/
theorem wp_trip (hR : Rows I rr a B) (hB' : B ≤ 1536) (tc : Memref sig .scVector .vmem S64x128 .f32) {PW : Vec F S1536 .i32} {TC : Vec F S64x128 .f32}
    (v267 : IVec S16 32) (acc : BitVec 32) (hp : ∀ y, (v267 y).toNat = a + acc.toNat) (hB : a + acc.toNat < B)
    (hTC : ∀ z : S64x128.Idx, (z 1).val = rd PW (a + acc.toNat) % 128 → TC z = vv (a + acc.toNat) (z 0).val)
    (hrr : rr (a + acc.toNat) = rd PW (a + acc.toNat) / 128) {Q : BitVec 32 → sProp 𝕄} :
    iprop((inv κ (junk (F := F) d) ∗ Transfers.MayWaits (V d (cV L) (jV L)) (default : HIx 1) O)
        ∗ mem d (cV L) (jV L) pwV PW ∗ mem d (cV L) (jV L) tc TC ∗ St d L w I vv rr O W₀ a (acc.toNat % 64) (acc.toNat / 64))
      ⊢ iprop((iprop(mem d (cV L) (jV L) pwV PW ∗ mem d (cV L) (jV L) tc TC ∗ St d L w I vv rr O W₀ a ((acc.toNat + 1) % 64) ((acc.toNat + 1) / 64))
          -∗ Q (Scalar.addi acc 1#32))
        -∗ wp frame (wpE (defs₀ (F := F)) 𝒱₀ (V d (cV L) (jV L)) none) Set.univ (tripP L (matchP L tc lanes k0_pay198 v267 acc) acc) Q) := by
  have ha : acc.toNat < 2 ^ 31 := by omega
  unfold tripP St
  iintro ⟨#Hc, Hp, Htc, %RB, %RI, %fd, %W', Hr, Hi, Hf, Ht, Hs, HO, %hOK⟩ Hk
  iapply (wp_bd none)
  iapply (wp_match tc v267 acc (a + acc.toNat) hp (by omega) ha) $$ [Hp Htc Hr Hi]
  · isplitl [Hp]; · iexact Hp
    isplitl [Htc]; · iexact Htc
    isplitl [Hr]; · iexact Hr
    iexact Hi
  iintro %RB' %RI' ⟨Hp, Htc, Hr, Hi, %hH⟩
  obtain ⟨h1, h2, h3, h4⟩ := hH
  have hm := Nat.div_add_mod acc.toNat 64
  have hOK' : StOK d vv rr W₀ a RB' RI' fd W' (acc.toNat % 64 + 1) (acc.toNat / 64) := by
    refine ⟨fun j hj x hx h64 => ?_, fun j hj => ?_, hOK.done, hOK.waits⟩
    · by_cases hjs : j = acc.toNat % 64
      · let z : S64x128.Idx := Fin.cons ⟨(x 1).val, h64⟩ (Fin.cons ⟨rd PW (a + acc.toNat) % 128, Nat.mod_lt _ (by decide)⟩ finZeroElim)
        rw [h1 x z (hx.trans hjs) h64 rfl rfl, hTC z rfl, hjs, hm]
        rfl
      · rw [h2 x (by omega)]
        exact hOK.rb j (by omega) x hx h64
    · by_cases hjs : j = acc.toNat % 64
      · rw [hjs, h3, hm, hrr]
      · rw [h4 j hjs]
        exact hOK.ri j (by omega)
  by_cases hfull : acc.toNat % 64 = 63
  · iapply (wp_yes ((full_iff ha).mpr hfull))
    have hOK64 : StOK d vv rr W₀ a RB' RI' fd W' 64 (acc.toNat / 64) := by
      have := hOK'
      rw [hfull] at this
      exact this
    iapply (wp_drain (w := w) (κ := κ) hR (le_refl 64) (by omega) hOK64 (fun j h1 h2 => absurd h2 (by omega))) $$ [Hr Hi Hf Ht Hs HO]
    · isplitr; · iexact Hc
      isplitl [Hr]; · iexact Hr
      isplitl [Hi]; · iexact Hi
      isplitl [Hf]; · iexact Hf
      isplitl [Ht]; · iexact Ht
      isplitl [Hs]; · iexact Hs
      iexact HO
    iintro %fd' %W'' ⟨Hr, Hi, Hf, Ht, Hs, HO, %hD⟩
    iapply (wp_rt none)
    iapply Hk
    isplitl [Hp]; · iexact Hp
    isplitl [Htc]; · iexact Htc
    iexists RB', RI', fd', W''
    isplitl [Hr]; · iexact Hr
    isplitl [Hi]; · iexact Hi
    isplitl [Hf]; · iexact Hf
    isplitl [Ht]; · iexact Ht
    isplitl [Hs]; · iexact Hs
    isplitl [HO]; · iexact HO
    ipureintro
    have e1 : (acc.toNat + 1) % 64 = 0 := by omega
    have e2 : (acc.toNat + 1) / 64 = acc.toNat / 64 + 1 := by omega
    rw [e1, e2]
    exact ⟨fun j hj => absurd hj (Nat.not_lt_zero j), fun j hj => absurd hj (Nat.not_lt_zero j), fun m hm => hD.1 m (by omega), hD.2⟩
  · iapply (wp_no (fun h => hfull ((full_iff ha).mp h)))
    iapply (wp_rt none)
    iapply Hk
    isplitl [Hp]; · iexact Hp
    isplitl [Htc]; · iexact Htc
    iexists RB', RI', fd, W'
    isplitl [Hr]; · iexact Hr
    isplitl [Hi]; · iexact Hi
    isplitl [Hf]; · iexact Hf
    isplitl [Ht]; · iexact Ht
    isplitl [Hs]; · iexact Hs
    isplitl [HO]; · iexact HO
    ipureintro
    have e1 : (acc.toNat + 1) % 64 = acc.toNat % 64 + 1 := by omega
    have e2 : (acc.toNat + 1) / 64 = acc.toNat / 64 := by omega
    rw [e1, e2]
    exact hOK'

end State

end Cert.Proof.Emb

end
-- ==== Proof.Tiles.lean ====
/-
  One table tile of the ring: the words the ring computes, the slice of the table a buffer receives, and the loop over the
  tile's matches.
-/
module

public import proofs.«01_k».proof.Proof.Trip

@[expose] public section

noncomputable section

namespace Cert.Proof.Emb

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The ring's words -/

/-- The word a run of equal lanes holds, as the ring reads it back. -/
theorem smax_const (v : IVec S16 32) (c : BitVec 32) (hv : ∀ y, v y = c) (x : S16.Idx) (hx : (x 0).val = 15) :
    scan .max (fun y => v y ^^^ 2147483648#32) x ^^^ 2147483648#32 = c := by
  have h1 : scan .max (fun y => v y ^^^ 2147483648#32) x = c ^^^ 2147483648#32 := by
    refine BitVec.eq_of_toNat_eq (Nat.le_antisymm ?_ ?_)
    · refine Nat.not_lt.mp fun h => ?_
      obtain ⟨y, hy⟩ := (scan_max_lt (fun y => v y ^^^ 2147483648#32) x hx _).mp h
      rw [hv] at hy
      exact absurd hy (lt_irrefl _)
    · refine Nat.not_lt.mp fun h => ?_
      exact absurd ((scan_max_lt (fun y => v y ^^^ 2147483648#32) x hx _).mpr ⟨ln 0, by rw [hv]; exact h⟩) (lt_irrefl _)
  rw [h1, BitVec.xor_assoc, BitVec.xor_self, BitVec.xor_zero]

theorem last_const [FloatOps F] (v : Vec F S16 .i32) (c : BitVec 32) (hv : ∀ y, (v y : BitVec 32) = c) :
    extractAt ![15] (k0_pay77 v) inpos_S16_p15 = c := smax_const v c hv _ rfl

section Words

variable {v13 : BitVec 32} (h1 : 1 ≤ v13.toNat) (h2 : v13.toNat ≤ 245) {t k : ℕ} (ht : 4 * t < v13.toNat) (hk : k < 4)

theorem slot_nat {t k : ℕ} (ht : t < 62) (hk : k < 4) : (Scalar.addi (Scalar.muli (Scf.iv 0#32 1#32 t) 4#32) (BitVec.ofNat 32 k)).toNat = 4 * t + k := by
  have e1 : (Scf.iv 0#32 1#32 t).toNat = t := iv_nat (by omega)
  have e2 : (Scalar.muli (Scf.iv 0#32 1#32 t) 4#32).toNat = t * 4 := by
    rw [show Scalar.muli (Scf.iv 0#32 1#32 t) 4#32 = IntOp.muli (Scf.iv 0#32 1#32 t) 4#32 from rfl, mul_nat (by rw [e1]; show _ * 4 < _; omega), e1]; rfl
  have e3 : (BitVec.ofNat 32 k).toNat = k := ofNat_nat (by omega)
  rw [show ∀ a b : BitVec 32, Scalar.addi a b = IntOp.addi a b from fun _ _ => rfl, add_nat (by rw [e2, e3]; omega), e2, e3]
  omega

include h1 h2 ht hk in
theorem clamp_nat : (Scalar.minsi (Scalar.addi (Scalar.muli (Scf.iv 0#32 1#32 t) 4#32) (BitVec.ofNat 32 k)) (Scalar.subi v13 1#32)).toNat
    = min (4 * t + k) (v13.toNat - 1) := by
  have e := slot_nat (t := t) (k := k) (by omega) hk
  have e2 : (Scalar.subi v13 1#32).toNat = v13.toNat - 1 := sub_nat (y := 1#32) (by show 1 ≤ _; omega)
  rw [show ∀ a b : BitVec 32, Scalar.minsi a b = IntOp.minsi a b from fun _ _ => rfl, minsi_nat (by omega) (by omega), e, e2]

include h1 h2 ht hk in
theorem clampn_nat : (Scalar.minsi (Scalar.addi (Scalar.muli (Scf.iv 0#32 1#32 t) 4#32) (BitVec.ofNat 32 k)) v13).toNat = min (4 * t + k) v13.toNat := by
  have e := slot_nat (t := t) (k := k) (by omega) hk
  rw [show ∀ a b : BitVec 32, Scalar.minsi a b = IntOp.minsi a b from fun _ _ => rfl, minsi_nat (by omega) (by omega), e]

include h1 h2 ht hk in
theorem valid_iff : Scalar.cmpi .slt (Scalar.addi (Scalar.muli (Scf.iv 0#32 1#32 t) 4#32) (BitVec.ofNat 32 k)) v13 = 1#1 ↔ 4 * t + k < v13.toNat := by
  have e := slot_nat (t := t) (k := k) (by omega) hk
  rw [show ∀ a b : BitVec 32, Scalar.cmpi .slt a b = IntOp.cmpi .slt a b from fun _ _ => rfl, slt_one (by omega) (by omega), e]

end Words

/-- A gather of equal indices: every lane reads the same word. -/
theorem rd_same [FloatOps F] {n : ℕ} (f : Vec F ⟨1, ![n]⟩ .i32) (ix : IVec S16 32) (h) (p : ℕ) (hp : p < n) (hix : ∀ y, (ix y).toNat = p) (y : S16.Idx) :
    (loadIdx (F := F) f ![ix] h y : BitVec 32) = f (Shape.ofLane (d := ![n]) ⟨p, hp⟩) := by
  refine congrArg f ?_
  funext a
  obtain rfl : a = 0 := Fin.eq_zero a
  exact Fin.ext (hix y)

/-- The matches' trip count. -/
theorem trips_sub {s e : BitVec 32} (h : s.toNat ≤ e.toNat) (he : e.toNat < 2 ^ 31) :
    Scf.trips 0#32 (Scalar.addi 0#32 (Scalar.muli (Scalar.divsi (Scalar.subi (Scalar.subi e s) 0#32) 1#32) 1#32)) 1#32 = e.toNat - s.toNat := by
  rw [Scalar.muli_divsi_one]
  have e1 : (Scalar.subi e s).toNat = e.toNat - s.toNat := sub_nat h
  have e2 : Scalar.addi 0#32 (Scalar.subi (Scalar.subi e s) 0#32) = Scalar.subi e s := by
    show 0#32 + (Scalar.subi e s - 0#32) = _
    rw [BitVec.sub_zero, BitVec.zero_add]
  rw [e2]
  have e3 : (Scalar.subi e s).toInt = ((e.toNat - s.toNat : ℕ) : ℤ) := by
    rw [BitVec.toInt_eq_toNat_of_lt (by omega), e1]
  unfold Scf.trips
  rw [e3]
  have h1 : (1#32 : BitVec 32).toInt = 1 := by decide
  have h0 : (0#32 : BitVec 32).toInt = 0 := by decide
  rw [h1, h0]
  omega

theorem ok_sub {s e : BitVec 32} (h : s.toNat ≤ e.toNat) (he : e.toNat < 2 ^ 31 - 1) :
    Scf.OK 0#32 (Scalar.addi 0#32 (Scalar.muli (Scalar.divsi (Scalar.subi (Scalar.subi e s) 0#32) 1#32) 1#32)) 1#32 := by
  have h1 : (1#32 : BitVec 32).toInt = 1 := by decide
  have h0 : (0#32 : BitVec 32).toInt = 0 := by decide
  unfold Scf.OK
  rw [trips_sub h (by omega), h1, h0]
  omega

theorem trips_t3 {v13 : BitVec 32} (h : v13.toNat ≤ 245) : (k0_t3_loop v13).trips = (v13.toNat + 3) / 4 := by
  have : ∀ n : Fin 246, (k0_t3_loop (BitVec.ofNat 32 n.val)).trips = (n.val + 3) / 4 := by decide +kernel
  have h1 := this ⟨v13.toNat, by omega⟩
  have e : BitVec.ofNat 32 v13.toNat = v13 := BitVec.eq_of_toNat_eq (by rw [BitVec.toNat_ofNat, Nat.mod_eq_of_lt v13.isLt])
  rw [e] at h1
  exact h1

theorem trips_t12 (v13 : BitVec 32) : (k0_t12_loop v13).trips = 0 := Scf.rem_trips _ _

/-! ## The table tile -/

/-- Element `(e, c)` of the table. -/
def wat {α : Type} (f : S64x1000064.Idx → α) (e c : ℕ) : α :=
  if h : e < 64 ∧ c < 1000064 then f (Fin.cons ⟨e, h.1⟩ (Fin.cons ⟨c, h.2⟩ finZeroElim)) else f (fun a => ⟨0, by fin_cases a <;> decide⟩)

/-- The tile the word `v` names. -/
abbrev wS (v : BitVec 32) (h : ∀ a, (k0_off2 v) a + S64x128.size a ≤ S64x1000064.size a) : Memref sig .scVector .hbm S64x128 .f32 :=
  wV.slice (Rect.unit (s := S64x1000064) (k0_off2 v) S64x128.size h) (fun _ => rfl)

theorem wS_read (d : Dev nD) {v : BitVec 32} (hv : v.toNat < 7813) (h) (f : Buf (Elt F) (wLoc d)) (z : S64x128.Idx) :
    ((wS v h).view.read (Elt F) f : S64x128.Idx → Elt F .f32) z = wat (f : S64x1000064.Idx → Elt F .f32) (z 0).val (v.toNat * 128 + (z 1).val) := by
  have h0 : (z 0).val < 64 := (z 0).isLt
  have h1 : (z 1).val < 128 := (z 1).isLt
  have e : (IntOp.muli v 128#32).toNat = v.toNat * 128 := mul_nat (by show _ * 128 < _; omega)
  unfold wat
  rw [dif_pos ⟨h0, by omega⟩, View.read_apply, cast_eq]
  refine congrArg f ?_
  funext a
  refine Fin.ext ?_
  fin_cases a
  · show 0 + 1 * (z 0).val = (z 0).val
    omega
  · show (IntOp.muli v 128#32).toNat + 1 * (z 1).val = v.toNat * 128 + (z 1).val
    rw [e]; omega

theorem chk_tile {v : BitVec 32} (hv : v.toNat < 7813) : k0_chk8 v := by
  have e : (IntOp.muli v 128#32).toNat = v.toNat * 128 := mul_nat (by show _ * 128 < _; omega)
  have hh : ∀ a, (k0_off2 v) a + S64x128.size a ≤ S64x1000064.size a := fun a => by
    fin_cases a
    · show 0 + 64 ≤ 64
      omega
    · show (IntOp.muli v 128#32).toNat + 128 ≤ 1000064
      rw [e]; omega
  refine ⟨?_, hh, hh⟩
  show 128 ∣ (IntOp.muli v 128#32).toNat
  rw [e]
  exact Dvd.intro_left _ rfl

/-! ## The loop over a tile's matches -/

section Loop

variable [FloatOps F] {d : Dev nD} {L : grid0.Coords} {κ : ℕ} {w : Fin 32} {I : Finset S16392x128.Idx} {vv : ℕ → ℕ → Elt F .f32} {rr : ℕ → ℕ}
  {O : CellTallies nD τ sig (HIx 1)} {W₀ : Waits sig (HIx 1)} {a B : ℕ}

theorem wp_zero {σ β : Type} {Q : β → sProp 𝕄} (lp : Scf.Loop 32) (hok : lp.OK) (init : σ) (h : lp.trips = 0)
    {body : Fin lp.trips → σ → Prog (TpuEff nD τ sig (Elt F) Λ₀ (V d (cV L) (jV L)).2) σ} {kk : σ → Prog (TpuEff nD τ sig (Elt F) Λ₀ (V d (cV L) (jV L)).2) β} :
    wp frame (wpE (defs₀ (F := F)) 𝒱₀ (V d (cV L) (jV L)) none) Set.univ (kk init) Q
      ⊢ wp frame (wpE (defs₀ (F := F)) 𝒱₀ (V d (cV L) (jV L)) none) Set.univ (Scf.Loop.for lp hok init body >>= kk) Q := by
  rw [show Scf.Loop.for lp hok init body = .ret init from Scf.for_eq_ret _ _ _ hok init body h]
  exact .rfl

theorem wp_matches (hR : Rows I rr a B) (hB' : B ≤ 1536) (tc : Memref sig .scVector .vmem S64x128 .f32) {PW : Vec F S1536 .i32} {TC : Vec F S64x128 .f32}
    (lp : Scf.Loop 32) (hok : lp.OK) (vec : Fin lp.trips → IVec S16 32) (s n : ℕ) (htr : lp.trips = n) (hvec : ∀ k y, (vec k y).toNat = s + k.val)
    (init : BitVec 32) (hinit : a + init.toNat = s) (hB : s + n ≤ B)
    (hTC : ∀ q, s ≤ q → q < s + n → ∀ z : S64x128.Idx, (z 1).val = rd PW q % 128 → TC z = vv q (z 0).val)
    (hrr : ∀ q, s ≤ q → q < s + n → rr q = rd PW q / 128)
    {body : Fin lp.trips → BitVec 32 → Prog (TpuEff nD τ sig (Elt F) Λ₀ (V d (cV L) (jV L)).2) (BitVec 32)}
    (hbody : ∀ k acc, body k acc = tripP L (matchP L tc lanes k0_pay198 (vec k) acc) acc)
    {β : Type} {Q : β → sProp 𝕄} {kk : BitVec 32 → Prog (TpuEff nD τ sig (Elt F) Λ₀ (V d (cV L) (jV L)).2) β} :
    iprop((inv κ (junk (F := F) d) ∗ Transfers.MayWaits (V d (cV L) (jV L)) (default : HIx 1) O)
        ∗ mem d (cV L) (jV L) pwV PW ∗ mem d (cV L) (jV L) tc TC ∗ St d L w I vv rr O W₀ a (init.toNat % 64) (init.toNat / 64))
      ⊢ iprop((∀ acc : BitVec 32, iprop(mem d (cV L) (jV L) pwV PW ∗ mem d (cV L) (jV L) tc TC ∗ St d L w I vv rr O W₀ a (acc.toNat % 64) (acc.toNat / 64)
            ∗ ⌜a + acc.toNat = s + n⌝) -∗ wp frame (wpE (defs₀ (F := F)) 𝒱₀ (V d (cV L) (jV L)) none) Set.univ (kk acc) Q)
        -∗ wp frame (wpE (defs₀ (F := F)) 𝒱₀ (V d (cV L) (jV L)) none) Set.univ (Scf.Loop.for lp hok init body >>= kk) Q) := by
  subst htr
  iintro ⟨#Hc, Hp, Ht, HS⟩ Hk
  iapply (Scf.wp_for_bind frame _ _ _ _ _ hok _ _
    (fun k acc => iprop((inv κ (junk (F := F) d) ∗ Transfers.MayWaits (V d (cV L) (jV L)) (default : HIx 1) O)
        ∗ mem d (cV L) (jV L) pwV PW ∗ mem d (cV L) (jV L) tc TC ∗ St d L w I vv rr O W₀ a (acc.toNat % 64) (acc.toNat / 64) ∗ ⌜a + acc.toNat = s + k⌝))
    (fun k acc => ?_)) $$ [Hp Ht HS]
  · rw [hbody]
    iintro ⟨#Hc, Hp, Ht, HS, %hk⟩
    have hlt : k.val < lp.trips := k.isLt
    have e1 : (Scalar.addi acc 1#32).toNat = acc.toNat + 1 := add_nat (y := 1#32) (by show _ + 1 < _; omega)
    iapply (wp_trip hR hB' tc (vec k) acc (fun y => by rw [hvec]; omega) (by omega) (fun z hz => hTC _ (by omega) (by omega) z hz) (hrr _ (by omega) (by omega))) $$ [Hp Ht HS]
    · isplitr; · iexact Hc
      isplitl [Hp]; · iexact Hp
      isplitl [Ht]; · iexact Ht
      iexact HS
    iintro ⟨Hp, Ht, HS⟩
    isplitr; · iexact Hc
    isplitl [Hp]; · iexact Hp
    isplitl [Ht]; · iexact Ht
    rw [e1]
    isplitl [HS]; · iexact HS
    ipureintro
    omega
  · isplitr; · iexact Hc
    isplitl [Hp]; · iexact Hp
    isplitl [Ht]; · iexact Ht
    isplitl [HS]; · iexact HS
    ipureintro
    exact hinit
  iintro %acc ⟨-, Hp, Ht, HS, %hk⟩
  iapply Hk
  isplitl [Hp]; · iexact Hp
  isplitl [Ht]; · iexact Ht
  isplitl [HS]; · iexact HS
  ipureintro
  exact hk

end Loop

end Cert.Proof.Emb

end
-- ==== Proof.Buffers.lean ====
/-
  The ring: four buffers, each receiving the next of the worker's tiles while the matches of the others are copied out.
-/
module

public import proofs.«01_k».proof.Proof.Tiles

@[expose] public section

noncomputable section

namespace Cert.Proof.Emb

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The table's element the window's position `q` asks for, in column `e`. -/
def vvOf {α : Type} (wA : S64x1000064.Idx → α) (TW PW : Vec F S1536 .i32) (q e : ℕ) : α := wat wA e (rd TW q * 128 + rd PW q % 128)
/-- The row it goes to. -/
def rrOf (PW : Vec F S1536 .i32) (q : ℕ) : ℕ := rd PW q / 128

section Buffers

variable [FloatOps F] {d : Dev nD} {L : grid0.Coords} {O : CellTallies nD τ sig (HIx 1)}

/-- A constant gather from a list. -/
theorem wp_ldc {m : Memref sig .scVector .vmem S248 .i32} {X : Vec F S248 .i32} {ix : IVec S16 32} {h : ∀ a x, ((![ix] : Fin 1 → IVec S16 32) a x).toNat < S248.size a} {hl : m.view.Loads}
    (p : ℕ) (hp : p < 248) (hix : ∀ y, (ix y).toNat = p) {β : Type} {Q : β → sProp 𝕄} {k : Vec F S16 .i32 → Prog (TpuEff nD τ sig (Elt F) Λ₀ (V d (cV L) (jV L)).2) β} :
    mem d (cV L) (jV L) m X ⊢ iprop((∀ v : Vec F S16 .i32, ⌜∀ y, (v y : BitVec 32) = X (Shape.ofLane (d := ![248]) ⟨p, hp⟩)⌝ -∗ mem d (cV L) (jV L) m X -∗ wp frame (wpE (defs₀ (F := F)) 𝒱₀ (V d (cV L) (jV L)) none) Set.univ (k v) Q)
      -∗ wp frame (wpE (defs₀ (F := F)) 𝒱₀ (V d (cV L) (jV L)) none) Set.univ (SparseCore.vectorLoadIdx m ![ix] h hl >>= k) Q) := by
  iintro H Hk
  iapply (wp_ld none) $$ H
  iintro H
  iapply Hk $$ %_ [] H
  ipureintro
  exact fun y => rd_same (F := F) X ix h p hp hix y

theorem chk_ix {ix : IVec S16 32} (p : ℕ) (hp : p < 248) (hix : ∀ y, (ix y).toNat = p) : k0_chk7 ix := fun a x => by
  obtain rfl : a = 0 := Fin.eq_zero a
  exact (hix x).trans_lt hp

variable (d L) in
/-- A buffer at rest, with its share of the table. -/
def Slot (tc : Memref sig .scVector .vmem S64x128 .f32) (sem : DmaSem sig) (q : PosShare TreeShare) (wA : Buf (Elt F) (wLoc d)) : sProp 𝕄 :=
  iprop(∃ X : Vec F S64x128 .f32, mem d (cV L) (jV L) tc X ∗ (wLoc d ↦{q} wA) ∗ semVal ((V d (cV L) (jV L)), SemLoc.dma sem) 0)

variable (d L) in
/-- A buffer whose tile is on its way. -/
def Fly (tc : Memref sig .scVector .vmem S64x128 .f32) (sem : DmaSem sig) (q : PosShare TreeShare) (wA : Buf (Elt F) (wLoc d)) (v : BitVec 32) : sProp 𝕄 :=
  iprop(∃ h, Transfers.Flight EC (V d (cV L) (jV L)) (SemLoc.dma sem) (default : HIx 1) tc.view.dmaCredit
      iprop(mem d (cV L) (jV L) tc ((wS v h).view.read (Elt F) wA) ∗ (wLoc d ↦[(wS v h).view.set]{q} wA)) ∗ (wLoc d ↦[Finset.univ \ (wS v h).view.set]{q} wA))

variable (d L) in
/-- A buffer holding the tile `v`. -/
def Held (tc : Memref sig .scVector .vmem S64x128 .f32) (sem : DmaSem sig) (q : PosShare TreeShare) (wA : Buf (Elt F) (wLoc d)) (v : BitVec 32) : sProp 𝕄 :=
  iprop(∃ X : Vec F S64x128 .f32, mem d (cV L) (jV L) tc X ∗ (wLoc d ↦{q} wA) ∗ semVal ((V d (cV L) (jV L)), SemLoc.dma sem) 0
    ∗ ⌜∀ z : S64x128.Idx, X z = wat (wA : S64x1000064.Idx → Elt F .f32) (z 0).val (v.toNat * 128 + (z 1).val)⌝)

theorem wp_send {tc : Memref sig .scVector .vmem S64x128 .f32} {sem : DmaSem sig} {q : PosShare TreeShare} {wA : Buf (Elt F) (wLoc d)} {v : BitVec 32} {h}
    (h0 : 0 < tc.view.dmaCredit)
    {hsrc : (wS v h).view.WordExact} {hdst : tc.view.WordExact} {hsem : DmaTarget.Typed (nD := nD) (p := (V d (cV L) (jV L)).2) .hbm (SemLoc.dma sem) (.here tc)}
    {β : Type} {Q : β → sProp 𝕄} {k : PUnit → Prog (TpuEff nD τ sig (Elt F) Λ₀ (V d (cV L) (jV L)).2) β} :
    Slot d L tc sem q wA ⊢ iprop((Fly d L tc sem q wA v -∗ wp frame (wpE (defs₀ (F := F)) 𝒱₀ (V d (cV L) (jV L)) none) Set.univ (k ⟨⟩) Q)
      -∗ wp frame (wpE (defs₀ (F := F)) 𝒱₀ (V d (cV L) (jV L)) none) Set.univ (Prog.lift (TpuEff.enqueueDma (p := (V d (cV L) (jV L)).2) (wS v h) (.here tc) (SemLoc.dma sem) hsrc hdst hsem) >>= k) Q) := by
  unfold Slot Fly
  iintro ⟨%X, Hm, Hw, Hs⟩ Hk
  ihave Hw' := (pointsTo_split_subset (q := q) (f := wA) (S := Finset.univ) (Finset.subset_univ (wS v h).view.set)).1 $$ Hw
  icases Hw' with ⟨Hw, Hr⟩
  iapply (wp_cp none (src := wS v h) (m := tc) (fs := wA) (q := q) h0) $$ [Hw Hm Hs]
  · isplitl [Hw]; · iexact Hw
    isplitl [Hm]; · iexact Hm
    iexact Hs
  iintro Hfl
  iapply Hk
  iexists h
  isplitl [Hfl]; · iexact Hfl
  iexact Hr

theorem wp_take {tc : Memref sig .scVector .vmem S64x128 .f32} {sem : DmaSem sig} {q : PosShare TreeShare} {wA : Buf (Elt F) (wLoc d)} {v : BitVec 32} (hv : v.toNat < 7813)
    {w : Fin 32} {I : Finset S16392x128.Idx} {vv : ℕ → ℕ → Elt F .f32} {rr : ℕ → ℕ} {W₀ : Waits sig (HIx 1)} {a n b : ℕ}
    {src : Memref sig .scVector .hbm S64x128 .f32} {hsrc : src.view.WordExact} {hdst : tc.view.WordExact}
    {β : Type} {Q : β → sProp 𝕄} {k : PUnit → Prog (TpuEff nD τ sig (Elt F) Λ₀ (V d (cV L) (jV L)).2) β} :
    iprop(Fly d L tc sem q wA v ∗ St d L w I vv rr O W₀ a n b ∗ Transfers.MayWaits (V d (cV L) (jV L)) (default : HIx 1) O)
      ⊢ iprop((iprop(Held d L tc sem q wA v ∗ St d L w I vv rr O W₀ a n b) -∗ wp frame (wpE (defs₀ (F := F)) 𝒱₀ (V d (cV L) (jV L)) none) Set.univ (k ⟨⟩) Q)
        -∗ wp frame (wpE (defs₀ (F := F)) 𝒱₀ (V d (cV L) (jV L)) none) Set.univ (Prog.lift (TpuEff.waitDma2 (p := (V d (cV L) (jV L)).2) sem src tc hsrc hdst) >>= k) Q) := by
  unfold Fly Held St
  iintro ⟨⟨%h, Hfl, Hr⟩, ⟨%RB, %RI, %fd, %W', Hrb, Hri, Hf, Ht, Hs2, HO, %hOK⟩, Hmw⟩ Hk
  iapply (wp_cpw none) $$ [Hfl HO Hmw]
  · isplitl [Hfl]; · iexact Hfl
    isplitl [HO]; · iexact HO
    iexact Hmw
  iintro ⟨⟨Hm, Hw⟩, Hs, HO⟩
  iapply Hk
  isplitl [Hm Hw Hs Hr]
  · iexists _
    isplitl [Hm]; · iexact Hm
    isplitl [Hw Hr]
    · iapply (pointsTo_split_subset (q := q) (f := wA) (S := Finset.univ) (Finset.subset_univ (wS v h).view.set)).2
      isplitl [Hw]; · iexact Hw
      iexact Hr
    isplitl [Hs]; · iexact Hs
    ipureintro
    exact fun z => wS_read d hv h wA z
  · iexists RB, RI, fd, _
    isplitl [Hrb]; · iexact Hrb
    isplitl [Hri]; · iexact Hri
    isplitl [Hf]; · iexact Hf
    isplitl [Ht]; · iexact Ht
    isplitl [Hs2]; · iexact Hs2
    isplitl [HO]; · iexact HO
    ipureintro
    exact ⟨hOK.rb, hOK.ri, hOK.done, fun p hp => (Finset.mem_insert.mp hp).elim (fun e => Or.inr (e ▸ rfl)) (hOK.waits p)⟩

end Buffers

/-! ## One buffer's matches -/

section Seg

theorem sel_word {v13 : BitVec 32} (h1 : 1 ≤ v13.toNat) (h2 : v13.toNat ≤ 245) {t k : ℕ} (ht : 4 * t < v13.toNat) (hk : k < 4) (s e : BitVec 32) :
    (Scalar.select (Scalar.cmpi .slt (Scalar.addi (Scalar.muli (Scf.iv 0#32 1#32 t) 4#32) (BitVec.ofNat 32 k)) v13) e s).toNat
      = if 4 * t + k < v13.toNat then e.toNat else s.toNat := by
  have := valid_iff h1 h2 ht hk
  by_cases h : 4 * t + k < v13.toNat
  · rw [if_pos h, this.mpr h]; rfl
  · rw [if_neg h]
    exact congrArg BitVec.toNat (if_neg fun h' => h (this.mp h'))

theorem loops {v13 : BitVec 32} (h1 : 1 ≤ v13.toNat) (h2 : v13.toNat ≤ 245) {t : ℕ} (k : ℕ) (ht : 4 * t < v13.toNat) (hk : k < 4) (s e : BitVec 32)
    (hs : s.toNat ≤ 1536) (he : 4 * t + k < v13.toNat → s.toNat ≤ e.toNat ∧ e.toNat ≤ 1536)
    (x : BitVec 32) (hx : x = Scalar.subi (Scalar.subi (Scalar.select (Scalar.cmpi .slt (Scalar.addi (Scalar.muli (Scf.iv 0#32 1#32 t) 4#32) (BitVec.ofNat 32 k)) v13) e s) s) 0#32) :
    (Scf.OK 0#32 (Scalar.addi 0#32 (Scalar.muli (Scalar.divsi x 1#32) 1#32)) 1#32 ∧ Scf.OK (Scalar.addi 0#32 (Scalar.muli (Scalar.divsi x 1#32) 1#32)) (Scalar.addi 0#32 x) 1#32)
      ∧ Scf.trips 0#32 (Scalar.addi 0#32 (Scalar.muli (Scalar.divsi x 1#32) 1#32)) 1#32 = (if 4 * t + k < v13.toNat then e.toNat else s.toNat) - s.toNat
      ∧ Scf.trips (Scalar.addi 0#32 (Scalar.muli (Scalar.divsi x 1#32) 1#32)) (Scalar.addi 0#32 x) 1#32 = 0 := by
  have hw := sel_word h1 h2 ht hk s e
  rw [← hw, hx]
  have hle : s.toNat ≤ (Scalar.select (Scalar.cmpi .slt (Scalar.addi (Scalar.muli (Scf.iv 0#32 1#32 t) 4#32) (BitVec.ofNat 32 k)) v13) e s).toNat := by
    rw [hw]; split
    · exact (he ‹_›).1
    · exact le_rfl
  have hle' : (Scalar.select (Scalar.cmpi .slt (Scalar.addi (Scalar.muli (Scf.iv 0#32 1#32 t) 4#32) (BitVec.ofNat 32 k)) v13) e s).toNat ≤ 1536 := by
    rw [hw]; split
    · exact (he ‹_›).2
    · exact hs
  exact ⟨⟨ok_sub hle (by omega), Scf.rem_ok _ _⟩, trips_sub hle (by omega), Scf.rem_trips _ _⟩

theorem vec_nat {s : BitVec 32} {k : ℕ} (hs : s.toNat ≤ 1536) (hk : k ≤ 1536) (y : S16.Idx) :
    (addi (broadcast S16 (Scalar.addi s (Scf.iv 0#32 1#32 k))) k0_pay198 y).toNat = s.toNat + k := by
  have e1 : (Scf.iv 0#32 1#32 k).toNat = k := iv_nat (by omega)
  refine (congrArg BitVec.toNat (BitVec.add_zero (Scalar.addi s (Scf.iv 0#32 1#32 k)))).trans ?_
  rw [show ∀ a b : BitVec 32, Scalar.addi a b = IntOp.addi a b from fun _ _ => rfl, add_nat (by rw [e1]; omega), e1]

theorem RingOK.ds_le {i : grid0.Coords} {tw : ℕ → ℕ} {nd : ℕ} {dl ds : ℕ → ℕ} (h : RingOK i tw nd dl ds) {g g' : ℕ} (hg : g ≤ g') (hn : g' ≤ nd) : ds g ≤ ds g' := by
  induction g' with
  | zero => obtain rfl : g = 0 := by omega
            exact le_rfl
  | succ n ih =>
    rcases Nat.lt_or_ge g (n + 1) with h1 | h1
    · exact (ih (by omega) (by omega)).trans (h.mono n (by omega))
    · obtain rfl : g = n + 1 := by omega
      exact le_rfl

variable [FloatOps F] {d : Dev nD} {L : grid0.Coords} {κ : ℕ} {w : Fin 32} {I : Finset S16392x128.Idx}
  {O : CellTallies nD τ sig (HIx 1)} {W₀ : Waits sig (HIx 1)} {wA : Buf (Elt F) (wLoc d)} {TW PW : Vec F S1536 .i32} {DL DS : Vec F S248 .i32} {nd : ℕ}

theorem wp_seg (hK : RingOK L (rd TW) nd (rd DL) (rd DS)) (hR : Rows I (rrOf PW) (rd DS 0) (rd DS nd)) {g : ℕ}
    {tc : Memref sig .scVector .vmem S64x128 .f32} {sem : DmaSem sig} {q : PosShare TreeShare} {v : BitVec 32} (hv : v.toNat = rd DL (min g (nd - 1)))
    (lp : Scf.Loop 32) (hok : lp.OK) (vec : Fin lp.trips → IVec S16 32) (s e : BitVec 32) (hs : s.toNat = rd DS (min g nd)) (he : g < nd → e.toNat = rd DS (g + 1))
    (htr : lp.trips = (if g < nd then e.toNat else s.toNat) - s.toNat) (hvec : ∀ k : Fin lp.trips, k.val ≤ 1536 → ∀ y, (vec k y).toNat = s.toNat + k.val)
    (init : BitVec 32) (hinit : rd DS 0 + init.toNat = rd DS (min g nd))
    {body : Fin lp.trips → BitVec 32 → Prog (TpuEff nD τ sig (Elt F) Λ₀ (V d (cV L) (jV L)).2) (BitVec 32)}
    (hbody : ∀ k acc, body k acc = tripP L (matchP L tc lanes k0_pay198 (vec k) acc) acc)
    {β : Type} {Q : β → sProp 𝕄} {kk : BitVec 32 → Prog (TpuEff nD τ sig (Elt F) Λ₀ (V d (cV L) (jV L)).2) β} :
    iprop((inv κ (junk (F := F) d) ∗ Transfers.MayWaits (V d (cV L) (jV L)) (default : HIx 1) O) ∗ mem d (cV L) (jV L) pwV PW ∗ Held d L tc sem q wA v ∗ St d L w I (vvOf wA TW PW) (rrOf PW) O W₀ (rd DS 0) (init.toNat % 64) (init.toNat / 64))
      ⊢ iprop((∀ acc : BitVec 32, iprop(mem d (cV L) (jV L) pwV PW ∗ Slot d L tc sem q wA ∗ St d L w I (vvOf wA TW PW) (rrOf PW) O W₀ (rd DS 0) (acc.toNat % 64) (acc.toNat / 64)
            ∗ ⌜rd DS 0 + acc.toNat = rd DS (min (g + 1) nd)⌝) -∗ wp frame (wpE (defs₀ (F := F)) 𝒱₀ (V d (cV L) (jV L)) none) Set.univ (kk acc) Q)
        -∗ wp frame (wpE (defs₀ (F := F)) 𝒱₀ (V d (cV L) (jV L)) none) Set.univ (Scf.Loop.for lp hok init body >>= kk) Q) := by
  have hB := hK.le nd le_rfl
  have hn : rd DS (min g nd) + lp.trips = rd DS (min (g + 1) nd) := by
    rw [htr, hs]
    by_cases h : g < nd
    · rw [if_pos h, he h, min_eq_left (by omega : g ≤ nd), min_eq_left (by omega : g + 1 ≤ nd)]
      have := hK.mono g h
      omega
    · rw [if_neg h, min_eq_right (by omega : nd ≤ g), min_eq_right (by omega : nd ≤ g + 1)]
      omega
  have hle : rd DS (min (g + 1) nd) ≤ rd DS nd := hK.ds_le (min_le_right _ _) le_rfl
  have hgt : 0 < lp.trips → g < nd := fun h => by
    by_contra hc
    rw [htr, if_neg hc] at h
    omega
  unfold Held Slot
  iintro ⟨#Hc, Hp, ⟨%X, Ht, Hw, Hs, %hX⟩, HS⟩ Hk
  iapply (wp_matches (TC := X) (PW := PW) (vv := vvOf wA TW PW) (rr := rrOf PW) hR hB tc lp hok vec s.toNat lp.trips rfl (fun k y => hvec k (by have := k.isLt; omega) y) init (by rw [hs]; exact hinit)
    (by rw [hs, hn]; exact hle)
    (fun p h1 h2 z hz => by
      have hg : g < nd := hgt (by omega)
      rw [hs] at h1 h2
      rw [hn] at h2
      rw [min_eq_left (by omega : g ≤ nd)] at h1
      rw [min_eq_left (by omega : g + 1 ≤ nd)] at h2
      have ht := hK.tile g hg p h1 h2
      rw [hX]
      unfold vvOf
      rw [ht, hv, min_eq_left (by omega : g ≤ nd - 1), hz])
    (fun p _ _ => rfl) hbody) $$ [Hp Ht HS]
  · isplitr; · iexact Hc
    isplitl [Hp]; · iexact Hp
    isplitl [Ht]; · iexact Ht
    iexact HS
  iintro %acc ⟨Hp, Ht, HS, %hacc⟩
  iapply Hk
  isplitl [Hp]; · iexact Hp
  isplitl [Ht Hw Hs]
  · iexists X
    isplitl [Ht]; · iexact Ht
    isplitl [Hw]; · iexact Hw
    iexact Hs
  isplitl [HS]; · iexact HS
  ipureintro
  rw [hacc, hs, hn]

end Seg

end Cert.Proof.Emb

end
-- ==== Proof.Segs.lean ====
/-
  The four buffers' loops over their matches.
-/
module

public import proofs.«01_k».proof.Proof.Buffers

@[expose] public section

noncomputable section

namespace Cert.Proof.Emb

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Segs

theorem wp_zero_last [FloatOps F] {d : Dev nD} {L : grid0.Coords} {σ : Type} {Q : σ → sProp 𝕄} (lp : Scf.Loop 32) (hok : lp.OK) (init : σ) (h : lp.trips = 0)
    {body : Fin lp.trips → σ → Prog (TpuEff nD τ sig (Elt F) Λ₀ (V d (cV L) (jV L)).2) σ} :
    Q init ⊢ wp frame (wpE (defs₀ (F := F)) 𝒱₀ (V d (cV L) (jV L)) none) Set.univ (Scf.Loop.for lp hok init body) Q := by
  rw [show Scf.Loop.for lp hok init body = .ret init from Scf.for_eq_ret _ _ _ hok init body h]
  exact wp_rt none

variable [FloatOps F] {d : Dev nD} {L : grid0.Coords} {κ : ℕ} {w : Fin 32} {I : Finset S16392x128.Idx}
  {O : CellTallies nD τ sig (HIx 1)} {W₀ : Waits sig (HIx 1)} {wA : Buf (Elt F) (wLoc d)} {TW PW : Vec F S1536 .i32} {DL DS : Vec F S248 .i32} {v13 : BitVec 32}
  {q0 q1 q2 q3 : PosShare TreeShare}

theorem body4 (t : Fin (k0_t3_loop v13).trips) (arg22 arg21 v73 : BitVec 32) (h8 : k0_chk8 v73) (v90 : BitVec 32) (h10 : k0_chk10 v90) (v131 : BitVec 1) (v132 s e : BitVec 32) (hc : k0_chk17 v13 t s e) (k : Fin (k0_t4_loop v13 t s e).trips) (acc : BitVec 32) :
    k0_t4_body (F := F) L tV (Memref.isWhole_whole _) pV (Memref.isWhole_whole _) wV (Memref.isWhole_whole _) oV (Memref.isWhole_whole _) twV (Memref.isWhole_whole _) pwV (Memref.isWhole_whole _) dlV (Memref.isWhole_whole _) dsV (Memref.isWhole_whole _) rbV (Memref.isWhole_whole _) riV (Memref.isWhole_whole _) cc0_scratch6 cc0_scratch7 cc0_scratch8 cc0_scratch9 cc0_scratch10 tc0V (Memref.isWhole_whole _) tc1V (Memref.isWhole_whole _) tc2V (Memref.isWhole_whole _) tc3V (Memref.isWhole_whole _) cc0_scoped0 cc0_scoped1 lanes k0_pay198 v13 t arg22 arg21 v73 h8 v90 h10 v131 v132 s e hc k acc = tripP L (matchP L tc0V lanes k0_pay198 (k0_pay4 k0_pay198 v13 t s e 0#32 1#32 k) acc) acc :=
  (show k0_t4_body (F := F) L tV (Memref.isWhole_whole _) pV (Memref.isWhole_whole _) wV (Memref.isWhole_whole _) oV (Memref.isWhole_whole _) twV (Memref.isWhole_whole _) pwV (Memref.isWhole_whole _) dlV (Memref.isWhole_whole _) dsV (Memref.isWhole_whole _) rbV (Memref.isWhole_whole _) riV (Memref.isWhole_whole _) cc0_scratch6 cc0_scratch7 cc0_scratch8 cc0_scratch9 cc0_scratch10 tc0V (Memref.isWhole_whole _) tc1V (Memref.isWhole_whole _) tc2V (Memref.isWhole_whole _) tc3V (Memref.isWhole_whole _) cc0_scoped0 cc0_scoped1 lanes k0_pay198 v13 t arg22 arg21 v73 h8 v90 h10 v131 v132 s e hc k acc = tripP L (k0_part1 L tV (Memref.isWhole_whole _) pV (Memref.isWhole_whole _) wV (Memref.isWhole_whole _) oV (Memref.isWhole_whole _) twV (Memref.isWhole_whole _) pwV (Memref.isWhole_whole _) dlV (Memref.isWhole_whole _) dsV (Memref.isWhole_whole _) rbV (Memref.isWhole_whole _) riV (Memref.isWhole_whole _) cc0_scratch6 cc0_scratch7 cc0_scratch8 cc0_scratch9 cc0_scratch10 tc0V (Memref.isWhole_whole _) tc1V (Memref.isWhole_whole _) tc2V (Memref.isWhole_whole _) tc3V (Memref.isWhole_whole _) cc0_scoped0 cc0_scoped1 lanes k0_pay198 v13 t s e 0#32 1#32 k acc) acc from rfl).trans
    (congrArg (fun c => tripP L c acc) (part1_matchP L _ _ _ _ _ _ _ _ _ k))

theorem seg0 (hK : RingOK L (rd TW) v13.toNat (rd DL) (rd DS)) (hR : Rows I (rrOf PW) (rd DS 0) (rd DS v13.toNat)) (t : Fin (k0_t3_loop v13).trips) (ht : 4 * t.val < v13.toNat)
    {arg22 arg21 v73 : BitVec 32} {h8 : k0_chk8 v73} {v90 : BitVec 32} {h10 : k0_chk10 v90} {v131 : BitVec 1} {v132 s e : BitVec 32} {hc : k0_chk17 v13 t s e} {v : BitVec 32}
    (hv : v.toNat = rd DL (min (4 * t.val + 0) (v13.toNat - 1))) (hs : s.toNat = rd DS (min (4 * t.val + 0) v13.toNat))
    (he : 4 * t.val + 0 < v13.toNat → e.toNat = rd DS (4 * t.val + 0 + 1)) {init z : BitVec 32} (hinit : rd DS 0 + init.toNat = rd DS (min (4 * t.val + 0) v13.toNat))
    {β : Type} {Q : β → sProp 𝕄} {kk : BitVec 32 → Prog (TpuEff nD τ sig (Elt F) Λ₀ (V d (cV L) (jV L)).2) β} :
    iprop((inv κ (junk (F := F) d) ∗ Transfers.MayWaits (V d (cV L) (jV L)) (default : HIx 1) O) ∗ mem d (cV L) (jV L) pwV PW ∗ Held d L tc0V cc0_scratch6.sem q0 wA v ∗ St d L w I (vvOf wA TW PW) (rrOf PW) O W₀ (rd DS 0) (init.toNat % 64) (init.toNat / 64))
      ⊢ iprop((∀ acc : BitVec 32, iprop(mem d (cV L) (jV L) pwV PW ∗ Slot d L tc0V cc0_scratch6.sem q0 wA ∗ St d L w I (vvOf wA TW PW) (rrOf PW) O W₀ (rd DS 0) (acc.toNat % 64) (acc.toNat / 64)
            ∗ ⌜rd DS 0 + acc.toNat = rd DS (min (4 * t.val + 0 + 1) v13.toNat)⌝) -∗ wp frame (wpE (defs₀ (F := F)) 𝒱₀ (V d (cV L) (jV L)) none) Set.univ (kk acc) Q)
        -∗ wp frame (wpE (defs₀ (F := F)) 𝒱₀ (V d (cV L) (jV L)) none) Set.univ (Scf.Loop.for (k0_t4_loop v13 t s e) (k0_t4_ok v13 t s e hc) init (k0_t4_body (F := F) L tV (Memref.isWhole_whole _) pV (Memref.isWhole_whole _) wV (Memref.isWhole_whole _) oV (Memref.isWhole_whole _) twV (Memref.isWhole_whole _) pwV (Memref.isWhole_whole _) dlV (Memref.isWhole_whole _) dsV (Memref.isWhole_whole _) rbV (Memref.isWhole_whole _) riV (Memref.isWhole_whole _) cc0_scratch6 cc0_scratch7 cc0_scratch8 cc0_scratch9 cc0_scratch10 tc0V (Memref.isWhole_whole _) tc1V (Memref.isWhole_whole _) tc2V (Memref.isWhole_whole _) tc3V (Memref.isWhole_whole _) cc0_scoped0 cc0_scoped1 lanes k0_pay198 v13 t arg22 arg21 v73 h8 v90 h10 v131 v132 s e hc) >>= fun y =>
          Scf.Loop.for (k0_t5_loop v13 t s e) (k0_t5_ok v13 t s e hc) y (k0_t5_body (F := F) L tV (Memref.isWhole_whole _) pV (Memref.isWhole_whole _) wV (Memref.isWhole_whole _) oV (Memref.isWhole_whole _) twV (Memref.isWhole_whole _) pwV (Memref.isWhole_whole _) dlV (Memref.isWhole_whole _) dsV (Memref.isWhole_whole _) rbV (Memref.isWhole_whole _) riV (Memref.isWhole_whole _) cc0_scratch6 cc0_scratch7 cc0_scratch8 cc0_scratch9 cc0_scratch10 tc0V (Memref.isWhole_whole _) tc1V (Memref.isWhole_whole _) tc2V (Memref.isWhole_whole _) tc3V (Memref.isWhole_whole _) cc0_scoped0 cc0_scoped1 lanes k0_pay198 v13 t arg22 arg21 v73 h8 v90 h10 v131 v132 s e hc z) >>= kk) Q) := by
  have h2 : v13.toNat ≤ 245 := hK.nd_le
  have sle : s.toNat ≤ 1536 := hs ▸ hK.le _ (min_le_right _ _)
  have lo := loops (by omega) h2 0 ht (by decide) s e sle (fun h => by
    have h5 := hK.mono _ h
    have h6 := hK.le (4 * t.val + 0 + 1) h
    have h7 := he h
    have h8 := hs
    rw [min_eq_left (le_of_lt h)] at h8
    exact ⟨h8.le.trans (h5.trans h7.ge), h7.le.trans h6⟩) _ rfl
  have htr : (k0_t4_loop v13 t s e).trips = (if 4 * t.val + 0 < v13.toNat then e.toNat else s.toNat) - s.toNat := lo.2.1
  have htz : (k0_t5_loop v13 t s e).trips = 0 := lo.2.2
  iintro ⟨#Hc, Hp, Hh, HS⟩ Hk
  iapply (wp_seg hK hR (g := 4 * t.val + 0) hv (k0_t4_loop v13 t s e) (k0_t4_ok v13 t s e hc) (k0_pay4 k0_pay198 v13 t s e 0#32 1#32) s e hs he htr
    (fun k hk y => vec_nat sle hk y) init hinit (fun k acc => body4 t arg22 arg21 v73 h8 v90 h10 v131 v132 s e hc k acc)) $$ [Hp Hh HS]
  · isplitr; · iexact Hc
    isplitl [Hp]; · iexact Hp
    isplitl [Hh]; · iexact Hh
    iexact HS
  iintro %y ⟨Hp, Hb, HS, %hy⟩
  iapply (wp_zero (k0_t5_loop v13 t s e) (k0_t5_ok v13 t s e hc) y htz)
  iapply Hk
  isplitl [Hp]; · iexact Hp
  isplitl [Hb]; · iexact Hb
  isplitl [HS]; · iexact HS
  ipureintro
  exact hy

theorem body6 (t : Fin (k0_t3_loop v13).trips) (arg21 v107 : BitVec 32) (h12 : k0_chk12 v107) (v162 : BitVec 32) (v165 : BitVec 1) (v166 : BitVec 32) (v171 : Vec F S16 .i32) (b : BitVec 1) (s e : BitVec 32) (hc : k0_chk32 v13 t s e) (k : Fin (k0_t6_loop v13 t s e).trips) (acc : BitVec 32) :
    k0_t6_body (F := F) L tV (Memref.isWhole_whole _) pV (Memref.isWhole_whole _) wV (Memref.isWhole_whole _) oV (Memref.isWhole_whole _) twV (Memref.isWhole_whole _) pwV (Memref.isWhole_whole _) dlV (Memref.isWhole_whole _) dsV (Memref.isWhole_whole _) rbV (Memref.isWhole_whole _) riV (Memref.isWhole_whole _) cc0_scratch6 cc0_scratch7 cc0_scratch8 cc0_scratch9 cc0_scratch10 tc0V (Memref.isWhole_whole _) tc1V (Memref.isWhole_whole _) tc2V (Memref.isWhole_whole _) tc3V (Memref.isWhole_whole _) cc0_scoped0 cc0_scoped1 lanes k0_pay198 v13 t arg21 v107 h12 v162 v165 v166 v171 b s e hc k acc = tripP L (matchP L tc1V lanes k0_pay198 (k0_pay22 k0_pay198 v13 t s e 0#32 1#32 k) acc) acc :=
  (show k0_t6_body (F := F) L tV (Memref.isWhole_whole _) pV (Memref.isWhole_whole _) wV (Memref.isWhole_whole _) oV (Memref.isWhole_whole _) twV (Memref.isWhole_whole _) pwV (Memref.isWhole_whole _) dlV (Memref.isWhole_whole _) dsV (Memref.isWhole_whole _) rbV (Memref.isWhole_whole _) riV (Memref.isWhole_whole _) cc0_scratch6 cc0_scratch7 cc0_scratch8 cc0_scratch9 cc0_scratch10 tc0V (Memref.isWhole_whole _) tc1V (Memref.isWhole_whole _) tc2V (Memref.isWhole_whole _) tc3V (Memref.isWhole_whole _) cc0_scoped0 cc0_scoped1 lanes k0_pay198 v13 t arg21 v107 h12 v162 v165 v166 v171 b s e hc k acc = tripP L (k0_part3 L tV (Memref.isWhole_whole _) pV (Memref.isWhole_whole _) wV (Memref.isWhole_whole _) oV (Memref.isWhole_whole _) twV (Memref.isWhole_whole _) pwV (Memref.isWhole_whole _) dlV (Memref.isWhole_whole _) dsV (Memref.isWhole_whole _) rbV (Memref.isWhole_whole _) riV (Memref.isWhole_whole _) cc0_scratch6 cc0_scratch7 cc0_scratch8 cc0_scratch9 cc0_scratch10 tc0V (Memref.isWhole_whole _) tc1V (Memref.isWhole_whole _) tc2V (Memref.isWhole_whole _) tc3V (Memref.isWhole_whole _) cc0_scoped0 cc0_scoped1 lanes k0_pay198 v13 t s e 0#32 1#32 k acc) acc from rfl).trans
    (congrArg (fun c => tripP L c acc) (part3_matchP L _ _ _ _ _ _ _ _ _ k))

theorem seg1 (hK : RingOK L (rd TW) v13.toNat (rd DL) (rd DS)) (hR : Rows I (rrOf PW) (rd DS 0) (rd DS v13.toNat)) (t : Fin (k0_t3_loop v13).trips) (ht : 4 * t.val < v13.toNat)
    {arg21 v107 : BitVec 32} {h12 : k0_chk12 v107} {v162 : BitVec 32} {v165 : BitVec 1} {v166 : BitVec 32} {v171 : Vec F S16 .i32} {b : BitVec 1} {s e : BitVec 32} {hc : k0_chk32 v13 t s e} {v : BitVec 32}
    (hv : v.toNat = rd DL (min (4 * t.val + 1) (v13.toNat - 1))) (hs : s.toNat = rd DS (min (4 * t.val + 1) v13.toNat))
    (he : 4 * t.val + 1 < v13.toNat → e.toNat = rd DS (4 * t.val + 1 + 1)) {init z : BitVec 32} (hinit : rd DS 0 + init.toNat = rd DS (min (4 * t.val + 1) v13.toNat))
    {β : Type} {Q : β → sProp 𝕄} {kk : BitVec 32 → Prog (TpuEff nD τ sig (Elt F) Λ₀ (V d (cV L) (jV L)).2) β} :
    iprop((inv κ (junk (F := F) d) ∗ Transfers.MayWaits (V d (cV L) (jV L)) (default : HIx 1) O) ∗ mem d (cV L) (jV L) pwV PW ∗ Held d L tc1V cc0_scratch7.sem q1 wA v ∗ St d L w I (vvOf wA TW PW) (rrOf PW) O W₀ (rd DS 0) (init.toNat % 64) (init.toNat / 64))
      ⊢ iprop((∀ acc : BitVec 32, iprop(mem d (cV L) (jV L) pwV PW ∗ Slot d L tc1V cc0_scratch7.sem q1 wA ∗ St d L w I (vvOf wA TW PW) (rrOf PW) O W₀ (rd DS 0) (acc.toNat % 64) (acc.toNat / 64)
            ∗ ⌜rd DS 0 + acc.toNat = rd DS (min (4 * t.val + 1 + 1) v13.toNat)⌝) -∗ wp frame (wpE (defs₀ (F := F)) 𝒱₀ (V d (cV L) (jV L)) none) Set.univ (kk acc) Q)
        -∗ wp frame (wpE (defs₀ (F := F)) 𝒱₀ (V d (cV L) (jV L)) none) Set.univ (Scf.Loop.for (k0_t6_loop v13 t s e) (k0_t6_ok v13 t s e hc) init (k0_t6_body (F := F) L tV (Memref.isWhole_whole _) pV (Memref.isWhole_whole _) wV (Memref.isWhole_whole _) oV (Memref.isWhole_whole _) twV (Memref.isWhole_whole _) pwV (Memref.isWhole_whole _) dlV (Memref.isWhole_whole _) dsV (Memref.isWhole_whole _) rbV (Memref.isWhole_whole _) riV (Memref.isWhole_whole _) cc0_scratch6 cc0_scratch7 cc0_scratch8 cc0_scratch9 cc0_scratch10 tc0V (Memref.isWhole_whole _) tc1V (Memref.isWhole_whole _) tc2V (Memref.isWhole_whole _) tc3V (Memref.isWhole_whole _) cc0_scoped0 cc0_scoped1 lanes k0_pay198 v13 t arg21 v107 h12 v162 v165 v166 v171 b s e hc) >>= fun y =>
          Scf.Loop.for (k0_t7_loop v13 t s e) (k0_t7_ok v13 t s e hc) y (k0_t7_body (F := F) L tV (Memref.isWhole_whole _) pV (Memref.isWhole_whole _) wV (Memref.isWhole_whole _) oV (Memref.isWhole_whole _) twV (Memref.isWhole_whole _) pwV (Memref.isWhole_whole _) dlV (Memref.isWhole_whole _) dsV (Memref.isWhole_whole _) rbV (Memref.isWhole_whole _) riV (Memref.isWhole_whole _) cc0_scratch6 cc0_scratch7 cc0_scratch8 cc0_scratch9 cc0_scratch10 tc0V (Memref.isWhole_whole _) tc1V (Memref.isWhole_whole _) tc2V (Memref.isWhole_whole _) tc3V (Memref.isWhole_whole _) cc0_scoped0 cc0_scoped1 lanes k0_pay198 v13 t arg21 v107 h12 v162 v165 v166 v171 b s e hc z) >>= kk) Q) := by
  have h2 : v13.toNat ≤ 245 := hK.nd_le
  have sle : s.toNat ≤ 1536 := hs ▸ hK.le _ (min_le_right _ _)
  have lo := loops (by omega) h2 1 ht (by decide) s e sle (fun h => by
    have h5 := hK.mono _ h
    have h6 := hK.le (4 * t.val + 1 + 1) h
    have h7 := he h
    have h8 := hs
    rw [min_eq_left (le_of_lt h)] at h8
    exact ⟨h8.le.trans (h5.trans h7.ge), h7.le.trans h6⟩) _ rfl
  have htr : (k0_t6_loop v13 t s e).trips = (if 4 * t.val + 1 < v13.toNat then e.toNat else s.toNat) - s.toNat := lo.2.1
  have htz : (k0_t7_loop v13 t s e).trips = 0 := lo.2.2
  iintro ⟨#Hc, Hp, Hh, HS⟩ Hk
  iapply (wp_seg hK hR (g := 4 * t.val + 1) hv (k0_t6_loop v13 t s e) (k0_t6_ok v13 t s e hc) (k0_pay22 k0_pay198 v13 t s e 0#32 1#32) s e hs he htr
    (fun k hk y => vec_nat sle hk y) init hinit (fun k acc => body6 t arg21 v107 h12 v162 v165 v166 v171 b s e hc k acc)) $$ [Hp Hh HS]
  · isplitr; · iexact Hc
    isplitl [Hp]; · iexact Hp
    isplitl [Hh]; · iexact Hh
    iexact HS
  iintro %y ⟨Hp, Hb, HS, %hy⟩
  iapply (wp_zero (k0_t7_loop v13 t s e) (k0_t7_ok v13 t s e hc) y htz)
  iapply Hk
  isplitl [Hp]; · iexact Hp
  isplitl [Hb]; · iexact Hb
  isplitl [HS]; · iexact HS
  ipureintro
  exact hy

theorem body8 (t : Fin (k0_t3_loop v13).trips) (arg21 v124 : BitVec 32) (h14 : k0_chk14 v124) (v196 : BitVec 32) (v199 : BitVec 1) (s v212 e : BitVec 32) (hc : k0_chk47 v13 t s e) (k : Fin (k0_t8_loop v13 t s e).trips) (acc : BitVec 32) :
    k0_t8_body (F := F) L tV (Memref.isWhole_whole _) pV (Memref.isWhole_whole _) wV (Memref.isWhole_whole _) oV (Memref.isWhole_whole _) twV (Memref.isWhole_whole _) pwV (Memref.isWhole_whole _) dlV (Memref.isWhole_whole _) dsV (Memref.isWhole_whole _) rbV (Memref.isWhole_whole _) riV (Memref.isWhole_whole _) cc0_scratch6 cc0_scratch7 cc0_scratch8 cc0_scratch9 cc0_scratch10 tc0V (Memref.isWhole_whole _) tc1V (Memref.isWhole_whole _) tc2V (Memref.isWhole_whole _) tc3V (Memref.isWhole_whole _) cc0_scoped0 cc0_scoped1 lanes k0_pay198 v13 t arg21 v124 h14 v196 v199 s v212 e hc k acc = tripP L (matchP L tc2V lanes k0_pay198 (k0_pay40 k0_pay198 v13 t s e 0#32 1#32 k) acc) acc :=
  (show k0_t8_body (F := F) L tV (Memref.isWhole_whole _) pV (Memref.isWhole_whole _) wV (Memref.isWhole_whole _) oV (Memref.isWhole_whole _) twV (Memref.isWhole_whole _) pwV (Memref.isWhole_whole _) dlV (Memref.isWhole_whole _) dsV (Memref.isWhole_whole _) rbV (Memref.isWhole_whole _) riV (Memref.isWhole_whole _) cc0_scratch6 cc0_scratch7 cc0_scratch8 cc0_scratch9 cc0_scratch10 tc0V (Memref.isWhole_whole _) tc1V (Memref.isWhole_whole _) tc2V (Memref.isWhole_whole _) tc3V (Memref.isWhole_whole _) cc0_scoped0 cc0_scoped1 lanes k0_pay198 v13 t arg21 v124 h14 v196 v199 s v212 e hc k acc = tripP L (k0_part5 L tV (Memref.isWhole_whole _) pV (Memref.isWhole_whole _) wV (Memref.isWhole_whole _) oV (Memref.isWhole_whole _) twV (Memref.isWhole_whole _) pwV (Memref.isWhole_whole _) dlV (Memref.isWhole_whole _) dsV (Memref.isWhole_whole _) rbV (Memref.isWhole_whole _) riV (Memref.isWhole_whole _) cc0_scratch6 cc0_scratch7 cc0_scratch8 cc0_scratch9 cc0_scratch10 tc0V (Memref.isWhole_whole _) tc1V (Memref.isWhole_whole _) tc2V (Memref.isWhole_whole _) tc3V (Memref.isWhole_whole _) cc0_scoped0 cc0_scoped1 lanes k0_pay198 v13 t s e 0#32 1#32 k acc) acc from rfl).trans
    (congrArg (fun c => tripP L c acc) (part5_matchP L _ _ _ _ _ _ _ _ _ k))

theorem seg2 (hK : RingOK L (rd TW) v13.toNat (rd DL) (rd DS)) (hR : Rows I (rrOf PW) (rd DS 0) (rd DS v13.toNat)) (t : Fin (k0_t3_loop v13).trips) (ht : 4 * t.val < v13.toNat)
    {arg21 v124 : BitVec 32} {h14 : k0_chk14 v124} {v196 : BitVec 32} {v199 : BitVec 1} {s v212 e : BitVec 32} {hc : k0_chk47 v13 t s e} {v : BitVec 32}
    (hv : v.toNat = rd DL (min (4 * t.val + 2) (v13.toNat - 1))) (hs : s.toNat = rd DS (min (4 * t.val + 2) v13.toNat))
    (he : 4 * t.val + 2 < v13.toNat → e.toNat = rd DS (4 * t.val + 2 + 1)) {init z : BitVec 32} (hinit : rd DS 0 + init.toNat = rd DS (min (4 * t.val + 2) v13.toNat))
    {β : Type} {Q : β → sProp 𝕄} {kk : BitVec 32 → Prog (TpuEff nD τ sig (Elt F) Λ₀ (V d (cV L) (jV L)).2) β} :
    iprop((inv κ (junk (F := F) d) ∗ Transfers.MayWaits (V d (cV L) (jV L)) (default : HIx 1) O) ∗ mem d (cV L) (jV L) pwV PW ∗ Held d L tc2V cc0_scratch8.sem q2 wA v ∗ St d L w I (vvOf wA TW PW) (rrOf PW) O W₀ (rd DS 0) (init.toNat % 64) (init.toNat / 64))
      ⊢ iprop((∀ acc : BitVec 32, iprop(mem d (cV L) (jV L) pwV PW ∗ Slot d L tc2V cc0_scratch8.sem q2 wA ∗ St d L w I (vvOf wA TW PW) (rrOf PW) O W₀ (rd DS 0) (acc.toNat % 64) (acc.toNat / 64)
            ∗ ⌜rd DS 0 + acc.toNat = rd DS (min (4 * t.val + 2 + 1) v13.toNat)⌝) -∗ wp frame (wpE (defs₀ (F := F)) 𝒱₀ (V d (cV L) (jV L)) none) Set.univ (kk acc) Q)
        -∗ wp frame (wpE (defs₀ (F := F)) 𝒱₀ (V d (cV L) (jV L)) none) Set.univ (Scf.Loop.for (k0_t8_loop v13 t s e) (k0_t8_ok v13 t s e hc) init (k0_t8_body (F := F) L tV (Memref.isWhole_whole _) pV (Memref.isWhole_whole _) wV (Memref.isWhole_whole _) oV (Memref.isWhole_whole _) twV (Memref.isWhole_whole _) pwV (Memref.isWhole_whole _) dlV (Memref.isWhole_whole _) dsV (Memref.isWhole_whole _) rbV (Memref.isWhole_whole _) riV (Memref.isWhole_whole _) cc0_scratch6 cc0_scratch7 cc0_scratch8 cc0_scratch9 cc0_scratch10 tc0V (Memref.isWhole_whole _) tc1V (Memref.isWhole_whole _) tc2V (Memref.isWhole_whole _) tc3V (Memref.isWhole_whole _) cc0_scoped0 cc0_scoped1 lanes k0_pay198 v13 t arg21 v124 h14 v196 v199 s v212 e hc) >>= fun y =>
          Scf.Loop.for (k0_t9_loop v13 t s e) (k0_t9_ok v13 t s e hc) y (k0_t9_body (F := F) L tV (Memref.isWhole_whole _) pV (Memref.isWhole_whole _) wV (Memref.isWhole_whole _) oV (Memref.isWhole_whole _) twV (Memref.isWhole_whole _) pwV (Memref.isWhole_whole _) dlV (Memref.isWhole_whole _) dsV (Memref.isWhole_whole _) rbV (Memref.isWhole_whole _) riV (Memref.isWhole_whole _) cc0_scratch6 cc0_scratch7 cc0_scratch8 cc0_scratch9 cc0_scratch10 tc0V (Memref.isWhole_whole _) tc1V (Memref.isWhole_whole _) tc2V (Memref.isWhole_whole _) tc3V (Memref.isWhole_whole _) cc0_scoped0 cc0_scoped1 lanes k0_pay198 v13 t arg21 v124 h14 v196 v199 s v212 e hc z) >>= kk) Q) := by
  have h2 : v13.toNat ≤ 245 := hK.nd_le
  have sle : s.toNat ≤ 1536 := hs ▸ hK.le _ (min_le_right _ _)
  have lo := loops (by omega) h2 2 ht (by decide) s e sle (fun h => by
    have h5 := hK.mono _ h
    have h6 := hK.le (4 * t.val + 2 + 1) h
    have h7 := he h
    have h8 := hs
    rw [min_eq_left (le_of_lt h)] at h8
    exact ⟨h8.le.trans (h5.trans h7.ge), h7.le.trans h6⟩) _ rfl
  have htr : (k0_t8_loop v13 t s e).trips = (if 4 * t.val + 2 < v13.toNat then e.toNat else s.toNat) - s.toNat := lo.2.1
  have htz : (k0_t9_loop v13 t s e).trips = 0 := lo.2.2
  iintro ⟨#Hc, Hp, Hh, HS⟩ Hk
  iapply (wp_seg hK hR (g := 4 * t.val + 2) hv (k0_t8_loop v13 t s e) (k0_t8_ok v13 t s e hc) (k0_pay40 k0_pay198 v13 t s e 0#32 1#32) s e hs he htr
    (fun k hk y => vec_nat sle hk y) init hinit (fun k acc => body8 t arg21 v124 h14 v196 v199 s v212 e hc k acc)) $$ [Hp Hh HS]
  · isplitr; · iexact Hc
    isplitl [Hp]; · iexact Hp
    isplitl [Hh]; · iexact Hh
    iexact HS
  iintro %y ⟨Hp, Hb, HS, %hy⟩
  iapply (wp_zero (k0_t9_loop v13 t s e) (k0_t9_ok v13 t s e hc) y htz)
  iapply Hk
  isplitl [Hp]; · iexact Hp
  isplitl [Hb]; · iexact Hb
  isplitl [HS]; · iexact HS
  ipureintro
  exact hy

theorem body10 (t : Fin (k0_t3_loop v13).trips) (h6 : k0_chk6 v13) (c4 s e : BitVec 32) (hc : k0_chk62 v13 t s e) (k : Fin (k0_t10_loop v13 t s e).trips) (acc : BitVec 32) :
    k0_t10_body (F := F) L tV (Memref.isWhole_whole _) pV (Memref.isWhole_whole _) wV (Memref.isWhole_whole _) oV (Memref.isWhole_whole _) twV (Memref.isWhole_whole _) pwV (Memref.isWhole_whole _) dlV (Memref.isWhole_whole _) dsV (Memref.isWhole_whole _) rbV (Memref.isWhole_whole _) riV (Memref.isWhole_whole _) cc0_scratch6 cc0_scratch7 cc0_scratch8 cc0_scratch9 cc0_scratch10 tc0V (Memref.isWhole_whole _) tc1V (Memref.isWhole_whole _) tc2V (Memref.isWhole_whole _) tc3V (Memref.isWhole_whole _) cc0_scoped0 cc0_scoped1 lanes k0_pay198 v13 h6 c4 t s e hc k acc = tripP L (matchP L tc3V lanes k0_pay198 (k0_pay58 k0_pay198 v13 t s e 0#32 1#32 k) acc) acc :=
  (show k0_t10_body (F := F) L tV (Memref.isWhole_whole _) pV (Memref.isWhole_whole _) wV (Memref.isWhole_whole _) oV (Memref.isWhole_whole _) twV (Memref.isWhole_whole _) pwV (Memref.isWhole_whole _) dlV (Memref.isWhole_whole _) dsV (Memref.isWhole_whole _) rbV (Memref.isWhole_whole _) riV (Memref.isWhole_whole _) cc0_scratch6 cc0_scratch7 cc0_scratch8 cc0_scratch9 cc0_scratch10 tc0V (Memref.isWhole_whole _) tc1V (Memref.isWhole_whole _) tc2V (Memref.isWhole_whole _) tc3V (Memref.isWhole_whole _) cc0_scoped0 cc0_scoped1 lanes k0_pay198 v13 h6 c4 t s e hc k acc = tripP L (k0_part7 L tV (Memref.isWhole_whole _) pV (Memref.isWhole_whole _) wV (Memref.isWhole_whole _) oV (Memref.isWhole_whole _) twV (Memref.isWhole_whole _) pwV (Memref.isWhole_whole _) dlV (Memref.isWhole_whole _) dsV (Memref.isWhole_whole _) rbV (Memref.isWhole_whole _) riV (Memref.isWhole_whole _) cc0_scratch6 cc0_scratch7 cc0_scratch8 cc0_scratch9 cc0_scratch10 tc0V (Memref.isWhole_whole _) tc1V (Memref.isWhole_whole _) tc2V (Memref.isWhole_whole _) tc3V (Memref.isWhole_whole _) cc0_scoped0 cc0_scoped1 lanes k0_pay198 v13 t s e 0#32 1#32 k acc) acc from rfl).trans
    (congrArg (fun c => tripP L c acc) (part7_matchP L _ _ _ _ _ _ _ _ _ k))

theorem seg3 (hK : RingOK L (rd TW) v13.toNat (rd DL) (rd DS)) (hR : Rows I (rrOf PW) (rd DS 0) (rd DS v13.toNat)) (t : Fin (k0_t3_loop v13).trips) (ht : 4 * t.val < v13.toNat)
    {h6 : k0_chk6 v13} {c4 s e : BitVec 32} {hc : k0_chk62 v13 t s e} {v : BitVec 32}
    (hv : v.toNat = rd DL (min (4 * t.val + 3) (v13.toNat - 1))) (hs : s.toNat = rd DS (min (4 * t.val + 3) v13.toNat))
    (he : 4 * t.val + 3 < v13.toNat → e.toNat = rd DS (4 * t.val + 3 + 1)) {init z : BitVec 32} (hinit : rd DS 0 + init.toNat = rd DS (min (4 * t.val + 3) v13.toNat))
    {Q : BitVec 32 → sProp 𝕄} :
    iprop((inv κ (junk (F := F) d) ∗ Transfers.MayWaits (V d (cV L) (jV L)) (default : HIx 1) O) ∗ mem d (cV L) (jV L) pwV PW ∗ Held d L tc3V cc0_scratch9.sem q3 wA v ∗ St d L w I (vvOf wA TW PW) (rrOf PW) O W₀ (rd DS 0) (init.toNat % 64) (init.toNat / 64))
      ⊢ iprop((∀ acc : BitVec 32, iprop(mem d (cV L) (jV L) pwV PW ∗ Slot d L tc3V cc0_scratch9.sem q3 wA ∗ St d L w I (vvOf wA TW PW) (rrOf PW) O W₀ (rd DS 0) (acc.toNat % 64) (acc.toNat / 64)
            ∗ ⌜rd DS 0 + acc.toNat = rd DS (min (4 * t.val + 3 + 1) v13.toNat)⌝) -∗ Q acc)
        -∗ wp frame (wpE (defs₀ (F := F)) 𝒱₀ (V d (cV L) (jV L)) none) Set.univ (Scf.Loop.for (k0_t10_loop v13 t s e) (k0_t10_ok v13 t s e hc) init (k0_t10_body (F := F) L tV (Memref.isWhole_whole _) pV (Memref.isWhole_whole _) wV (Memref.isWhole_whole _) oV (Memref.isWhole_whole _) twV (Memref.isWhole_whole _) pwV (Memref.isWhole_whole _) dlV (Memref.isWhole_whole _) dsV (Memref.isWhole_whole _) rbV (Memref.isWhole_whole _) riV (Memref.isWhole_whole _) cc0_scratch6 cc0_scratch7 cc0_scratch8 cc0_scratch9 cc0_scratch10 tc0V (Memref.isWhole_whole _) tc1V (Memref.isWhole_whole _) tc2V (Memref.isWhole_whole _) tc3V (Memref.isWhole_whole _) cc0_scoped0 cc0_scoped1 lanes k0_pay198 v13 h6 c4 t s e hc) >>= fun y =>
          Scf.Loop.for (k0_t11_loop v13 t s e) (k0_t11_ok v13 t s e hc) y (k0_t11_body (F := F) L tV (Memref.isWhole_whole _) pV (Memref.isWhole_whole _) wV (Memref.isWhole_whole _) oV (Memref.isWhole_whole _) twV (Memref.isWhole_whole _) pwV (Memref.isWhole_whole _) dlV (Memref.isWhole_whole _) dsV (Memref.isWhole_whole _) rbV (Memref.isWhole_whole _) riV (Memref.isWhole_whole _) cc0_scratch6 cc0_scratch7 cc0_scratch8 cc0_scratch9 cc0_scratch10 tc0V (Memref.isWhole_whole _) tc1V (Memref.isWhole_whole _) tc2V (Memref.isWhole_whole _) tc3V (Memref.isWhole_whole _) cc0_scoped0 cc0_scoped1 lanes k0_pay198 v13 h6 c4 t s e hc z)) Q) := by
  have h2 : v13.toNat ≤ 245 := hK.nd_le
  have sle : s.toNat ≤ 1536 := hs ▸ hK.le _ (min_le_right _ _)
  have lo := loops (by omega) h2 3 ht (by decide) s e sle (fun h => by
    have h5 := hK.mono _ h
    have h6 := hK.le (4 * t.val + 3 + 1) h
    have h7 := he h
    have h8 := hs
    rw [min_eq_left (le_of_lt h)] at h8
    exact ⟨h8.le.trans (h5.trans h7.ge), h7.le.trans h6⟩) _ rfl
  have htr : (k0_t10_loop v13 t s e).trips = (if 4 * t.val + 3 < v13.toNat then e.toNat else s.toNat) - s.toNat := lo.2.1
  have htz : (k0_t11_loop v13 t s e).trips = 0 := lo.2.2
  iintro ⟨#Hc, Hp, Hh, HS⟩ Hk
  iapply (wp_seg hK hR (g := 4 * t.val + 3) hv (k0_t10_loop v13 t s e) (k0_t10_ok v13 t s e hc) (k0_pay58 k0_pay198 v13 t s e 0#32 1#32) s e hs he htr
    (fun k hk y => vec_nat sle hk y) init hinit (fun k acc => body10 t h6 c4 s e hc k acc)) $$ [Hp Hh HS]
  · isplitr; · iexact Hc
    isplitl [Hp]; · iexact Hp
    isplitl [Hh]; · iexact Hh
    iexact HS
  iintro %y ⟨Hp, Hb, HS, %hy⟩
  iapply (wp_zero_last (k0_t11_loop v13 t s e) (k0_t11_ok v13 t s e hc) y htz)
  iapply Hk
  isplitl [Hp]; · iexact Hp
  isplitl [Hb]; · iexact Hb
  isplitl [HS]; · iexact HS
  ipureintro
  exact hy

end Segs

end Cert.Proof.Emb

end
-- ==== Proof.Ring.lean ====
/-
  A step of the ring: four tiles fetched, the matches of each copied out; and the ring itself.
-/
module

public import proofs.«01_k».proof.Proof.Segs

@[expose] public section

noncomputable section

namespace Cert.Proof.Emb

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Step

variable [FloatOps F] {d : Dev nD} {L : grid0.Coords} {κ : ℕ} {w : Fin 32} {I : Finset S16392x128.Idx}
  {O : CellTallies nD τ sig (HIx 1)} {W₀ : Waits sig (HIx 1)} {wA : Buf (Elt F) (wLoc d)} {TW PW : Vec F S1536 .i32} {DL DS : Vec F S248 .i32} {v13 : BitVec 32}
  {q0 q1 q2 q3 : PosShare TreeShare}

theorem t3_step (hK : RingOK L (rd TW) v13.toNat (rd DL) (rd DS)) (hR : Rows I (rrOf PW) (rd DS 0) (rd DS v13.toNat)) (h6 : k0_chk6 v13) (c4 : BitVec 32)
    (t : Fin (k0_t3_loop v13).trips) (acc : BitVec 32) :
    iprop((inv κ (junk (F := F) d) ∗ Transfers.MayWaits (V d (cV L) (jV L)) (default : HIx 1) O) ∗ mem d (cV L) (jV L) pwV PW ∗ mem d (cV L) (jV L) dlV DL ∗ mem d (cV L) (jV L) dsV DS ∗ Slot d L tc0V cc0_scratch6.sem q0 wA ∗ Slot d L tc1V cc0_scratch7.sem q1 wA ∗ Slot d L tc2V cc0_scratch8.sem q2 wA ∗ Slot d L tc3V cc0_scratch9.sem q3 wA
        ∗ St d L w I (vvOf wA TW PW) (rrOf PW) O W₀ (rd DS 0) (acc.toNat % 64) (acc.toNat / 64) ∗ ⌜rd DS 0 + acc.toNat = rd DS (min (4 * t.val) v13.toNat)⌝)
      ⊢ wp frame (wpE (defs₀ (F := F)) 𝒱₀ (V d (cV L) (jV L)) none) Set.univ (k0_t3_body (F := F) L tV (Memref.isWhole_whole _) pV (Memref.isWhole_whole _) wV (Memref.isWhole_whole _) oV (Memref.isWhole_whole _) twV (Memref.isWhole_whole _) pwV (Memref.isWhole_whole _) dlV (Memref.isWhole_whole _) dsV (Memref.isWhole_whole _) rbV (Memref.isWhole_whole _) riV (Memref.isWhole_whole _) cc0_scratch6 cc0_scratch7 cc0_scratch8 cc0_scratch9 cc0_scratch10 tc0V (Memref.isWhole_whole _) tc1V (Memref.isWhole_whole _) tc2V (Memref.isWhole_whole _) tc3V (Memref.isWhole_whole _) cc0_scoped0 cc0_scoped1 lanes k0_pay198 v13 h6 c4 t acc)
        fun acc' => iprop(mem d (cV L) (jV L) pwV PW ∗ mem d (cV L) (jV L) dlV DL ∗ mem d (cV L) (jV L) dsV DS ∗ Slot d L tc0V cc0_scratch6.sem q0 wA ∗ Slot d L tc1V cc0_scratch7.sem q1 wA ∗ Slot d L tc2V cc0_scratch8.sem q2 wA ∗ Slot d L tc3V cc0_scratch9.sem q3 wA
        ∗ St d L w I (vvOf wA TW PW) (rrOf PW) O W₀ (rd DS 0) (acc'.toNat % 64) (acc'.toNat / 64) ∗ ⌜rd DS 0 + acc'.toNat = rd DS (min (4 * (t.val + 1)) v13.toNat)⌝) := by
  have h2 : v13.toNat ≤ 245 := hK.nd_le
  have htt : t.val < (v13.toNat + 3) / 4 := lt_of_lt_of_eq t.isLt (trips_t3 h2)
  have ht : 4 * t.val < v13.toNat := by omega
  have h1 : 1 ≤ v13.toNat := by omega
  have c248 : ∀ k, min (4 * t.val + k) (v13.toNat - 1) < 248 := fun k => by omega
  have n248 : ∀ k, min (4 * t.val + k) v13.toNat < 248 := fun k => by omega
  have m248 : ∀ k, min (4 * t.val + k) v13.toNat + 1 < 248 := fun k => by omega
  have ixc : ∀ k, k < 4 → ∀ y : S16.Idx, (addi (broadcast S16 (Scalar.minsi (Scalar.addi (Scalar.muli (Scf.iv 0#32 1#32 t.val) 4#32) (BitVec.ofNat 32 k)) (Scalar.subi v13 1#32))) k0_pay198 y).toNat
      = min (4 * t.val + k) (v13.toNat - 1) := fun k hk y => (congrArg BitVec.toNat (BitVec.add_zero _)).trans (clamp_nat h1 h2 ht hk)
  have ixn : ∀ k, k < 4 → ∀ y : S16.Idx, (addi (broadcast S16 (Scalar.minsi (Scalar.addi (Scalar.muli (Scf.iv 0#32 1#32 t.val) 4#32) (BitVec.ofNat 32 k)) v13)) k0_pay198 y).toNat
      = min (4 * t.val + k) v13.toNat := fun k hk y => (congrArg BitVec.toNat (BitVec.add_zero _)).trans (clampn_nat h1 h2 ht hk)
  have ixm : ∀ k, k < 4 → ∀ y : S16.Idx, (addi (broadcast S16 (Scalar.addi (Scalar.minsi (Scalar.addi (Scalar.muli (Scf.iv 0#32 1#32 t.val) 4#32) (BitVec.ofNat 32 k)) v13) 1#32)) k0_pay198 y).toNat
      = min (4 * t.val + k) v13.toNat + 1 := fun k hk y => (congrArg BitVec.toNat (BitVec.add_zero _)).trans (by
    have := clampn_nat h1 h2 ht hk
    generalize Scalar.minsi (Scalar.addi (Scalar.muli (Scf.iv 0#32 1#32 t.val) 4#32) (BitVec.ofNat 32 k)) v13 = W at this ⊢
    exact (add_nat (x := W) (y := 1#32) (by rw [this]; show _ + 1 < _; omega)).trans (by rw [this]; rfl))
  have rdL : ∀ k, (DL (Shape.ofLane (d := ![248]) ⟨min (4 * t.val + k) (v13.toNat - 1), c248 k⟩) : BitVec 32).toNat = rd DL (min (4 * t.val + k) (v13.toNat - 1)) := fun k => by
    unfold rd; rw [dif_pos (c248 k)]
  have rdS : ∀ k, (DS (Shape.ofLane (d := ![248]) ⟨min (4 * t.val + k) v13.toNat, n248 k⟩) : BitVec 32).toNat = rd DS (min (4 * t.val + k) v13.toNat) := fun k => by
    unfold rd; rw [dif_pos (n248 k)]
  have rdX : ∀ k, 4 * t.val + k < v13.toNat → (DS (Shape.ofLane (d := ![248]) ⟨min (4 * t.val + k) v13.toNat + 1, m248 k⟩) : BitVec 32).toNat = rd DS (4 * t.val + k + 1) := fun k h => by
    have e : min (4 * t.val + k) v13.toNat + 1 = 4 * t.val + k + 1 := by omega
    unfold rd; rw [dif_pos (by omega)]
    simp only [e]
  have tl : ∀ k, ∀ v : BitVec 32, v.toNat = rd DL (min (4 * t.val + k) (v13.toNat - 1)) → v.toNat < 7813 := fun k v hv => by
    rw [hv]; exact lt_of_lt_of_le (hK.own _ (by omega)).2 hi_le
  iintro ⟨#Hc, Hp, Hdl, Hds, Hb0, Hb1, Hb2, Hb3, HS, %hi0⟩
  icases Hc with ⟨Hinv, Hmw⟩
  unfold k0_t3_body
  rw [k0_part9_eq_skeleton, k0_part10_eq_skeleton, k0_part11_eq_skeleton, k0_part12_eq_skeleton, k0_part13_eq_skeleton]
  iapply (wp_bd none)
  unfold k0_part9_skel
  iapply (wp_as none (chk_ix _ (c248 0) (ixc 0 (by decide)) : k0_chk7 _))
  iapply (wp_ldc _ (c248 0) (ixc 0 (by decide))) $$ Hdl
  iintro %u0 %hu0 Hdl
  have e0 := last_const u0 _ hu0
  have f0 := (congrArg BitVec.toNat e0).trans (rdL 0)
  have g0 := tl 0 _ f0
  iapply (wp_as none (chk_tile g0))
  iapply (wp_send (by decide)) $$ Hb0
  iintro Hb0
  iapply (wp_as none (chk_ix _ (c248 1) (ixc 1 (by decide)) : k0_chk9 _))
  iapply (wp_ldc _ (c248 1) (ixc 1 (by decide))) $$ Hdl
  iintro %u1 %hu1 Hdl
  have e1 := last_const u1 _ hu1
  have f1 := (congrArg BitVec.toNat e1).trans (rdL 1)
  have g1 := tl 1 _ f1
  iapply (wp_as none (chk_tile g1))
  iapply (wp_send (by decide)) $$ Hb1
  iintro Hb1
  iapply (wp_rt none)
  dsimp only
  iapply (wp_bd none)
  unfold k0_part10_skel
  iapply (wp_as none (chk_ix _ (c248 2) (ixc 2 (by decide)) : k0_chk11 _))
  iapply (wp_ldc _ (c248 2) (ixc 2 (by decide))) $$ Hdl
  iintro %u2 %hu2 Hdl
  have e2 := last_const u2 _ hu2
  have f2 := (congrArg BitVec.toNat e2).trans (rdL 2)
  have g2 := tl 2 _ f2
  iapply (wp_as none (chk_tile g2))
  iapply (wp_send (by decide)) $$ Hb2
  iintro Hb2
  iapply (wp_as none (chk_ix _ (c248 3) (ixc 3 (by decide)) : k0_chk13 _))
  iapply (wp_ldc _ (c248 3) (ixc 3 (by decide))) $$ Hdl
  iintro %u3 %hu3 Hdl
  have e3 := last_const u3 _ hu3
  have f3 := (congrArg BitVec.toNat e3).trans (rdL 3)
  have g3 := tl 3 _ f3
  iapply (wp_as none (chk_tile g3))
  iapply (wp_send (by decide)) $$ Hb3
  iintro Hb3
  iapply (wp_rt none)
  dsimp only
  iapply (wp_bd none)
  unfold k0_part11_skel
  iapply (wp_take g0) $$ [Hb0 HS]
  · isplitl [Hb0]; · iexact Hb0
    isplitl [HS]; · iexact HS
    iexact Hmw
  iintro ⟨Hh, HS⟩
  iapply (wp_as none (chk_ix _ (n248 0) (ixn 0 (by decide)) : k0_chk15 _))
  iapply (wp_ldc _ (n248 0) (ixn 0 (by decide))) $$ Hds
  iintro %r0 %hr0 Hds
  have hs0 : (extractAt ![15] (k0_pay85 r0) inpos_S16_p15 : BitVec 32).toNat = rd DS (min (4 * t.val + 0) v13.toNat) := (congrArg BitVec.toNat (last_const r0 _ hr0)).trans (rdS 0)
  have s0le : (extractAt ![15] (k0_pay85 r0) inpos_S16_p15 : BitVec 32).toNat ≤ 1536 := hs0 ▸ hK.le _ (min_le_right _ _)
  iapply (wp_as none (chk_ix _ (m248 0) (ixm 0 (by decide)) : k0_chk16 _))
  iapply (wp_ldc _ (m248 0) (ixm 0 (by decide))) $$ Hds
  iintro %y0 %hy0 Hds
  have hx0 : 4 * t.val + 0 < v13.toNat → (extractAt ![15] (k0_pay87 y0) inpos_S16_p15).toNat = _ := fun h => (congrArg BitVec.toNat (last_const y0 _ hy0)).trans (rdX 0 h)
  have lo0 := loops h1 h2 0 ht (by decide) _ (extractAt ![15] (k0_pay87 y0) inpos_S16_p15) s0le (fun h => by
    have h5 := hK.mono _ h
    have h6 := hK.le (4 * t.val + 0 + 1) h
    have h7 := hx0 h
    have h8 := hs0
    rw [min_eq_left (le_of_lt h)] at h8
    exact ⟨h8.le.trans (h5.trans h7.ge), h7.le.trans h6⟩) _ rfl
  iapply (wp_as none (lo0.1 : k0_chk17 v13 t _ _))
  iapply (seg0 hK hR t ht f0 hs0 hx0 hi0) $$ [Hp Hh HS]
  · isplitr
    · isplitr; · iexact Hinv
      iexact Hmw
    isplitl [Hp]; · iexact Hp
    isplitl [Hh]; · iexact Hh
    iexact HS
  iintro %a0 ⟨Hp, Hb0, HS, %hi1⟩
  iapply (wp_take g1) $$ [Hb1 HS]
  · isplitl [Hb1]; · iexact Hb1
    isplitl [HS]; · iexact HS
    iexact Hmw
  iintro ⟨Hh, HS⟩
  iapply (wp_as none (chk_ix _ (n248 1) (ixn 1 (by decide)) : k0_chk30 _))
  iapply (wp_ldc _ (n248 1) (ixn 1 (by decide))) $$ Hds
  iintro %r1 %hr1 Hds
  iapply (wp_rt none)
  dsimp only
  iapply (wp_bd none)
  unfold k0_part12_skel
  have hs1 : (extractAt ![15] (k0_pay89 r1) inpos_S16_p15 : BitVec 32).toNat = rd DS (min (4 * t.val + 1) v13.toNat) := (congrArg BitVec.toNat (last_const r1 _ hr1)).trans (rdS 1)
  have s1le : (extractAt ![15] (k0_pay89 r1) inpos_S16_p15 : BitVec 32).toNat ≤ 1536 := hs1 ▸ hK.le _ (min_le_right _ _)
  iapply (wp_as none (chk_ix _ (m248 1) (ixm 1 (by decide)) : k0_chk31 _))
  iapply (wp_ldc _ (m248 1) (ixm 1 (by decide))) $$ Hds
  iintro %y1 %hy1 Hds
  have hx1 : 4 * t.val + 1 < v13.toNat → (extractAt ![15] (k0_pay91 y1) inpos_S16_p15).toNat = _ := fun h => (congrArg BitVec.toNat (last_const y1 _ hy1)).trans (rdX 1 h)
  have lo1 := loops h1 h2 1 ht (by decide) _ (extractAt ![15] (k0_pay91 y1) inpos_S16_p15) s1le (fun h => by
    have h5 := hK.mono _ h
    have h6 := hK.le (4 * t.val + 1 + 1) h
    have h7 := hx1 h
    have h8 := hs1
    rw [min_eq_left (le_of_lt h)] at h8
    exact ⟨h8.le.trans (h5.trans h7.ge), h7.le.trans h6⟩) _ rfl
  iapply (wp_as none (lo1.1 : k0_chk32 v13 t _ _))
  iapply (seg1 hK hR t ht f1 hs1 hx1 hi1) $$ [Hp Hh HS]
  · isplitr
    · isplitr; · iexact Hinv
      iexact Hmw
    isplitl [Hp]; · iexact Hp
    isplitl [Hh]; · iexact Hh
    iexact HS
  iintro %a1 ⟨Hp, Hb1, HS, %hi2⟩
  iapply (wp_take g2) $$ [Hb2 HS]
  · isplitl [Hb2]; · iexact Hb2
    isplitl [HS]; · iexact HS
    iexact Hmw
  iintro ⟨Hh, HS⟩
  iapply (wp_as none (chk_ix _ (n248 2) (ixn 2 (by decide)) : k0_chk45 _))
  iapply (wp_ldc _ (n248 2) (ixn 2 (by decide))) $$ Hds
  iintro %r2 %hr2 Hds
  have hs2 : (extractAt ![15] (k0_pay93 r2) inpos_S16_p15 : BitVec 32).toNat = rd DS (min (4 * t.val + 2) v13.toNat) := (congrArg BitVec.toNat (last_const r2 _ hr2)).trans (rdS 2)
  have s2le : (extractAt ![15] (k0_pay93 r2) inpos_S16_p15 : BitVec 32).toNat ≤ 1536 := hs2 ▸ hK.le _ (min_le_right _ _)
  iapply (wp_rt none)
  dsimp only
  iapply (wp_bd none)
  unfold k0_part13_skel
  iapply (wp_as none (chk_ix _ (m248 2) (ixm 2 (by decide)) : k0_chk46 _))
  iapply (wp_ldc _ (m248 2) (ixm 2 (by decide))) $$ Hds
  iintro %y2 %hy2 Hds
  have hx2 : 4 * t.val + 2 < v13.toNat → (extractAt ![15] (k0_pay95 y2) inpos_S16_p15).toNat = _ := fun h => (congrArg BitVec.toNat (last_const y2 _ hy2)).trans (rdX 2 h)
  have lo2 := loops h1 h2 2 ht (by decide) _ (extractAt ![15] (k0_pay95 y2) inpos_S16_p15) s2le (fun h => by
    have h5 := hK.mono _ h
    have h6 := hK.le (4 * t.val + 2 + 1) h
    have h7 := hx2 h
    have h8 := hs2
    rw [min_eq_left (le_of_lt h)] at h8
    exact ⟨h8.le.trans (h5.trans h7.ge), h7.le.trans h6⟩) _ rfl
  iapply (wp_as none (lo2.1 : k0_chk47 v13 t _ _))
  iapply (seg2 hK hR t ht f2 hs2 hx2 hi2) $$ [Hp Hh HS]
  · isplitr
    · isplitr; · iexact Hinv
      iexact Hmw
    isplitl [Hp]; · iexact Hp
    isplitl [Hh]; · iexact Hh
    iexact HS
  iintro %a2 ⟨Hp, Hb2, HS, %hi3⟩
  iapply (wp_take g3) $$ [Hb3 HS]
  · isplitl [Hb3]; · iexact Hb3
    isplitl [HS]; · iexact HS
    iexact Hmw
  iintro ⟨Hh, HS⟩
  iapply (wp_as none (chk_ix _ (n248 3) (ixn 3 (by decide)) : k0_chk60 _))
  iapply (wp_ldc _ (n248 3) (ixn 3 (by decide))) $$ Hds
  iintro %r3 %hr3 Hds
  have hs3 : (extractAt ![15] (k0_pay97 r3) inpos_S16_p15 : BitVec 32).toNat = rd DS (min (4 * t.val + 3) v13.toNat) := (congrArg BitVec.toNat (last_const r3 _ hr3)).trans (rdS 3)
  have s3le : (extractAt ![15] (k0_pay97 r3) inpos_S16_p15 : BitVec 32).toNat ≤ 1536 := hs3 ▸ hK.le _ (min_le_right _ _)
  iapply (wp_as none (chk_ix _ (m248 3) (ixm 3 (by decide)) : k0_chk61 _))
  iapply (wp_ldc _ (m248 3) (ixm 3 (by decide))) $$ Hds
  iintro %y3 %hy3 Hds
  iapply (wp_rt none)
  dsimp only
  have hx3 : 4 * t.val + 3 < v13.toNat → (extractAt ![15] (k0_pay210 k0_pay99 (k0_pay100 y3)) inpos_S16_p15).toNat = _ := fun h => (congrArg BitVec.toNat (last_const y3 _ hy3)).trans (rdX 3 h)
  have lo3 := loops h1 h2 3 ht (by decide) _ (extractAt ![15] (k0_pay210 k0_pay99 (k0_pay100 y3)) inpos_S16_p15) s3le (fun h => by
    have h5 := hK.mono _ h
    have h6 := hK.le (4 * t.val + 3 + 1) h
    have h7 := hx3 h
    have h8 := hs3
    rw [min_eq_left (le_of_lt h)] at h8
    exact ⟨h8.le.trans (h5.trans h7.ge), h7.le.trans h6⟩) _ rfl
  iapply (wp_as none (lo3.1 : k0_chk62 v13 t _ _))
  iapply (seg3 hK hR t ht f3 hs3 hx3 hi3) $$ [Hp Hh HS]
  · isplitr
    · isplitr; · iexact Hinv
      iexact Hmw
    isplitl [Hp]; · iexact Hp
    isplitl [Hh]; · iexact Hh
    iexact HS
  iintro %a3 ⟨Hp, Hb3, HS, %hi4⟩
  isplitl [Hp]; · iexact Hp
  isplitl [Hdl]; · iexact Hdl
  isplitl [Hds]; · iexact Hds
  isplitl [Hb0]; · iexact Hb0
  isplitl [Hb1]; · iexact Hb1
  isplitl [Hb2]; · iexact Hb2
  isplitl [Hb3]; · iexact Hb3
  isplitl [HS]; · iexact HS
  ipureintro
  exact hi4

end Step

end Cert.Proof.Emb

end
-- ==== Proof.Tile.lean ====
/-
  The kernel of one vector subcore after its scan: the ring of tiles, and the flush of what is left of the row buffer.
-/
module

public import proofs.«01_k».proof.Proof.Ring

@[expose] public section

noncomputable section

namespace Cert.Proof.Emb

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Rest

variable [FloatOps F] {d : Dev nD} {L : grid0.Coords} {κ : ℕ} {w : Fin 32} {I : Finset S16392x128.Idx}
  {O : CellTallies nD τ sig (HIx 1)} {W₀ : Waits sig (HIx 1)} {wA : Buf (Elt F) (wLoc d)} {TW PW : Vec F S1536 .i32} {DL DS : Vec F S248 .i32} {v13 : BitVec 32}
  {q0 q1 q2 q3 : PosShare TreeShare}

theorem cond17_iff {v : BitVec 32} (h : v.toNat < 2 ^ 31) : k0_cond17 v = 1#1 ↔ v.toNat % 64 ≠ 0 := by
  have e : ∀ b : BitVec 1, Scalar.cmpi .ne (Scalar.extui b : BitVec 32) 0#32 = 1#1 ↔ b = 1#1 := by decide
  have h0 := slotW_nat h
  have h1 : Scalar.cmpi .sgt (slotW v) 0#32 = 1#1 ↔ 0 < (slotW v).toNat := by
    show BitVec.ofBool ((0#32).slt (slotW v)) = 1#1 ↔ _
    rw [ofBool_one, slt_nat (by decide) (by rw [h0]; omega), decide_eq_true_iff]
    rfl
  show Scalar.cmpi .ne (Scalar.extui (Scalar.cmpi .sgt (slotW v) 0#32) : BitVec 32) 0#32 = 1#1 ↔ _
  rw [e, h1, h0]
  exact Nat.pos_iff_ne_zero

theorem part28 (hK : RingOK L (rd TW) v13.toNat (rd DL) (rd DS)) (hR : Rows I (rrOf PW) (rd DS 0) (rd DS v13.toNat)) (h6 : k0_chk6 v13)
    {β : Type} {Q : β → sProp 𝕄} {kk : (Σ' (_ : BitVec 32), BitVec 32) → Prog (TpuEff nD τ sig (Elt F) Λ₀ (V d (cV L) (jV L)).2) β} :
    iprop((inv κ (junk (F := F) d) ∗ Transfers.MayWaits (V d (cV L) (jV L)) (default : HIx 1) O) ∗ mem d (cV L) (jV L) pwV PW ∗ mem d (cV L) (jV L) dlV DL ∗ mem d (cV L) (jV L) dsV DS ∗ Slot d L tc0V cc0_scratch6.sem q0 wA ∗ Slot d L tc1V cc0_scratch7.sem q1 wA ∗ Slot d L tc2V cc0_scratch8.sem q2 wA ∗ Slot d L tc3V cc0_scratch9.sem q3 wA
        ∗ St d L w I (vvOf wA TW PW) (rrOf PW) O W₀ (rd DS 0) 0 0)
      ⊢ iprop((∀ v47 : BitVec 32, iprop(mem d (cV L) (jV L) pwV PW ∗ mem d (cV L) (jV L) dlV DL ∗ mem d (cV L) (jV L) dsV DS ∗ Slot d L tc0V cc0_scratch6.sem q0 wA ∗ Slot d L tc1V cc0_scratch7.sem q1 wA ∗ Slot d L tc2V cc0_scratch8.sem q2 wA ∗ Slot d L tc3V cc0_scratch9.sem q3 wA
            ∗ St d L w I (vvOf wA TW PW) (rrOf PW) O W₀ (rd DS 0) (v47.toNat % 64) (v47.toNat / 64) ∗ ⌜rd DS 0 + v47.toNat = rd DS v13.toNat⌝)
            -∗ wp frame (wpE (defs₀ (F := F)) 𝒱₀ (V d (cV L) (jV L)) none) Set.univ (kk ⟨v47, slotW v47⟩) Q)
        -∗ wp frame (wpE (defs₀ (F := F)) 𝒱₀ (V d (cV L) (jV L)) none) Set.univ (k0_part28_skel (F := F) L tV (Memref.isWhole_whole _) pV (Memref.isWhole_whole _) wV (Memref.isWhole_whole _) oV (Memref.isWhole_whole _) twV (Memref.isWhole_whole _) pwV (Memref.isWhole_whole _) dlV (Memref.isWhole_whole _) dsV (Memref.isWhole_whole _) rbV (Memref.isWhole_whole _) riV (Memref.isWhole_whole _) cc0_scratch6 cc0_scratch7 cc0_scratch8 cc0_scratch9 cc0_scratch10 tc0V (Memref.isWhole_whole _) tc1V (Memref.isWhole_whole _) tc2V (Memref.isWhole_whole _) tc3V (Memref.isWhole_whole _) cc0_scoped0 cc0_scoped1 lanes k0_pay198 v13 h6 4#32 >>= kk) Q) := by
  have h2 : v13.toNat ≤ 245 := hK.nd_le
  iintro ⟨#Hc, H⟩ Hk
  iapply (wp_bd none)
  unfold k0_part28_skel
  dsimp only
  iapply (Scf.wp_for_bind frame _ _ _ _ _ (k0_t3_ok v13 h6) _ _
    (fun k acc => iprop((inv κ (junk (F := F) d) ∗ Transfers.MayWaits (V d (cV L) (jV L)) (default : HIx 1) O) ∗ mem d (cV L) (jV L) pwV PW ∗ mem d (cV L) (jV L) dlV DL ∗ mem d (cV L) (jV L) dsV DS ∗ Slot d L tc0V cc0_scratch6.sem q0 wA ∗ Slot d L tc1V cc0_scratch7.sem q1 wA ∗ Slot d L tc2V cc0_scratch8.sem q2 wA ∗ Slot d L tc3V cc0_scratch9.sem q3 wA
        ∗ St d L w I (vvOf wA TW PW) (rrOf PW) O W₀ (rd DS 0) (acc.toNat % 64) (acc.toNat / 64) ∗ ⌜rd DS 0 + acc.toNat = rd DS (min (4 * k) v13.toNat)⌝))
    (fun k acc => ?_)) $$ [H]
  · iintro ⟨#Hc, H⟩
    icases H with ⟨Hp, Hdl, Hds, Hb0, Hb1, Hb2, Hb3, HS, %hi⟩
    ihave Hw := (t3_step (κ := κ) (w := w) (I := I) (O := O) (W₀ := W₀) (wA := wA) (q0 := q0) (q1 := q1) (q2 := q2) (q3 := q3) hK hR h6 4#32 k acc) $$ [Hp Hdl Hds Hb0 Hb1 Hb2 Hb3 HS]
    · isplitr; · iexact Hc
      isplitl [Hp]; · iexact Hp
      isplitl [Hdl]; · iexact Hdl
      isplitl [Hds]; · iexact Hds
      isplitl [Hb0]; · iexact Hb0
      isplitl [Hb1]; · iexact Hb1
      isplitl [Hb2]; · iexact Hb2
      isplitl [Hb3]; · iexact Hb3
      isplitl [HS]; · iexact HS
      ipureintro
      exact hi
    iapply (wp_frame_l frame _ _)
    isplitr; · iexact Hc
    iexact Hw
  · isplitr; · iexact Hc
    icases H with ⟨Hp, Hdl, Hds, Hb0, Hb1, Hb2, Hb3, HS⟩
    isplitl [Hp]; · iexact Hp
    isplitl [Hdl]; · iexact Hdl
    isplitl [Hds]; · iexact Hds
    isplitl [Hb0]; · iexact Hb0
    isplitl [Hb1]; · iexact Hb1
    isplitl [Hb2]; · iexact Hb2
    isplitl [Hb3]; · iexact Hb3
    isplitl [HS]; · iexact HS
    ipureintro
    rw [show min (4 * 0) v13.toNat = 0 by omega]
    rfl
  iintro %v47 ⟨-, Hp, Hdl, Hds, Hb0, Hb1, Hb2, Hb3, HS, %he⟩
  iapply (wp_zero (k0_t12_loop v13) (k0_t12_ok v13 h6) v47 (trips_t12 v13))
  iapply (wp_rt none)
  iapply Hk $$ %v47
  isplitl [Hp]; · iexact Hp
  isplitl [Hdl]; · iexact Hdl
  isplitl [Hds]; · iexact Hds
  isplitl [Hb0]; · iexact Hb0
  isplitl [Hb1]; · iexact Hb1
  isplitl [Hb2]; · iexact Hb2
  isplitl [Hb3]; · iexact Hb3
  isplitl [HS]; · iexact HS
  ipureintro
  rw [show Scf.trips (k0_t3_loop v13).lb (k0_t3_loop v13).ub (k0_t3_loop v13).st = (v13.toNat + 3) / 4 from trips_t3 h2,
    show min (4 * ((v13.toNat + 3) / 4)) v13.toNat = v13.toNat by omega] at he
  exact he

/-- One trip of the loop that pads the list of rows. -/
theorem t21_step {RI : Vec F S64 .i32} {n : ℕ} {v47 : BitVec 32} (hn : (slotW v47).toNat = n) (hn64 : n < 64) (h17 : k0_cond17 v47 = 1#1) (t : Fin k0_t21_loop.trips) (u : Unit) :
    iprop(∃ R : Vec F S64 .i32, mem d (cV L) (jV L) riV R ∗ ⌜(∀ j < n, rd R j = rd RI j) ∧ ∀ j, n ≤ j → j < 16 * t.val → rd R j = 16384⌝)
      ⊢ wp frame (wpE (defs₀ (F := F)) 𝒱₀ (V d (cV L) (jV L)) none) Set.univ (k0_t21_body (F := F) L tV (Memref.isWhole_whole _) pV (Memref.isWhole_whole _) wV (Memref.isWhole_whole _) oV (Memref.isWhole_whole _) twV (Memref.isWhole_whole _) pwV (Memref.isWhole_whole _) dlV (Memref.isWhole_whole _) dsV (Memref.isWhole_whole _) rbV (Memref.isWhole_whole _) riV (Memref.isWhole_whole _) cc0_scratch6 cc0_scratch7 cc0_scratch8 cc0_scratch9 cc0_scratch10 tc0V (Memref.isWhole_whole _) tc1V (Memref.isWhole_whole _) tc2V (Memref.isWhole_whole _) tc3V (Memref.isWhole_whole _) cc0_scoped0 cc0_scoped1 lanes k0_pay198 v47 (slotW v47) h17 t u)
        fun _ => iprop(∃ R : Vec F S64 .i32, mem d (cV L) (jV L) riV R ∗ ⌜(∀ j < n, rd R j = rd RI j) ∧ ∀ j, n ≤ j → j < 16 * (t.val + 1) → rd R j = 16384⌝) := by
  have ht : t.val < 4 := lt_of_lt_of_eq t.isLt (by decide)
  have hix : ∀ x : S16.Idx, (k0_pay1 lanes t x).toNat = 16 * t.val + (x 0).val := fun x => by
    have hx := lane_lt x
    have e1 : (Scf.iv 0#32 1#32 t.val).toNat = t.val := iv_nat (by omega)
    have e2 : (Scalar.muli (Scf.iv 0#32 1#32 t.val) 16#32).toNat = 16 * t.val :=
      (mul_nat (y := 16#32) (by rw [e1]; show _ * 16 < _; omega)).trans (by rw [e1]; exact Nat.mul_comm _ _)
    have e3 := iota_nat x
    refine (add_nat (x := Scalar.muli (Scf.iv 0#32 1#32 t.val) 16#32) (y := lanes x) ?_).trans ?_
    · rw [e2, e3]; omega
    · rw [e2, e3]
  have hmask : ∀ x : S16.Idx, k0_pay3 (slotW v47) (k0_pay1 lanes t) x = 1 ↔ n ≤ 16 * t.val + (x 0).val := fun x => by
    have hx := lane_lt x
    have h1 := hix x
    refine (sge_one (x := k0_pay1 lanes t x) (y := slotW v47) (by omega) (by omega)).trans ?_
    rw [hn, h1]
  have hv : ∀ x : S16.Idx, (k0_pay2 k0_pay198 x).toNat = 16384 := fun x => by
    show (16384#32 + 0#32).toNat = 16384
    decide
  iintro ⟨%R, HR, %hR⟩
  obtain ⟨hR1, hR2⟩ := hR
  unfold k0_t21_body
  dsimp only
  iapply (wp_as none (show k0_chk143 v47 (k0_pay1 lanes t) from fun _ a x => by
    have hx := lane_lt x
    have h1 := hix x
    obtain rfl : a = 0 := Subsingleton.elim _ _
    show (k0_pay1 lanes t x).toNat < 64
    omega))
  iapply (wp_st none) $$ HR
  iintro HR
  iapply (wp_rt none)
  iexists _
  isplitl [HR]; · iexact HR
  ipureintro
  refine ⟨fun j hj => (rd_store_miss _ _ _ _ _ _ fun x hx h => ?_).trans (hR1 j hj), fun j hj hj2 => ?_⟩
  · have h1 := (hmask x).mp hx
    have h2 := hix x
    omega
  · by_cases hlt : j < 16 * t.val
    · refine (rd_store_miss _ _ _ _ _ _ fun x hx h => ?_).trans (hR2 j hj hlt)
      have h2 := hix x
      omega
    · have hl : j - 16 * t.val < 16 := by omega
      have hl0 : ((ln ⟨j - 16 * t.val, hl⟩ : S16.Idx) 0).val = j - 16 * t.val := rfl
      refine (rd_store_hit _ _ _ _ _ j (ln ⟨j - 16 * t.val, hl⟩) ((hmask _).mpr ?_) ?_ fun x' _ _ => ?_).trans (hv _)
      · omega
      · rw [hix]; omega
      · exact BitVec.eq_of_toNat_eq ((hv _).trans (hv _).symm)

theorem wp_dyes {β : Type} {Q : β → sProp 𝕄} {c : Prop} {dc : Decidable c} (h : c) {p : c → Prog (TpuEff nD τ sig (Elt F) Λ₀ (V d (cV L) (jV L)).2) β} {q : ¬c → Prog (TpuEff nD τ sig (Elt F) Λ₀ (V d (cV L) (jV L)).2) β} :
    wp frame (wpE (defs₀ (F := F)) 𝒱₀ (V d (cV L) (jV L)) none) Set.univ (p h) Q ⊢ wp frame (wpE (defs₀ (F := F)) 𝒱₀ (V d (cV L) (jV L)) none) Set.univ (dite c p q) Q := by
  rw [dif_pos h]

theorem wp_dno {β : Type} {Q : β → sProp 𝕄} {c : Prop} {dc : Decidable c} (h : ¬c) {p : c → Prog (TpuEff nD τ sig (Elt F) Λ₀ (V d (cV L) (jV L)).2) β} {q : ¬c → Prog (TpuEff nD τ sig (Elt F) Λ₀ (V d (cV L) (jV L)).2) β} :
    wp frame (wpE (defs₀ (F := F)) 𝒱₀ (V d (cV L) (jV L)) none) Set.univ (q h) Q ⊢ wp frame (wpE (defs₀ (F := F)) 𝒱₀ (V d (cV L) (jV L)) none) Set.univ (dite c p q) Q := by
  rw [dif_neg h]

end Rest

end Cert.Proof.Emb

end
-- ==== Proof.Body.lean ====
/-
  The whole kernel of one vector subcore: from its shares of the operands and its rows of the intermediate to those rows
  filled.
-/
module

public import proofs.«01_k».proof.Proof.Tile

@[expose] public section

noncomputable section

namespace Cert.Proof.Emb

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Gather

variable [FloatOps F] {d : Dev nD}

/-- What the kernel needs of its two sorted operands: the tiles' numbers in order between any two in the table, the output
    rows within the output and no two alike. -/
structure HostOK (tA : Buf (Elt F) (tLoc d)) (pA : Buf (Elt F) (pLoc d)) : Prop where
  lt : ∀ p, rd (tA : S16384.Idx → BitVec 32) p < 2 ^ 31
  sorted : ∀ a b c, a ≤ b → b ≤ c → c < 16384 → rd (tA : S16384.Idx → BitVec 32) a < 7813 → rd (tA : S16384.Idx → BitVec 32) c < 7813 →
      rd (tA : S16384.Idx → BitVec 32) a ≤ rd (tA : S16384.Idx → BitVec 32) b ∧ rd (tA : S16384.Idx → BitVec 32) b ≤ rd (tA : S16384.Idx → BitVec 32) c
  row : ∀ p < 16384, rd (pA : S16384.Idx → BitVec 32) p / 128 < 16384
  inj : ∀ p < 16384, ∀ q < 16384, rd (pA : S16384.Idx → BitVec 32) p / 128 = rd (pA : S16384.Idx → BitVec 32) q / 128 → p = q

open Classical in
/-- The elements of the intermediate the subcore writes: the rows of the entries whose tile it owns. -/
def ownRows (L : grid0.Coords) (tA : Buf (Elt F) (tLoc d)) (pA : Buf (Elt F) (pLoc d)) : Finset S16392x128.Idx :=
  Finset.univ.filter fun x => ∃ p < 16384, rd (pA : S16384.Idx → BitVec 32) p / 128 = (x 0).val ∧ MM L (rd (tA : S16384.Idx → BitVec 32)) p

theorem mem_ownRows (L : grid0.Coords) (tA : Buf (Elt F) (tLoc d)) (pA : Buf (Elt F) (pLoc d)) (x : S16392x128.Idx) :
    x ∈ ownRows L tA pA ↔ ∃ p < 16384, rd (pA : S16384.Idx → BitVec 32) p / 128 = (x 0).val ∧ MM L (rd (tA : S16384.Idx → BitVec 32)) p := by
  simp [ownRows]

/-- Every entry of the subcore's window whose tile it owns has its row of the table in the intermediate. -/
def Done (L : grid0.Coords) (tA : Buf (Elt F) (tLoc d)) (pA : Buf (Elt F) (pLoc d)) (wA : Buf (Elt F) (wLoc d)) (fd : Buf (Elt F) (oLoc d)) : Prop :=
  ∀ p, base L ≤ p → p < base L + 1536 → MM L (rd (tA : S16384.Idx → BitVec 32)) p → ∀ x : S16392x128.Idx,
    (x 0).val = rd (pA : S16384.Idx → BitVec 32) p / 128 → (x 1).val < 64 →
    fd x = wat wA (x 1).val (rd (tA : S16384.Idx → BitVec 32) p * 128 + rd (pA : S16384.Idx → BitVec 32) p % 128)

theorem stretch {ds : ℕ → ℕ} {nd q : ℕ} (h0 : ds 0 ≤ q) (h1 : q < ds nd) : ∃ g < nd, ds g ≤ q ∧ q < ds (g + 1) := by
  induction nd with
  | zero => omega
  | succ n ih =>
    rcases Nat.lt_or_ge q (ds n) with h | h
    · obtain ⟨g, hg, h2⟩ := ih h
      exact ⟨g, by omega, h2⟩
    · exact ⟨n, by omega, h, h1⟩

variable {L : grid0.Coords}

theorem rows_of {tA : Buf (Elt F) (tLoc d)} {pA : Buf (Elt F) (pLoc d)} (hH : HostOK tA pA) {TW PW : Vec F S1536 .i32} {nd : ℕ} {dl ds : ℕ → ℕ}
    (hW : ∀ p < 1536, rd TW p = rd (tA : S16384.Idx → BitVec 32) (base L + p) ∧ rd PW p = rd (pA : S16384.Idx → BitVec 32) (base L + p))
    (hK : RingOK L (rd TW) nd dl ds) : Rows (ownRows L tA pA) (rrOf PW) (ds 0) (ds nd) := by
  have hb := base_le L
  have hB := hK.le nd (le_refl _)
  have hr : ∀ q, q < ds nd → rrOf PW q = rd (pA : S16384.Idx → BitVec 32) (base L + q) / 128 := fun q hq => by
    show rd PW q / 128 = _
    rw [(hW q (by omega)).2]
  refine ⟨fun q h1 h2 => ?_, fun q h1 h2 x hx => ?_, fun p h1 h2 q h3 h4 he => ?_⟩
  · rw [hr q h2]
    exact hH.row _ (by omega)
  · rw [mem_rowSet] at hx
    obtain ⟨g, hg, h3, h4⟩ := stretch h1 h2
    have h5 := hK.tile g hg q h3 h4
    have h6 := hK.own g hg
    have h7 := (hW q (by omega)).1
    refine (mem_ownRows L tA pA x).mpr ⟨base L + q, by omega, ?_, ?_⟩
    · rw [hx, hr q h2]
    · show lo L ≤ rd _ _ ∧ rd _ _ < hi L
      rw [← h7, h5]
      exact h6
  · rw [hr p h2, hr q h4] at he
    have := hH.inj _ (by omega) _ (by omega) he
    omega

theorem done_of {tA : Buf (Elt F) (tLoc d)} {pA : Buf (Elt F) (pLoc d)} {wA : Buf (Elt F) (wLoc d)} {TW PW : Vec F S1536 .i32} {nd : ℕ} {dl ds : ℕ → ℕ}
    (hW : ∀ p < 1536, rd TW p = rd (tA : S16384.Idx → BitVec 32) (base L + p) ∧ rd PW p = rd (pA : S16384.Idx → BitVec 32) (base L + p))
    (hK : RingOK L (rd TW) nd dl ds) {n : ℕ} (hn : ds 0 + n = ds nd) {fd : Buf (Elt F) (oLoc d)}
    (hf : ∀ m < n, ∀ x : S16392x128.Idx, (x 0).val = rrOf PW (ds 0 + m) → (x 1).val < 64 → fd x = vvOf wA TW PW (ds 0 + m) (x 1).val) :
    Done L tA pA wA fd := by
  intro p h1 h2 h3 x hx hx1
  obtain ⟨q, rfl⟩ : ∃ q, p = base L + q := ⟨p - base L, by omega⟩
  have hq : q < 1536 := by omega
  obtain ⟨e1, e2⟩ := hW q hq
  have h4 := hK.cov q hq (show lo L ≤ rd TW q ∧ rd TW q < hi L by rw [e1]; exact h3)
  have h5 := hf (q - ds 0) (by omega) x (by rw [hx, show ds 0 + (q - ds 0) = q by omega]; show _ = rd PW q / 128; rw [e2]) hx1
  rw [h5, show ds 0 + (q - ds 0) = q by omega]
  show wat wA _ (rd TW q * 128 + rd PW q % 128) = _
  rw [e1, e2]

variable (d L) in
/-- The subcore's scratch, at some contents. -/
def Bufs : sProp 𝕄 := iprop((∃ X : Vec F S1536 .i32, mem d (cV L) (jV L) twV X) ∗ (∃ X : Vec F S1536 .i32, mem d (cV L) (jV L) pwV X) ∗ (∃ X : Vec F S248 .i32, mem d (cV L) (jV L) dlV X) ∗ (∃ X : Vec F S248 .i32, mem d (cV L) (jV L) dsV X) ∗ (∃ X : Vec F S64x128 .f32, mem d (cV L) (jV L) rbV X) ∗ (∃ X : Vec F S64 .i32, mem d (cV L) (jV L) riV X) ∗ (∃ X : Vec F S64x128 .f32, mem d (cV L) (jV L) tc0V X) ∗ (∃ X : Vec F S64x128 .f32, mem d (cV L) (jV L) tc1V X) ∗ (∃ X : Vec F S64x128 .f32, mem d (cV L) (jV L) tc2V X) ∗ (∃ X : Vec F S64x128 .f32, mem d (cV L) (jV L) tc3V X))

variable (F d L) in
/-- The subcore's semaphores, at zero. -/
def Sems : sProp 𝕄 := iprop(semVal ((V d (cV L) (jV L)), SemLoc.dma cc0_scoped0.sem) 0 ∗ semVal ((V d (cV L) (jV L)), SemLoc.dma cc0_scoped1.sem) 0 ∗ semVal ((V d (cV L) (jV L)), SemLoc.dma cc0_scratch6.sem) 0 ∗ semVal ((V d (cV L) (jV L)), SemLoc.dma cc0_scratch7.sem) 0 ∗ semVal ((V d (cV L) (jV L)), SemLoc.dma cc0_scratch8.sem) 0 ∗ semVal ((V d (cV L) (jV L)), SemLoc.dma cc0_scratch9.sem) 0 ∗ semVal ((V d (cV L) (jV L)), SemLoc.dma cc0_scratch10.sem) 0)

variable {κ : ℕ} {w : Fin 32} {O : CellTallies nD τ sig (HIx 1)} {W : Waits sig (HIx 1)} {wA : Buf (Elt F) (wLoc d)} {qt qp q0 q1 q2 q3 : PosShare TreeShare}

theorem waits_of {W' : Waits sig (HIx 1)} {a b : SemLoc sig} (h : ∀ p ∈ W', p ∈ (insert (a, default) (insert (b, default) W) : Waits sig (HIx 1)) ∨ p.2 = none) :
    ∀ p ∈ W', p ∈ W ∨ p.2 = none := fun p hp => by
  rcases h p hp with h | h
  · rcases Finset.mem_insert.mp h with h | h
    · rw [h]; exact .inr rfl
    · rcases Finset.mem_insert.mp h with h | h
      · rw [h]; exact .inr rfl
      · exact .inl h
  · exact .inr h

theorem gather (tA : Buf (Elt F) (tLoc d)) (pA : Buf (Elt F) (pLoc d)) (hH : HostOK tA pA) :
    iprop((inv κ (junk (F := F) d) ∗ Transfers.MayWaits (V d (cV L) (jV L)) (default : HIx 1) O) ∗ (tLoc d ↦{qt} tA) ∗ (pLoc d ↦{qp} pA) ∗ (wLoc d ↦{q0} wA) ∗ (wLoc d ↦{q1} wA) ∗ (wLoc d ↦{q2} wA) ∗ (wLoc d ↦{q3} wA) ∗ (∃ fd, oLoc d ↦[ownRows L tA pA]{fullShare} fd) ∗ toks (F := F) d w.val
        ∗ Bufs (F := F) d L ∗ Sems F d L ∗ owes (V d (cV L) (jV L)) O W)
      ⊢ wp frame (wpE (defs₀ (F := F)) 𝒱₀ (V d (cV L) (jV L)) none) Set.univ (cc0__gather_body (F := F) L tV (Memref.isWhole_whole _) pV (Memref.isWhole_whole _) wV (Memref.isWhole_whole _) oV (Memref.isWhole_whole _) twV (Memref.isWhole_whole _) pwV (Memref.isWhole_whole _) dlV (Memref.isWhole_whole _) dsV (Memref.isWhole_whole _) rbV (Memref.isWhole_whole _) riV (Memref.isWhole_whole _) cc0_scratch6 cc0_scratch7 cc0_scratch8 cc0_scratch9 cc0_scratch10 tc0V (Memref.isWhole_whole _) tc1V (Memref.isWhole_whole _) tc2V (Memref.isWhole_whole _) tc3V (Memref.isWhole_whole _) cc0_scoped0 cc0_scoped1)
        fun _ => iprop((tLoc d ↦{qt} tA) ∗ (pLoc d ↦{qp} pA) ∗ (wLoc d ↦{q0} wA) ∗ (wLoc d ↦{q1} wA) ∗ (wLoc d ↦{q2} wA) ∗ (wLoc d ↦{q3} wA) ∗ (∃ fd, (oLoc d ↦[ownRows L tA pA]{fullShare} fd) ∗ ⌜Done L tA pA wA fd⌝) ∗ toks (F := F) d w.val
          ∗ Bufs (F := F) d L ∗ Sems F d L ∗ ∃ W', ⌜∀ p ∈ W', p ∈ W ∨ p.2 = none⌝ ∗ owes (V d (cV L) (jV L)) O W') := by
  rw [cc0__gather_body_eq_skeleton]
  unfold cc0__gather_body_skel
  rw [k0_part27_eq_skeleton, k0_part28_eq_skeleton]
  unfold Bufs Sems
  iintro ⟨#Hc, Ht, Hpp, Hw0, Hw1, Hw2, Hw3, ⟨%fd0, Ho⟩, Htk, ⟨⟨%X0, Htw⟩, ⟨%X1, Hp⟩, ⟨%X2, Hdl⟩, ⟨%X3, Hds⟩, ⟨%X4, Hrb⟩, ⟨%X5, Hri⟩, ⟨%X6, Hc0⟩, ⟨%X7, Hc1⟩, ⟨%X8, Hc2⟩, ⟨%X9, Hc3⟩⟩, ⟨Hs0, Hs1, He0, He1, He2, He3, Hs10⟩, HO⟩
  icases Hc with ⟨Hinv, Hmw⟩
  iapply (part27 d L tA pA qt qp hH.lt hH.sorted) $$ [Ht Hpp Htw Hp Hdl Hds Hs0 Hs1 HO]
  · isplitr; · iexact Hmw
    isplitl [Ht]; · iexact Ht
    isplitl [Hpp]; · iexact Hpp
    isplitl [Htw]; · iexact Htw
    isplitl [Hp]; · iexact Hp
    isplitl [Hdl]; · iexact Hdl
    isplitl [Hds]; · iexact Hds
    isplitl [Hs0]; · iexact Hs0
    isplitl [Hs1]; · iexact Hs1
    iexact HO
  iintro %v13 %h6 ⟨Ht, Hpp, HSP, Hs0, Hs1, HO⟩
  unfold ScanPost
  icases HSP with ⟨%TW, %PW, %DL, %DS, Htw, Hp, Hdl, Hds, %hP⟩
  obtain ⟨hW, hK⟩ := hP
  have hR := rows_of hH hW hK
  dsimp only
  iapply (part28 (κ := κ) (w := w) (I := ownRows L tA pA) (O := O) (wA := wA) (q0 := q0) (q1 := q1) (q2 := q2) (q3 := q3)
    (W₀ := insert (SemLoc.dma cc0_scoped1.sem, default) (insert (SemLoc.dma cc0_scoped0.sem, default) W)) hK hR h6) $$ [Hp Hdl Hds Hc0 Hc1 Hc2 Hc3 Hw0 Hw1 Hw2 Hw3 He0 He1 He2 He3 Hrb Hri Ho Htk Hs10 HO]
  · isplitr
    · isplitr; · iexact Hinv
      iexact Hmw
    isplitl [Hp]; · iexact Hp
    isplitl [Hdl]; · iexact Hdl
    isplitl [Hds]; · iexact Hds
    isplitl [Hc0 Hw0 He0]
    · unfold Slot
      iexists _
      isplitl [Hc0]; · iexact Hc0
      isplitl [Hw0]; · iexact Hw0
      iexact He0
    isplitl [Hc1 Hw1 He1]
    · unfold Slot
      iexists _
      isplitl [Hc1]; · iexact Hc1
      isplitl [Hw1]; · iexact Hw1
      iexact He1
    isplitl [Hc2 Hw2 He2]
    · unfold Slot
      iexists _
      isplitl [Hc2]; · iexact Hc2
      isplitl [Hw2]; · iexact Hw2
      iexact He2
    isplitl [Hc3 Hw3 He3]
    · unfold Slot
      iexists _
      isplitl [Hc3]; · iexact Hc3
      isplitl [Hw3]; · iexact Hw3
      iexact He3
    unfold St
    iexists X4, X5, fd0, _
    isplitl [Hrb]; · iexact Hrb
    isplitl [Hri]; · iexact Hri
    isplitl [Ho]; · iexact Ho
    isplitl [Htk]; · iexact Htk
    isplitl [Hs10]; · iexact Hs10
    isplitl [HO]; · iexact HO
    ipureintro
    exact ⟨fun j hj => absurd hj (Nat.not_lt_zero j), fun j hj => absurd hj (Nat.not_lt_zero j), fun m hm => absurd hm (Nat.not_lt_zero m), fun p hp => .inl hp⟩
  iintro %v47 ⟨Hp, Hdl, Hds, Hb0, Hb1, Hb2, Hb3, HS, %hv⟩
  unfold St Slot
  icases HS with ⟨%RB, %RI, %fd, %W', Hrb, Hri, Ho, Htk, Hs10, HO, %hOK⟩
  have hB := hK.le _ (le_refl v13.toNat)
  have h31 : v47.toNat < 2 ^ 31 := by omega
  have hdm := Nat.div_add_mod v47.toNat 64
  have hn64 : v47.toNat % 64 < 64 := Nat.mod_lt _ (by decide)
  dsimp only
  by_cases h17 : k0_cond17 v47 = 1#1
  · iapply (wp_dyes h17)
    iapply (Scf.wp_for_bind frame _ _ _ _ _ k0_t21_ok _ _
      (fun k (_ : Unit) => iprop(∃ R : Vec F S64 .i32, mem d (cV L) (jV L) riV R ∗ ⌜(∀ j < v47.toNat % 64, rd R j = rd RI j) ∧ ∀ j, v47.toNat % 64 ≤ j → j < 16 * k → rd R j = 16384⌝))
      (fun k u => t21_step (slotW_nat h31) hn64 h17 k u)) $$ [Hri]
    · iexists RI
      isplitl [Hri]; · iexact Hri
      ipureintro
      exact ⟨fun _ _ => rfl, fun j _ hj => absurd hj (by omega)⟩
    iintro %u ⟨%R, Hri, %hR'⟩
    rw [show Scf.trips k0_t21_loop.lb k0_t21_loop.ub k0_t21_loop.st = 4 from by decide] at hR'
    obtain ⟨hR1, hR2⟩ := hR'
    iapply (wp_drain (w := w) (κ := κ) hR (n := v47.toNat % 64) (b := v47.toNat / 64) (W₀ := insert (SemLoc.dma cc0_scoped1.sem, default) (insert (SemLoc.dma cc0_scoped0.sem, default) W))
      (vv := vvOf wA TW PW) (RB := RB) (RI := R) (fd := fd) (W' := W') (by omega) (by omega)
      ⟨hOK.rb, fun j hj => (hR1 j hj).trans (hOK.ri j hj), hOK.done, hOK.waits⟩ (fun j h1 h2 => hR2 j h1 (by omega))) $$ [Hrb Hri Ho Htk Hs10 HO]
    · isplitr
      · isplitr; · iexact Hinv
        iexact Hmw
      isplitl [Hrb]; · iexact Hrb
      isplitl [Hri]; · iexact Hri
      isplitl [Ho]; · iexact Ho
      isplitl [Htk]; · iexact Htk
      isplitl [Hs10]; · iexact Hs10
      iexact HO
    iintro %fd' %W'' ⟨Hrb, Hri, Ho, Htk, Hs10, HO, %hD⟩
    obtain ⟨hD, hWW⟩ := hD
    iapply (wp_rt none)
    isplitl [Ht]; · iexact Ht
    isplitl [Hpp]; · iexact Hpp
    icases Hb0 with ⟨%X0, Hc0, Hw0, He0⟩
    icases Hb1 with ⟨%X1, Hc1, Hw1, He1⟩
    icases Hb2 with ⟨%X2, Hc2, Hw2, He2⟩
    icases Hb3 with ⟨%X3, Hc3, Hw3, He3⟩
    isplitl [Hw0]; · iexact Hw0
    isplitl [Hw1]; · iexact Hw1
    isplitl [Hw2]; · iexact Hw2
    isplitl [Hw3]; · iexact Hw3
    isplitl [Ho]
    · iexists _
      isplitl [Ho]; · iexact Ho
      ipureintro
      exact done_of hW hK hv fun m hm => hD m (by omega)
    isplitl [Htk]; · iexact Htk
    isplitl [Htw Hp Hdl Hds Hrb Hri Hc0 Hc1 Hc2 Hc3]
    · isplitl [Htw]; · (iexists _; iexact Htw)
      isplitl [Hp]; · (iexists _; iexact Hp)
      isplitl [Hdl]; · (iexists _; iexact Hdl)
      isplitl [Hds]; · (iexists _; iexact Hds)
      isplitl [Hrb]; · (iexists _; iexact Hrb)
      isplitl [Hri]; · (iexists _; iexact Hri)
      isplitl [Hc0]; · (iexists _; iexact Hc0)
      isplitl [Hc1]; · (iexists _; iexact Hc1)
      isplitl [Hc2]; · (iexists _; iexact Hc2)
      iexists _; iexact Hc3
    isplitl [Hs0 Hs1 He0 He1 He2 He3 Hs10]
    · isplitl [Hs0]; · iexact Hs0
      isplitl [Hs1]; · iexact Hs1
      isplitl [He0]; · iexact He0
      isplitl [He1]; · iexact He1
      isplitl [He2]; · iexact He2
      isplitl [He3]; · iexact He3
      iexact Hs10
    iexists _
    isplitr [HO]
    · ipureintro
      exact waits_of hWW
    iexact HO
  · iapply (wp_dno h17)
    have h0 : v47.toNat % 64 = 0 := by
      by_contra h
      exact h17 ((cond17_iff h31).mpr h)
    iapply (wp_rt none)
    isplitl [Ht]; · iexact Ht
    isplitl [Hpp]; · iexact Hpp
    icases Hb0 with ⟨%X0, Hc0, Hw0, He0⟩
    icases Hb1 with ⟨%X1, Hc1, Hw1, He1⟩
    icases Hb2 with ⟨%X2, Hc2, Hw2, He2⟩
    icases Hb3 with ⟨%X3, Hc3, Hw3, He3⟩
    isplitl [Hw0]; · iexact Hw0
    isplitl [Hw1]; · iexact Hw1
    isplitl [Hw2]; · iexact Hw2
    isplitl [Hw3]; · iexact Hw3
    isplitl [Ho]
    · iexists _
      isplitl [Ho]; · iexact Ho
      ipureintro
      exact done_of hW hK hv fun m hm => hOK.done m (by omega)
    isplitl [Htk]; · iexact Htk
    isplitl [Htw Hp Hdl Hds Hrb Hri Hc0 Hc1 Hc2 Hc3]
    · isplitl [Htw]; · (iexists _; iexact Htw)
      isplitl [Hp]; · (iexists _; iexact Hp)
      isplitl [Hdl]; · (iexists _; iexact Hdl)
      isplitl [Hds]; · (iexists _; iexact Hds)
      isplitl [Hrb]; · (iexists _; iexact Hrb)
      isplitl [Hri]; · (iexists _; iexact Hri)
      isplitl [Hc0]; · (iexists _; iexact Hc0)
      isplitl [Hc1]; · (iexists _; iexact Hc1)
      isplitl [Hc2]; · (iexists _; iexact Hc2)
      iexists _; iexact Hc3
    isplitl [Hs0 Hs1 He0 He1 He2 He3 Hs10]
    · isplitl [Hs0]; · iexact Hs0
      isplitl [Hs1]; · iexact Hs1
      isplitl [He0]; · iexact He0
      isplitl [He1]; · iexact He1
      isplitl [He2]; · iexact He2
      isplitl [He3]; · iexact He3
      iexact Hs10
    iexists _
    isplitr [HO]
    · ipureintro
      exact waits_of hOK.waits
    iexact HO

end Gather

end Cert.Proof.Emb

end
-- ==== Proof.Launch.lean ====
/-
  The vector subcores' obligation: a subcore's scoped buffers and semaphores opened into the kernel's scratch, what the call
  hands each subcore and takes back, and the kernel's run from it.
-/
module

public import proofs.«01_k».proof.Proof.Body

@[expose] public section

noncomputable section

namespace Cert.Proof.Emb

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Scratch

variable (d : Dev nD) (L : grid0.Coords)

/-- A whole buffer as the kernel's memory reads it. -/
theorem mem_in {c' : Fin τ.nSC} {s' : Fin τ.nSub} {s : Shape} {e : EltTy} (m : Memref sig .scVector .vmem s e) (h : m.view.set = Finset.univ) :
    (iprop(∃ f, m.view.loc (V d c' s') ↦{fullShare} f) : sProp 𝕄) ⊢ iprop(∃ X : Vec F s e, mem d c' s' m X) := by
  iintro ⟨%f, H⟩
  iexists (m.view.read (Elt F) f)
  rw [mem_eq]
  iexists f
  isplitl [H]
  · rw [h]; iexact H
  · ipureintro; rfl

theorem mem_out {c' : Fin τ.nSC} {s' : Fin τ.nSub} {s : Shape} {e : EltTy} (m : Memref sig .scVector .vmem s e) (h : m.view.set = Finset.univ) :
    (iprop(∃ X : Vec F s e, mem d c' s' m X) : sProp 𝕄) ⊢ iprop(∃ f, m.view.loc (V d c' s') ↦{fullShare} f) := by
  iintro ⟨%X, H⟩
  ihave H' := (Entails.of_eq (mem_eq (d := d) (c' := c') (s' := s') m X)) $$ H
  icases H' with ⟨%f, H, -⟩
  rw [h]
  iexists f
  iexact H

def refs : Finset (Ref sig .scVector) :=
  {cc0_scratch0, cc0_scratch1, cc0_scratch2, cc0_scratch3, cc0_scratch4, cc0_scratch5, cc0_scratch11, cc0_scratch12, cc0_scratch13, cc0_scratch14}

def cells : Finset (SemLoc sig) :=
  {SemLoc.dma cc0_scoped0.sem, SemLoc.dma cc0_scoped1.sem, SemLoc.dma cc0_scratch6.sem, SemLoc.dma cc0_scratch7.sem, SemLoc.dma cc0_scratch8.sem,
    SemLoc.dma cc0_scratch9.sem, SemLoc.dma cc0_scratch10.sem}

theorem bufs_list : (bigSep refs fun b => iprop(∃ f, (V d (cV L) (jV L)).loc b ↦{fullShare} f) : sProp 𝕄)
    = iprop((∃ f, (V d (cV L) (jV L)).loc cc0_scratch0 ↦{fullShare} f) ∗ (∃ f, (V d (cV L) (jV L)).loc cc0_scratch1 ↦{fullShare} f)
      ∗ (∃ f, (V d (cV L) (jV L)).loc cc0_scratch2 ↦{fullShare} f) ∗ (∃ f, (V d (cV L) (jV L)).loc cc0_scratch3 ↦{fullShare} f)
      ∗ (∃ f, (V d (cV L) (jV L)).loc cc0_scratch4 ↦{fullShare} f) ∗ (∃ f, (V d (cV L) (jV L)).loc cc0_scratch5 ↦{fullShare} f)
      ∗ (∃ f, (V d (cV L) (jV L)).loc cc0_scratch11 ↦{fullShare} f) ∗ (∃ f, (V d (cV L) (jV L)).loc cc0_scratch12 ↦{fullShare} f)
      ∗ (∃ f, (V d (cV L) (jV L)).loc cc0_scratch13 ↦{fullShare} f) ∗ (∃ f, (V d (cV L) (jV L)).loc cc0_scratch14 ↦{fullShare} f)) := by
  unfold refs
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

theorem ownBufs_V : (ownBufs (V d (cV L) (jV L)) : sProp 𝕄)
    = iprop((bigSep refs fun b => iprop(∃ f, (V d (cV L) (jV L)).loc b ↦{fullShare} f))
      ∗ bigSep (ownRefs (τ := τ) (.scVector (cV L) (jV L)) \ refs.image (Proc.scVector (cV L) (jV L)).devRef) fun b => iprop(∃ f, ((d, b) : Loc nD τ sig) ↦{fullShare} f)) := by
  have hT : refs.image (Proc.scVector (cV L) (jV L)).devRef ⊆ ownRefs (τ := τ) (sig := sig) (.scVector (cV L) (jV L)) := by
    have ho : ∀ b ∈ refs, ((Proc.scVector (cV L) (jV L)).devRef b : DevRef τ sig).owner = .proc (Proc.scVector (cV L) (jV L)) := by
      unfold refs
      simp only [Finset.mem_insert, Finset.mem_singleton]
      rintro b (h | h | h | h | h | h | h | h | h | h) <;> subst h <;> rfl
    intro x hx
    obtain ⟨b, hb, rfl⟩ := Finset.mem_image.mp hx
    exact SparseCore.Cfg.mem_ownRefs_of_owner (ho b hb)
  unfold SparseCore.Cfg.ownBufs
  rw [SparseCore.bigSep_sdiff_split' hT, bigSep_image_of_injOn (fun a _ b _ h => Proc.devRef_injective _ h)]

theorem ownSems_V : (ownSems0 (V d (cV L) (jV L)) : sProp 𝕄)
    = iprop((bigSep cells fun s => semVal ((V d (cV L) (jV L)), s) 0)
      ∗ bigSep (ownCells (V d (cV L) (jV L)) \ cells.image fun s => ((V d (cV L) (jV L)), s)) fun g => semVal g 0) := by
  have hT : (cells.image fun s => ((V d (cV L) (jV L)), s)) ⊆ ownCells (V d (cV L) (jV L)) := by
    intro x hx
    obtain ⟨b, hb, rfl⟩ := Finset.mem_image.mp hx
    refine mem_ownCells.mpr ⟨rfl, ?_⟩
    show (b : SemLoc sig).isScoped .scVector = true
    exact (show ∀ b ∈ cells, (b : SemLoc sig).isScoped .scVector = true by decide) b hb
  unfold SparseCore.Cfg.ownSems0
  rw [SparseCore.bigSep_sdiff_split' hT, bigSep_image_of_injOn (fun a _ b _ h => (Prod.mk.inj h).2)]

theorem sems_list : (bigSep cells fun s => semVal ((V d (cV L) (jV L)), s) 0 : sProp 𝕄) = Sems F d L := by
  unfold cells Sems
  rw [SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

theorem in_twV : (iprop(∃ f, (V d (cV L) (jV L)).loc cc0_scratch0 ↦{fullShare} f) : sProp 𝕄) ⊢ (iprop(∃ X : Vec F S1536 .i32, mem d (cV L) (jV L) twV X) : sProp 𝕄) :=
  mem_in (c' := cV L) (s' := jV L) d twV (View.set_whole _)
theorem out_twV : (iprop(∃ X : Vec F S1536 .i32, mem d (cV L) (jV L) twV X) : sProp 𝕄) ⊢ (iprop(∃ f, (V d (cV L) (jV L)).loc cc0_scratch0 ↦{fullShare} f) : sProp 𝕄) :=
  mem_out (c' := cV L) (s' := jV L) d twV (View.set_whole _)
theorem in_pwV : (iprop(∃ f, (V d (cV L) (jV L)).loc cc0_scratch1 ↦{fullShare} f) : sProp 𝕄) ⊢ (iprop(∃ X : Vec F S1536 .i32, mem d (cV L) (jV L) pwV X) : sProp 𝕄) :=
  mem_in (c' := cV L) (s' := jV L) d pwV (View.set_whole _)
theorem out_pwV : (iprop(∃ X : Vec F S1536 .i32, mem d (cV L) (jV L) pwV X) : sProp 𝕄) ⊢ (iprop(∃ f, (V d (cV L) (jV L)).loc cc0_scratch1 ↦{fullShare} f) : sProp 𝕄) :=
  mem_out (c' := cV L) (s' := jV L) d pwV (View.set_whole _)
theorem in_dlV : (iprop(∃ f, (V d (cV L) (jV L)).loc cc0_scratch2 ↦{fullShare} f) : sProp 𝕄) ⊢ (iprop(∃ X : Vec F S248 .i32, mem d (cV L) (jV L) dlV X) : sProp 𝕄) :=
  mem_in (c' := cV L) (s' := jV L) d dlV (View.set_whole _)
theorem out_dlV : (iprop(∃ X : Vec F S248 .i32, mem d (cV L) (jV L) dlV X) : sProp 𝕄) ⊢ (iprop(∃ f, (V d (cV L) (jV L)).loc cc0_scratch2 ↦{fullShare} f) : sProp 𝕄) :=
  mem_out (c' := cV L) (s' := jV L) d dlV (View.set_whole _)
theorem in_dsV : (iprop(∃ f, (V d (cV L) (jV L)).loc cc0_scratch3 ↦{fullShare} f) : sProp 𝕄) ⊢ (iprop(∃ X : Vec F S248 .i32, mem d (cV L) (jV L) dsV X) : sProp 𝕄) :=
  mem_in (c' := cV L) (s' := jV L) d dsV (View.set_whole _)
theorem out_dsV : (iprop(∃ X : Vec F S248 .i32, mem d (cV L) (jV L) dsV X) : sProp 𝕄) ⊢ (iprop(∃ f, (V d (cV L) (jV L)).loc cc0_scratch3 ↦{fullShare} f) : sProp 𝕄) :=
  mem_out (c' := cV L) (s' := jV L) d dsV (View.set_whole _)
theorem in_rbV : (iprop(∃ f, (V d (cV L) (jV L)).loc cc0_scratch4 ↦{fullShare} f) : sProp 𝕄) ⊢ (iprop(∃ X : Vec F S64x128 .f32, mem d (cV L) (jV L) rbV X) : sProp 𝕄) :=
  mem_in (c' := cV L) (s' := jV L) d rbV (View.set_whole _)
theorem out_rbV : (iprop(∃ X : Vec F S64x128 .f32, mem d (cV L) (jV L) rbV X) : sProp 𝕄) ⊢ (iprop(∃ f, (V d (cV L) (jV L)).loc cc0_scratch4 ↦{fullShare} f) : sProp 𝕄) :=
  mem_out (c' := cV L) (s' := jV L) d rbV (View.set_whole _)
theorem in_riV : (iprop(∃ f, (V d (cV L) (jV L)).loc cc0_scratch5 ↦{fullShare} f) : sProp 𝕄) ⊢ (iprop(∃ X : Vec F S64 .i32, mem d (cV L) (jV L) riV X) : sProp 𝕄) :=
  mem_in (c' := cV L) (s' := jV L) d riV (View.set_whole _)
theorem out_riV : (iprop(∃ X : Vec F S64 .i32, mem d (cV L) (jV L) riV X) : sProp 𝕄) ⊢ (iprop(∃ f, (V d (cV L) (jV L)).loc cc0_scratch5 ↦{fullShare} f) : sProp 𝕄) :=
  mem_out (c' := cV L) (s' := jV L) d riV (View.set_whole _)
theorem in_tc0V : (iprop(∃ f, (V d (cV L) (jV L)).loc cc0_scratch11 ↦{fullShare} f) : sProp 𝕄) ⊢ (iprop(∃ X : Vec F S64x128 .f32, mem d (cV L) (jV L) tc0V X) : sProp 𝕄) :=
  mem_in (c' := cV L) (s' := jV L) d tc0V (View.set_whole _)
theorem out_tc0V : (iprop(∃ X : Vec F S64x128 .f32, mem d (cV L) (jV L) tc0V X) : sProp 𝕄) ⊢ (iprop(∃ f, (V d (cV L) (jV L)).loc cc0_scratch11 ↦{fullShare} f) : sProp 𝕄) :=
  mem_out (c' := cV L) (s' := jV L) d tc0V (View.set_whole _)
theorem in_tc1V : (iprop(∃ f, (V d (cV L) (jV L)).loc cc0_scratch12 ↦{fullShare} f) : sProp 𝕄) ⊢ (iprop(∃ X : Vec F S64x128 .f32, mem d (cV L) (jV L) tc1V X) : sProp 𝕄) :=
  mem_in (c' := cV L) (s' := jV L) d tc1V (View.set_whole _)
theorem out_tc1V : (iprop(∃ X : Vec F S64x128 .f32, mem d (cV L) (jV L) tc1V X) : sProp 𝕄) ⊢ (iprop(∃ f, (V d (cV L) (jV L)).loc cc0_scratch12 ↦{fullShare} f) : sProp 𝕄) :=
  mem_out (c' := cV L) (s' := jV L) d tc1V (View.set_whole _)
theorem in_tc2V : (iprop(∃ f, (V d (cV L) (jV L)).loc cc0_scratch13 ↦{fullShare} f) : sProp 𝕄) ⊢ (iprop(∃ X : Vec F S64x128 .f32, mem d (cV L) (jV L) tc2V X) : sProp 𝕄) :=
  mem_in (c' := cV L) (s' := jV L) d tc2V (View.set_whole _)
theorem out_tc2V : (iprop(∃ X : Vec F S64x128 .f32, mem d (cV L) (jV L) tc2V X) : sProp 𝕄) ⊢ (iprop(∃ f, (V d (cV L) (jV L)).loc cc0_scratch13 ↦{fullShare} f) : sProp 𝕄) :=
  mem_out (c' := cV L) (s' := jV L) d tc2V (View.set_whole _)
theorem in_tc3V : (iprop(∃ f, (V d (cV L) (jV L)).loc cc0_scratch14 ↦{fullShare} f) : sProp 𝕄) ⊢ (iprop(∃ X : Vec F S64x128 .f32, mem d (cV L) (jV L) tc3V X) : sProp 𝕄) :=
  mem_in (c' := cV L) (s' := jV L) d tc3V (View.set_whole _)
theorem out_tc3V : (iprop(∃ X : Vec F S64x128 .f32, mem d (cV L) (jV L) tc3V X) : sProp 𝕄) ⊢ (iprop(∃ f, (V d (cV L) (jV L)).loc cc0_scratch14 ↦{fullShare} f) : sProp 𝕄) :=
  mem_out (c' := cV L) (s' := jV L) d tc3V (View.set_whole _)

theorem bufs_in : (bigSep refs fun b => iprop(∃ f, (V d (cV L) (jV L)).loc b ↦{fullShare} f) : sProp 𝕄) ⊢ Bufs (F := F) d L := by
  rw [bufs_list]
  unfold Bufs
  exact BI.sep_mono (in_twV (F := F) d L) (BI.sep_mono (in_pwV (F := F) d L) (BI.sep_mono (in_dlV (F := F) d L) (BI.sep_mono (in_dsV (F := F) d L) (BI.sep_mono (in_rbV (F := F) d L) (BI.sep_mono (in_riV (F := F) d L) (BI.sep_mono (in_tc0V (F := F) d L) (BI.sep_mono (in_tc1V (F := F) d L) (BI.sep_mono (in_tc2V (F := F) d L) (in_tc3V (F := F) d L)))))))))

theorem bufs_out : Bufs (F := F) d L ⊢ (bigSep refs fun b => iprop(∃ f, (V d (cV L) (jV L)).loc b ↦{fullShare} f) : sProp 𝕄) := by
  rw [bufs_list]
  unfold Bufs
  exact BI.sep_mono (out_twV (F := F) d L) (BI.sep_mono (out_pwV (F := F) d L) (BI.sep_mono (out_dlV (F := F) d L) (BI.sep_mono (out_dsV (F := F) d L) (BI.sep_mono (out_rbV (F := F) d L) (BI.sep_mono (out_riV (F := F) d L) (BI.sep_mono (out_tc0V (F := F) d L) (BI.sep_mono (out_tc1V (F := F) d L) (BI.sep_mono (out_tc2V (F := F) d L) (out_tc3V (F := F) d L)))))))))

end Scratch

/-! ## What the call hands the subcores and takes back -/

/-- The coordinates of a subcore. -/
def coordsV (c : Fin (grid0.bound 0)) (s : Fin (grid0.bound 1)) : grid0.Coords :=
  fun | 0 => c | 1 => s | ⟨_ + 2, h⟩ => absurd h (Nat.not_lt.2 (Nat.le_add_left _ _))

abbrev cV2 (c : Fin 2) (i : Fin 16) : grid0.Coords := coordsV c i

/-- The number of a subcore among all. -/
def wid (c : Fin 2) (i : Fin 16) : Fin 32 := finProdFinEquiv (c, i)

/-- A subcore's share of a buffer all read. -/
def shr (c : Fin 2) (i : Fin 16) : PosShare TreeShare := ShareLeaves.leaf 4 (ShareLeaves.leaf 1 fullShare c) i
/-- A subcore's four shares of the table, one per buffer of the ring. -/
def shr4 (c : Fin 2) (i : Fin 16) (j : Fin 4) : PosShare TreeShare := ShareLeaves.leaf 2 (shr c i) j

section Tile

variable (tA : (d : Dev nD) → Buf (Elt F) (tLoc d)) (pA : (d : Dev nD) → Buf (Elt F) (pLoc d)) (wA : (d : Dev nD) → Buf (Elt F) (wLoc d))

/-- A subcore's shares of the operands. -/
def opnds (d : Dev nD) (c : Fin 2) (i : Fin 16) : sProp 𝕄 :=
  iprop((tLoc d ↦{shr c i} tA d) ∗ (pLoc d ↦{shr c i} pA d) ∗ (wLoc d ↦{shr4 c i 0} wA d) ∗ (wLoc d ↦{shr4 c i 1} wA d)
    ∗ (wLoc d ↦{shr4 c i 2} wA d) ∗ (wLoc d ↦{shr4 c i 3} wA d))
/-- A subcore's rows of the intermediate, at some contents. -/
def rowsIn (d : Dev nD) (c : Fin 2) (i : Fin 16) : sProp 𝕄 := iprop(∃ fd, oLoc d ↦[ownRows (cV2 c i) (tA d) (pA d)]{fullShare} fd)
/-- The same, written. -/
def rowsOut (d : Dev nD) (c : Fin 2) (i : Fin 16) : sProp 𝕄 :=
  iprop(∃ fd, (oLoc d ↦[ownRows (cV2 c i) (tA d) (pA d)]{fullShare} fd) ∗ ⌜Done (cV2 c i) (tA d) (pA d) (wA d) fd⌝)
/-- What a subcore's task is handed. -/
def taskIn (d : Dev nD) (c : Fin 2) (i : Fin 16) : sProp 𝕄 := iprop(opnds tA pA wA d c i ∗ rowsIn tA pA d c i ∗ toks (F := F) d (wid c i).val)
/-- What it hands back. -/
def taskOut (d : Dev nD) (c : Fin 2) (i : Fin 16) : sProp 𝕄 := iprop(opnds tA pA wA d c i ∗ rowsOut tA pA wA d c i ∗ toks (F := F) d (wid c i).val)

instance opnds_storable (d : Dev nD) (c : Fin 2) (i : Fin 16) : BI.Storable (upEmb : UEmb _ 𝕄) (opnds tA pA wA d c i) := by unfold opnds; infer_instance
instance rowsIn_storable (d : Dev nD) (c : Fin 2) (i : Fin 16) : BI.Storable (upEmb : UEmb _ 𝕄) (rowsIn tA pA d c i) := by unfold rowsIn; infer_instance
instance rowsOut_storable (d : Dev nD) (c : Fin 2) (i : Fin 16) : BI.Storable (upEmb : UEmb _ 𝕄) (rowsOut tA pA wA d c i) := by unfold rowsOut; infer_instance
instance taskIn_storable (d : Dev nD) (c : Fin 2) (i : Fin 16) : BI.Storable (upEmb : UEmb _ 𝕄) (taskIn tA pA wA d c i) := by unfold taskIn; infer_instance
instance taskOut_storable (d : Dev nD) (c : Fin 2) (i : Fin 16) : BI.Storable (upEmb : UEmb _ 𝕄) (taskOut tA pA wA d c i) := by unfold taskOut; infer_instance

/-- The junk row's invariant, under some name. -/
def junkInv (d : Dev nD) : sProp 𝕄 := iprop(∃ κ : ℕ, inv κ (junk (F := F) d))
instance junkInv_persistent (d : Dev nD) : Persistent (junkInv (F := F) d) := by unfold junkInv; infer_instance

/-- The call's protocol: every subcore's task in and out, through its sequencer; every thread knows the junk row's invariant. -/
def P : (K (F := F)).Pay (N := 1) (nD := nD) (Val := Elt F) (Name := ℕ) (U := UU) where
  st := fun q d c => match q with | 0 => bigSep Finset.univ fun i : Fin 16 => taskIn tA pA wA d c i
  dn := fun q d c => match q with | 0 => bigSep Finset.univ fun i : Fin 16 => taskOut tA pA wA d c i
  go := fun q d c i => match q with | 0 => taskIn tA pA wA d c i
  td := fun q d c i => match q with | 0 => taskOut tA pA wA d c i
  x := fun _ thr => junkInv (F := F) thr.1

theorem vecSplit : (K (F := F)).VecSplit' (P tA pA wA) 0 := by
  intro d c
  show (bigSep Finset.univ fun i : Fin 16 => taskIn tA pA wA d c i) ⊢ |={Set.univ}=> iprop(
      (bigSep Finset.univ fun i : Fin 16 => taskIn tA pA wA d c i)
      ∗ ((bigSep Finset.univ fun i : Fin 16 => taskOut tA pA wA d c i) -∗ (bigSep Finset.univ fun i : Fin 16 => taskOut tA pA wA d c i)))
  iintro H; imodintro
  isplitl [H]; · iexact H
  iintro H
  iexact H

variable [FloatOps F]

theorem tile_body (hH : ∀ d, HostOK (tA d) (pA d)) (d : Dev nD) (c : Fin 2) (i : Fin 16) (O : CellTallies nD τ sig (HIx 1)) (W : Waits sig (HIx 1)) (hO : ∀ g, O g none = 0) :
    iprop(levAts (K (F := F)).L (K (F := F)).lev ∗ junkInv (F := F) d ∗ taskIn tA pA wA d c i
        ∗ scopedBufs (V d (cV (cV2 c i)) (jV (cV2 c i))) ∗ scopedSems0 (V d (cV (cV2 c i)) (jV (cV2 c i))) ∗ owes (V d (cV (cV2 c i)) (jV (cV2 c i))) O W)
      ⊢ wp frame (wpE (defs₀ (F := F)) 𝒱₀ (V d (cV (cV2 c i)) (jV (cV2 c i))) none) Set.univ (cc0__gather_body (F := F) (cV2 c i) tV (Memref.isWhole_whole _) pV (Memref.isWhole_whole _) wV (Memref.isWhole_whole _) oV (Memref.isWhole_whole _) twV (Memref.isWhole_whole _) pwV (Memref.isWhole_whole _) dlV (Memref.isWhole_whole _) dsV (Memref.isWhole_whole _) rbV (Memref.isWhole_whole _) riV (Memref.isWhole_whole _) cc0_scratch6 cc0_scratch7 cc0_scratch8 cc0_scratch9 cc0_scratch10 tc0V (Memref.isWhole_whole _) tc1V (Memref.isWhole_whole _) tc2V (Memref.isWhole_whole _) tc3V (Memref.isWhole_whole _) cc0_scoped0 cc0_scoped1)
        fun _ => iprop(taskOut tA pA wA d c i ∗ scopedBufs (V d (cV (cV2 c i)) (jV (cV2 c i))) ∗ scopedSems0 (V d (cV (cV2 c i)) (jV (cV2 c i)))
          ∗ ∃ W', ⌜∀ p ∈ W', p ∈ W ∨ p.2 = none⌝ ∗ owes (V d (cV (cV2 c i)) (jV (cV2 c i))) O W') := by
  rw [(K (F := F)).scopedBufs_V scFacts d (cV (cV2 c i)) (jV (cV2 c i)), SparseCore.Cfg.scopedSems0_V (Val := Elt F) d (cV (cV2 c i)) (jV (cV2 c i)), ownSems_V, ownBufs_V, sems_list]
  unfold taskIn taskOut opnds rowsIn rowsOut junkInv
  iintro ⟨#Hlv, ⟨%κ, #Hinv⟩, ⟨⟨Ht, Hp, Hw0, Hw1, Hw2, Hw3⟩, Ho, Htk⟩, ⟨Hb, Hbr⟩, ⟨Hs, Hsr⟩, HO⟩
  ihave Hmw := (show levAts (K (F := F)).L (K (F := F)).lev ⊢ Transfers.MayWaits (V d (cV (cV2 c i)) (jV (cV2 c i))) (default : HIx 1) O from
    (K (F := F)).mayWaits_none (thr := V d (cV (cV2 c i)) (jV (cV2 c i))) hO) $$ Hlv
  ihave Hb := (bufs_in d (cV2 c i)) $$ Hb
  iapply (wp_wand_r frame _ _)
  isplitr [Hbr Hsr]
  · iapply (gather (κ := κ) (w := wid c i) (tA d) (pA d) (hH d))
    isplitl [Hmw]
    · isplitr; · iexact Hinv
      iexact Hmw
    isplitl [Ht]; · iexact Ht
    isplitl [Hp]; · iexact Hp
    isplitl [Hw0]; · iexact Hw0
    isplitl [Hw1]; · iexact Hw1
    isplitl [Hw2]; · iexact Hw2
    isplitl [Hw3]; · iexact Hw3
    isplitl [Ho]; · iexact Ho
    isplitl [Htk]; · iexact Htk
    isplitl [Hb]; · iexact Hb
    isplitl [Hs]; · iexact Hs
    iexact HO
  iintro %_ ⟨Ht, Hp, Hw0, Hw1, Hw2, Hw3, Ho, Htk, Hb, Hs, HO⟩
  ihave Hb := (bufs_out d (cV2 c i)) $$ Hb
  isplitl [Ht Hp Hw0 Hw1 Hw2 Hw3 Ho Htk]
  · isplitl [Ht Hp Hw0 Hw1 Hw2 Hw3]
    · isplitl [Ht]; · iexact Ht
      isplitl [Hp]; · iexact Hp
      isplitl [Hw0]; · iexact Hw0
      isplitl [Hw1]; · iexact Hw1
      isplitl [Hw2]; · iexact Hw2
      iexact Hw3
    isplitl [Ho]; · iexact Ho
    iexact Htk
  isplitl [Hb Hbr]
  · isplitl [Hb]; · iexact Hb
    iexact Hbr
  isplitl [Hs Hsr]
  · isplitl [Hs]; · iexact Hs
    iexact Hsr
  iexact HO

theorem defs₀_vector (c : Fin τ.nSC) (s : Fin τ.nSub) :
    defs₀ (F := F) (.scVector c s) 0 ()
      = SparseCore.onTile hcore0 hsub0 (fun c s => cc0__gather_body (F := F) (coordsV c s) tV (Memref.isWhole_whole _) pV (Memref.isWhole_whole _) wV (Memref.isWhole_whole _) oV (Memref.isWhole_whole _) twV (Memref.isWhole_whole _) pwV (Memref.isWhole_whole _) dlV (Memref.isWhole_whole _) dsV (Memref.isWhole_whole _) rbV (Memref.isWhole_whole _) riV (Memref.isWhole_whole _) cc0_scratch6 cc0_scratch7 cc0_scratch8 cc0_scratch9 cc0_scratch10 tc0V (Memref.isWhole_whole _) tc1V (Memref.isWhole_whole _) tc2V (Memref.isWhole_whole _) tc3V (Memref.isWhole_whole _) cc0_scoped0 cc0_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'
  isplitr
  · ipureintro; exact fun p hp => (hW' p hp).imp_right Or.inl
  · iexact HO

set_option maxRecDepth 16384 in
theorem tileObl (hH : ∀ d, HostOK (tA d) (pA d)) : (K (F := F)).TileObl (D (F := F)) 𝒱 (P tA pA wA) v₀ 0 := by
  intro d c i O W hO _ _
  simp only [show (P tA pA wA).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body tA pA wA hH d c i O W hO).trans (wp_mono frame _ _ fun _ => obl_post)

end Tile

end Cert.Proof.Emb

end
-- ==== Proof.Split.lean ====
/-
  How the call's buffers are dealt to the subcores and gathered again.
-/
module

public import proofs.«01_k».proof.Proof.Launch

@[expose] public section

noncomputable section

namespace Cert.Proof.Emb

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The operands' shares -/

theorem leaves16 {ℓ : Loc nD τ sig} (f : Buf (Elt F) ℓ) (q : PosShare TreeShare) :
    (ℓ ↦{q} f : sProp 𝕄) = bigSep Finset.univ fun i : Fin 16 => ℓ ↦{ShareLeaves.leaf 4 q i} f := ShareLeaves.pointsTo_leaves Finset.univ f 4 q
theorem leaves4 {ℓ : Loc nD τ sig} (f : Buf (Elt F) ℓ) (q : PosShare TreeShare) :
    (ℓ ↦{q} f : sProp 𝕄) = bigSep Finset.univ fun i : Fin 4 => ℓ ↦{ShareLeaves.leaf 2 q i} f := ShareLeaves.pointsTo_leaves Finset.univ f 2 q
theorem leaves2 {ℓ : Loc nD τ sig} (f : Buf (Elt F) ℓ) (q : PosShare TreeShare) :
    (ℓ ↦{q} f : sProp 𝕄) = bigSep Finset.univ fun i : Fin 2 => ℓ ↦{ShareLeaves.leaf 1 q i} f := ShareLeaves.pointsTo_leaves Finset.univ f 1 q

/-- A buffer all read, dealt to the subcores. -/
theorem shares {ℓ : Loc nD τ sig} (f : Buf (Elt F) ℓ) :
    (ℓ ↦{fullShare} f : sProp 𝕄) = bigSep Finset.univ fun c : Fin 2 => bigSep Finset.univ fun i : Fin 16 => ℓ ↦{shr c i} f := by
  rw [leaves2]
  exact bigSep_congr fun c _ => leaves16 f _

theorem four (Φ : Fin 4 → sProp 𝕄) : (bigSep Finset.univ Φ) = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]

/-- The same, each subcore's share in four. -/
theorem shares4 {ℓ : Loc nD τ sig} (f : Buf (Elt F) ℓ) :
    (ℓ ↦{fullShare} f : sProp 𝕄) = bigSep Finset.univ fun c : Fin 2 => bigSep Finset.univ fun i : Fin 16 =>
      iprop((ℓ ↦{shr4 c i 0} f) ∗ (ℓ ↦{shr4 c i 1} f) ∗ (ℓ ↦{shr4 c i 2} f) ∗ (ℓ ↦{shr4 c i 3} f)) := by
  rw [shares]
  exact bigSep_congr fun c _ => bigSep_congr fun i _ => (leaves4 f _).trans (four _)

variable (tA : (d : Dev nD) → Buf (Elt F) (tLoc d)) (pA : (d : Dev nD) → Buf (Elt F) (pLoc d)) (wA : (d : Dev nD) → Buf (Elt F) (wLoc d))

theorem opnds_all (d : Dev nD) :
    (iprop((tLoc d ↦{fullShare} tA d) ∗ (pLoc d ↦{fullShare} pA d) ∗ (wLoc d ↦{fullShare} wA d)) : sProp 𝕄)
      = bigSep Finset.univ fun c : Fin 2 => bigSep Finset.univ fun i : Fin 16 => opnds tA pA wA d c i := by
  rw [shares (tA d), shares (pA d), shares4 (wA d)]
  unfold opnds
  simp only [bigSep_sep']

theorem allToks_eq (d : Dev nD) :
    allToks (F := F) d = bigSep Finset.univ fun c : Fin 2 => bigSep Finset.univ fun i : Fin 16 => toks (F := F) d (wid c i).val := by
  unfold allToks
  rw [bigSep_univ_equiv (finProdFinEquiv (m := 2) (n := 16)) (fun w : Fin 32 => toks (F := F) d w.val), bigSep_univ_prod]
  rfl

/-! ## The intermediate's rows -/

theorem lo_cV2 (c : Fin 2) (i : Fin 16) : lo (cV2 c i) = (i.val * 2 + c.val) * 245 := rfl

/-- Every subcore's rows of the intermediate. -/
abbrev rowsAt (d : Dev nD) (ci : Fin 2 × Fin 16) : Finset S16392x128.Idx := ownRows (cV2 ci.1 ci.2) (tA d) (pA d)

variable {tA pA}

variable [FloatOps F]

theorem rows_disjoint {d : Dev nD} (hH : HostOK (tA d) (pA d)) :
    ∀ t ∈ (Finset.univ : Finset (Fin 2 × Fin 16)), ∀ t' ∈ (Finset.univ : Finset (Fin 2 × Fin 16)), t ≠ t' → Disjoint (rowsAt tA pA d t) (rowsAt tA pA d t') := by
  rintro ⟨c, i⟩ - ⟨c', i'⟩ - hne
  rw [Finset.disjoint_left]
  intro x hx hx'
  obtain ⟨p, hp, h1, h2⟩ := (mem_ownRows _ _ _ x).mp hx
  obtain ⟨p', hp', h1', h2'⟩ := (mem_ownRows _ _ _ x).mp hx'
  have he : p = p' := hH.inj p hp p' hp' (h1.trans h1'.symm)
  subst he
  have a1 : lo (cV2 c i) ≤ _ := h2.1
  have a2 : _ < hi (cV2 c i) := h2.2
  have b1 : lo (cV2 c' i') ≤ _ := h2'.1
  have b2 : _ < hi (cV2 c' i') := h2'.2
  have e1 : hi (cV2 c i) ≤ lo (cV2 c i) + 245 := min_le_left _ _
  have e2 : hi (cV2 c' i') ≤ lo (cV2 c' i') + 245 := min_le_left _ _
  rw [lo_cV2] at a1 b1 e1 e2
  have := c.isLt
  have := c'.isLt
  refine hne (Prod.ext (Fin.ext ?_) (Fin.ext ?_)) <;> simp only <;> omega

theorem row_disjoint {d : Dev nD} (hH : HostOK (tA d) (pA d)) :
    rowSet 16384 ⊆ Finset.univ \ (Finset.univ : Finset (Fin 2 × Fin 16)).biUnion (rowsAt tA pA d) := by
  intro x hx
  rw [mem_rowSet] at hx
  rw [Finset.mem_sdiff]
  refine ⟨Finset.mem_univ _, fun h => ?_⟩
  obtain ⟨ci, -, h⟩ := Finset.mem_biUnion.mp h
  obtain ⟨p, hp, h1, -⟩ := (mem_ownRows _ _ _ x).mp h
  have := hH.row p hp
  omega

variable (tA pA)

/-- What no subcore is given of the intermediate. -/
abbrev restSet (d : Dev nD) : Finset S16392x128.Idx := (Finset.univ \ (Finset.univ : Finset (Fin 2 × Fin 16)).biUnion (rowsAt tA pA d)) \ rowSet 16384

variable {tA pA}

theorem rowsIn_of {d : Dev nD} (f : Buf (Elt F) (oLoc d)) (c : Fin 2) (i : Fin 16) :
    (oLoc d ↦[rowsAt tA pA d (c, i)]{fullShare} f : sProp 𝕄) ⊢ rowsIn tA pA d c i := by
  unfold rowsIn
  iintro H
  iexists f
  iexact H
theorem junkRow_of {d : Dev nD} (f : Buf (Elt F) (oLoc d)) : (oLoc d ↦[rowSet 16384]{fullShare} f : sProp 𝕄) ⊢ junkRow (F := F) d := by
  unfold junkRow
  iintro H
  iexists f
  iexact H

theorem rows_split {d : Dev nD} (hH : HostOK (tA d) (pA d)) (f : Buf (Elt F) (oLoc d)) :
    (oLoc d ↦{fullShare} f : sProp 𝕄) ⊢ iprop((bigSep Finset.univ fun c : Fin 2 => bigSep Finset.univ fun i : Fin 16 => rowsIn tA pA d c i)
      ∗ junkRow (F := F) d ∗ (oLoc d ↦[restSet tA pA d]{fullShare} f)) := by
  refine (pointsTo_split_subset (Finset.subset_univ ((Finset.univ : Finset (Fin 2 × Fin 16)).biUnion (rowsAt tA pA d)))).1.trans ?_
  refine BI.sep_mono ?_ ((pointsTo_split_subset (row_disjoint hH)).1.trans (BI.sep_mono ?_ (BI.Entails.refl _)))
  · rw [pointsTo_biUnion (ℓ := oLoc d) Finset.univ (rowsAt tA pA d) (rows_disjoint hH), bigSep_univ_prod]
    exact bigSep_mono fun c _ => bigSep_mono fun i _ => rowsIn_of f c i
  · exact junkRow_of f

theorem done_congr {d : Dev nD} {c : Fin 2} {i : Fin 16} {f g : Buf (Elt F) (oLoc d)} (h : ∀ x ∈ rowsAt tA pA d (c, i), g x = f x)
    (hf : Done (cV2 c i) (tA d) (pA d) (wA d) f) : Done (cV2 c i) (tA d) (pA d) (wA d) g := by
  intro p h1 h2 h3 x h4 h5
  have hb := base_le (cV2 c i)
  rw [h x ((mem_ownRows _ _ _ x).mpr ⟨p, by omega, h4.symm, h3⟩)]
  exact hf p h1 h2 h3 x h4 h5

theorem bigSep_pure_out {I : Type} [Fintype I] [DecidableEq I] (φ : I → Prop) :
    (bigSep Finset.univ fun i : I => (iprop(⌜φ i⌝) : sProp 𝕄)) ⊢ (iprop(⌜∀ i, φ i⌝) : sProp 𝕄) := by
  have h : ∀ S : Finset I, (bigSep S fun i : I => (iprop(⌜φ i⌝) : sProp 𝕄)) ⊢ (iprop(⌜∀ i ∈ S, φ i⌝) : sProp 𝕄) := fun S => by
    induction S using Finset.induction_on with
    | empty =>
      iintro -
      ipureintro
      exact fun i hi => absurd hi (Finset.notMem_empty i)
    | insert a S ha ih =>
      rw [SparseCore.bigSep_insert' ha]
      iintro ⟨%h1, H⟩
      ihave H := ih $$ H
      icases H with %h2
      ipureintro
      intro i hi
      rcases Finset.mem_insert.mp hi with h | h
      · exact h ▸ h1
      · exact h2 i h
  refine (h Finset.univ).trans ?_
  iintro %h
  ipureintro
  exact fun i => h i (Finset.mem_univ i)

theorem rowsOut_ex (d : Dev nD) (c : Fin 2) (i : Fin 16) :
    rowsOut tA pA wA d c i ⊢ (iprop(∃ fd : {fd : Buf (Elt F) (oLoc d) // True}, (oLoc d ↦[rowsAt tA pA d (c, i)]{fullShare} fd.1)
      ∗ ⌜Done (cV2 c i) (tA d) (pA d) (wA d) fd.1⌝) : sProp 𝕄) := by
  unfold rowsOut
  iintro ⟨%fd, H, %hd⟩
  iexists ⟨fd, trivial⟩
  isplitl [H]; · iexact H
  ipureintro; exact hd

theorem rows_join {d : Dev nD} (hH : HostOK (tA d) (pA d)) (f : Buf (Elt F) (oLoc d)) :
    iprop((bigSep Finset.univ fun c : Fin 2 => bigSep Finset.univ fun i : Fin 16 => rowsOut tA pA wA d c i)
      ∗ junkRow (F := F) d ∗ (oLoc d ↦[restSet tA pA d]{fullShare} f))
    ⊢ (iprop(∃ g, (oLoc d ↦{fullShare} g) ∗ ⌜∀ c i, Done (cV2 c i) (tA d) (pA d) (wA d) g⌝) : sProp 𝕄) := by
  have : Nonempty (Buf (Elt F) (oLoc d)) := ⟨f⟩
  have hex : (bigSep Finset.univ fun c : Fin 2 => bigSep Finset.univ fun i : Fin 16 => rowsOut tA pA wA d c i)
      ⊢ (iprop(∃ fs : Fin 2 × Fin 16 → {fd : Buf (Elt F) (oLoc d) // True}, bigSep Finset.univ fun ci : Fin 2 × Fin 16 =>
        iprop((oLoc d ↦[rowsAt tA pA d ci]{fullShare} (fs ci).1) ∗ ⌜Done (cV2 ci.1 ci.2) (tA d) (pA d) (wA d) (fs ci).1⌝)) : sProp 𝕄) := by
    have : Nonempty {fd : Buf (Elt F) (oLoc d) // True} := ⟨⟨f, trivial⟩⟩
    refine BI.Entails.trans ?_ (bigSep_exists_pi Finset.univ (fun (ci : Fin 2 × Fin 16) (fd : {fd : Buf (Elt F) (oLoc d) // True}) =>
      iprop((oLoc d ↦[rowsAt tA pA d ci]{fullShare} fd.1) ∗ ⌜Done (cV2 ci.1 ci.2) (tA d) (pA d) (wA d) fd.1⌝)))
    rw [bigSep_univ_prod]
    exact bigSep_mono fun c _ => bigSep_mono fun i _ => rowsOut_ex wA d c i
  iintro ⟨H, Hj, Hr⟩
  ihave H := hex $$ H
  icases H with ⟨%fs, H⟩
  ihave H := (Entails.of_eq (bigSep_sep' Finset.univ (fun ci : Fin 2 × Fin 16 => (oLoc d ↦[rowsAt tA pA d ci]{fullShare} (fs ci).1 : sProp 𝕄))
    (fun ci : Fin 2 × Fin 16 => iprop(⌜Done (cV2 ci.1 ci.2) (tA d) (pA d) (wA d) (fs ci).1⌝)))) $$ H
  icases H with ⟨H, Hd⟩
  ihave Hd := (bigSep_pure_out (F := F) (fun ci : Fin 2 × Fin 16 => Done (cV2 ci.1 ci.2) (tA d) (pA d) (wA d) (fs ci).1)) $$ Hd
  icases Hd with %hd
  ihave H := (pointsTo_biUnion_join (ℓ := oLoc d) (q := fullShare) (Val := Elt F) Finset.univ (rowsAt tA pA d) (fun ci => (fs ci).1) f (rows_disjoint hH)) $$ H
  icases H with ⟨%g, %hg, H⟩
  unfold junkRow
  icases Hj with ⟨%fj, Hj⟩
  ihave Hr := (pointsTo_join_subset (ℓ := oLoc d) (q := fullShare) (row_disjoint hH)) $$ [Hj Hr]
  · isplitl [Hj] <;> iassumption
  ihave H := (pointsTo_join_subset (ℓ := oLoc d) (q := fullShare) (Finset.subset_univ ((Finset.univ : Finset (Fin 2 × Fin 16)).biUnion (rowsAt tA pA d)))) $$ [H Hr]
  · isplitl [H] <;> iassumption
  iexists _
  isplitl [H]; · iexact H
  ipureintro
  intro c i
  refine done_congr wA (fun x hx => ?_) (hd (c, i))
  rw [Finset.piecewise_eq_of_mem _ _ _ (Finset.mem_biUnion.mpr ⟨(c, i), Finset.mem_univ _, hx⟩)]
  exact hg (c, i) (Finset.mem_univ _) x hx

end Cert.Proof.Emb

end
-- ==== Proof.Host.lean ====
/-
  The host's side of the kernel before its call: the list of operations @main runs, and the operands they make of the arguments.
-/
module

public import proofs.«01_k».proof.Proof.Setup

@[expose] public section

noncomputable section

namespace Cert.Proof.Emb

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The operations before the call -/

/-- @main's operations before the kernel's call, in order. -/
abbrev hostOps [FloatOps F] : List (HloOp τ sig (Elt F)) :=
  [ StableHlo.reshape main_arg0 main_v0 (rfl : (.i32 : EltTy) = .i32) shapeCasts_S4x4096_S16384,
    StableHlo.TRef.nullary (StableHlo.TRef.of (T := ⟨S16384, .i32⟩) main_call0_v0) (iotaInDim S16384 32 0),
    StableHlo.TRef.binary (StableHlo.TRef.of (T := ⟨S16384, .i32⟩) main_v0) (StableHlo.TRef.of (T := ⟨S16384, .i32⟩) main_call0_v0) (StableHlo.TRef.of (T := ⟨S16384, .i32⟩) main_call0_v1_0) (fun x y => (Host.sort2 S16384 0 comparator_i32_i32_d0 x y).1),
    StableHlo.TRef.binary (StableHlo.TRef.of (T := ⟨S16384, .i32⟩) main_v0) (StableHlo.TRef.of (T := ⟨S16384, .i32⟩) main_call0_v0) (StableHlo.TRef.of (T := ⟨S16384, .i32⟩) main_v1) (fun x y => (Host.sort2 S16384 0 comparator_i32_i32_d0 x y).2),
    StableHlo.nullary main_c (constantI S_ 32 0#32),
    StableHlo.unary main_c main_v2 (broadcastInDim S16384 ![] bcast_S_S16384 : (⟨S_, .i32⟩ : BufTy).Contents (Elt F) → (⟨S16384, .i32⟩ : BufTy).Contents (Elt F)),
    StableHlo.binary main_v1 main_v2 main_v3 (cmpi .slt : (⟨S16384, .i32⟩ : BufTy).Contents (Elt F) → (⟨S16384, .i32⟩ : BufTy).Contents (Elt F) → (⟨S16384, .i1⟩ : BufTy).Contents (Elt F)),
    StableHlo.nullary main_c_0 (constantI S_ 32 16384#32),
    StableHlo.unary main_c_0 main_v4 (broadcastInDim S16384 ![] bcast_S_S16384 : (⟨S_, .i32⟩ : BufTy).Contents (Elt F) → (⟨S16384, .i32⟩ : BufTy).Contents (Elt F)),
    StableHlo.binary main_v1 main_v4 main_v5 (addi : (⟨S16384, .i32⟩ : BufTy).Contents (Elt F) → (⟨S16384, .i32⟩ : BufTy).Contents (Elt F) → (⟨S16384, .i32⟩ : BufTy).Contents (Elt F)),
    StableHlo.ternary main_v3 main_v5 main_v1 main_v6 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v6 main_v7 (broadcastInDim S16384x1 ![0] bcast_S16384_S16384x1_0 : (⟨S16384, .i32⟩ : BufTy).Contents (Elt F) → (⟨S16384x1, .i32⟩ : BufTy).Contents (Elt F)),
    StableHlo.binary main_v0 main_v7 main_v8 ((fun x i => Host.gather gather_S16384_S16384x1_S16384_n_0_n_n_0_1_1 x i) : (⟨S16384, .i32⟩ : BufTy).Contents (Elt F) → (⟨S16384x1, .i32⟩ : BufTy).Contents (Elt F) → (⟨S16384, .i32⟩ : BufTy).Contents (Elt F)),
    StableHlo.nullary main_c_1 (constantI S_ 32 7#32),
    StableHlo.unary main_c_1 main_v9 (broadcastInDim S16384 ![] bcast_S_S16384 : (⟨S_, .i32⟩ : BufTy).Contents (Elt F) → (⟨S16384, .i32⟩ : BufTy).Contents (Elt F)),
    StableHlo.binary main_v8 main_v9 main_v10 (Host.shrui : (⟨S16384, .i32⟩ : BufTy).Contents (Elt F) → (⟨S16384, .i32⟩ : BufTy).Contents (Elt F) → (⟨S16384, .i32⟩ : BufTy).Contents (Elt F)),
    StableHlo.nullary main_c_2 (constantI S_ 32 127#32),
    StableHlo.unary main_c_2 main_v11 (broadcastInDim S16384 ![] bcast_S_S16384 : (⟨S_, .i32⟩ : BufTy).Contents (Elt F) → (⟨S16384, .i32⟩ : BufTy).Contents (Elt F)),
    StableHlo.binary main_v8 main_v11 main_v12 (andi : (⟨S16384, .i32⟩ : BufTy).Contents (Elt F) → (⟨S16384, .i32⟩ : BufTy).Contents (Elt F) → (⟨S16384, .i32⟩ : BufTy).Contents (Elt F)),
    StableHlo.nullary main_c_3 (constantI S_ 32 7#32),
    StableHlo.unary main_c_3 main_v13 (broadcastInDim S16384 ![] bcast_S_S16384 : (⟨S_, .i32⟩ : BufTy).Contents (Elt F) → (⟨S16384, .i32⟩ : BufTy).Contents (Elt F)),
    StableHlo.binary main_v1 main_v13 main_v14 (Host.shli : (⟨S16384, .i32⟩ : BufTy).Contents (Elt F) → (⟨S16384, .i32⟩ : BufTy).Contents (Elt F) → (⟨S16384, .i32⟩ : BufTy).Contents (Elt F)),
    StableHlo.binary main_v12 main_v14 main_v15 (ori : (⟨S16384, .i32⟩ : BufTy).Contents (Elt F) → (⟨S16384, .i32⟩ : BufTy).Contents (Elt F) → (⟨S16384, .i32⟩ : BufTy).Contents (Elt F)),
    StableHlo.unary main_arg1 main_v16 ((transpose S64x1000000 [1, 0] · transposes_S1000000x64_S64x1000000_1_0) : (⟨S1000000x64, .f32⟩ : BufTy).Contents (Elt F) → (⟨S64x1000000, .f32⟩ : BufTy).Contents (Elt F)),
    StableHlo.nullary main_c_4 (constantI S_ 32 0#32),
    StableHlo.TRef.unary (StableHlo.TRef.of (T := ⟨S_, .i32⟩) main_c_4) (StableHlo.TRef.of (T := ⟨S_, .f32⟩) main_call1_v0) (sitofp .f32),
    StableHlo.TRef.binary (StableHlo.TRef.of (T := ⟨S64x1000000, .f32⟩) main_v16) (StableHlo.TRef.of (T := ⟨S_, .f32⟩) main_call1_v0) (StableHlo.TRef.of (T := ⟨S64x1000064, .f32⟩) main_v17) (fun x v => pad S64x1000064 ![0, 0] ![0, 64] ![0, 0] x v pads_S64x1000000_S64x1000064_000_0640 h_S_) ]

/-- @main after them: the kernel's call, the grid pipeline's, and the last reshape. -/
def tail [FloatOps F] (d : Dev nD) : Prog (TpuEff nD τ sig (Elt F) (SparseCore.Sig (Pipeline.Sig Λ₀ (Fin 1) fun p => (pcfgs (F := F) p).Adm) 1) .tc) PUnit := do
  sc.run d 0
  Prog.lift (.customCall (SparseCore.inner (Pipeline.entry 0)) ())
  hlo rfl (StableHlo.reshape main_v19 main_v20 (rfl : (.f32 : EltTy) = .f32) shapeCasts_S16384x64_S4x4096x64) (fun _ => .ret ⟨⟩)

set_option maxRecDepth 8192 in
theorem main_eq [FloatOps F] (d : Dev nD) : main (F := F) d = (StableHlo.seq hostOps >>= fun _ => tail d) := rfl

set_option maxRecDepth 8192 in
theorem hostOps_fresh [FloatOps F] : ∀ op ∈ (hostOps (F := F)), op.fresh = ∅ := by
  intro op h
  simp only [hostOps, List.mem_cons, List.not_mem_nil, or_false] at h
  rcases h with (h | h | h | h | h | h | h | h | h | h | h | h | h | h | h | h | h | h | h | h | h | h | h | h | h | h | h) <;> subst h <;> rfl

/-! ## The operands -/

/-- The ids, flat. -/
def idsOf (a : Vec F S4x4096 .i32) : Vec F S16384 .i32 := shapeCast S16384 a shapeCasts_S4x4096_S16384
/-- The order that sorts them. -/
def permOf (x : Vec F S16384 .i32) : Vec F S16384 .i32 := (Host.sort2 S16384 0 comparator_i32_i32_d0 x (iotaInDim S16384 32 0)).2
/-- A number at every entry. -/
def allOf (n : BitVec 32) : Vec F S16384 .i32 := broadcastInDim S16384 ![] bcast_S_S16384 (constantI S_ 32 n)
/-- The ids in that order. -/
def sidsOf (x : Vec F S16384 .i32) : Vec F S16384 .i32 :=
  Host.gather gather_S16384_S16384x1_S16384_n_0_n_n_0_1_1 x
    (broadcastInDim S16384x1 ![0] bcast_S16384_S16384x1_0 (select (cmpi .slt (permOf (F := F) x) (allOf (F := F) 0#32)) (addi (permOf (F := F) x) (allOf (F := F) 16384#32)) (permOf (F := F) x)))
/-- Their tiles. -/
def tOf (x : Vec F S16384 .i32) : Vec F S16384 .i32 := Host.shrui (sidsOf (F := F) x) (allOf (F := F) 7#32)
/-- Their columns in the tile with their output rows. -/
def pOf (x : Vec F S16384 .i32) : Vec F S16384 .i32 :=
  ori (andi (sidsOf (F := F) x) (allOf (F := F) 127#32)) (Host.shli (permOf (F := F) x) (allOf (F := F) 7#32))
/-- The table, transposed and padded to a whole number of tiles. -/
def wOf [FloatOps F] (w : Vec F S1000000x64 .f32) : Vec F S64x1000064 .f32 :=
  pad S64x1000064 ![0, 0] ![0, 64] ![0, 0] (transpose S64x1000000 [1, 0] w transposes_S1000000x64_S64x1000000_1_0) (sitofp .f32 (constantI S_ 32 0#32)) pads_S64x1000000_S64x1000064_000_0640 h_S_

abbrev cRef (b : Ref sig .tc) : DevRef τ sig := Proc.devRef .tc b

section After

variable [FloatOps F] (V : Valuation τ sig (Elt F))

set_option maxHeartbeats 2000000 in
set_option maxRecDepth 8192 in
theorem after_v10 : StableHlo.after hostOps V (cRef main_v10) = tOf (F := F) (idsOf (F := F) (V (cRef main_arg0))) := by
  simp only [hostOps, StableHlo.TRef.binary, StableHlo.TRef.nullary, StableHlo.TRef.unary, StableHlo.TRef.toBuf, StableHlo.TRef.ofBuf, cast_eq]
  after_results_simp <;> rfl

set_option maxHeartbeats 2000000 in
set_option maxRecDepth 8192 in
theorem after_v15 : StableHlo.after hostOps V (cRef main_v15) = pOf (F := F) (idsOf (F := F) (V (cRef main_arg0))) := by
  simp only [hostOps, StableHlo.TRef.binary, StableHlo.TRef.nullary, StableHlo.TRef.unary, StableHlo.TRef.toBuf, StableHlo.TRef.ofBuf, cast_eq]
  after_results_simp <;> rfl

set_option maxHeartbeats 2000000 in
set_option maxRecDepth 8192 in
theorem after_v17 : StableHlo.after hostOps V (cRef main_v17) = wOf (F := F) (V (cRef main_arg1)) := by
  simp only [hostOps, StableHlo.TRef.binary, StableHlo.TRef.nullary, StableHlo.TRef.unary, StableHlo.TRef.toBuf, StableHlo.TRef.ofBuf, cast_eq]
  after_results_simp <;> rfl

set_option maxHeartbeats 2000000 in
set_option maxRecDepth 8192 in
theorem after_arg0 : StableHlo.after hostOps V (cRef main_arg0) = V (cRef main_arg0) := by
  simp only [hostOps, StableHlo.TRef.binary, StableHlo.TRef.nullary, StableHlo.TRef.unary, StableHlo.TRef.toBuf, StableHlo.TRef.ofBuf, cast_eq]
  after_results_simp <;> rfl

set_option maxHeartbeats 2000000 in
set_option maxRecDepth 8192 in
theorem after_arg1 : StableHlo.after hostOps V (cRef main_arg1) = V (cRef main_arg1) := by
  simp only [hostOps, StableHlo.TRef.binary, StableHlo.TRef.nullary, StableHlo.TRef.unary, StableHlo.TRef.toBuf, StableHlo.TRef.ofBuf, cast_eq]
  after_results_simp <;> rfl

set_option maxHeartbeats 2000000 in
set_option maxRecDepth 8192 in
theorem after_arg2 : StableHlo.after hostOps V (cRef main_arg2) = V (cRef main_arg2) := by
  simp only [hostOps, StableHlo.TRef.binary, StableHlo.TRef.nullary, StableHlo.TRef.unary, StableHlo.TRef.toBuf, StableHlo.TRef.ofBuf, cast_eq]
  after_results_simp <;> rfl

set_option maxHeartbeats 2000000 in
set_option maxRecDepth 8192 in
theorem after_v18 : StableHlo.after hostOps V (cRef main_v18) = V (cRef main_v18) := by
  simp only [hostOps, StableHlo.TRef.binary, StableHlo.TRef.nullary, StableHlo.TRef.unary, StableHlo.TRef.toBuf, StableHlo.TRef.ofBuf, cast_eq]
  after_results_simp <;> rfl

set_option maxHeartbeats 2000000 in
set_option maxRecDepth 8192 in
theorem after_v19 : StableHlo.after hostOps V (cRef main_v19) = V (cRef main_v19) := by
  simp only [hostOps, StableHlo.TRef.binary, StableHlo.TRef.nullary, StableHlo.TRef.unary, StableHlo.TRef.toBuf, StableHlo.TRef.ofBuf, cast_eq]
  after_results_simp <;> rfl

set_option maxHeartbeats 2000000 in
set_option maxRecDepth 8192 in
theorem after_v20 : StableHlo.after hostOps V (cRef main_v20) = V (cRef main_v20) := by
  simp only [hostOps, StableHlo.TRef.binary, StableHlo.TRef.nullary, StableHlo.TRef.unary, StableHlo.TRef.toBuf, StableHlo.TRef.ofBuf, cast_eq]
  after_results_simp <;> rfl

end After

end Cert.Proof.Emb

end
-- ==== Proof.HostFacts.lean ====
/-
  What the host's operands are, entry by entry: the sorting permutation, the tiles in order, and each entry's column and row.
-/
module

public import proofs.«01_k».proof.Proof.Host
public import proofs.«01_k».proof.Proof.Body
public import Idealize.ShloMosaic.Lib.SortFacts
public import Idealize.ShloMosaic.Lib.StableHlo.Predicate

@[expose] public section

noncomputable section

namespace Cert.Proof.Emb

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

abbrev fi (p : Fin 16384) : S16384.Idx := Shape.Idx.ofFin p

/-- Which entry of the flat ids stands at each place of the sorted list. -/
def sg (x : Vec F S16384 .i32) : Fin 16384 → Fin 16384 :=
  sortedFrom fun k k' => comparator_i32_i32_d0 (x (fi k), BitVec.ofNat 32 k.val) (x (fi k'), BitVec.ofNat 32 k'.val) == 1#1

theorem sg_inj (x : Vec F S16384 .i32) : Function.Injective (sg (F := F) x) := sortedFrom_injective _
theorem sg_surj (x : Vec F S16384 .i32) : Function.Surjective (sg (F := F) x) := sortedFrom_surjective _

theorem slt_iff (a b : BitVec 32) : (IntOp.cmpi .slt a b == 1#1) = decide (a.toInt < b.toInt) := by
  simp only [IntOp.cmpi, BitVec.slt_eq_decide]
  by_cases h : a.toInt < b.toInt <;> simp [h]

theorem sg_sorted (x : Vec F S16384 .i32) (i j : Fin 16384) (h : i ≤ j) :
    (x (fi (sg (F := F) x i)) : BitVec 32).toInt ≤ (x (fi (sg (F := F) x j)) : BitVec 32).toInt := by
  rcases lt_or_eq_of_le h with h | h
  · have := sortedFrom_noInversion (n := 16384) (fun k k' => comparator_i32_i32_d0 (x (fi k), BitVec.ofNat 32 k.val) (x (fi k'), BitVec.ofNat 32 k'.val) == 1#1)
      (fun k k' => comparator_i32_i32_d0 (x (fi k), BitVec.ofNat 32 k.val) (x (fi k'), BitVec.ofNat 32 k'.val) == 1#1)
      (fun a b hab => by
        simp only [comparator_i32_i32_d0, slt_iff, decide_eq_true_eq, decide_eq_false_iff_not] at hab ⊢
        omega) (fun _ _ h => h)
      (fun a b c hab hbc => by
        simp only [comparator_i32_i32_d0, slt_iff, decide_eq_false_iff_not] at hab hbc ⊢
        omega) i j h
    simp only [comparator_i32_i32_d0, slt_iff, decide_eq_false_iff_not] at this
    unfold sg
    simp only [comparator_i32_i32_d0, slt_iff]
    omega
  · rw [h]

theorem sort2_at {N : ℕ} {α β : Type} (cmp : α × β → α × β → BitVec 1) (x : (⟨1, ![N]⟩ : Shape).Idx → α) (y : (⟨1, ![N]⟩ : Shape).Idx → β) (p : Fin N) :
    (Host.sort2 ⟨1, ![N]⟩ 0 cmp x y).2 (Shape.Idx.ofFin p)
      = y (Shape.Idx.ofFin (sortedFrom (fun k k' => cmp (x (Shape.Idx.ofFin k), y (Shape.Idx.ofFin k)) (x (Shape.Idx.ofFin k'), y (Shape.Idx.ofFin k')) == 1#1) p)) := by
  have e : ∀ k : Fin N, Shape.Idx.along (s := ⟨1, ![N]⟩) (Shape.Idx.ofFin p) (0 : Fin 1) k = Shape.Idx.ofFin k := fun k => Shape.Idx.along_rank1 _ k
  unfold Host.sort2
  rw [dif_pos (show 0 < (⟨1, ![N]⟩ : Shape).rank from Nat.one_pos)]
  refine (congrArg y (e _)).trans ?_
  refine congrArg (fun g : Fin N → Fin N → Bool => y (Shape.Idx.ofFin (sortedFrom g p))) ?_
  funext k k'
  exact (congrArg (fun i => cmp (x i, y i) _ == 1#1) (e k)).trans (congrArg (fun i => cmp _ (x i, y i) == 1#1) (e k'))

theorem argsort_at {N : ℕ} {α : Type} (cmp : α × BitVec 32 → α × BitVec 32 → BitVec 1) (x : (⟨1, ![N]⟩ : Shape).Idx → α) (p : Fin N) :
    (Host.sort2 ⟨1, ![N]⟩ 0 cmp x (iotaInDim ⟨1, ![N]⟩ 32 (0 : Fin 1))).2 (Shape.Idx.ofFin p)
      = BitVec.ofNat 32 (sortedFrom (fun k k' => cmp (x (Shape.Idx.ofFin k), BitVec.ofNat 32 k.val) (x (Shape.Idx.ofFin k'), BitVec.ofNat 32 k'.val) == 1#1) p).val :=
  sort2_at cmp x (iotaInDim ⟨1, ![N]⟩ 32 (0 : Fin 1)) p

theorem permOf_at (x : Vec F S16384 .i32) (p : Fin 16384) : (permOf (F := F) x (fi p) : BitVec 32) = BitVec.ofNat 32 (sg (F := F) x p).val := by
  unfold permOf sg
  exact argsort_at (N := 16384) comparator_i32_i32_d0 x p

theorem take_at {N : ℕ} {α : Type} (x : (⟨1, ![N]⟩ : Shape).Idx → α) (k : Fin N) (m : ℕ) (h : m < N) (hm : m = k.val) :
    x (Shape.Idx.ofFin ⟨m, h⟩) = x (Shape.Idx.ofFin k) := by
  subst hm
  rfl

theorem sidsOf_at (x : Vec F S16384 .i32) (p : Fin 16384) : (sidsOf (F := F) x (fi p) : BitVec 32) = x (fi (sg (F := F) x p)) := by
  unfold sidsOf
  rw [StableHlo.Predicate.gather_take gather_S16384_S16384x1_S16384_n_0_n_n_0_1_1 rfl rfl rfl rfl x _ p (by omega)]
  have hb := (sg (F := F) x p).isLt
  have e : ∀ (y : Vec F S16384 .i32), (broadcastInDim S16384x1 ![0] bcast_S16384_S16384x1_0 y (StableHlo.Predicate.ixP p) : BitVec 32) = y (fi p) := fun y => by
    refine congrArg y ?_
    funext a
    obtain rfl : a = 0 := Fin.eq_zero a
    rfl
  have hp := permOf_at (F := F) x p
  have ht : (permOf (F := F) x (fi p) : BitVec 32).toNat = (sg (F := F) x p).val := by rw [hp, BitVec.toNat_ofNat]; omega
  have hi : (permOf (F := F) x (fi p) : BitVec 32).toInt = (sg (F := F) x p).val := by rw [BitVec.toInt_eq_toNat_cond]; omega
  refine take_at (N := 16384) x _ _ _ ?_
  rw [e]
  have hs : (select (cmpi .slt (permOf (F := F) x) (allOf (F := F) 0#32)) (addi (permOf (F := F) x) (allOf (F := F) 16384#32)) (permOf (F := F) x) (fi p) : BitVec 32) = permOf (F := F) x (fi p) := by
    show Scalar.select (IntOp.cmpi .slt (permOf (F := F) x (fi p)) 0#32) _ _ = _
    have h0 : IntOp.cmpi .slt (permOf (F := F) x (fi p)) 0#32 = 0#1 := by
      simp only [IntOp.cmpi, BitVec.slt_eq_decide, hi]
      rw [decide_eq_false (by rw [show (0#32 : BitVec 32).toInt = 0 from rfl]; exact not_lt.mpr (Int.natCast_nonneg _))]
      rfl
    rw [h0]
    rfl
  show min (BitVec.toInt _).toNat 16383 = _
  rw [hs, hi]
  omega

theorem ofLane_fi (p : Fin 16384) : Shape.ofLane (d := ![16384]) p = fi p := by
  funext a
  obtain rfl : a = 0 := Fin.eq_zero a
  rfl

/-- The id at place `p` of the sorted list. -/
def sid (x : Vec F S16384 .i32) (p : Fin 16384) : ℕ := (x (fi (sg (F := F) x p)) : BitVec 32).toNat

theorem rd_at (f : Vec F S16384 .i32) (p : Fin 16384) : rd f p.val = (f (fi p) : BitVec 32).toNat := by
  unfold rd
  rw [dif_pos p.isLt]
  exact congrArg (fun i => BitVec.toNat (f i)) (ofLane_fi p)

theorem tOf_at (x : Vec F S16384 .i32) (p : Fin 16384) : rd (tOf (F := F) x) p.val = sid (F := F) x p / 128 := by
  rw [rd_at (F := F)]
  show (IntOp.shrui .host (sidsOf (F := F) x (fi p)) 7#32).toNat = _
  rw [sidsOf_at]
  show (if (7#32 : BitVec 32).toNat < 32 then _ >>> (7#32 : BitVec 32) else _ : BitVec 32).toNat = _
  rw [if_pos (by decide)]
  simp only [BitVec.ushiftRight_eq', BitVec.toNat_ushiftRight, Nat.shiftRight_eq_div_pow]
  rfl

theorem pOf_at (x : Vec F S16384 .i32) (p : Fin 16384) : rd (pOf (F := F) x) p.val = sid (F := F) x p % 128 + (sg (F := F) x p).val * 128 := by
  rw [rd_at (F := F)]
  show (IntOp.ori (IntOp.andi (sidsOf (F := F) x (fi p)) 127#32) (IntOp.shli .host (permOf (F := F) x (fi p)) 7#32)).toNat = _
  rw [sidsOf_at, permOf_at]
  have hb := (sg (F := F) x p).isLt
  unfold sid
  generalize (sg (F := F) x p).val = s at hb ⊢
  generalize (x (fi (sg (F := F) x p)) : BitVec 32) = a
  have e1 : (IntOp.shli .host (BitVec.ofNat 32 s) 7#32).toNat = 2 ^ 7 * s := by
    show (if (7#32 : BitVec 32).toNat < 32 then _ <<< (7#32 : BitVec 32) else _ : BitVec 32).toNat = _
    rw [if_pos (by decide)]
    simp only [BitVec.shiftLeft_eq', BitVec.toNat_shiftLeft, BitVec.toNat_ofNat, Nat.shiftLeft_eq]
    simp only [Nat.reducePow, Nat.reduceMod]
    omega
  have e2 : (IntOp.andi a 127#32).toNat = a.toNat % 2 ^ 7 := by
    show (a &&& 127#32).toNat = _
    rw [BitVec.toNat_and, show (127#32 : BitVec 32).toNat = 2 ^ 7 - 1 from rfl, Nat.and_two_pow_sub_one_eq_mod]
  show (_ ||| _ : BitVec 32).toNat = _
  rw [BitVec.toNat_or, e1, e2, Nat.or_comm, ← Nat.two_pow_add_eq_or_of_lt (Nat.mod_lt _ (by decide))]
  omega

theorem hostOK (d : Dev nD) (x : Vec F S16384 .i32) : HostOK (d := d) (tOf (F := F) x) (pOf (F := F) x) where
  lt p := by
    by_cases h : p < 16384
    · have := tOf_at (F := F) x ⟨p, h⟩
      have h2 : sid (F := F) x ⟨p, h⟩ < 2 ^ 32 := BitVec.isLt _
      simp only at this
      show rd (tOf (F := F) x) p < _
      omega
    · show rd (tOf (F := F) x) p < _
      unfold rd
      rw [dif_neg h]
      decide
  sorted a b c hab hbc hc ha hc' := by
    have ea := tOf_at (F := F) x ⟨a, by omega⟩
    have eb := tOf_at (F := F) x ⟨b, by omega⟩
    have ec := tOf_at (F := F) x ⟨c, hc⟩
    have h1 := sg_sorted (F := F) x ⟨a, by omega⟩ ⟨b, by omega⟩ hab
    have h2 := sg_sorted (F := F) x ⟨b, by omega⟩ ⟨c, hc⟩ hbc
    have la : sid (F := F) x ⟨a, by omega⟩ < 2 ^ 32 := BitVec.isLt _
    have lb : sid (F := F) x ⟨b, by omega⟩ < 2 ^ 32 := BitVec.isLt _
    have lc : sid (F := F) x ⟨c, hc⟩ < 2 ^ 32 := BitVec.isLt _
    rw [BitVec.toInt_eq_toNat_cond, BitVec.toInt_eq_toNat_cond] at h1 h2
    change rd (tOf (F := F) x) a < _ at ha
    change rd (tOf (F := F) x) c < _ at hc'
    show rd (tOf (F := F) x) a ≤ rd (tOf (F := F) x) b ∧ rd (tOf (F := F) x) b ≤ rd (tOf (F := F) x) c
    simp only at ea eb ec
    unfold sid at *
    omega
  row p hp := by
    have := pOf_at (F := F) x ⟨p, hp⟩
    have hb := (sg (F := F) x ⟨p, hp⟩).isLt
    show rd (pOf (F := F) x) p / 128 < _
    simp only at this
    omega
  inj p hp q hq h := by
    have e1 := pOf_at (F := F) x ⟨p, hp⟩
    have e2 := pOf_at (F := F) x ⟨q, hq⟩
    change rd (pOf (F := F) x) p / 128 = rd (pOf (F := F) x) q / 128 at h
    simp only at e1 e2
    have : sg (F := F) x ⟨p, hp⟩ = sg (F := F) x ⟨q, hq⟩ := Fin.ext (by omega)
    exact congrArg Fin.val (sg_inj (F := F) x this)

end Cert.Proof.Emb

end
-- ==== Proof.Region.lean ====
/-
  The grid kernel that adds the positional rows: one grid point's body, the arrays before and after its 32 points, and its
  region of the program.
-/
module

public import proofs.«01_k».proof.Proof.Host
public import Idealize.ShloMosaic.Lib.Pipeline.RegionArrays
public import Idealize.ShloMosaic.Lib.Pipeline.FrameBody
public import Idealize.ShloMosaic.Lib.Pipeline.RegionsLoop
public import Idealize.ShloMosaic.Lib.Pipeline.Value

@[expose] public section

noncomputable section

namespace Cert.Proof.Emb

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.Pipeline (Dat Cfg Window BodyObligation cellOf)
open Idealize.ShloMosaic.TcCoe

variable [FloatOps F]

/-- The index of row `i` and column `j`. -/
abbrev ix2 {a b : ℕ} (i : Fin a) (j : Fin b) : (⟨2, ![a, b]⟩ : Shape).Idx := fun | ⟨0, _⟩ => i | ⟨1, _⟩ => j

theorem ix2_ext {a b : ℕ} (x : (⟨2, ![a, b]⟩ : Shape).Idx) (i : Fin a) (j : Fin b) (h0 : (x 0).val = i.val) (h1 : (x 1).val = j.val) : x = ix2 i j := by
  funext k
  match k with
  | ⟨0, _⟩ => exact Fin.ext h0
  | ⟨1, _⟩ => exact Fin.ext h1

theorem zeros2 : (![0, 0] : Fin 2 → ℕ) = fun _ => 0 := funext fun a => by fin_cases a <;> rfl

/-! ## One grid point -/

theorem add_triple [∀ e, Nonempty (Elt F e)] (c : Dev nD) (i : grid1.Coords) (M0 : Memref sig .tc .vmem S512x128 .f32) (h0 : M0.IsWhole) (M1 : Memref sig .tc .vmem S512x64 .f32) (h1 : M1.IsWhole)
    (M2 : Memref sig .tc .vmem S512x64 .f32) (h2 : M2.IsWhole) (X0 : S512x128.Idx → Elt F .f32) (X1 X2 : S512x64.Idx → Elt F .f32) (Q : PUnit → sProp 𝕄) :
    iprop(owns (c : Thread nD τ) M0 fullShare X0 ∗ owns (c : Thread nD τ) M1 fullShare X1 ∗ owns (c : Thread nD τ) M2 fullShare X2
        ∗ (iprop(owns (c : Thread nD τ) M0 fullShare X0 ∗ owns (c : Thread nD τ) M1 fullShare X1
            ∗ owns (c : Thread nD τ) M2 fullShare (k1_pay1 (F := F) (View.ld X0 (Rect.unit (s := S512x128) ![0, 0] S512x64.size inb_S512x128_S512x64_0_0)) X1)) -∗ Q ⟨⟩))
      ⊢ wp frame (wpE (defs₀ (F := F)) 𝒱₀ (c : Thread nD τ) none) Set.univ (cc1__pos_add_body (F := F) i M0 h0 M1 h1 M2 h2) Q := by
  rw [cc1__pos_add_body_eq_skeleton]
  unfold cc1__pos_add_body_skel owns
  iintro ⟨⟨%f0, %e0, H0⟩, ⟨%f1, %e1, H1⟩, ⟨%f2, %e2, H2⟩, Hk⟩
  subst e0 e1
  iapply (wp_load (S := M0.view.set) 𝒱₀ (c : Thread nD τ) none Set.univ (M0.view.setOn_subset_set _)) $$ H0
  iintro H0
  iapply (wp_load (S := M1.view.set) 𝒱₀ (c : Thread nD τ) none Set.univ (M1.view.setOn_subset_set _)) $$ H1
  iintro H1
  iapply (wp_load (S := M2.view.set) 𝒱₀ (c : Thread nD τ) none Set.univ (M2.view.setOn_subset_set _)) $$ H2
  iintro H2
  iapply (wp_store_writes₀ (S := M2.view.set) 𝒱₀ (c : Thread nD τ) none Set.univ (M2.view.set_slice_subset _)) $$ H2
  iintro H2
  iapply (show iprop(Q ⟨⟩) ⊢ wp frame (wpE (defs₀ (F := F)) 𝒱₀ (c : Thread nD τ) none) Set.univ (pure ⟨⟩ : Prog (TpuEff nD τ sig (Elt F) Λ₀ .tc) PUnit) Q from
    (fupd_intro).trans (Entails.of_eq (wp_ret _ _ _ _ _).symm))
  iapply Hk
  isplitl [H0]
  · iexists f0; isplitr; · ipureintro; rfl
    iexact H0
  isplitl [H1]
  · iexists f1; isplitr; · ipureintro; rfl
    iexact H1
  iexists _; isplitr; swap; · iexact H2
  ipureintro
  rw [View.read_writes_eq_canon _ _ _ fun y => ⟨_, List.mem_singleton_self _, by rw [Rect.mem_set_unit]; intro a; refine ⟨by rw [zeros2]; exact Nat.zero_le _, by rw [zeros2]; exact (Nat.zero_add _).symm ▸ (y a).isLt⟩⟩,
    View.canon_unit_zero zeros2]
  rw [View.readAt_eq_ld, View.readAt_eq_ld, View.ld_unit_zero zeros2]

/-! ## The arrays -/

variable (W : Valuation τ sig (Elt F))

/-- The positional sum: row `r`, column `e` is the intermediate row's entry plus the positional table's. -/
def sumOf : S16384x64.Idx → Elt F .f32 :=
  addf (s := S16384x64) (fun x => (W (cRef main_v18) : S16392x128.Idx → Elt F .f32) (ix2 ⟨(x 0).val, by have := (x 0).isLt; exact lt_trans this (by decide)⟩ ⟨(x 1).val, by have := (x 1).isLt; exact lt_trans this (by decide)⟩))
    fun x => (W (cRef main_arg2) : S4096x64.Idx → Elt F .f32) (ix2 ⟨(x 0).val % 4096, Nat.mod_lt _ (by decide)⟩ ⟨(x 1).val, (x 1).isLt⟩)

theorem N1 (t : Fin cfg1.N) : t.val < 32 := lt_of_lt_of_eq t.isLt N_1
theorem idx0 : ∀ t : Fin grid1.N, win1_0.index t 0 = t.val ∧ win1_0.index t 1 = 0 := by decide +kernel
theorem idx1 : ∀ t : Fin grid1.N, win1_1.index t 0 = t.val % 8 ∧ win1_1.index t 1 = 0 := by decide +kernel
theorem idx2 : ∀ t : Fin grid1.N, win1_2.index t 0 = t.val ∧ win1_2.index t 1 = 0 := by decide +kernel
theorem clip0 : ∀ (t : Fin grid1.N) (a : Fin 2), win1_0.clip (grid1.coords t) a = none := by decide +kernel

/-- What the first two staging buffers hold at point `t`. -/
def blk0 (t : Fin cfg1.N) : S512x128.Idx → Elt F .f32 := fun y =>
  (W (cRef main_v18) : S16392x128.Idx → Elt F .f32) (ix2 ⟨t.val * 512 + (y 0).val, by have := N1 t; have : (y 0).val < 512 := (y 0).isLt; omega⟩ ⟨(y 1).val, (y 1).isLt⟩)
def blk1 (t : Fin cfg1.N) : S512x64.Idx → Elt F .f32 := fun y =>
  (W (cRef main_arg2) : S4096x64.Idx → Elt F .f32) (ix2 ⟨t.val % 8 * 512 + (y 0).val, by have : (y 0).val < 512 := (y 0).isLt; omega⟩ ⟨(y 1).val, (y 1).isLt⟩)
def blk2 (t : Fin cfg1.N) : S512x64.Idx → Elt F .f32 := fun y =>
  sumOf W (ix2 ⟨t.val * 512 + (y 0).val, by have := N1 t; have : (y 0).val < 512 := (y 0).isLt; omega⟩ ⟨(y 1).val, (y 1).isLt⟩)

theorem pay_eq (t : Fin cfg1.N) :
    k1_pay1 (F := F) (View.ld (blk0 W t) (Rect.unit (s := S512x128) ![0, 0] S512x64.size inb_S512x128_S512x64_0_0)) (blk1 W t) = blk2 W t := by
  funext y
  have := N1 t
  have hy : (y 0).val < 512 := (y 0).isLt
  unfold k1_pay1 blk2 sumOf
  rw [shapeCast_self]
  refine congrArg₂ (FloatOps.addf (F := F)) ?_ ?_
  · unfold View.ld blk0
    refine congrArg (W (cRef main_v18) : S16392x128.Idx → Elt F .f32) (ix2_ext _ _ _ ?_ ?_)
    · show t.val * 512 + (0 + 1 * (y 0).val) = t.val * 512 + (y 0).val
      omega
    · show 0 + 1 * (y 1).val = (y 1).val
      omega
  · unfold blk1
    refine congrArg (W (cRef main_arg2) : S4096x64.Idx → Elt F .f32) (ix2_ext _ _ _ ?_ ?_)
    · show t.val % 8 * 512 + (y 0).val = (t.val * 512 + (y 0).val) % 4096
      omega
    · rfl

/-- The proof data: the arrays at `W`, the blocks after each point, recorded waits below the first call's last stage. -/
def dat (c : Dev nD) : Dat τ (Elt F) (HIx 1) ℕ UU ℕ cfg1 c where
  A w := W (cRef (Pipeline.arrRef spec1 w))
  after w t := match w with
    | ⟨0, _⟩ => blk0 W t
    | ⟨1, _⟩ => blk1 W t
    | ⟨2, _⟩ => blk2 W t
  Φ _ := Pipeline.scopedRest spec1 c
  q _ := fullShare
  owed _ := 0
  recorded _ := {p | (K (F := F)).lev (T c, p.1) p.2 ≤ 8}

theorem read0 (t : Fin cfg1.N) (j : (win1_0.xblock (grid1.coords t)).Idx) (y : S512x128.Idx) (h : ∀ a, (j a).val = (y a).val) :
    ((win1_0.blk t).view.read (Elt F) (W (cRef main_v18))) j = blk0 W t y := by
  unfold blk0
  refine congrArg (W (cRef main_v18) : S16392x128.Idx → Elt F .f32) (ix2_ext _ _ _ ?_ ?_)
  · refine (Pipeline.Window.rect_emb_val win1_0 t j 0).trans ?_
    rw [(idx0 t).1, h 0]; rfl
  · refine (Pipeline.Window.rect_emb_val win1_0 t j 1).trans ?_
    rw [(idx0 t).2, h 1]; exact (congrArg (· + _) (Nat.zero_mul _)).trans (Nat.zero_add _)

theorem read1 (t : Fin cfg1.N) : ((win1_1.blk t).view.read (Elt F) (W (cRef main_arg2))) = blk1 W t := by
  funext y
  unfold blk1
  refine congrArg (W (cRef main_arg2) : S4096x64.Idx → Elt F .f32) (ix2_ext _ _ _ ?_ ?_)
  · refine (Pipeline.Window.rect_emb_val win1_1 t y 0).trans ?_
    rw [(idx1 t).1]; rfl
  · refine (Pipeline.Window.rect_emb_val win1_1 t y 1).trans ?_
    rw [(idx1 t).2]; exact (congrArg (· + _) (Nat.zero_mul _)).trans (Nat.zero_add _)

theorem read2 (t : Fin cfg1.N) : ((win1_2.blk t).view.read (Elt F) (sumOf W)) = blk2 W t := by
  funext y
  unfold blk2
  refine congrArg (sumOf W) (ix2_ext _ _ _ ?_ ?_)
  · refine (Pipeline.Window.rect_emb_val win1_2 t y 0).trans ?_
    rw [(idx2 t).1]; rfl
  · refine (Pipeline.Window.rect_emb_val win1_2 t y 1).trans ?_
    rw [(idx2 t).2]; exact (congrArg (· + _) (Nat.zero_mul _)).trans (Nat.zero_add _)

theorem before0 (c : Dev nD) (t : Fin cfg1.N) (d : S512x128.Idx → Elt F .f32) : (dat W c).before 0 t d = blk0 W t := by
  rw [(dat W c).before_fetched 0 t (fetch1_0 t) d]
  funext y
  have hm : win1_0.moved (grid1.coords t) y = true :=
    (win1_0.moved_iff _ y).mpr fun a => by have := (y a).isLt; unfold Pipeline.Window.xsize; rw [clip0 t a]; exact this
  show win1_0.fill (grid1.coords t) d ((win1_0.blk t).view.read (Elt F) (W (cRef main_v18))) y = _
  unfold Pipeline.Window.fill
  rw [dif_pos hm]
  exact read0 W t _ y fun _ => rfl

theorem before1 (c : Dev nD) (t : Fin cfg1.N) (d : S512x64.Idx → Elt F .f32) : (dat W c).before 1 t d = blk1 W t := by
  rw [(dat W c).before_fetched 1 t (fetch1_1 t) d]
  exact read1 W t

theorem mem_blk2 (t : Fin cfg1.N) (x : S16384x64.Idx) (h : (x 0).val / 512 = t.val) : x ∈ ((cfg1.win 2).blk t).view.set := by
  have hx0 : (x 0).val < 16384 := (x 0).isLt
  have hx1 : (x 1).val < 64 := (x 1).isLt
  show x ∈ ((View.whole main_v19).slice (win1_2.rect t)).set
  rw [View.set_slice_whole, Rect.mem_set_unit]
  intro a
  match a with
  | ⟨0, _⟩ =>
    show win1_2.index t 0 * 512 ≤ (x 0).val ∧ (x 0).val < win1_2.index t 0 * 512 + 512
    rw [(idx2 t).1]
    omega
  | ⟨1, _⟩ =>
    show win1_2.index t 1 * 64 ≤ (x 1).val ∧ (x 1).val < win1_2.index t 1 * 64 + 64
    rw [(idx2 t).2]
    omega

theorem cover2 (x : S16384x64.Idx) : ∃ t : Fin cfg1.N, (cfg1.win 2).flush t = true ∧ x ∈ ((cfg1.win 2).blk t).view.set :=
  ⟨⟨(x 0).val / 512, by show _ < grid1.N; have hx0 : (x 0).val < 16384 := (x 0).isLt; rw [N_1]; omega⟩, flush1_2 _, mem_blk2 _ x rfl⟩

theorem final2 (c : Dev nD) : (dat W c).arrAt 2 cfg1.N = sumOf W :=
  (dat W c).arrAt_eq_of_cover 2 (sumOf W) (fun t _ => (read2 W t).symm) cover2

/-! ## The body at a point, and the region -/

abbrev adm : (p : Fin 1) → (pcfgs (F := F) p).Adm := fun p => (cfgs p).toPCfg_adm

def dats : (p : Fin 1) → (c : Dev nD) → Dat τ (Elt F) (HIx 1) ℕ UU ℕ (Pipeline.pin (pcfgs (F := F)) adm p) c := fun _ c => dat W c

theorem body_ob [∀ e, Nonempty (Elt F e)] (c : Dev nD) : BodyObligation (dat W c) (defs₀ (F := F)) 𝒱₀ none Set.univ := fun t => by
  rw [bigSep_W1, bigSep_W1]
  show iprop((dat W c).Φ t.castSucc ∗ (dat W c).owesAt none t.castSucc ∗ (∃ d, owns (c : Thread nD τ) (st1_0 t) fullShare ((dat W c).before 0 t d))
      ∗ (∃ d, owns (c : Thread nD τ) (st1_1 t) fullShare ((dat W c).before 1 t d)) ∗ (∃ d, owns (c : Thread nD τ) (st1_2 t) fullShare ((dat W c).before 2 t d)))
    ⊢ wp frame (wpE (defs₀ (F := F)) 𝒱₀ (c : Thread nD τ) none) Set.univ (bodyAt1 t) fun _ =>
      iprop((dat W c).Φ t.castSucc ∗ (dat W c).owesAt none t.castSucc ∗ owns (c : Thread nD τ) (st1_0 t) fullShare (blk0 W t)
        ∗ owns (c : Thread nD τ) (st1_1 t) fullShare (blk1 W t) ∗ owns (c : Thread nD τ) (st1_2 t) fullShare (blk2 W t))
  iintro ⟨HΦ, HO, ⟨%d0, H0⟩, ⟨%d1, H1⟩, ⟨%d2, H2⟩⟩
  rw [before0, before1]
  iapply (add_triple (F := F) c (grid1.coords t) _ _ _ _ _ _ (blk0 W t) (blk1 W t) ((dat W c).before 2 t d2) _)
  isplitl [H0]; · iexact H0
  isplitl [H1]; · iexact H1
  isplitl [H2]; · iexact H2
  rw [pay_eq]
  iintro ⟨H0, H1, H2⟩
  isplitl [HΦ]; · iexact HΦ
  isplitl [HO]; · iexact HO
  isplitl [H0]; · iexact H0
  isplitl [H1]; · iexact H1
  iexact H2

/-- The unscoped buffers after the region: the result at the positional sum. -/
def afterSum : Valuation τ sig (Elt F) := Function.update W (cRef main_v19) (sumOf W)

theorem afterSum_out : afterSum W (cRef main_v19) = sumOf W := Function.update_self ..
theorem afterSum_ne (b : Ref sig .tc) (h : b ≠ main_v19) : afterSum W (cRef b) = W (cRef b) :=
  Function.update_of_ne (fun h' => h (Proc.devRef_injective _ h')) ..

/-- What rides beside: what the core owes (nothing), its recorded waits below the first call's last stage. -/
abbrev owed8 (c : Dev nD) : sProp 𝕄 := iprop(∃ Wd, ⌜(K (F := F)).WBelow (T c) Wd 8⌝ ∗ owes (c : Thread nD τ) (0 : CellTallies nD τ sig (HIx 1)) Wd)

set_option backward.isDefEq.respectTransparency.types false in
def reg [∀ e, Nonempty (Elt F e)] : Pipeline.RegionSeg (pcfgs (F := F)) adm (dats W) none defs₀ 𝒱₀ (K (F := F)).L (K (F := F)).lev 0 where
  win := (launch1).win.to₀
  block_pos := (launch1).block_pos
  stage_whole := (launch1).stage_whole
  K := PEmpty
  osem k := k.elim
  ho := Pipeline.OwnSemFacts.none _
  hbody c := (body_ob W c).loose
  hwaits := Pipeline.hwaits_of_owed_zero _ _ _ _ _ _ 0 fun _ _ => rfl
  pre c := iprop(unscopedBufs c (fun b => W (cRef b)) ∗ owed8 c)
  post c := iprop(unscopedBufs c (fun b => afterSum W (cRef b)) ∗ owed8 c)
  X _ := BI.emp
  Y _ := BI.emp
  Z c := Pipeline.unscopedRest spec1 c fun b => W (cRef b)
  hentry c := by
    rw [Pipeline.ownSems0_none]
    have hs := Pipeline.arrays_of_unscopedBufs (p := 0) (pcfgs (F := F)) adm (dats W) (launch1).win (launch1).arr_whole c
      ((dats W 0 c).share_full fun _ => rfl) (fun b => W (cRef b)) fun _ => rfl
    iintro ⟨⟨Hub, ⟨%Wd, %hWd, HO⟩⟩, -, -⟩
    ihave H := hs $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists Wd; isplitr; · ipureintro; exact fun p hp => Or.inl (hWd p hp)
      iexact HO
    isplitr; · iempintro
    iexact Hrest
  hin c := by
    rw [show (dats W 0 c).Φ 0 = Pipeline.scopedRest spec1 c from rfl]
    iintro ⟨-, -, Hr⟩; iexact Hr
  hout c := by
    rw [Pipeline.ownSems0_none, show (dats W 0 c).Φ (Fin.last _) = Pipeline.scopedRest spec1 c from rfl]
    iintro Hr
    isplitr; · iempintro
    isplitr; · iempintro
    iexact Hr
  hexit c := by
    have hj := Pipeline.unscopedBufs_of_arrays (p := 0) (pcfgs (F := F)) adm (Ix := HIx 1) (Name := ℕ) (U := UU) (Lvl := ℕ) (launch1).win (launch1).arr_whole c
      (dats W) ((dats W 0 c).share_full fun _ => rfl) (fun b => W (cRef b)) (fun b => afterSum W (cRef b)) ((dats W 0 c).arrAt · cfg1.N)
      (fun w => by
        fin_cases w
        · exact ((dats W 0 c).arrAt_in 0 rfl _).trans (afterSum_ne W main_v18 (by decide)).symm
        · exact ((dats W 0 c).arrAt_in 1 rfl _).trans (afterSum_ne W main_arg2 (by decide)).symm
        · exact (final2 W c).trans (afterSum_out W).symm)
      (fun b hb => afterSum_ne W b fun h => hb (h ▸ Finset.mem_image.mpr ⟨2, Finset.mem_univ _, rfl⟩))
    iintro ⟨Ha, HO, -, Hrest⟩
    imodintro
    isplitl [Ha Hrest]
    · iapply hj; isplitl [Ha] <;> iassumption
    unfold Pipeline.Dat.owesAt Pipeline.owesWithin
    icases HO with ⟨%Wd, %hWd, HO⟩; iexists Wd
    isplitr
    · ipureintro
      intro p hp
      rcases hWd (Finset.mem_coe.mpr hp) with h | ⟨w, s, h⟩
      · exact h
      · rw [h]
        exact Nat.zero_le _
    iexact HO

end Cert.Proof.Emb

end
-- ==== Proof.Ghost.lean ====
/-
  The launch's ghost state, and the junk row in and out of its invariant.
-/
module

public import proofs.«01_k».proof.Proof.Split
public import proofs.«01_k».proof.Proof.HostFacts
public import proofs.«01_k».proof.Proof.Region

@[expose] public section

noncomputable section

namespace Cert.Proof.Emb

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The junk row, in and out of its invariant -/

theorem junkRow_junkRow (d : Dev nD) : iprop(junkRow (F := F) d ∗ junkRow (F := F) d) ⊢ (iprop(⌜False⌝) : sProp 𝕄) := by
  unfold junkRow
  iintro ⟨⟨%f, H⟩, ⟨%g, H'⟩⟩
  iapply (pointsTo_full_full_false (ℓ := oLoc d) (i := ix2 (⟨16384, by decide⟩ : Fin 16392) (⟨0, by decide⟩ : Fin 128))
    ((mem_rowSet _ _).mpr rfl) ((mem_rowSet _ _).mpr rfl))
  isplitl [H]; · iexact H
  iexact H'

theorem allToks_allToks (d : Dev nD) : iprop(allToks (F := F) d ∗ allToks (F := F) d) ⊢ (iprop(⌜False⌝) : sProp 𝕄) := by
  unfold allToks toks
  rw [SparseCore.bigSep_erase' (Finset.mem_univ (0 : Fin 32)), SparseCore.bigSep_erase' (Finset.mem_univ (0 : Fin 64))]
  unfold tok
  iintro ⟨⟨⟨H, -⟩, -⟩, ⟨⟨H', -⟩, -⟩⟩
  iexfalso
  iapply (dutyTok_dutyTok_false (E := ET (F := F)) (g := d) (r := (0 : Fin 32).val) (d := (0 : Fin 64).val))
  isplitl [H]; · iexact H
  iexact H'

/-- The row goes in, the tokens come out. -/
theorem swap_in (d : Dev nD) : iprop(junkInv (F := F) d ∗ junkRow (F := F) d) ⊢ (iprop(|={Set.univ}=> allToks (F := F) d) : sProp 𝕄) := by
  unfold junkInv
  iintro ⟨⟨%κ, #Hi⟩, Hr⟩
  imod (inv_acc (ι := κ) (P := junk (F := F) d) (Set.mem_univ κ)) $$ Hi with ⟨Hj, Hc⟩
  unfold junk
  icases Hj with (Hj | Hj)
  · iexfalso
    ihave H := (junkRow_junkRow d) $$ [Hr Hj]
    · isplitl [Hr] <;> iassumption
    icases H with %h
    exact h.elim
  · imod Hc $$ [Hr] with -
    · ileft; iexact Hr
    imodintro
    iexact Hj

/-- The tokens go in, the row comes out. -/
theorem swap_out (d : Dev nD) : iprop(junkInv (F := F) d ∗ allToks (F := F) d) ⊢ (iprop(|={Set.univ}=> junkRow (F := F) d) : sProp 𝕄) := by
  unfold junkInv
  iintro ⟨⟨%κ, #Hi⟩, Hr⟩
  imod (inv_acc (ι := κ) (P := junk (F := F) d) (Set.mem_univ κ)) $$ Hi with ⟨Hj, Hc⟩
  unfold junk
  icases Hj with (Hj | Hj)
  · imod Hc $$ [Hr] with -
    · iright; iexact Hr
    imodintro
    iexact Hj
  · iexfalso
    ihave H := (allToks_allToks d) $$ [Hr Hj]
    · isplitl [Hr] <;> iassumption
    icases H with %h
    exact h.elim

/-! ## The launch element -/

theorem phinj : Function.Injective (Pipeline.cellOf (nD := nD) (τ := τ) (Pipeline.pin (pcfgs (F := F)) adm)) := cellOf_inj

/-- The junk row's tokens, one per worker and entry of a flush. -/
def rowToks : Finset (Dev nD × ℕ × ℕ) := (Finset.univ : Finset (Dev nD × Fin 32 × Fin 64)).image fun x => (x.1, x.2.1.val, x.2.2.val)

theorem rowToks_eq : (bigSep rowToks fun x => dutyTok (ET (F := F)) x.1 x.2.1 x.2.2) = bigSep Finset.univ fun d : Dev nD => allToks (F := F) d := by
  unfold rowToks
  rw [bigSep_image_of_injOn (fun a _ b _ h => by
    obtain ⟨h1, h2⟩ := Prod.mk.inj h
    obtain ⟨h2, h3⟩ := Prod.mk.inj h2
    exact Prod.ext h1 (Prod.ext (Fin.ext h2) (Fin.ext h3))), bigSep_univ_prod]
  refine bigSep_congr fun d _ => ?_
  rw [bigSep_univ_prod]
  rfl

def u₀ : UU := (initOf (K (F := F)).hsCells (K (F := F)).hsToks,
  (initOf (Pipeline.cells (Pipeline.pin (pcfgs (F := F)) adm) phinj) (Pipeline.launchToks (Pipeline.pin (pcfgs (F := F)) adm) phinj), (initOf ∅ rowToks, 1)))

/-- What a TensorCore's @main starts with beside its buffers: the junk row's invariant and the grid pipeline's ghost state. -/
def G (d : Dev nD) : sProp 𝕄 :=
  iprop(junkInv (F := F) d ∗ Pipeline.cellsGhost (Pipeline.pin (pcfgs (F := F)) adm) (EP (F := F)) 0 d
    ∗ Pipeline.toksInit (Pipeline.pin (pcfgs (F := F)) adm) (EP (F := F)) 0 d)

theorem one_dev (Φ : Dev nD → sProp 𝕄) : bigSep Finset.univ Φ = Φ 0 := bigSep_univ_of_subsingleton (0 : Fin 1)
theorem one_p (Φ : Fin 1 → sProp 𝕄) : bigSep Finset.univ Φ = Φ 0 := bigSep_univ_of_subsingleton (0 : Fin 1)

theorem u₀_split : (ownU (u₀ (F := F)) : sProp 𝕄) ⊢ iprop(BI.own (EH (initOf (K (F := F)).hsCells (K (F := F)).hsToks))
    ∗ BI.own (EP (F := F) (initOf (Pipeline.cells (Pipeline.pin (pcfgs (F := F)) adm) phinj) (Pipeline.launchToks (Pipeline.pin (pcfgs (F := F)) adm) phinj)))
    ∗ BI.own (ET (F := F) (initOf ∅ rowToks))) := by
  unfold u₀
  refine (ownU_pair _ _).trans (BI.sep_mono (BI.Entails.refl _) ?_)
  refine (own_pair_emb (A := UP) (B := UT × Counters) (M' := 𝕄) (embR : Emb (UP × (UT × Counters)) 𝕄) _ _).trans (BI.sep_mono (BI.Entails.refl _) ?_)
  refine (own_pair_emb (A := UT) (B := Counters) (M' := 𝕄) _ _ _).trans ?_
  exact sep_elim_left

variable (tA : (d : Dev nD) → Buf (Elt F) (tLoc d)) (pA : (d : Dev nD) → Buf (Elt F) (pLoc d)) (wA : (d : Dev nD) → Buf (Elt F) (wLoc d))

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P tA pA wA).x q thr) := by
  iintro Hu
  ihave H := u₀_split $$ Hu
  icases H with ⟨HH, HP, HT⟩
  imod (Pipeline.fund_ghost (Pipeline.pin (pcfgs (F := F)) adm) (EP (F := F)) phinj) $$ HP with ⟨Hg, Ht⟩
  ihave HT := (own_initOf (ET (F := F)) ∅ rowToks) $$ HT
  icases HT with ⟨-, -, HT⟩
  ihave HT := (Entails.of_eq (rowToks_eq (F := F))) $$ HT
  ihave HT := (Entails.of_eq (one_dev (F := F) (fun d => allToks d))) $$ HT
  imod (inv_alloc (P := junk (F := F) 0) (E := Set.univ)) $$ [HT] with ⟨%κ, #Hi⟩
  · unfold junk
    iright; iexact HT
  imodintro
  isplitl [HH]; · iexact HH
  rw [one_dev (F := F) (fun d => G d)]
  isplitl [Hg Ht]
  · unfold G junkInv
    isplitr
    · iexists κ; iexact Hi
    ihave Hg := (Entails.of_eq ((one_dev (F := F) _).trans (one_p _))) $$ Hg
    ihave Ht := (Entails.of_eq ((one_dev (F := F) _).trans (one_p _))) $$ Ht
    isplitl [Hg]; · iexact Hg
    iexact Ht
  iapply (show inv κ (junk (F := F) 0) ⊢ bigSep Finset.univ fun thr : Thread nD τ => bigSep Finset.univ fun q : Fin 1 => (P tA pA wA).x q thr from
    bigSep_intro_persistent fun thr _ => bigSep_intro_persistent fun q _ => by
      show inv κ (junk (F := F) 0) ⊢ junkInv (F := F) thr.1
      have h0 : thr.1 = (0 : Dev nD) := Subsingleton.elim (α := Fin 1) _ _
      rw [h0]
      unfold junkInv
      iintro H
      iexists κ
      iexact H)
  iexact Hi

end Cert.Proof.Emb

end
-- ==== Proof.Run.lean ====
/-
  @main on the TensorCore and the whole program's run.
-/
module

public import proofs.«01_k».proof.Proof.Ghost

@[expose] public section

noncomputable section

namespace Cert.Proof.Emb

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.StableHlo (held after)

/-! ## The buffers the call takes, out of all the TensorCore holds -/

abbrev callRefs : Finset (DevRef τ sig) := {cRef main_v10, cRef main_v15, cRef main_v17, cRef main_v18}

theorem callRefs_sub : callRefs ⊆ Pipeline.ucRefs τ sig := by
  intro b hb
  simp only [Finset.mem_insert, Finset.mem_singleton] at hb
  rcases hb with h | h | h | h <;> subst h <;> exact Finset.mem_filter.mpr ⟨StableHlo.devRef_mem_tcRefs _, by decide⟩

variable (tA : (d : Dev nD) → Buf (Elt F) (tLoc d)) (pA : (d : Dev nD) → Buf (Elt F) (pLoc d)) (wA : (d : Dev nD) → Buf (Elt F) (wLoc d))

theorem held_four (d : Dev nD) (V : Valuation τ sig (Elt F)) :
    (held (T d) callRefs V : sProp 𝕄) = iprop((tLoc d ↦{fullShare} V (cRef main_v10)) ∗ (pLoc d ↦{fullShare} V (cRef main_v15))
      ∗ (wLoc d ↦{fullShare} V (cRef main_v17)) ∗ (oLoc d ↦{fullShare} V (cRef main_v18))) := by
  unfold held
  rw [SparseCore.bigSep_insert' (by decide), SparseCore.bigSep_insert' (by decide), SparseCore.bigSep_insert' (by decide), bigSep_singleton]

theorem held_call (d : Dev nD) (V : Valuation τ sig (Elt F)) (h1 : V (cRef main_v10) = tA d) (h2 : V (cRef main_v15) = pA d) (h3 : V (cRef main_v17) = wA d) :
    (held (T d) (Pipeline.ucRefs τ sig) V : sProp 𝕄)
      = iprop(((tLoc d ↦{fullShare} tA d) ∗ (pLoc d ↦{fullShare} pA d) ∗ (wLoc d ↦{fullShare} wA d) ∗ (oLoc d ↦{fullShare} V (cRef main_v18)))
        ∗ held (T d) (Pipeline.ucRefs τ sig \ callRefs) V) := by
  rw [StableHlo.held_sub_split (T d) callRefs_sub V, held_four, h1, h2, h3]

/-- The valuation after the call: the intermediate at what the subcores left. -/
def afterCall (V : Valuation τ sig (Elt F)) (g : S16392x128.Idx → Elt F .f32) : Valuation τ sig (Elt F) := Function.update V (cRef main_v18) g

theorem afterCall_out (V : Valuation τ sig (Elt F)) (g : S16392x128.Idx → Elt F .f32) : afterCall V g (cRef main_v18) = g := Function.update_self ..
theorem afterCall_ne (V : Valuation τ sig (Elt F)) (g : S16392x128.Idx → Elt F .f32) (b : Ref sig .tc) (h : b ≠ main_v18) :
    afterCall V g (cRef b) = V (cRef b) := Function.update_of_ne (fun h' => h (Proc.devRef_injective _ h')) ..

theorem held_rest (d : Dev nD) (V : Valuation τ sig (Elt F)) (g : S16392x128.Idx → Elt F .f32) :
    (held (T d) (Pipeline.ucRefs τ sig \ callRefs) (afterCall V g) : sProp 𝕄) = held (T d) (Pipeline.ucRefs τ sig \ callRefs) V :=
  StableHlo.held_congr _ fun b hb => Function.update_of_ne (fun h => (Finset.mem_sdiff.mp hb).2 (by rw [h]; decide)) _ _

theorem held_called (d : Dev nD) (V : Valuation τ sig (Elt F)) (h1 : V (cRef main_v10) = tA d) (h2 : V (cRef main_v15) = pA d) (h3 : V (cRef main_v17) = wA d)
    (g : S16392x128.Idx → Elt F .f32) :
    iprop(((tLoc d ↦{fullShare} tA d) ∗ (pLoc d ↦{fullShare} pA d) ∗ (wLoc d ↦{fullShare} wA d) ∗ (oLoc d ↦{fullShare} (g : Buf (Elt F) (oLoc d))))
        ∗ held (T d) (Pipeline.ucRefs τ sig \ callRefs) V)
      = (held (T d) (Pipeline.ucRefs τ sig) (afterCall V g) : sProp 𝕄) := by
  rw [held_call tA pA wA d (afterCall V g) ((afterCall_ne V g _ (by decide)).trans h1) ((afterCall_ne V g _ (by decide)).trans h2)
    ((afterCall_ne V g _ (by decide)).trans h3), afterCall_out]
  rw [held_rest]

theorem st0_eq (d : Dev nD) : (bigSep Finset.univ fun c : Fin ((K (F := F)).nCore 0) => (P tA pA wA).st 0 d c)
    = bigSep Finset.univ fun c : Fin 2 => bigSep Finset.univ fun i : Fin 16 => taskIn tA pA wA d c i := rfl
theorem dn0_eq (d : Dev nD) : (bigSep Finset.univ fun c : Fin ((K (F := F)).nCore 0) => (P tA pA wA).dn 0 d c)
    = bigSep Finset.univ fun c : Fin 2 => bigSep Finset.univ fun i : Fin 16 => taskOut tA pA wA d c i := rfl

theorem tasks_in (d : Dev nD) :
    iprop(((tLoc d ↦{fullShare} tA d) ∗ (pLoc d ↦{fullShare} pA d) ∗ (wLoc d ↦{fullShare} wA d))
      ∗ (bigSep Finset.univ fun c : Fin 2 => bigSep Finset.univ fun i : Fin 16 => rowsIn tA pA d c i) ∗ allToks (F := F) d)
    = bigSep Finset.univ fun c : Fin ((K (F := F)).nCore 0) => (P tA pA wA).st 0 d c := by
  rw [st0_eq, opnds_all, allToks_eq]
  unfold taskIn
  simp only [bigSep_sep']

theorem tasks_out (d : Dev nD) :
    (bigSep Finset.univ fun c : Fin ((K (F := F)).nCore 0) => (P tA pA wA).dn 0 d c)
    = iprop(((tLoc d ↦{fullShare} tA d) ∗ (pLoc d ↦{fullShare} pA d) ∗ (wLoc d ↦{fullShare} wA d))
      ∗ (bigSep Finset.univ fun c : Fin 2 => bigSep Finset.univ fun i : Fin 16 => rowsOut tA pA wA d c i) ∗ allToks (F := F) d) := by
  rw [dn0_eq, opnds_all, allToks_eq]
  unfold taskOut
  simp only [bigSep_sep']

variable [FloatOps F] {tA pA wA}

/-- The SparseCores' call on the TensorCore. -/
theorem call (hH : ∀ d, HostOK (tA d) (pA d)) (κ : GSem nD τ sig → ℕ) (d : Dev nD) (V : Valuation τ sig (Elt F))
    (h1 : V (cRef main_v10) = tA d) (h2 : V (cRef main_v15) = pA d) (h3 : V (cRef main_v17) = wA d) (Q : PUnit → sProp 𝕄) :
    iprop((K (F := F)).ctx EH (P tA pA wA) κ ∗ junkInv (F := F) d ∗ (K (F := F)).tcSt EH d 0 ∗ held (T d) (Pipeline.ucRefs τ sig) V
        ∗ (∀ g : S16392x128.Idx → Elt F .f32, (K (F := F)).tcSt EH d 1 -∗ held (T d) (Pipeline.ucRefs τ sig) (afterCall V g)
            -∗ ⌜∀ c i, Done (cV2 c i) (tA d) (pA d) (wA d) (g : Buf (Elt F) (oLoc d))⌝ -∗ |={Set.univ}=> Q ⟨⟩))
      ⊢ wp frame (wpE ((K (F := F)).defs (D (F := F))) 𝒱 (T d) none) Set.univ ((K (F := F)).run d 0) Q := by
  rw [held_call tA pA wA d V h1 h2 h3]
  iintro ⟨#Hctx, #Hji, Hst, ⟨⟨Ht, Hp, Hw, Ho⟩, Hrest⟩, HQ⟩
  ihave Ho := (rows_split (tA := tA) (pA := pA) (hH d) (V (cRef main_v18) : Buf (Elt F) (oLoc d))) $$ Ho
  icases Ho with ⟨Ho, Hj, Hor⟩
  imod (swap_in (F := F) d) $$ [Hj] with Htk
  · isplitr; · iexact Hji
    iexact Hj
  ihave Hs := (Entails.of_eq (tasks_in tA pA wA d)) $$ [Ht Hp Hw Ho Htk]
  · isplitl [Ht Hp Hw]
    · isplitl [Ht]; · iexact Ht
      isplitl [Hp]; · iexact Hp
      iexact Hw
    isplitl [Ho]; · iexact Ho
    iexact Htk
  iapply (wp_fupd frame _ _)
  iapply ((K (F := F)).wp_run (D (F := F)) 𝒱 (EH := EH) (P := P tA pA wA) κ d 0) $$ [Hst Hs Hor Hrest HQ]
  isplitr; · iexact Hctx
  isplitl [Hst]; · iexact Hst
  isplitl [Hs]; · iexact Hs
  iintro ⟨Hst, Hdn⟩
  ihave Hdn := (Entails.of_eq (tasks_out tA pA wA d)) $$ Hdn
  icases Hdn with ⟨⟨Ht, Hp, Hw⟩, Ho, Htk⟩
  imod (swap_out (F := F) d) $$ [Htk] with Hj
  · isplitr; · iexact Hji
    iexact Htk
  ihave Ho := (rows_join (tA := tA) (pA := pA) wA (hH d) (V (cRef main_v18) : Buf (Elt F) (oLoc d))) $$ [Ho Hj Hor]
  · isplitl [Ho]; · iexact Ho
    isplitl [Hj]; · iexact Hj
    iexact Hor
  icases Ho with ⟨%g, Ho, %hg⟩
  ihave Hh := (Entails.of_eq (held_called tA pA wA d V h1 h2 h3 g)) $$ [Ht Hp Hw Ho Hrest]
  · isplitl [Ht Hp Hw Ho]
    · isplitl [Ht]; · iexact Ht
      isplitl [Hp]; · iexact Hp
      isplitl [Hw]; · iexact Hw
      iexact Ho
    iexact Hrest
  ihave Hst := (show (K (F := F)).tcSt EH d ((0 : Fin 1).val + 1) ⊢ ((K (F := F)).tcSt EH d 1 : sProp 𝕄) from BI.Entails.refl _) $$ Hst
  iapply HQ $$ Hst Hh
  ipureintro
  exact hg

end Cert.Proof.Emb

end
-- ==== Proof.Main.lean ====
/-
  @main on the TensorCore from end to end, and the whole program's run.
-/
module

public import proofs.«01_k».proof.Proof.Run

@[expose] public section

noncomputable section

namespace Cert.Proof.Emb

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.StableHlo (held after)
open Idealize.ShloMosaic.TcCoe

variable [FloatOps F]

/-! ## The grid kernel's call -/

/-- What the TensorCore owes, out of its state after the last call, and back. -/
theorem tcSt_owed (d : Dev nD) : ((K (F := F)).tcSt EH d 1 : sProp 𝕄) ⊢ iprop(owed8 (F := F) d ∗ (owed8 (F := F) d -∗ (K (F := F)).tcSt EH d 1)) := by
  unfold SparseCore.Cfg.tcSt
  rw [(K (F := F)).Otc_end d (le_refl 1)]
  iintro ⟨H, Hr⟩
  isplitl [H]; · iexact H
  iintro H
  isplitl [H]; · iexact H
  iexact Hr

theorem lift_entry : SparseCore.liftProg (Q := 1) (.op (.customCall (Pipeline.entry 0) ()) .ret : Prog (TpuEff nD τ sig (Elt F) (ΛP (F := F)) .tc) PUnit)
    = (Prog.lift (.customCall (SparseCore.inner (Pipeline.entry 0)) ()) : Prog (TpuEff nD τ sig (Elt F) (SparseCore.Sig (ΛP (F := F)) 1) .tc) PUnit) := rfl

theorem reg_pre [∀ e, Nonempty (Elt F e)] (d : Dev nD) (W : Valuation τ sig (Elt F)) :
    (reg W).pre d = iprop(unscopedBufs d (fun b => W (cRef b)) ∗ owed8 (F := F) d) := rfl
theorem reg_post [∀ e, Nonempty (Elt F e)] (d : Dev nD) (W : Valuation τ sig (Elt F)) :
    (reg W).post d = iprop(unscopedBufs d (fun b => afterSum W (cRef b)) ∗ owed8 (F := F) d) := rfl

theorem region (d : Dev nD) (W : Valuation τ sig (Elt F)) (κ : GSem nD τ sig → ℕ) (P' : (K (F := F)).Pay (N := 1) (nD := nD) (Val := Elt F) (Name := ℕ) (U := UU)) (Q : PUnit → sProp 𝕄) :
    iprop((K (F := F)).ctx EH P' κ ∗ boundary (T d) ∗ (K (F := F)).tcSt EH d 1 ∗ held (T d) (Pipeline.ucRefs τ sig) W
        ∗ Pipeline.cellsGhost (Pipeline.pin (pcfgs (F := F)) adm) (EP (F := F)) 0 d ∗ Pipeline.toksInit (Pipeline.pin (pcfgs (F := F)) adm) (EP (F := F)) 0 d
        ∗ ((K (F := F)).tcSt EH d 1 -∗ boundary (T d) -∗ held (T d) (Pipeline.ucRefs τ sig) (afterSum W) -∗ Q ⟨⟩))
      ⊢ wp frame (wpE ((K (F := F)).defs (D (F := F))) 𝒱 (T d) none) Set.univ
          (Prog.lift (.customCall (SparseCore.inner (Pipeline.entry 0)) ()) : Prog (TpuEff nD τ sig (Elt F) (SparseCore.Sig (ΛP (F := F)) 1) .tc) PUnit) Q := by
  have : ∀ e, Nonempty (Elt F e) := Elt.nonempty (F := F)
  rw [← lift_entry]
  rw [← Pipeline.unscopedBufs_held d W, ← Pipeline.unscopedBufs_held d (afterSum W)]
  iintro ⟨#Hctx, Hb, Hst, Hh, Hg, Ht, HQ⟩
  iapply ((K (F := F)).wp_liftProg (D (F := F)) 𝒱 (T d) Set.univ none _ _)
  iapply (Pipeline.RegionSeg.wp (pcfgs (F := F)) adm (dats W) none phinj (EP (F := F)) defs₀ 𝒱₀ (K (F := F)).L (K (F := F)).lev (reg W) d none
    (fun _ h => nomatch h) .ret Q)
  ihave Hlv := ((K (F := F)).ctx_levAts (EH := EH) (P := P') κ) $$ Hctx
  ihave Hst := (tcSt_owed d) $$ Hst
  icases Hst with ⟨HO, Hst⟩
  isplitl [Hst HQ]
  · iintro ⟨Hb, Hpost⟩
    ihave Hpost := (Entails.of_eq (reg_post d W)) $$ Hpost
    icases Hpost with ⟨Hh, HO⟩
    ihave Hst := Hst $$ HO
    ihave HQ := HQ $$ Hst Hb Hh
    iapply ((fupd_intro).trans (Entails.of_eq (wp_ret _ _ _ _ _).symm))
    iexact HQ
  isplitl [Hb]; · iexact Hb
  isplitl [Hh HO]
  · iapply (Entails.of_eq (reg_pre d W).symm)
    isplitl [Hh]; · iexact Hh
    iexact HO
  isplitl [Hlv]; · iexact Hlv
  isplitl [Hg]; · iexact Hg
  iexact Ht

/-! ## @main -/

variable (m : (ℓ : Loc nD τ sig) → Buf (Elt F) ℓ) (ρ : Dev nD → PrngReg)

/-- The launch's contents of a device. -/
def V₀ (d : Dev nD) : Valuation τ sig (Elt F) := fun b => m (d, b)

/-- The call's operands, of the launch's arguments. -/
def tM (d : Dev nD) : Buf (Elt F) (tLoc d) := tOf (F := F) (idsOf (F := F) (m ((SparseCore.T d).loc main_arg0)))
def pM (d : Dev nD) : Buf (Elt F) (pLoc d) := pOf (F := F) (idsOf (F := F) (m ((SparseCore.T d).loc main_arg0)))
def wM (d : Dev nD) : Buf (Elt F) (wLoc d) := wOf (F := F) (m ((SparseCore.T d).loc main_arg1))

theorem hostOK_m (d : Dev nD) : HostOK (tM m d) (pM m d) := hostOK d _

open Idealize.ShloMosaic.StableHlo in
set_option maxRecDepth 8192 in
theorem hostOps_tc : (hostOps (F := F)).Forall fun op => op.bufs ⊆ StableHlo.tcRefs τ sig :=
  ⟨reshape_bufs_sub .., nullary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., unary_bufs_sub .., nullary_bufs_sub .., unary_bufs_sub .., binary_bufs_sub ..⟩

theorem hostOps_sub : ∀ op ∈ (hostOps (F := F)), op.bufs ⊆ Pipeline.ucRefs τ sig := fun op hop =>
  Pipeline.sub_ucRefs op (List.forall_iff_forall_mem.mp hostOps_tc op hop)

/-- The last operation. -/
abbrev outOp : HloOp τ sig (Elt F) := StableHlo.reshape main_v19 main_v20 (rfl : (.f32 : EltTy) = .f32) shapeCasts_S16384x64_S4x4096x64

/-- What @main ends with, the subcores having left `g`. -/
def endV (d : Dev nD) (g : S16392x128.Idx → Elt F .f32) : Valuation τ sig (Elt F) := outOp.result (afterSum (afterCall (after hostOps (V₀ m d)) g))

def FIN (d : Dev nD) : sProp 𝕄 :=
  iprop(∃ g : S16392x128.Idx → Elt F .f32, held (T d) (Pipeline.ucRefs τ sig) (endV m d g)
    ∗ ⌜∀ c i, Done (cV2 c i) (tM m d) (pM m d) (wM m d) (g : Buf (Elt F) (oLoc d))⌝)

theorem tail_wp (κ : GSem nD τ sig → ℕ) (d : Dev nD) :
    iprop((K (F := F)).ctx EH (P (tM m) (pM m) (wM m)) κ ∗ junkInv (F := F) d ∗ (K (F := F)).tcSt EH d 0 ∗ boundary (T d)
        ∗ held (T d) (Pipeline.ucRefs τ sig) (after hostOps (V₀ m d)) ∗ (K (F := F)).tcSems0 d
        ∗ Pipeline.cellsGhost (Pipeline.pin (pcfgs (F := F)) adm) (EP (F := F)) 0 d ∗ Pipeline.toksInit (Pipeline.pin (pcfgs (F := F)) adm) (EP (F := F)) 0 d)
      ⊢ wp frame (wpE ((K (F := F)).defs (D (F := F))) 𝒱 (T d) none) Set.univ (tail (F := F) d)
          fun _ => iprop((K (F := F)).tcSt EH d 1 ∗ FIN m d ∗ (K (F := F)).tcEnd d) := by
  unfold tail SparseCore.Cfg.tcEnd
  simp only [wp_bind]
  iintro ⟨#Hctx, #Hj, Hst, Hb, Hh, Hts, Hg, Ht⟩
  iapply (call (tA := tM m) (pA := pM m) (wA := wM m) (hostOK_m m) κ d (after hostOps (V₀ m d)) (after_v10 _) (after_v15 _) (after_v17 _) _)
  isplitr; · iexact Hctx
  isplitr; · iexact Hj
  isplitl [Hst]; · iexact Hst
  isplitl [Hh]; · iexact Hh
  iintro %g Hst Hh %hg
  imodintro
  iapply (region d (afterCall (after hostOps (V₀ m d)) g) κ _ _)
  isplitr; · iexact Hctx
  isplitl [Hb]; · iexact Hb
  isplitl [Hst]; · iexact Hst
  isplitl [Hh]; · iexact Hh
  isplitl [Hg]; · iexact Hg
  isplitl [Ht]; · iexact Ht
  iintro Hst Hb Hh
  iapply (StableHlo.wp_hlo_within 𝒱 (T d) none Set.univ (Pipeline.sub_ucRefs (outOp (F := F)) (StableHlo.reshape_bufs_sub ..))) $$ [Hb Hh]
  · isplitl [Hb]; · iexact Hb
    iexact Hh
  iintro ⟨Hb, Hh⟩
  iapply ((fupd_intro).trans (Entails.of_eq (wp_ret _ _ _ _ _).symm))
  isplitl [Hst]; · iexact Hst
  isplitl [Hh]
  · unfold FIN
    iexists g
    isplitl [Hh]; · iexact Hh
    ipureintro; exact hg
  isplitl [Hb]; · iexact Hb
  iexact Hts

theorem hmain (κ : GSem nD τ sig → ℕ) (d : Dev nD) :
    iprop((K (F := F)).ctx EH (P (tM m) (pM m) (wM m)) κ ∗ (K (F := F)).tcSt EH d 0 ∗ (K (F := F)).tcRes m ρ d ∗ G (F := F) d)
      ⊢ wp frame (wpE ((K (F := F)).defs (D (F := F))) 𝒱 (T d) none) Set.univ (main (F := F) d)
          fun _ => iprop((K (F := F)).tcSt EH d 1 ∗ FIN m d ∗ (K (F := F)).tcEnd d) := by
  rw [main_eq]
  unfold SparseCore.Cfg.tcRes G
  iintro ⟨#Hctx, Hst, ⟨Hb, Hub, Hts, -⟩, ⟨#Hj, Hg, Ht⟩⟩
  ihave Hh := (show unscopedBufs d (fun b => m ((SparseCore.T d).loc b)) ⊢ (held (T d) (Pipeline.ucRefs τ sig) (V₀ m d) : sProp 𝕄) from
    Entails.of_eq (Pipeline.unscopedBufs_held d (V₀ m d))) $$ Hub
  iapply (StableHlo.wp_seq 𝒱 none Set.univ d (Pipeline.ucRefs τ sig) (fun _ => tail (F := F) d) hostOps hostOps_sub hostOps_fresh (V₀ m d)) $$ [Hb Hh]
  · isplitl [Hb]; · iexact Hb
    iexact Hh
  iintro ⟨Hb, Hh⟩
  iapply (tail_wp m κ d)
  isplitr; · iexact Hctx
  isplitr; · iexact Hj
  isplitl [Hst]; · iexact Hst
  isplitl [Hb]; · iexact Hb
  isplitl [Hh]; · iexact Hh
  isplitl [Hts]; · iexact Hts
  isplitl [Hg]; · iexact Hg
  iexact Ht

/-! ## What the run ends with -/

theorem endV_out (d : Dev nD) (g : S16392x128.Idx → Elt F .f32) :
    endV m d g (cRef main_v20) = shapeCast S4x4096x64 (sumOf (afterCall (after hostOps (V₀ m d)) g) : Vec F S16384x64 .f32) shapeCasts_S16384x64_S4x4096x64 := by
  unfold endV outOp
  rw [StableHlo.reshape_result, afterSum_out]
  rfl

theorem endV_arg (d : Dev nD) (g : S16392x128.Idx → Elt F .f32) (b : Ref sig .tc) (h20 : b ≠ main_v20) (h19 : b ≠ main_v19) (h18 : b ≠ main_v18) :
    endV m d g (cRef b) = after hostOps (V₀ m d) (cRef b) := by
  unfold endV outOp
  rw [StableHlo.reshape_result_ne _ _ _ _ _ _ _ h20, afterSum_ne _ _ h19, afterCall_ne _ _ _ h18]

abbrev outRefs : Finset (DevRef τ sig) := {cRef main_arg0, cRef main_arg1, cRef main_arg2, cRef main_v20}

theorem outRefs_sub : outRefs ⊆ Pipeline.ucRefs τ sig := by
  intro b hb
  simp only [Finset.mem_insert, Finset.mem_singleton] at hb
  rcases hb with h | h | h | h <;> subst h <;> exact Finset.mem_filter.mpr ⟨StableHlo.devRef_mem_tcRefs _, by decide⟩

theorem held_out (d : Dev nD) (V : Valuation τ sig (Elt F)) :
    (held (T d) outRefs V : sProp 𝕄) = iprop(((SparseCore.T d).loc main_arg0 ↦{fullShare} V (cRef main_arg0)) ∗ ((SparseCore.T d).loc main_arg1 ↦{fullShare} V (cRef main_arg1))
      ∗ ((SparseCore.T d).loc main_arg2 ↦{fullShare} V (cRef main_arg2)) ∗ ((SparseCore.T d).loc main_v20 ↦{fullShare} V (cRef main_v20))) := by
  unfold held
  rw [SparseCore.bigSep_insert' (by decide), SparseCore.bigSep_insert' (by decide), SparseCore.bigSep_insert' (by decide), bigSep_singleton]

theorem agree_whole (s' : Phys nD τ sig (Elt F)) (ℓ : Loc nD τ sig) (f : Buf (Elt F) ℓ) :
    iprop(SI s' ∗ (ℓ ↦{fullShare} f)) ⊢ (iprop(⌜s'.mem.mem ℓ = f⌝ ∗ SI s') : sProp 𝕄) := by
  iintro H
  ihave H := (persistent_entails_right (SI_pointsTo_agree (st := s') (ℓ := ℓ) (I := Finset.univ) (q := fullShare) (f := f))) $$ H
  icases H with ⟨%h, HSI, -⟩
  isplitr [HSI]
  · ipureintro; exact funext fun i => h i (Finset.mem_univ i)
  iexact HSI

/-- What is known of device `d`'s memory at the end. -/
def fq (d : Dev nD) (s' : Phys nD τ sig (Elt F)) : Prop :=
  (∃ g : S16392x128.Idx → Elt F .f32, (∀ c i, Done (cV2 c i) (tM m d) (pM m d) (wM m d) (g : Buf (Elt F) (oLoc d)))
      ∧ s'.mem.mem ((SparseCore.T d).loc main_v20) = shapeCast S4x4096x64 (sumOf (afterCall (after hostOps (V₀ m d)) g) : Vec F S16384x64 .f32) shapeCasts_S16384x64_S4x4096x64)
    ∧ s'.mem.mem ((SparseCore.T d).loc main_arg0) = m ((SparseCore.T d).loc main_arg0) ∧ s'.mem.mem ((SparseCore.T d).loc main_arg1) = m ((SparseCore.T d).loc main_arg1)
    ∧ s'.mem.mem ((SparseCore.T d).loc main_arg2) = m ((SparseCore.T d).loc main_arg2)

theorem hfin (d : Dev nD) (s' : Phys nD τ sig (Elt F)) : iprop(FIN m d ∗ SI s') ⊢ (⌜fq m d s'⌝ : sProp 𝕄) := by
  unfold FIN
  iintro ⟨⟨%g, Hh, %hg⟩, HSI⟩
  ihave Hh := (Entails.of_eq (StableHlo.held_sub_split (T d) outRefs_sub (endV m d g))) $$ Hh
  icases Hh with ⟨Hh, -⟩
  ihave Hh := (Entails.of_eq (held_out d (endV m d g))) $$ Hh
  icases Hh with ⟨H0, H1, H2, H3⟩
  ihave H := (agree_whole s' _ _) $$ [HSI H0]
  · isplitl [HSI] <;> iassumption
  icases H with ⟨%h0, HSI⟩
  ihave H := (agree_whole s' _ _) $$ [HSI H1]
  · isplitl [HSI] <;> iassumption
  icases H with ⟨%h1, HSI⟩
  ihave H := (agree_whole s' _ _) $$ [HSI H2]
  · isplitl [HSI] <;> iassumption
  icases H with ⟨%h2, HSI⟩
  ihave H := (agree_whole s' _ _) $$ [HSI H3]
  · isplitl [HSI] <;> iassumption
  icases H with ⟨%h3, -⟩
  ipureintro
  rw [endV_arg m d g main_arg0 (by decide) (by decide) (by decide), after_arg0] at h0
  rw [endV_arg m d g main_arg1 (by decide) (by decide) (by decide), after_arg1] at h1
  rw [endV_arg m d g main_arg2 (by decide) (by decide) (by decide), after_arg2] at h2
  rw [endV_out] at h3
  exact ⟨⟨g, hg, h3⟩, h0, h1, h2⟩

/-- The run's postcondition: the above of every device, and every counter at zero. -/
def QC : PUnit × MemSt nD τ sig (Elt F) → Prop := fun r =>
  (∀ d : Dev nD, (∃ g : S16392x128.Idx → Elt F .f32, (∀ c i, Done (cV2 c i) (tM m d) (pM m d) (wM m d) (g : Buf (Elt F) (oLoc d)))
      ∧ r.2.mem ((SparseCore.T d).loc main_v20) = shapeCast S4x4096x64 (sumOf (afterCall (after hostOps (V₀ m d)) g) : Vec F S16384x64 .f32) shapeCasts_S16384x64_S4x4096x64)
    ∧ r.2.mem ((SparseCore.T d).loc main_arg0) = m ((SparseCore.T d).loc main_arg0) ∧ r.2.mem ((SparseCore.T d).loc main_arg1) = m ((SparseCore.T d).loc main_arg1)
    ∧ r.2.mem ((SparseCore.T d).loc main_arg2) = m ((SparseCore.T d).loc main_arg2)) ∧ r.2.sem = fun _ => 0

instance P_storable (tA : (d : Dev nD) → Buf (Elt F) (tLoc d)) (pA : (d : Dev nD) → Buf (Elt F) (pLoc d)) (wA : (d : Dev nD) → Buf (Elt F) (wLoc d)) :
    (P tA pA wA).IsStorable where
  st q d c := match q with
    | 0 => (inferInstance : BI.Storable (upEmb : UEmb _ 𝕄) (bigSep Finset.univ fun i : Fin 16 => taskIn tA pA wA d c i))
  dn q d c := match q with
    | 0 => (inferInstance : BI.Storable (upEmb : UEmb _ 𝕄) (bigSep Finset.univ fun i : Fin 16 => taskOut tA pA wA d c i))
  go q d c i := match q with
    | 0 => taskIn_storable tA pA wA d c i
  td q d c i := match q with
    | 0 => taskOut_storable tA pA wA d c i

/-- The whole program's run. -/
theorem run_main : θ_run (Cert.KernelIdeal.defs (F := F)) (Cert.KernelIdeal.threads (F := F)) ⟨m, fun _ => 0, ρ⟩ (QC m) :=
  have : ∀ e, Nonempty (Elt F e) := Elt.nonempty (F := F)
  SparseCore.Cfg.θ_run_sc_quiescent (K := K (F := F)) (D := D (F := F)) (𝒱 := 𝒱) (EH := EH) (P := P (tM m) (pM m) (wM m)) (A := ∅) scFacts v₀
    (fun q hq => match q with | 0 => nomatch hq)
    (fun q _ => match q with | 0 => tileObl (tM m) (pM m) (wM m) (hostOK_m m))
    (fun q _ => match q with | 0 => SparseCore.Cfg.VecSplit.of_plain (vecSplit (tM m) (pM m) (wM m)))
    m ρ main (fun d => G (F := F) d) (FIN m) (u₀ (F := F)) (sep_elim_left.trans (hu₀ (tM m) (pM m) (wM m))) (hmain m ρ) (fq m) (hfin m) (QC m)
    (fun _ h hz => ⟨h, hz⟩)

end Cert.Proof.Emb

end
-- ==== Proof.Frames.lean ====
/-
  The frames: each is the whole program's run with the result's value dropped.
-/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Main

@[expose] public section

noncomputable section

namespace Cert.Proof.Emb

open Idealize.ShloMosaic Idealize.SL.Sem

/-- The two printings of the kernel have one label table, case by case. -/
theorem defs₀_eq : Cert.Kernel.defs₀ (F := Bits) = Cert.KernelIdeal.defs₀ (F := Bits) := by
  funext p ℓ a
  match p, ℓ, a with
  | .tc, 0, a => rfl
  | .tc, 1, (t, s) => rfl
  | .scScalar c, ℓ, a => rfl
  | .scVector c s, 0, a => rfl
  | .scVector c s, 1, a => rfl

/-- So they have one table of procedures. -/
theorem defs_eq : Cert.Kernel.defs (F := Bits) = Cert.KernelIdeal.defs (F := Bits) :=
  congrArg (fun d => Cert.KernelIdeal.sc.defs (Pipeline.defs Cert.KernelIdeal.pcfgs d)) defs₀_eq

/-- The kernel's run, with floats their words. -/
theorem run_kernel (m : (ℓ : Loc Cert.Kernel.nD Cert.Kernel.τ Cert.Kernel.sig) → Buf (Elt Bits) ℓ)
    (ρ : Dev Cert.Kernel.nD → PrngReg) :
    θ_run (Cert.Kernel.defs (F := Bits)) (Cert.Kernel.threads (F := Bits)) ⟨m, fun _ => 0, ρ⟩ (QC (F := Bits) m) := by
  rw [defs_eq]
  exact run_main (F := Bits) m ρ

/-- The kernel's frame, with floats their words. -/
theorem frame_kernel : Cert.quiescent_Kernel := fun m ρ _ =>
  (θ_run (Cert.Kernel.defs (F := Bits)) _ _).mono (fun _ h => ⟨fun c => (h.1 c).2, h.2⟩) (run_kernel m ρ)

/-- The kernel's frame, with floats exact. -/
theorem frame_kernelIdeal : Cert.quiescent_KernelIdeal := fun m ρ _ =>
  (θ_run (Cert.KernelIdeal.defs (F := Ideal)) _ _).mono (fun _ h => ⟨fun c => (h.1 c).2, h.2⟩) (run_main (F := Ideal) m ρ)

/-- The reference's frame, with floats exact: it declares no semaphore. -/
theorem frame_referenceIdeal : Cert.quiescent_ReferenceIdeal := fun m ρ _ =>
  (θ_run (Cert.ReferenceIdeal.defs (F := Ideal)) _ _).mono
    (fun r h => ⟨fun c => (h c).2, sem_eq_zero_of_no_sems (by decide) r.2⟩)
    (Cert.ReferenceIdeal.Value.run (F := Ideal) m ρ)

end Cert.Proof.Emb

end
-- ==== Proof.Pre.lean ====
/-
  The precondition in numbers: every id is below 1000000, and the ids below each worker's first and below its last are
  as many as its window allows.
-/
module

public import proofs.«01_k».proof.Pre_ids_in_windows
public import Idealize.ShloMosaic.Lib.ReduceAll
public import Idealize.ShloMosaic.Lib.StableHlo.Predicate
public import Idealize.ShloMosaic.Lib.Decide

@[expose] public section

noncomputable section

namespace Cert.Proof.Pre

open Idealize.ShloMosaic Cert.Pre_ids_in_windows Cert.Pre_ids_in_windows.Facts

/-- The side conditions that the precondition's operations take. -/
instance facts : Cert.Pre_ids_in_windows.Facts where
  shapeCasts_S4x4096_S16384 := by decide
  bcast_S_S33 := by decide
  bcast_S16384_S1x16384_1 := by decide
  bcast_S33_S33x1_0 := by decide
  bcast_S1x16384_S33x16384_0_1 := by decide
  bcast_S33x1_S33x16384_0_1 := by decide
  natLt_1_32 := by decide
  reducesTo_S33x16384_S33_d1 := by decide
  h_S_ := by decide
  bcast_S_S32 := by decide
  bcast_S_S16384 := by decide
  reducesTo_S16384_S_d0 := by decide
  slices_S33_S32_0 := by decide
  reducesTo_S32_S_d0 := by decide
  slices_S33_S32_1 := by decide

variable {F : FTy → Type} [FloatOps F]

/-- The ids in a row. -/
abbrev flat (x : IVec S4x4096 32) : IVec S16384 32 := shapeCast S16384 x shapeCasts_S4x4096_S16384

/-- How many entries of `y` are below `t`. -/
def below (y : IVec S16384 32) (t : ℕ) : ℕ := (Finset.univ.filter fun q : Fin 16384 => (y (Shape.Idx.ofFin q)).toInt < (t : ℤ)).card

/-- Where worker `k`'s window starts. -/
def start (k : ℕ) : ℕ := min (k * 512 - 512) 14848

/-- The counts that the precondition prints. -/
def cnt (y : IVec S16384 32) : IVec S33 32 :=
  Host.reduce IntOp.addi (extui 32 (cmpi .slt
    (broadcastInDim S33x16384 ![0, 1] bcast_S1x16384_S33x16384_0_1 (broadcastInDim S1x16384 ![1] bcast_S16384_S1x16384_1 y))
    (broadcastInDim S33x16384 ![0, 1] bcast_S33x1_S33x16384_0_1 (broadcastInDim S33x1 ![0] bcast_S33_S33x1_0
      (muli (iotaInDim S33 32 0) (broadcastInDim S33 ![] bcast_S_S33 (constantI S_ 32 31360#32)))))) natLt_1_32)
    (constantI S_ 32 0#32) reducesTo_S33x16384_S33_d1 h_S_

/-- The windows' starts that it prints. -/
def starts : IVec S32 32 :=
  minsi (broadcastInDim S32 ![] bcast_S_S32 (constantI S_ 32 14848#32)) (maxsi (broadcastInDim S32 ![] bcast_S_S32 (constantI S_ 32 0#32))
    (subi (muli (iotaInDim S32 32 0) (broadcastInDim S32 ![] bcast_S_S32 (constantI S_ 32 512#32))) (broadcastInDim S32 ![] bcast_S_S32 (constantI S_ 32 512#32))))

theorem cut : ∀ k : Fin 33, (BitVec.ofNat 32 k.val * 31360#32).toInt = ((k.val * 31360 : ℕ) : ℤ) := by decide

theorem starts_at : ∀ k : Fin 32, (starts (Shape.Idx.ofFin k)).toInt = (start k.val : ℤ) := by
  have h : ∀ k : Fin 32, (IntOp.minsi 14848#32 (IntOp.maxsi 0#32 (BitVec.ofNat 32 k.val * 512#32 - 512#32))).toInt = (start k.val : ℤ) := by decide
  exact h

theorem ends_at : ∀ k : Fin 32, (IntOp.addi (starts (Shape.Idx.ofFin k)) 1536#32).toInt = ((start k.val + 1536 : ℕ) : ℤ) := by
  have h : ∀ k : Fin 32, (IntOp.addi (IntOp.minsi 14848#32 (IntOp.maxsi 0#32 (BitVec.ofNat 32 k.val * 512#32 - 512#32))) 1536#32).toInt = ((start k.val + 1536 : ℕ) : ℤ) := by decide
  exact h

theorem cnt_at (y : IVec S16384 32) (k : Fin 33) : (cnt y (Shape.Idx.ofFin k)).toInt = (below y (k.val * 31360) : ℤ) := by
  have h : (cnt y (Shape.Idx.ofFin k)).toNat = below y (k.val * 31360) := by
    unfold cnt below
    refine (StableHlo.Predicate.toNat_reduce_count_cols (n := 33) (m := 16384) (by decide) _ natLt_1_32 reducesTo_S33x16384_S33_d1 h_S_ _).trans ?_
    refine congrArg Finset.card (Finset.filter_congr fun q _ => ?_)
    rw [← cut k]
    refine IntOp.cmpi_slt.trans ?_
    exact iff_of_eq (congrArg₂ (fun a b : BitVec 32 => a.toInt < b.toInt)
      (StableHlo.Predicate.bcast_cols (n := 33) (m := 16384) bcast_S16384_S1x16384_1 bcast_S1x16384_S33x16384_0_1 y k q)
      (StableHlo.Predicate.bcast_rows (n := 33) (m := 16384) bcast_S33_S33x1_0 bcast_S33x1_S33x16384_0_1 _ k q))
  have hle : below y (k.val * 31360) ≤ 16384 := (Finset.card_le_univ _).trans (by rw [Fintype.card_fin])
  rw [StableHlo.Predicate.toInt_eq_toNat_of_lt (by omega), h]

/-- What the precondition says. -/
theorem holds (x : IVec S4x4096 32) (w : FVec F S1000000x64 .f32) (p : FVec F S4096x64 .f32) (h : fn (F := F) x w p = fun _ => 1#1) :
    (∀ q, 0 ≤ (flat x q).toInt ∧ (flat x q).toInt < 1000000)
      ∧ ∀ k, k < 32 → start k ≤ below (flat x) (k * 31360) ∧ below (flat x) ((k + 1) * 31360) ≤ start k + 1536 := by
  have h1 : IntOp.andi (IntOp.andi (Host.reduce IntOp.andi (andi (cmpi .sge (flat x) (broadcastInDim S16384 ![] bcast_S_S16384 (constantI S_ 32 0#32)))
        (cmpi .slt (flat x) (broadcastInDim S16384 ![] bcast_S_S16384 (constantI S_ 32 1000000#32)))) (constantI S_ 1 1#1) reducesTo_S16384_S_d0 h_S_ (fun a => a.elim0))
      (Host.reduce IntOp.andi (cmpi .sge (extractStridedSlice S32 ![0] (cnt (flat x)) slices_S33_S32_0) starts) (constantI S_ 1 1#1) reducesTo_S32_S_d0 h_S_ (fun a => a.elim0)))
      (Host.reduce IntOp.andi (cmpi .sle (extractStridedSlice S32 ![1] (cnt (flat x)) slices_S33_S32_1) (addi starts (broadcastInDim S32 ![] bcast_S_S32 (constantI S_ 32 1536#32))))
        (constantI S_ 1 1#1) reducesTo_S32_S_d0 h_S_ (fun a => a.elim0)) = 1#1 := congrFun h (fun a => a.elim0)
  obtain ⟨h2, h5⟩ := IntOp.andi_eq_one.1 h1
  obtain ⟨h3, h4⟩ := IntOp.andi_eq_one.1 h2
  have : Subsingleton S_.Idx := ⟨fun a b => funext fun i => i.elim0⟩
  refine ⟨fun q => ?_, fun k hk => ⟨?_, ?_⟩⟩
  · obtain ⟨h6, h7⟩ := IntOp.andi_eq_one.1 (Host.reduce_andi_all _ _ _ _ _ h3 q)
    exact ⟨IntOp.cmpi_sge.1 h6, IntOp.cmpi_slt.1 h7⟩
  · have h6 := IntOp.cmpi_sge.1 (Host.reduce_andi_all _ _ _ _ _ h4 (Shape.Idx.ofFin (⟨k, hk⟩ : Fin 32)))
    rw [starts_at] at h6
    have h7 : extractStridedSlice S32 ![0] (cnt (flat x)) slices_S33_S32_0 (Shape.Idx.ofFin (⟨k, hk⟩ : Fin 32)) = cnt (flat x) (Shape.Idx.ofFin (⟨k, by omega⟩ : Fin 33)) :=
      congrArg (cnt (flat x)) (funext fun a => by obtain rfl : a = 0 := Subsingleton.elim _ _; exact Fin.ext (Nat.zero_add k))
    rw [h7, cnt_at] at h6
    exact_mod_cast h6
  · have h6 := IntOp.cmpi_sle.1 (Host.reduce_andi_all _ _ _ _ _ h5 (Shape.Idx.ofFin (⟨k, hk⟩ : Fin 32)))
    have h7 : extractStridedSlice S32 ![1] (cnt (flat x)) slices_S33_S32_1 (Shape.Idx.ofFin (⟨k, hk⟩ : Fin 32)) = cnt (flat x) (Shape.Idx.ofFin (⟨k + 1, by omega⟩ : Fin 33)) :=
      congrArg (cnt (flat x)) (funext fun a => by obtain rfl : a = 0 := Subsingleton.elim _ _; exact Fin.ext (Nat.add_comm 1 k))
    have h8 : (IntOp.addi (starts (Shape.Idx.ofFin (⟨k, hk⟩ : Fin 32))) 1536#32).toInt = ((start k + 1536 : ℕ) : ℤ) :=
      ends_at ⟨k, hk⟩
    rw [h7, cnt_at] at h6
    exact_mod_cast h6.trans_eq h8

end Cert.Proof.Pre

end
-- ==== Proof.Ref.lean ====
/-
  What the reference computes, entry by entry: where every id names a row of the table, the row's entry plus the
  position's.
-/
module

public import proofs.«01_k».proof.Defs
public import proofs.«01_k».proof.Proof.Gen.ReferenceIdeal
public import proofs.«01_k».proof.Proof.Gen.ReferenceIdeal.Run
public import Idealize.ShloMosaic.Lib.ReduceAll
public import Idealize.ShloMosaic.Lib.ValueIdxCore
public import Idealize.ShloMosaic.Lib.Routing.Ops

@[expose] public section

noncomputable section

namespace Cert.Proof.Ref

open Idealize.ShloMosaic Idealize.ShloMosaic.ValueIdx Idealize.SL.Sem Cert.ReferenceIdeal Cert.ReferenceIdeal.Facts₀

variable {F : FTy → Type} [FloatOps F]

/-! ## Rows of a table at a rectangle of row numbers -/

section Rows
variable {α : Type} {N C A B : ℕ}

/-- The dimension numbers of `table[idx]` for a table `[N, C]` and row numbers `[A, B]`. -/
abbrev rowsDims (N C A B : ℕ) (wf : GatherDims.WF ⟨2, ![N, C]⟩ ⟨3, ![A, B, 1]⟩ ⟨3, ![A, B, C]⟩ [2] [0] [] [0] [] 2 ![1, C]) :
    GatherDims ⟨2, ![N, C]⟩ ⟨3, ![A, B, 1]⟩ ⟨3, ![A, B, C]⟩ where
  offsetDims := [2]
  collapsedSliceDims := [0]
  operandBatchingDims := []
  startIndicesBatchingDims := []
  startIndexMap := [0]
  indexVectorDim := 2
  sliceSizes := ![1, C]
  wf := wf

/-- Where the row number of an entry stands. -/
abbrev numAt (y : (⟨3, ![A, B, C]⟩ : Shape).Idx) : (⟨3, ![A, B, 1]⟩ : Shape).Idx
  | ⟨0, _⟩ => ⟨(y 0).val, (y 0).isLt⟩
  | ⟨1, _⟩ => ⟨(y 1).val, (y 1).isLt⟩
  | ⟨2, _⟩ => ⟨0, Nat.one_pos⟩

/-- An entry of the rows taken is the table's at the row number. -/
theorem rows_at (wf : GatherDims.WF ⟨2, ![N, C]⟩ ⟨3, ![A, B, 1]⟩ ⟨3, ![A, B, C]⟩ [2] [0] [] [0] [] 2 ![1, C])
    (t : (⟨2, ![N, C]⟩ : Shape).Idx → α) (idx : IVec ⟨3, ![A, B, 1]⟩ 32) (y : (⟨3, ![A, B, C]⟩ : Shape).Idx) (r : Fin N)
    (hr : (idx (numAt y)).toInt = (r.val : ℤ)) :
    Host.gather (rowsDims N C A B wf) t idx y = t (ix2 r ⟨(y 2).val, (y 2).isLt⟩) := by
  refine congrArg t (funext fun a => Fin.ext ?_)
  show (rowsDims N C A B wf).start y idx a + (rowsDims N C A B wf).batchCoord y a + (rowsDims N C A B wf).offCoord y a = _
  have ha : a = 0 ∨ a = 1 := by
    match a with
    | ⟨0, _⟩ => exact Or.inl rfl
    | ⟨1, _⟩ => exact Or.inr rfl
  have hb : (rowsDims N C A B wf).batchCoord y a = 0 := GatherDims.batchCoord_eq_zero _ _ _ List.not_mem_nil
  rcases ha with rfl | rfl
  · have ho : (rowsDims N C A B wf).offCoord y 0 = 0 :=
      GatherDims.offCoord_eq_zero _ _ _ (fun h => ((GatherDims.mem_sKept _ _).mp h).1 (List.mem_singleton.mpr rfl))
    have hm : (0 : Fin 2) ∈ (rowsDims N C A B wf).startIndexMap := List.mem_singleton.mpr rfl
    have e : (rowsDims N C A B wf).siIdx y ⟨List.idxOf (0 : Fin 2) (rowsDims N C A B wf).startIndexMap, List.idxOf_lt_length_iff.2 hm⟩ = numAt y := by
      funext b
      refine Fin.ext ?_
      match b with
      | ⟨0, _⟩ => rfl
      | ⟨1, _⟩ => rfl
      | ⟨2, _⟩ => rfl
    have hs : (rowsDims N C A B wf).start y idx 0 = min (idx (numAt y)).toInt.toNat (N - 1) :=
      (dif_pos hm).trans (congrArg (fun i => min (idx i).toInt.toNat (N - 1)) e)
    rw [hb, ho, hs, hr]
    show min r.val (N - 1) + 0 + 0 = r.val
    have := r.isLt
    omega
  · have hk : (1 : Fin 2) ∈ (rowsDims N C A B wf).sKept :=
      (GatherDims.mem_sKept _ _).2 ⟨show (1 : Fin 2) ∉ ([0] : List (Fin 2)) by decide, List.not_mem_nil⟩
    have hs : (rowsDims N C A B wf).start y idx 1 = 0 := dif_neg (show (1 : Fin 2) ∉ ([0] : List (Fin 2)) by decide)
    have ho : (rowsDims N C A B wf).offCoord y 1 = (y 2).val := (dif_pos hk).trans rfl
    rw [hb, hs, ho]
    exact Nat.zero_add _

end Rows

/-! ## The word rows -/

/-- The ids as row numbers: a negative one counts from the end. -/
def nums (x : IVec S4x4096 32) : IVec S4x4096x1 32 :=
  broadcastInDim S4x4096x1 ![0, 1] bcast_S4x4096_S4x4096x1_0_1 (select (cmpi .slt x (broadcastInDim S4x4096 ![] bcast_S_S4x4096 (constantI S_ 32 0#32)))
    (addi x (broadcastInDim S4x4096 ![] bcast_S_S4x4096 (constantI S_ 32 1000000#32))) x)

/-- Which of them name a row. -/
def okOf (x : IVec S4x4096 32) : IVec S4x4096 1 :=
  Host.reduce IntOp.andi (andi (cmpi .sge (nums x) (broadcastInDim S4x4096x1 ![] bcast_S_S4x4096x1 (constantI S_ 32 0#32)))
    (cmpi .sle (nums x) (broadcastInDim S4x4096x1 ![0, 1, 2] bcast_S1x1x1_S4x4096x1_0_1_2 (broadcastInDim S1x1x1 ![2] bcast_S1_S1x1x1_2 (constantI S1 32 999999#32)))))
    (constantI S_ 1 1#1) reducesTo_S4x4096x1_S4x4096_d2 h_S_

/-- The word rows. -/
def words (x : IVec S4x4096 32) (w : FVec F S1000000x64 .f32) : FVec F S4x4096x64 .f32 :=
  select (broadcastInDim S4x4096x64 ![0, 1] bcast_S4x4096_S4x4096x64_0_1 (okOf x))
    (Host.gather gather_S1000000x64_S4x4096x1_S4x4096x64_2_0_n_n_0_2_164 w (nums x)) (broadcastInDim S4x4096x64 ![] bcast_S_S4x4096x64 (constant S_ .f32 0x7FC00000#32))

theorem nums_at (x : IVec S4x4096 32) (i : S4x4096x1.Idx) (h : 0 ≤ (x (ix2 ⟨(i 0).val, (i 0).isLt⟩ ⟨(i 1).val, (i 1).isLt⟩)).toInt) :
    nums x i = x (ix2 ⟨(i 0).val, (i 0).isLt⟩ ⟨(i 1).val, (i 1).isLt⟩) := by
  have e : nums x i = (select (cmpi .slt x (broadcastInDim S4x4096 ![] bcast_S_S4x4096 (constantI S_ 32 0#32)))
      (addi x (broadcastInDim S4x4096 ![] bcast_S_S4x4096 (constantI S_ 32 1000000#32))) x) (ix2 ⟨(i 0).val, (i 0).isLt⟩ ⟨(i 1).val, (i 1).isLt⟩) := by
    refine congrArg (select _ _ x) (funext fun a => ?_)
    match a with
    | ⟨0, _⟩ => rfl
    | ⟨1, _⟩ => rfl
  rw [e]
  show Scalar.select (IntOp.cmpi .slt _ 0#32) _ _ = _
  have hz : IntOp.cmpi .slt (x (ix2 ⟨(i 0).val, (i 0).isLt⟩ ⟨(i 1).val, (i 1).isLt⟩)) 0#32 = 0#1 :=
    eq_zero_of_ne_one fun hh => absurd (IntOp.cmpi_slt.1 hh) (not_lt.mpr h)
  exact congrArg (fun b => Scalar.select b _ _) hz

theorem okOf_one (x : IVec S4x4096 32) (hx : ∀ q, 0 ≤ (x q).toInt ∧ (x q).toInt < 1000000) (j : S4x4096.Idx) : okOf x j = 1#1 := by
  refine Host.reduce_andi_one _ _ _ _ j rfl fun i => ?_
  refine IntOp.andi_eq_one.2 ⟨IntOp.cmpi_sge.2 ?_, IntOp.cmpi_sle.2 ?_⟩
  · rw [nums_at x i (hx _).1]
    exact (hx _).1
  · rw [nums_at x i (hx _).1]
    exact Int.le_of_lt_add_one (hx _).2

/-- The row that an id names. -/
def row (v : BitVec 32) : Fin 1000000 := ⟨min v.toInt.toNat 999999, by omega⟩

theorem row_val {v : BitVec 32} (h0 : 0 ≤ v.toInt) (h1 : v.toInt < 1000000) : ((row v).val : ℤ) = v.toInt := by
  show ((min v.toInt.toNat 999999 : ℕ) : ℤ) = v.toInt
  omega

theorem words_at (x : IVec S4x4096 32) (w : FVec F S1000000x64 .f32) (hx : ∀ q, 0 ≤ (x q).toInt ∧ (x q).toInt < 1000000) (j : S4x4096x64.Idx) :
    words x w j = w (ix2 (row (x (ix2 ⟨(j 0).val, (j 0).isLt⟩ ⟨(j 1).val, (j 1).isLt⟩))) ⟨(j 2).val, (j 2).isLt⟩) := by
  have hg := rows_at (N := 1000000) (C := 64) (A := 4) (B := 4096) gather_S1000000x64_S4x4096x1_S4x4096x64_2_0_n_n_0_2_164_wf w (nums x) j
    (row (x (ix2 ⟨(j 0).val, (j 0).isLt⟩ ⟨(j 1).val, (j 1).isLt⟩))) (by rw [nums_at x (numAt j) (hx _).1]; exact (row_val (hx _).1 (hx _).2).symm)
  have hm : broadcastInDim S4x4096x64 ![0, 1] bcast_S4x4096_S4x4096x64_0_1 (okOf x) j = 1#1 := okOf_one x hx _
  have hd : gather_S1000000x64_S4x4096x1_S4x4096x64_2_0_n_n_0_2_164 = rowsDims 1000000 64 4 4096 gather_S1000000x64_S4x4096x1_S4x4096x64_2_0_n_n_0_2_164_wf := rfl
  have hs : words x w j = Scalar.select (broadcastInDim S4x4096x64 ![0, 1] bcast_S4x4096_S4x4096x64_0_1 (okOf x) j)
      (Host.gather (rowsDims 1000000 64 4 4096 gather_S1000000x64_S4x4096x1_S4x4096x64_2_0_n_n_0_2_164_wf) w (nums x) j)
      (broadcastInDim S4x4096x64 ![] bcast_S_S4x4096x64 (constant S_ .f32 0x7FC00000#32) j) := by
    unfold words
    rw [hd]
    rfl
  rw [hs, hm, hg]
  exact select_one _ _

/-! ## The position rows -/

/-- The positions as row numbers. -/
def pnums : IVec S4096x1 32 :=
  broadcastInDim S4096x1 ![0] bcast_S4096_S4096x1_0 (select (cmpi .slt (iotaInDim S4096 32 0) (broadcastInDim S4096 ![] bcast_S_S4096 (constantI S_ 32 0#32)))
    (addi (iotaInDim S4096 32 0) (broadcastInDim S4096 ![] bcast_S_S4096 (constantI S_ 32 4096#32))) (iotaInDim S4096 32 0))

/-- Which of them name a row. -/
def pok : IVec S4096 1 :=
  Host.reduce IntOp.andi (andi (cmpi .sge pnums (broadcastInDim S4096x1 ![] bcast_S_S4096x1 (constantI S_ 32 0#32)))
    (cmpi .sle pnums (broadcastInDim S4096x1 ![0, 1] bcast_S1x1_S4096x1_0_1 (broadcastInDim S1x1 ![1] bcast_S1_S1x1_1 (constantI S1 32 4095#32)))))
    (constantI S_ 1 1#1) reducesTo_S4096x1_S4096_d1 h_S_

/-- The position rows. -/
def poss (p : FVec F S4096x64 .f32) : FVec F S4096x64 .f32 :=
  select (broadcastInDim S4096x64 ![0] bcast_S4096_S4096x64_0 pok)
    (Host.gather gather_S4096x64_S4096x1_S4096x64_1_0_n_n_0_1_164 p pnums) (broadcastInDim S4096x64 ![] bcast_S_S4096x64 (constant S_ .f32 0x7FC00000#32))

theorem iota_toInt {n : ℕ} (h : n < 4096) : (BitVec.ofNat 32 n).toInt = n :=
  StableHlo.Predicate.toInt_ofNat_small n (lt_trans h (by decide))

theorem pnums_at (i : S4096x1.Idx) : pnums i = BitVec.ofNat 32 (i 0).val := by
  have e : pnums i = (select (cmpi .slt (iotaInDim S4096 32 0) (broadcastInDim S4096 ![] bcast_S_S4096 (constantI S_ 32 0#32)))
      (addi (iotaInDim S4096 32 0) (broadcastInDim S4096 ![] bcast_S_S4096 (constantI S_ 32 4096#32))) (iotaInDim S4096 32 0)) (Shape.Idx.ofFin (⟨(i 0).val, (i 0).isLt⟩ : Fin 4096)) := by
    refine congrArg (select _ _ (iotaInDim S4096 32 0)) (funext fun a => ?_)
    match a with
    | ⟨0, _⟩ => rfl
  rw [e]
  show Scalar.select (IntOp.cmpi .slt (BitVec.ofNat 32 (i 0).val) 0#32) _ _ = _
  rw [eq_zero_of_ne_one (fun hh => absurd (IntOp.cmpi_slt.1 hh) (not_lt.mpr (by
    rw [iota_toInt (i 0).isLt]; exact Int.natCast_nonneg _)))]
  rfl

theorem pok_one (j : S4096.Idx) : pok j = 1#1 := by
  refine Host.reduce_andi_one _ _ _ _ j rfl fun i => ?_
  have h : (i 0).val < 4096 := (i 0).isLt
  refine IntOp.andi_eq_one.2 ⟨IntOp.cmpi_sge.2 ?_, IntOp.cmpi_sle.2 ?_⟩
  · rw [pnums_at i, iota_toInt h]
    exact Int.natCast_nonneg _
  · rw [pnums_at i, iota_toInt h]
    exact Int.le_of_lt_add_one (Int.ofNat_lt.2 h)

theorem poss_at (p : FVec F S4096x64 .f32) (s : Fin 4096) (e : Fin 64) : poss p (ix2 s e) = p (ix2 s e) := by
  show Scalar.select (broadcastInDim S4096x64 ![0] bcast_S4096_S4096x64_0 pok (ix2 s e)) _ _ = _
  rw [show broadcastInDim S4096x64 ![0] bcast_S4096_S4096x64_0 pok (ix2 s e) = 1#1 from pok_one _]
  exact Routing.gather_row (nb := 4096) (B := 64) (n := 4096) gather_S4096x64_S4096x1_S4096x64_1_0_n_n_0_1_164 rfl rfl rfl rfl rfl p pnums s e s (pnums_at _) (by decide)

/-! ## The result -/

/-- Each entry: the entry of the row that the id names, plus the position's. -/
def outOf (x : IVec S4x4096 32) (w : FVec F S1000000x64 .f32) (p : FVec F S4096x64 .f32) : FVec F S4x4096x64 .f32 := fun j =>
  FloatOps.addf (w (ix2 (row (x (ix2 ⟨(j 0).val, (j 0).isLt⟩ ⟨(j 1).val, (j 1).isLt⟩))) ⟨(j 2).val, (j 2).isLt⟩))
    (p (ix2 ⟨(j 1).val, (j 1).isLt⟩ ⟨(j 2).val, (j 2).isLt⟩))

theorem out_eq (x : IVec S4x4096 32) (w : FVec F S1000000x64 .f32) (p : FVec F S4096x64 .f32) (hx : ∀ q, 0 ≤ (x q).toInt ∧ (x q).toInt < 1000000) :
    addf (words x w) (broadcastInDim S4x4096x64 ![0, 1, 2] bcast_S1x4096x64_S4x4096x64_0_1_2 (broadcastInDim S1x4096x64 ![1, 2] bcast_S4096x64_S1x4096x64_1_2 (poss p)))
      = outOf x w p := by
  funext j
  refine congrArg₂ (FloatOps.addf (F := F)) (words_at x w hx j) ?_
  refine Eq.trans ?_ (poss_at p ⟨(j 1).val, (j 1).isLt⟩ ⟨(j 2).val, (j 2).isLt⟩)
  refine congrArg (poss p) (funext fun a => ?_)
  match a with
  | ⟨0, _⟩ => rfl
  | ⟨1, _⟩ => rfl

/-- The reference's run, where every id names a row. -/
theorem run_ref (m : (ℓ : Loc nD τ sig) → Buf (Elt F) ℓ) (ρ : Dev nD → PrngReg)
    (hx : ∀ (c : Dev nD) q, 0 ≤ ((m ((c.tc : Thread nD τ).loc main_arg0) : IVec S4x4096 32) q).toInt ∧ ((m ((c.tc : Thread nD τ).loc main_arg0) : IVec S4x4096 32) q).toInt < 1000000) :
    θ_run (Cert.ReferenceIdeal.defs (F := F)) (onTc (τ := τ) (main (F := F))) ⟨m, fun _ => 0, ρ⟩ fun r => ∀ c : Dev nD,
      r.2.mem ((c.tc : Thread nD τ).loc main_v5) = outOf (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run (Cert.ReferenceIdeal.defs (F := F)) _ _).mono (fun _ h c => ⟨(h c).1.trans (out_eq _ _ _ (hx c)), (h c).2⟩) (Cert.ReferenceIdeal.Value.run (F := F) m ρ)

/-! ## The same text with floats their words -/

instance facts₀ : Cert.Reference.Facts₀ where
  bcast_S_S4x4096 := @Cert.ReferenceIdeal.Gen.bcast_S_S4x4096
  bcast_S4x4096_S4x4096x1_0_1 := @Cert.ReferenceIdeal.Gen.bcast_S4x4096_S4x4096x1_0_1
  bcast_S_S4x4096x1 := @Cert.ReferenceIdeal.Gen.bcast_S_S4x4096x1
  bcast_S1_S1x1x1_2 := @Cert.ReferenceIdeal.Gen.bcast_S1_S1x1x1_2
  bcast_S1x1x1_S4x4096x1_0_1_2 := @Cert.ReferenceIdeal.Gen.bcast_S1x1x1_S4x4096x1_0_1_2
  reducesTo_S4x4096x1_S4x4096_d2 := @Cert.ReferenceIdeal.Gen.reducesTo_S4x4096x1_S4x4096_d2
  h_S_ := @Cert.ReferenceIdeal.Gen.h_S_
  bcast_S4x4096_S4x4096x64_0_1 := @Cert.ReferenceIdeal.Gen.bcast_S4x4096_S4x4096x64_0_1
  bcast_S_S4x4096x64 := @Cert.ReferenceIdeal.Gen.bcast_S_S4x4096x64
  bcast_S_S4096 := @Cert.ReferenceIdeal.Gen.bcast_S_S4096
  bcast_S4096_S4096x1_0 := @Cert.ReferenceIdeal.Gen.bcast_S4096_S4096x1_0
  bcast_S_S4096x1 := @Cert.ReferenceIdeal.Gen.bcast_S_S4096x1
  bcast_S1_S1x1_1 := @Cert.ReferenceIdeal.Gen.bcast_S1_S1x1_1
  bcast_S1x1_S4096x1_0_1 := @Cert.ReferenceIdeal.Gen.bcast_S1x1_S4096x1_0_1
  reducesTo_S4096x1_S4096_d1 := @Cert.ReferenceIdeal.Gen.reducesTo_S4096x1_S4096_d1
  bcast_S4096_S4096x64_0 := @Cert.ReferenceIdeal.Gen.bcast_S4096_S4096x64_0
  bcast_S_S4096x64 := @Cert.ReferenceIdeal.Gen.bcast_S_S4096x64
  bcast_S4096x64_S1x4096x64_1_2 := @Cert.ReferenceIdeal.Gen.bcast_S4096x64_S1x4096x64_1_2
  bcast_S1x4096x64_S4x4096x64_0_1_2 := @Cert.ReferenceIdeal.Gen.bcast_S1x4096x64_S4x4096x64_0_1_2
  gather_S1000000x64_S4x4096x1_S4x4096x64_2_0_n_n_0_2_164_wf := @Cert.ReferenceIdeal.Gen.gather_S1000000x64_S4x4096x1_S4x4096x64_2_0_n_n_0_2_164_wf
  gather_S4096x64_S4096x1_S4096x64_1_0_n_n_0_1_164_wf := @Cert.ReferenceIdeal.Gen.gather_S4096x64_S4096x1_S4096x64_1_0_n_n_0_1_164_wf

instance facts : Cert.Reference.Facts where

theorem main_same : Cert.Reference.main (F := Bits) = Cert.ReferenceIdeal.main (F := Bits) := rfl
theorem defs_same : Cert.Reference.defs (F := Bits) = Cert.ReferenceIdeal.defs (F := Bits) := rfl

end Cert.Proof.Ref

end
-- ==== Proof.Value.lean ====
/-
  What the program computes where the precondition holds: each entry of the result is the word row's entry plus the
  position's.
-/
module

public import proofs.«01_k».proof.Proof.Main
public import proofs.«01_k».proof.Proof.Pre
public import proofs.«01_k».proof.Proof.Ref
public import Idealize.ShloMosaic.Lib.ValueLayout
public import Idealize.ShloMosaic.Lib.KernelVsHost

@[expose] public section

noncomputable section

namespace Cert.Proof.Emb

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## Every sorted entry lies in its owner's window -/

/-- The id at a place of the sorted list, signed. -/
def sv (y : Vec F S16384 .i32) (p : Fin 16384) : ℤ := (y (fi (sg (F := F) y p)) : BitVec 32).toInt

theorem sv_mono (y : Vec F S16384 .i32) {p q : Fin 16384} (h : p ≤ q) : sv y p ≤ sv y q := sg_sorted y p q h

theorem below_sorted (y : Vec F S16384 .i32) (t : ℕ) :
    Pre.below y t = (Finset.univ.filter fun p : Fin 16384 => sv y p < (t : ℤ)).card := by
  symm
  refine Finset.card_bij (fun p _ => sg (F := F) y p) (fun p hp => ?_) (fun p _ q _ h => sg_inj y h) (fun q hq => ?_)
  · exact Finset.mem_filter.2 ⟨Finset.mem_univ _, (Finset.mem_filter.1 hp).2⟩
  · obtain ⟨p, rfl⟩ := sg_surj (F := F) y q
    exact ⟨p, Finset.mem_filter.2 ⟨Finset.mem_univ _, (Finset.mem_filter.1 hq).2⟩, rfl⟩

theorem below_le (y : Vec F S16384 .i32) (t : ℕ) (p : Fin 16384) (h : (t : ℤ) ≤ sv y p) : Pre.below y t ≤ p.val := by
  rw [below_sorted]
  refine (Finset.card_le_card (t := Finset.Iio p) fun q hq => Finset.mem_Iio.2 ?_).trans (Fin.card_Iio p).le
  have := (Finset.mem_filter.1 hq).2
  exact lt_of_not_ge fun hh => absurd (sv_mono y hh) (by omega)

theorem lt_below (y : Vec F S16384 .i32) (t : ℕ) (p : Fin 16384) (h : sv y p < (t : ℤ)) : p.val < Pre.below y t := by
  rw [below_sorted]
  refine lt_of_lt_of_le (Nat.lt_succ_self _) ((Fin.card_Iic p).ge.trans (Finset.card_le_card fun q hq => ?_))
  exact Finset.mem_filter.2 ⟨Finset.mem_univ _, lt_of_le_of_lt (sv_mono y (Finset.mem_Iic.1 hq)) h⟩

theorem base_start : ∀ (c : Fin 2) (i : Fin 16), base (cV2 c i) = Pre.start (i.val * 2 + c.val) := by decide +kernel

section Entries

variable (y : Vec F S16384 .i32) (hr : ∀ q, 0 ≤ (y q : BitVec 32).toInt ∧ (y q : BitVec 32).toInt < 1000000)
variable (hw : ∀ k, k < 32 → Pre.start k ≤ Pre.below y (k * 31360) ∧ Pre.below y ((k + 1) * 31360) ≤ Pre.start k + 1536)

include hr in
theorem sid_sv (p : Fin 16384) : (sid (F := F) y p : ℤ) = sv y p ∧ sid (F := F) y p < 1000000 := by
  obtain ⟨h0, h1⟩ := hr (fi (sg (F := F) y p))
  have hl := (y (fi (sg (F := F) y p)) : BitVec 32).isLt
  have e := BitVec.toInt_eq_toNat_cond (y (fi (sg (F := F) y p)) : BitVec 32)
  unfold sid sv
  split at e <;> omega

include hr hw in
/-- The word row of each place's id, in the row that the place names. -/
theorem done_at {d : Dev nD} (wA : Vec F S64x1000064 .f32) (g : S16392x128.Idx → Elt F .f32)
    (hD : ∀ c i, Done (d := d) (cV2 c i) (tOf (F := F) y) (pOf (F := F) y) wA g) (r : Fin 16384) (x : S16392x128.Idx) (h0 : (x 0).val = r.val) (h1 : (x 1).val < 64) :
    g x = wat wA (x 1).val (y (fi r) : BitVec 32).toInt.toNat := by
  obtain ⟨p, rfl⟩ := sg_surj (F := F) y r
  obtain ⟨es, hs⟩ := sid_sv y hr p
  have ht := tOf_at (F := F) y p
  have hp := pOf_at (F := F) y p
  have hk : sid (F := F) y p / 31360 < 32 := by omega
  obtain ⟨w0, w1⟩ := hw _ hk
  have b0 := below_le y (sid (F := F) y p / 31360 * 31360) p (by rw [← es]; omega)
  have b1 := lt_below y ((sid (F := F) y p / 31360 + 1) * 31360) p (by rw [← es]; omega)
  have hc : sid (F := F) y p / 31360 % 2 < 2 := Nat.mod_lt _ (by decide)
  have hi' : sid (F := F) y p / 31360 / 2 < 16 := by omega
  have hb := base_start ⟨_, hc⟩ ⟨_, hi'⟩
  have hlo := lo_cV2 ⟨_, hc⟩ ⟨_, hi'⟩
  simp only [Nat.div_add_mod'] at hb hlo
  have e := hD ⟨_, hc⟩ ⟨_, hi'⟩ p.val (by rw [hb]; omega) (by rw [hb]; omega) (by
    unfold MM hi
    rw [hlo]
    show _ ≤ rd (tOf (F := F) y) p.val ∧ rd (tOf (F := F) y) p.val < _
    rw [ht]
    omega) x (by
    refine h0.trans ?_
    show _ = rd (pOf (F := F) y) p.val / 128
    rw [hp]
    omega) h1
  rw [e]
  refine congrArg (wat wA _) ?_
  show rd (tOf (F := F) y) p.val * 128 + rd (pOf (F := F) y) p.val % 128 = (sv y p).toNat
  rw [ht, hp, ← es]
  omega

end Entries

/-! ## The padded table -/

theorem wat_wOf (w : Vec F S1000000x64 .f32) (e : Fin 64) (r : Fin 1000000) :
    wat (wOf (F := F) w) e.val r.val = w (ix2 r e) := by
  unfold wat
  rw [dif_pos ⟨e.isLt, lt_trans r.isLt (by decide)⟩]
  unfold wOf
  refine (pad_apply_of_inside _ _ _ _ _ _ _ _ (ix2 e r) fun a => ?_).trans ?_
  · match a with
    | ⟨0, _⟩ => show e.val = 0 + e.val * (0 + 1); omega
    | ⟨1, _⟩ => show r.val = 0 + r.val * (0 + 1); omega
  · exact transpose_apply _ w _ _ _ fun c => match c with | ⟨0, _⟩ => rfl | ⟨1, _⟩ => rfl

/-! ## The result -/

theorem ix2_vi {a b : ℕ} (i : Fin a) (j : Fin b) : (ValueIdx.ix2 i j : (⟨2, ![a, b]⟩ : Shape).Idx) = ix2 i j := ix2_ext _ _ _ rfl rfl

variable (m : (ℓ : Loc nD τ sig) → Buf (Elt F) ℓ)

theorem out_value (d : Dev nD) (g : S16392x128.Idx → Elt F .f32)
    (hD : ∀ c i, Done (cV2 c i) (tM m d) (pM m d) (wM m d) (g : Buf (Elt F) (oLoc d)))
    (hP : Cert.Pre_ids_in_windows.fn (F := F) (m ((SparseCore.T d).loc main_arg0)) (m ((SparseCore.T d).loc main_arg1)) (m ((SparseCore.T d).loc main_arg2)) = fun _ => 1#1) :
    shapeCast S4x4096x64 (sumOf (afterCall (StableHlo.after hostOps (V₀ m d)) g) : Vec F S16384x64 .f32) shapeCasts_S16384x64_S4x4096x64
      = Ref.outOf (F := F) (m ((SparseCore.T d).loc main_arg0)) (m ((SparseCore.T d).loc main_arg1)) (m ((SparseCore.T d).loc main_arg2)) := by
  obtain ⟨hr, hw⟩ := Pre.holds (F := F) _ _ _ hP
  funext j
  have j0 : (j 0).val < 4 := (j 0).isLt
  have j1 : (j 1).val < 4096 := (j 1).isLt
  have j2 : (j 2).val < 64 := (j 2).isLt
  have hq : (j 0).val * 4096 + (j 1).val < 16384 := by omega
  refine (shapeCast_apply _ _ j (ix2 ⟨(j 0).val * 4096 + (j 1).val, hq⟩ ⟨(j 2).val, j2⟩) ?_).trans ?_
  · refine (Shape.rowMajor_val_two _).trans (Eq.trans ?_ (Shape.rowMajor_val_three _).symm)
    show ((j 0).val * 4096 + (j 1).val) * 64 + (j 2).val = ((j 0).val * 4096 + (j 1).val) * 64 + (j 2).val
    rfl
  have hf : Pre.flat (m ((SparseCore.T d).loc main_arg0)) (fi ⟨(j 0).val * 4096 + (j 1).val, hq⟩)
      = (m ((SparseCore.T d).loc main_arg0)) (ix2 ⟨(j 0).val, j0⟩ ⟨(j 1).val, j1⟩) := by
    refine shapeCast_apply _ _ _ _ ?_
    refine (Shape.rowMajor_val_two _).trans (Eq.trans ?_ (Shape.rowMajor_val_one _).symm)
    rfl
  have hg := done_at (F := F) (Pre.flat (m ((SparseCore.T d).loc main_arg0))) hr hw (wM m d) g hD
    ⟨(j 0).val * 4096 + (j 1).val, hq⟩ (ix2 ⟨(j 0).val * 4096 + (j 1).val, lt_trans hq (by decide)⟩ ⟨(j 2).val, lt_trans j2 (by decide)⟩) rfl j2
  have hr' := hr (fi ⟨(j 0).val * 4096 + (j 1).val, hq⟩)
  rw [hf] at hg hr'
  have hrow : ((m ((SparseCore.T d).loc main_arg0)) (ix2 ⟨(j 0).val, j0⟩ ⟨(j 1).val, j1⟩) : BitVec 32).toInt.toNat
      = (Ref.row ((m ((SparseCore.T d).loc main_arg0)) (ix2 ⟨(j 0).val, j0⟩ ⟨(j 1).val, j1⟩))).val := by
    have := Ref.row_val hr'.1 hr'.2
    omega
  rw [hrow] at hg
  have hg' := hg.trans (wat_wOf (F := F) (m ((SparseCore.T d).loc main_arg1)) ⟨(j 2).val, j2⟩ _)
  unfold sumOf
  refine congrArg₂ FloatOps.addf ?_ ?_
  · refine (congrFun (afterCall_out _ g) _).trans (hg'.trans ?_)
    rw [ix2_vi, ix2_vi]
  · refine (congrFun ((afterCall_ne _ g _ (by decide)).trans (after_arg2 _)) _).trans ?_
    refine congrArg _ ?_
    refine Eq.trans ?_ (ix2_vi _ _).symm
    refine congrArg (fun k => ix2 k _) (Fin.ext ?_)
    show ((j 0).val * 4096 + (j 1).val) % 4096 = (j 1).val
    omega

/-- The ids are in range, read where they were given. -/
theorem ids_range (x : IVec S4x4096 32) (w : FVec F S1000000x64 .f32) (p : FVec F S4096x64 .f32)
    (hP : Cert.Pre_ids_in_windows.fn (F := F) x w p = fun _ => 1#1) (q : S4x4096.Idx) : 0 ≤ (x q).toInt ∧ (x q).toInt < 1000000 := by
  have q0 : (q 0).val < 4 := (q 0).isLt
  have q1 : (q 1).val < 4096 := (q 1).isLt
  have hq : (q 0).val * 4096 + (q 1).val < 16384 := by omega
  have hf : Pre.flat x (fi ⟨(q 0).val * 4096 + (q 1).val, hq⟩) = x q := by
    refine shapeCast_apply _ _ _ _ ?_
    refine (Shape.rowMajor_val_two _).trans (Eq.trans ?_ (Shape.rowMajor_val_one _).symm)
    rfl
  have := (Pre.holds (F := F) x w p hP).1 (fi ⟨(q 0).val * 4096 + (q 1).val, hq⟩)
  rwa [hf] at this

/-- A final state of the kernel's run, where the precondition holds. -/
theorem final_value (r : _ × _) (h : QC (F := F) m r)
    (hP : ∀ d : Dev nD, Cert.Pre_ids_in_windows.fn (F := F) (m ((SparseCore.T d).loc main_arg0)) (m ((SparseCore.T d).loc main_arg1)) (m ((SparseCore.T d).loc main_arg2)) = fun _ => 1#1)
    (d : Dev nD) :
    r.2.mem ((SparseCore.T d).loc main_v20) = Ref.outOf (F := F) (m ((SparseCore.T d).loc main_arg0)) (m ((SparseCore.T d).loc main_arg1)) (m ((SparseCore.T d).loc main_arg2))
      ∧ r.2.mem ((SparseCore.T d).loc main_arg0) = m ((SparseCore.T d).loc main_arg0)
      ∧ r.2.mem ((SparseCore.T d).loc main_arg1) = m ((SparseCore.T d).loc main_arg1)
      ∧ r.2.mem ((SparseCore.T d).loc main_arg2) = m ((SparseCore.T d).loc main_arg2) := by
  obtain ⟨⟨g, hD, hv⟩, ha⟩ := h.1 d
  exact ⟨hv.trans (out_value m d g hD (hP d)), ha⟩

end Cert.Proof.Emb

end
-- ==== Proof.lean ====
/-
  Everything that is claimed, put together.
-/
module

public import proofs.«01_k».proof.Defs
public import proofs.«01_k».proof.Proof.Frames
public import proofs.«01_k».proof.Proof.Value

@[expose] public section

noncomputable section

namespace Cert.Proof

open Idealize.ShloMosaic Idealize.SL.Sem

/-- The reference's run with floats their words, from the ids' range. -/
theorem run_reference (m : (ℓ : Loc Cert.Reference.nD Cert.Reference.τ Cert.Reference.sig) → Buf (Elt Bits) ℓ)
    (ρ : Dev Cert.Reference.nD → PrngReg) (hP : Cert.Pre_Reference m) :
    θ_run (Cert.Reference.defs (F := Bits)) (onTc (τ := Cert.Reference.τ) (Cert.Reference.main (F := Bits))) ⟨m, fun _ => 0, ρ⟩ fun r =>
      ∀ c : Dev Cert.Reference.nD,
        r.2.mem ((c.tc : Thread Cert.Reference.nD Cert.Reference.τ).loc Cert.Reference.main_v5)
            = Ref.outOf (F := Bits) (m ((c.tc : Thread Cert.Reference.nD Cert.Reference.τ).loc Cert.Reference.main_arg0))
                (m ((c.tc : Thread Cert.Reference.nD Cert.Reference.τ).loc Cert.Reference.main_arg1))
                (m ((c.tc : Thread Cert.Reference.nD Cert.Reference.τ).loc Cert.Reference.main_arg2))
          ∧ r.2.mem ((c.tc : Thread Cert.Reference.nD Cert.Reference.τ).loc Cert.Reference.main_arg0) = m ((c.tc : Thread Cert.Reference.nD Cert.Reference.τ).loc Cert.Reference.main_arg0)
          ∧ r.2.mem ((c.tc : Thread Cert.Reference.nD Cert.Reference.τ).loc Cert.Reference.main_arg1) = m ((c.tc : Thread Cert.Reference.nD Cert.Reference.τ).loc Cert.Reference.main_arg1)
          ∧ r.2.mem ((c.tc : Thread Cert.Reference.nD Cert.Reference.τ).loc Cert.Reference.main_arg2) = m ((c.tc : Thread Cert.Reference.nD Cert.Reference.τ).loc Cert.Reference.main_arg2) := by
  rw [Ref.main_same, Ref.defs_same]
  exact Ref.run_ref (F := Bits) m ρ fun c q => Emb.ids_range _ _ _ (hP c) q

theorem frame_reference : Cert.quiescent_Reference := fun m ρ hP =>
  (θ_run (Cert.Reference.defs (F := Bits)) _ _).mono
    (fun r h => ⟨fun c => (h c).2, sem_eq_zero_of_no_sems (by decide) r.2⟩) (run_reference m ρ hP)

/-- With floats exact, the kernel and the reference end with one result. -/
theorem same_exact : Cert.algebraic_KernelIdeal_ReferenceIdeal_pre_ids_in_windows := fun m ρ m' ρ' hP ha => by
  refine ⟨fun c => Ref.outOf (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run (Cert.KernelIdeal.defs (F := Ideal)) _ _).mono (fun r h => Emb.final_value m r h hP) (Emb.run_main (F := Ideal) m ρ)
  · refine (θ_run (Cert.ReferenceIdeal.defs (F := Ideal)) _ _).mono (fun r h c => ⟨(h c).1.trans ?_, (h c).2⟩)
      (Ref.run_ref (F := Ideal) m' ρ' fun c q => ?_)
    · rw [(ha c).1]
      exact Emb.ids_range _ _ _ (hP c) q
    · rw [(ha c).1, (ha c).2.1, (ha c).2.2]

/-- With floats their words, the kernel and the reference end with one result. -/
theorem same_words : Cert.bitexact_Kernel_Reference_pre_ids_in_windows := fun m ρ m' ρ' hP ha => by
  refine ⟨fun c => Ref.outOf (F := Bits) (m ((c.tc : Thread Cert.Kernel.nD Cert.Kernel.τ).loc Cert.Kernel.main_arg0))
      (m ((c.tc : Thread Cert.Kernel.nD Cert.Kernel.τ).loc Cert.Kernel.main_arg1))
      (m ((c.tc : Thread Cert.Kernel.nD Cert.Kernel.τ).loc Cert.Kernel.main_arg2)), ?_, ?_⟩
  · exact (θ_run (Cert.Kernel.defs (F := Bits)) _ _).mono (fun r h => Emb.final_value m r h hP) (Emb.run_kernel m ρ)
  · refine (θ_run (Cert.Reference.defs (F := Bits)) _ _).mono (fun r h c => ⟨(h c).1.trans ?_, (h c).2⟩)
      (run_reference m' ρ' fun c => ?_)
    · rw [(ha c).1, (ha c).2.1, (ha c).2.2]
      exact hP c
    · rw [(ha c).1, (ha c).2.1, (ha c).2.2]

theorem claim : Cert.Claim :=
  ⟨Cert.Kernel.Gen.facts, Cert.KernelIdeal.Gen.facts, Cert.ReferenceIdeal.Gen.facts, Ref.facts, Pre.facts,
    Emb.frame_kernel, fun m ρ _ => Emb.frame_kernel m ρ trivial,
    Emb.frame_kernelIdeal, fun m ρ _ => Emb.frame_kernelIdeal m ρ trivial,
    Emb.frame_referenceIdeal, fun m ρ _ => Emb.frame_referenceIdeal m ρ trivial,
    frame_reference, trivial, same_exact, same_words⟩

end Cert.Proof

end
